-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def preserves_Kernel_KernelIdeal : Prop :=
  IdealRules.named_const.Statement Cert.KernelIdeal.κ "log2_ln2" .f32 0xBF075D3C#32 (((Real.log (Real.log 2)) * (Real.log 2)⁻¹ : ℝ) : EReal)
  ∧ IdealRules.named_const.Statement Cert.KernelIdeal.κ "inv_ln2" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "log2_e" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v2) = v1 c
          ∧ r.2.mem ((c.tc : Thread Cert.Reference12Ideal.nD Cert.Reference12Ideal.τ).loc Cert.Reference12Ideal.main_v3) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v14) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v2_0)) (v1 : (c : Dev Cert.Kernel19Ideal.nD) → Buf (Elt Ideal) ((c.tc : Thread Cert.Kernel19Ideal.nD Cert.Kernel19Ideal.τ).loc Cert.Kernel19Ideal.main_v2_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2_0) = v0 c
          ∧ r.2.mem ((c.tc : Thread Cert.Kernel19Ideal.nD Cert.Kernel19Ideal.τ).loc Cert.Kernel19Ideal.main_v2_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v14) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Pre_finite.lean ====
abbrev S8192x1024 : Shape := ⟨2, ![8192, 1024]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  slices_S8192x2048_S8192x1024_0_0 : S8192x2048.Slices ![0, 0] S8192x1024
  slices_S8192x2048_S8192x1024_0_1024 : S8192x2048.Slices ![0, 1024] S8192x1024

variable [Facts]

def fn {F : FTy → Type} [FloatOps F] (main_arg0 : FVec F S8192x1024 .f32) (main_arg1 : FVec F S8192x2048 .f32) (main_arg2 : FVec F S8192x1024 .f32) : IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := (extractStridedSlice S8192x1024 ![0, 0] · slices_S8192x2048_S8192x1024_0_0) main_arg1
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : IVec S8192x1024 1 := andi main_v2 main_v6
  let main_v8 : FVec F S8192x1024 .f32 := (extractStridedSlice S8192x1024 ![0, 1024] · slices_S8192x2048_S8192x1024_0_1024) main_arg1
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : IVec S8192x1024 1 := andi main_v7 main_v11
  let main_v13 : FVec F S8192x1024 .f32 := Host.absf main_arg2
  let main_cst_2 : FVec F S_ .f32 := constant S_ .f32 0x7F800000#32
  let main_v14 : FVec F S8192x1024 .f32 := broadcastInDim S8192x1024 ![] bcast_S_S8192x1024 main_cst_2
  let main_v15 : IVec S8192x1024 1 := cmpf .olt main_v13 main_v14
  let main_v16 : IVec S8192x1024 1 := andi main_v12 main_v15
  main_v16
-- ==== Pre_finite2.lean ====
abbrev S8192x1024 : Shape := ⟨2, ![8192, 1024]⟩
abbrev S8192x2048 : Shape := ⟨2, ![8192, 2048]⟩
abbrev S8192x8x128 : Shape := ⟨3, ![8192, 8, 128]⟩
abbrev S_ : Shape := ⟨0, ![]⟩
abbrev S8192x8x2x128 : Shape := ⟨4, ![8192, 8, 2, 128]⟩
abbrev S8192x8x1x128 : Shape := ⟨4, ![8192, 8, 1, 128]⟩

class Facts : Prop where
  shapeCasts_S8192x1024_S8192x8x128 : S8192x1024.ShapeCasts S8192x8x128
  bcast_S_S8192x8x128 : S_.BroadcastsInDim S8192x8x128 (![] : Fin 0 → Fin S8192x8x128.rank)
  shapeCasts_S8192x2048_S8192x8x2x128 : S8192x2048.ShapeCasts S8192x8x2x128
  slices_S8192x8x2x128_S8192x8x1x128_0_0_0_0 : S8192x8x2x128.Slices ![0, 0, 0, 0] S8192x8x1x128
  shapeCasts_S8192x8x1x128_S8192x8x128 : S8192x8x1x128.ShapeCasts S8192x8x128

variable [Facts]

def fn {F : FTy → Type} [FloatOps F] (main_arg0 : FVec F S8192x1024 .f32) (main_arg1 : FVec F S8192x2048 .f32) : IVec S8192x8x128 1 :=
  let main_v0 : FVec F S8192x8x128 .f32 := shapeCast S8192x8x128 main_arg0 shapeCasts_S8192x1024_S8192x8x128
  let main_v1 : FVec F S8192x8x128 .f32 := Host.absf main_v0
  let main_cst : FVec F S_ .f32 := constant S_ .f32 0x7F800000#32
  let main_v2 : FVec F S8192x8x128 .f32 := broadcastInDim S8192x8x128 ![] bcast_S_S8192x8x128 main_cst
  let main_v3 : IVec S8192x8x128 1 := cmpf .olt main_v1 main_v2
  let main_v4 : FVec F S8192x8x2x128 .f32 := shapeCast S8192x8x2x128 main_arg1 shapeCasts_S8192x2048_S8192x8x2x128
  let main_v5 : FVec F S8192x8x1x128 .f32 := (extractStridedSlice S8192x8x1x128 ![0, 0, 0, 0] · slices_S8192x8x2x128_S8192x8x1x128_0_0_0_0) main_v4
  let main_v6 : FVec F S8192x8x128 .f32 := shapeCast S8192x8x128 main_v5 shapeCasts_S8192x8x1x128_S8192x8x128
  let main_v7 : FVec F S8192x8x128 .f32 := Host.absf main_v6
  let main_cst_0 : FVec F S_ .f32 := constant S_ .f32 0x7F800000#32
  let main_v8 : FVec F S8192x8x128 .f32 := broadcastInDim S8192x8x128 ![] bcast_S_S8192x8x128 main_cst_0
  let main_v9 : IVec S8192x8x128 1 := cmpf .olt main_v7 main_v8
  let main_v10 : IVec S8192x8x128 1 := andi main_v3 main_v9
  main_v10
-- ==== Kernel.lean ====
abbrev S8192x1024 : Shape := ⟨2, ![8192, 1024]⟩
abbrev S8192x2048 : Shape := ⟨2, ![8192, 2048]⟩
abbrev S8192x8x128 : Shape := ⟨3, ![8192, 8, 128]⟩
abbrev S8192x8x2x128 : Shape := ⟨4, ![8192, 8, 2, 128]⟩
abbrev S8192x8x1x128 : Shape := ⟨4, ![8192, 8, 1, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S8x16x1x512 : Shape := ⟨4, ![8, 16, 1, 512]⟩
abbrev S8x16x8x512 : Shape := ⟨4, ![8, 16, 8, 512]⟩
abbrev S8x16x128x512 : Shape := ⟨4, ![8, 16, 128, 512]⟩
abbrev S8192x128 : Shape := ⟨2, ![8192, 128]⟩
abbrev S512x256 : Shape := ⟨2, ![512, 256]⟩
abbrev S1x16x8x512 : Shape := ⟨4, ![1, 16, 8, 512]⟩
abbrev S1x16x128x512 : Shape := ⟨4, ![1, 16, 128, 512]⟩
abbrev S16x128x512 : Shape := ⟨3, ![16, 128, 512]⟩
abbrev S512x128 : Shape := ⟨2, ![512, 128]⟩
abbrev S128x512 : Shape := ⟨2, ![128, 512]⟩
abbrev S512x512 : Shape := ⟨2, ![512, 512]⟩
abbrev S1x1x1x512 : Shape := ⟨4, ![1, 1, 1, 512]⟩
abbrev S1x512 : Shape := ⟨2, ![1, 512]⟩
abbrev S1x1x128x512 : Shape := ⟨4, ![1, 1, 128, 512]⟩

abbrev nBuf : Space → Nat
  | .hbm => 68
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x8x128, .f32⟩
  | .hbm, ⟨4, _⟩ => ⟨S8192x8x128, .f32⟩
  | .hbm, ⟨5, _⟩ => ⟨S8192x8x2x128, .f32⟩
  | .hbm, ⟨6, _⟩ => ⟨S8192x8x1x128, .f32⟩
  | .hbm, ⟨7, _⟩ => ⟨S8192x8x128, .f32⟩
  | .hbm, ⟨8, _⟩ => ⟨S8x8192x8192, .f32⟩
  | .hbm, ⟨9, _⟩ => ⟨S_, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8192x8x1x128, .f32⟩
  | .hbm, ⟨38, _⟩ => ⟨S8192x8x128, .f32⟩
  | .hbm, ⟨39, _⟩ => ⟨S8x128x8192, .f32⟩
  | .hbm, ⟨40, _⟩ => ⟨S8192x8x128, .f32⟩
  | .hbm, ⟨41, _⟩ => ⟨S8x8192x1, .f32⟩
  | .hbm, ⟨42, _⟩ => ⟨S8x8192x1, .f32⟩
  | .hbm, ⟨43, _⟩ => ⟨S8x8192, .f32⟩
  | .hbm, ⟨44, _⟩ => ⟨S_, .f32⟩
  | .hbm, ⟨45, _⟩ => ⟨S_, .f32⟩
  | .hbm, ⟨46, _⟩ => ⟨S8x8192, .f32⟩
  | .hbm, ⟨47, _⟩ => ⟨S8x8192, .f32⟩
  | .hbm, ⟨48, _⟩ => ⟨S8192x8x128, .f32⟩
  | .hbm, ⟨49, _⟩ => ⟨S_, .f32⟩
  | .hbm, ⟨50, _⟩ => ⟨S8192x8, .f32⟩
  | .hbm, ⟨51, _⟩ => ⟨S8x8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S8192x2048, .bf16⟩
  | .hbm, ⟨61, _⟩ => ⟨S8192x1024, .bf16⟩
  | .hbm, ⟨62, _⟩ => ⟨S8x16x1x512, .f32⟩
  | .hbm, ⟨63, _⟩ => ⟨S8x16x8x512, .f32⟩
  | .hbm, ⟨64, _⟩ => ⟨S8x16x1x512, .f32⟩
  | .hbm, ⟨65, _⟩ => ⟨S8x16x8x512, .f32⟩
  | .hbm, ⟨66, _⟩ => ⟨S8x16x128x512, .f32⟩
  | .hbm, ⟨67, _⟩ => ⟨S8192x2048, .bf16⟩
  | .local _ .vmem, ⟨0, _⟩ => ⟨S8192x128, .bf16⟩
  | .local _ .vmem, ⟨1, _⟩ => ⟨S8192x128, .bf16⟩
  | .local _ .vmem, ⟨2, _⟩ => ⟨S512x256, .bf16⟩
  | .local _ .vmem, ⟨3, _⟩ => ⟨S512x256, .bf16⟩
  | .local _ .vmem, ⟨4, _⟩ => ⟨S8192x128, .bf16⟩
  | .local _ .vmem, ⟨5, _⟩ => ⟨S8192x128, .bf16⟩
  | .local _ .vmem, ⟨6, _⟩ => ⟨S1x16x8x512, .f32⟩
  | .local _ .vmem, ⟨7, _⟩ => ⟨S1x16x8x512, .f32⟩
  | .local _ .vmem, ⟨8, _⟩ => ⟨S1x16x8x512, .f32⟩
  | .local _ .vmem, ⟨9, _⟩ => ⟨S1x16x8x512, .f32⟩
  | .local _ .vmem, ⟨10, _⟩ => ⟨S1x16x128x512, .f32⟩
  | .local _ .vmem, ⟨11, _⟩ => ⟨S1x16x128x512, .f32⟩
  | .local _ .vmem, ⟨12, _⟩ => ⟨S512x256, .bf16⟩
  | .local _ .vmem, ⟨13, _⟩ => ⟨S512x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52_0 : Ref sig .tc := ⟨.hbm, 66, rfl⟩
abbrev main_v52_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32_3 : BitVec 32 := 512#32
  let v15 : BitVec 32 := Scalar.muli arg1 c512_i32_3
  v15
def k0_off1 (i : grid0.Coords) : Fin 2 → Nat :=
  let arg1 : BitVec 32 := BitVec.ofNat 32 (i 1).val
  let c512_i32_3 : BitVec 32 := 512#32
  let v15 : BitVec 32 := Scalar.muli arg1 c512_i32_3
  let v16 : BitVec 32 := v15
  let v17 : Index := Scalar.indexCast v16
  let c0_4 : Index := 0#32
  ![v17.toNat, 0]
def k0_off2 (i : grid0.Coords) : Fin 4 → Nat :=
  let c0_9 : Index := 0#32
  let arg1 : BitVec 32 := BitVec.ofNat 32 (i 1).val
  let v31 : Index := Scalar.indexCast arg1
  let c0_10 : Index := 0#32
  let c0_11 : Index := 0#32
  ![0, v31.toNat, 0, 0]
def k0_off3 (i : grid0.Coords) : Fin 4 → Nat :=
  let c0_19 : Index := 0#32
  let arg1 : BitVec 32 := BitVec.ofNat 32 (i 1).val
  let v52 : Index := Scalar.indexCast arg1
  let c0_20 : Index := 0#32
  let c0_21 : Index := 0#32
  ![0, v52.toNat, 0, 0]
@[reducible] def k0_t1_loop (i : grid0.Coords) : Scf.Loop 32 :=
  let c0_i32_31 : BitVec 32 := 0#32
  let c15_i32 : BitVec 32 := 15#32
  let arg1 : BitVec 32 := BitVec.ofNat 32 (i 1).val
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_33 : BitVec 32 := 1#32
  ⟨c0_i32_31, v84, c1_i32_33⟩
def k0_mult2 (i : grid0.Coords) (k0_t1 : Fin (k0_t1_loop i).trips) : BitVec 32 :=
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c1_i32_33 : BitVec 32 := 1#32
  let arg9 : BitVec 32 := Scf.iv c0_i32_31 c1_i32_33 k0_t1
  let v121 : BitVec 32 := Scalar.muli c4_i32_53 arg9
  let v122 : BitVec 32 := Scalar.addi v120 v121
  let c0_i32_54 : BitVec 32 := 0#32
  let v123 : BitVec 32 := Scalar.addi v122 c0_i32_54
  let c512_i32_55 : BitVec 32 := 512#32
  let v124 : BitVec 32 := Scalar.muli v123 c512_i32_55
  v124
def k0_off4 (i : grid0.Coords) (k0_t1 : Fin (k0_t1_loop i).trips) (c0_i32_54 : BitVec 32) : Fin 2 → Nat :=
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c1_i32_33 : BitVec 32 := 1#32
  let arg9 : BitVec 32 := Scf.iv c0_i32_31 c1_i32_33 k0_t1
  let v121 : BitVec 32 := Scalar.muli c4_i32_53 arg9
  let v122 : BitVec 32 := Scalar.addi v120 v121
  let v123 : BitVec 32 := Scalar.addi v122 c0_i32_54
  let c512_i32_55 : BitVec 32 := 512#32
  let v124 : BitVec 32 := Scalar.muli v123 c512_i32_55
  let v125 : BitVec 32 := v124
  let v126 : Index := Scalar.indexCast v125
  let c0_56 : Index := 0#32
  ![v126.toNat, 0]
def k0_off5 (i : grid0.Coords) (k0_t1 : Fin (k0_t1_loop i).trips) (c0_i32_54 : BitVec 32) : Fin 4 → Nat :=
  let c0_59 : Index := 0#32
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c1_i32_33 : BitVec 32 := 1#32
  let arg9 : BitVec 32 := Scf.iv c0_i32_31 c1_i32_33 k0_t1
  let v121 : BitVec 32 := Scalar.muli c4_i32_53 arg9
  let v122 : BitVec 32 := Scalar.addi v120 v121
  let v123 : BitVec 32 := Scalar.addi v122 c0_i32_54
  let v133 : Index := Scalar.indexCast v123
  let c0_60 : Index := 0#32
  let c0_61 : Index := 0#32
  ![0, v133.toNat, 0, 0]
def k0_off6 (i : grid0.Coords) (k0_t1 : Fin (k0_t1_loop i).trips) (c0_i32_54 : BitVec 32) : Fin 4 → Nat :=
  let c0_69 : Index := 0#32
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c1_i32_33 : BitVec 32 := 1#32
  let arg9 : BitVec 32 := Scf.iv c0_i32_31 c1_i32_33 k0_t1
  let v121 : BitVec 32 := Scalar.muli c4_i32_53 arg9
  let v122 : BitVec 32 := Scalar.addi v120 v121
  let v123 : BitVec 32 := Scalar.addi v122 c0_i32_54
  let v154 : Index := Scalar.indexCast v123
  let c0_70 : Index := 0#32
  let c0_71 : Index := 0#32
  ![0, v154.toNat, 0, 0]
def k0_mult3 (i : grid0.Coords) (k0_t1 : Fin (k0_t1_loop i).trips) : BitVec 32 :=
  let arg1 : BitVec 32 := BitVec.ofNat 32 (i 1).val
  let c1_i32_76 : BitVec 32 := 1#32
  let v164 : BitVec 32 := Scalar.addi arg1 c1_i32_76
  let c4_i32_77 : BitVec 32 := 4#32
  let c0_i32_31 : BitVec 32 := 0#32
  let c1_i32_33 : BitVec 32 := 1#32
  let arg9 : BitVec 32 := Scf.iv c0_i32_31 c1_i32_33 k0_t1
  let v165 : BitVec 32 := Scalar.muli c4_i32_77 arg9
  let v166 : BitVec 32 := Scalar.addi v164 v165
  let c1_i32_78 : BitVec 32 := 1#32
  let v167 : BitVec 32 := Scalar.addi v166 c1_i32_78
  let c512_i32_79 : BitVec 32 := 512#32
  let v168 : BitVec 32 := Scalar.muli v167 c512_i32_79
  v168
def k0_mult4 (i : grid0.Coords) (k0_t1 : Fin (k0_t1_loop i).trips) : BitVec 32 :=
  let arg1 : BitVec 32 := BitVec.ofNat 32 (i 1).val
  let c1_i32_100 : BitVec 32 := 1#32
  let v208 : BitVec 32 := Scalar.addi arg1 c1_i32_100
  let c4_i32_101 : BitVec 32 := 4#32
  let c0_i32_31 : BitVec 32 := 0#32
  let c1_i32_33 : BitVec 32 := 1#32
  let arg9 : BitVec 32 := Scf.iv c0_i32_31 c1_i32_33 k0_t1
  let v209 : BitVec 32 := Scalar.muli c4_i32_101 arg9
  let v210 : BitVec 32 := Scalar.addi v208 v209
  let c2_i32 : BitVec 32 := 2#32
  let v211 : BitVec 32 := Scalar.addi v210 c2_i32
  let c512_i32_102 : BitVec 32 := 512#32
  let v212 : BitVec 32 := Scalar.muli v211 c512_i32_102
  v212
def k0_mult5 (i : grid0.Coords) (k0_t1 : Fin (k0_t1_loop i).trips) : BitVec 32 :=
  let arg1 : BitVec 32 := BitVec.ofNat 32 (i 1).val
  let c1_i32_123 : BitVec 32 := 1#32
  let v252 : BitVec 32 := Scalar.addi arg1 c1_i32_123
  let c4_i32_124 : BitVec 32 := 4#32
  let c0_i32_31 : BitVec 32 := 0#32
  let c1_i32_33 : BitVec 32 := 1#32
  let arg9 : BitVec 32 := Scf.iv c0_i32_31 c1_i32_33 k0_t1
  let v253 : BitVec 32 := Scalar.muli c4_i32_124 arg9
  let v254 : BitVec 32 := Scalar.addi v252 v253
  let c3_i32 : BitVec 32 := 3#32
  let v255 : BitVec 32 := Scalar.addi v254 c3_i32
  let c512_i32_125 : BitVec 32 := 512#32
  let v256 : BitVec 32 := Scalar.muli v255 c512_i32_125
  v256
@[reducible] def k0_t2_loop (i : grid0.Coords) : Scf.Loop 32 :=
  let c0_i32_31 : BitVec 32 := 0#32
  let c15_i32 : BitVec 32 := 15#32
  let arg1 : BitVec 32 := BitVec.ofNat 32 (i 1).val
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let v81 : BitVec 32 := Scalar.addi c0_i32_31 v80
  let c1_i32_34 : BitVec 32 := 1#32
  ⟨v84, v81, c1_i32_34⟩
def k0_mult6 (i : grid0.Coords) (k0_t2 : Fin (k0_t2_loop i).trips) : BitVec 32 :=
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v121 : BitVec 32 := Scalar.muli c4_i32_53 arg9
  let v122 : BitVec 32 := Scalar.addi v120 v121
  let c0_i32_54 : BitVec 32 := 0#32
  let v123 : BitVec 32 := Scalar.addi v122 c0_i32_54
  let c512_i32_55 : BitVec 32 := 512#32
  let v124 : BitVec 32 := Scalar.muli v123 c512_i32_55
  v124
def k0_off7 (i : grid0.Coords) (k0_t2 : Fin (k0_t2_loop i).trips) (c0_i32_54 : BitVec 32) : Fin 2 → Nat :=
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v121 : BitVec 32 := Scalar.muli c4_i32_53 arg9
  let v122 : BitVec 32 := Scalar.addi v120 v121
  let v123 : BitVec 32 := Scalar.addi v122 c0_i32_54
  let c512_i32_55 : BitVec 32 := 512#32
  let v124 : BitVec 32 := Scalar.muli v123 c512_i32_55
  let v125 : BitVec 32 := v124
  let v126 : Index := Scalar.indexCast v125
  let c0_56 : Index := 0#32
  ![v126.toNat, 0]
def k0_off8 (i : grid0.Coords) (k0_t2 : Fin (k0_t2_loop i).trips) (c0_i32_54 : BitVec 32) : Fin 4 → Nat :=
  let c0_59 : Index := 0#32
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v121 : BitVec 32 := Scalar.muli c4_i32_53 arg9
  let v122 : BitVec 32 := Scalar.addi v120 v121
  let v123 : BitVec 32 := Scalar.addi v122 c0_i32_54
  let v133 : Index := Scalar.indexCast v123
  let c0_60 : Index := 0#32
  let c0_61 : Index := 0#32
  ![0, v133.toNat, 0, 0]
def k0_off9 (i : grid0.Coords) (k0_t2 : Fin (k0_t2_loop i).trips) (c0_i32_54 : BitVec 32) : Fin 4 → Nat :=
  let c0_69 : Index := 0#32
  let arg1 : BitVec 32 := BitVec.ofNat 32 (i 1).val
  let c1_i32_52 : BitVec 32 := 1#32
  let v120 : BitVec 32 := Scalar.addi arg1 c1_i32_52
  let c4_i32_53 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v121 : BitVec 32 := Scalar.muli c4_i32_53 arg9
  let v122 : BitVec 32 := Scalar.addi v120 v121
  let v123 : BitVec 32 := Scalar.addi v122 c0_i32_54
  let v154 : Index := Scalar.indexCast v123
  let c0_70 : Index := 0#32
  let c0_71 : Index := 0#32
  ![0, v154.toNat, 0, 0]
def k0_mult7 (i : grid0.Coords) (k0_t2 : Fin (k0_t2_loop i).trips) : BitVec 32 :=
  let arg1 : BitVec 32 := BitVec.ofNat 32 (i 1).val
  let c1_i32_76 : BitVec 32 := 1#32
  let v164 : BitVec 32 := Scalar.addi arg1 c1_i32_76
  let c4_i32_77 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v165 : BitVec 32 := Scalar.muli c4_i32_77 arg9
  let v166 : BitVec 32 := Scalar.addi v164 v165
  let c1_i32_78 : BitVec 32 := 1#32
  let v167 : BitVec 32 := Scalar.addi v166 c1_i32_78
  let c512_i32_79 : BitVec 32 := 512#32
  let v168 : BitVec 32 := Scalar.muli v167 c512_i32_79
  v168
def k0_mult8 (i : grid0.Coords) (k0_t2 : Fin (k0_t2_loop i).trips) : BitVec 32 :=
  let arg1 : BitVec 32 := BitVec.ofNat 32 (i 1).val
  let c1_i32_100 : BitVec 32 := 1#32
  let v208 : BitVec 32 := Scalar.addi arg1 c1_i32_100
  let c4_i32_101 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v209 : BitVec 32 := Scalar.muli c4_i32_101 arg9
  let v210 : BitVec 32 := Scalar.addi v208 v209
  let c2_i32 : BitVec 32 := 2#32
  let v211 : BitVec 32 := Scalar.addi v210 c2_i32
  let c512_i32_102 : BitVec 32 := 512#32
  let v212 : BitVec 32 := Scalar.muli v211 c512_i32_102
  v212
def k0_mult9 (i : grid0.Coords) (k0_t2 : Fin (k0_t2_loop i).trips) : BitVec 32 :=
  let arg1 : BitVec 32 := BitVec.ofNat 32 (i 1).val
  let c1_i32_123 : BitVec 32 := 1#32
  let v252 : BitVec 32 := Scalar.addi arg1 c1_i32_123
  let c4_i32_124 : BitVec 32 := 4#32
  let c0_i32_31 : BitVec 32 := 0#32
  let c15_i32 : BitVec 32 := 15#32
  let v62 : BitVec 32 := Scalar.subi c15_i32 arg1
  let c0_i32_26 : BitVec 32 := 0#32
  let v64 : BitVec 1 := Scalar.cmpi .sgt v62 c0_i32_26
  let v65 : BitVec 32 := Scalar.extui v64
  let c0_i32_27 : BitVec 32 := 0#32
  let v66 : BitVec 1 := Scalar.cmpi .slt v62 c0_i32_27
  let v67 : BitVec 32 := Scalar.extui v66
  let v68 : BitVec 32 := Scalar.subi v65 v67
  let c4_i32 : BitVec 32 := 4#32
  let c0_i32_28 : BitVec 32 := 0#32
  let v69 : BitVec 1 := Scalar.cmpi .sgt c4_i32 c0_i32_28
  let v70 : BitVec 32 := Scalar.extui v69
  let c0_i32_29 : BitVec 32 := 0#32
  let v71 : BitVec 1 := Scalar.cmpi .slt c4_i32 c0_i32_29
  let v72 : BitVec 32 := Scalar.extui v71
  let v73 : BitVec 32 := Scalar.subi v70 v72
  let v74 : BitVec 1 := Scalar.cmpi .ne v68 v73
  let v75 : BitVec 32 := Scalar.remsi v62 c4_i32
  let c0_i32_30 : BitVec 32 := 0#32
  let v76 : BitVec 1 := Scalar.cmpi .ne v75 c0_i32_30
  let v77 : BitVec 1 := Scalar.andi v74 v76
  let v63 : BitVec 32 := Scalar.divsi v62 c4_i32
  let c1_i32 : BitVec 32 := 1#32
  let v78 : BitVec 32 := Scalar.subi v63 c1_i32
  let v79 : BitVec 32 := Scalar.select v77 v78 v63
  let v80 : BitVec 32 := Scalar.subi v79 c0_i32_31
  let c1_i32_32 : BitVec 32 := 1#32
  let v82 : BitVec 32 := Scalar.divsi v80 c1_i32_32
  let v83 : BitVec 32 := Scalar.muli v82 c1_i32_32
  let v84 : BitVec 32 := Scalar.addi c0_i32_31 v83
  let c1_i32_34 : BitVec 32 := 1#32
  let arg9 : BitVec 32 := Scf.iv v84 c1_i32_34 k0_t2
  let v253 : BitVec 32 := Scalar.muli c4_i32_124 arg9
  let v254 : BitVec 32 := Scalar.addi v252 v253
  let c3_i32 : BitVec 32 := 3#32
  let v255 : BitVec 32 := Scalar.addi v254 c3_i32
  let c512_i32_125 : BitVec 32 := 512#32
  let v256 : BitVec 32 := Scalar.muli v255 c512_i32_125
  v256
@[reducible] def k0_t3_loop (i : grid0.Coords) : Scf.Loop 32 :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let c1_i32_45 : BitVec 32 := 1#32
  ⟨v106, v111, c1_i32_45⟩
def k0_mult10 (i : grid0.Coords) (k0_t3 : Fin (k0_t3_loop i).trips) : BitVec 32 :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c1_i32_45 : BitVec 32 := 1#32
  let arg9 : BitVec 32 := Scf.iv v106 c1_i32_45 k0_t3
  let c512_i32_52 : BitVec 32 := 512#32
  let v120 : BitVec 32 := Scalar.muli arg9 c512_i32_52
  v120
def k0_off10 (i : grid0.Coords) (k0_t3 : Fin (k0_t3_loop i).trips) : Fin 2 → Nat :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c1_i32_45 : BitVec 32 := 1#32
  let arg9 : BitVec 32 := Scf.iv v106 c1_i32_45 k0_t3
  let c512_i32_52 : BitVec 32 := 512#32
  let v120 : BitVec 32 := Scalar.muli arg9 c512_i32_52
  let v121 : BitVec 32 := v120
  let v122 : Index := Scalar.indexCast v121
  let c0_53 : Index := 0#32
  ![v122.toNat, 0]
def k0_off11 (i : grid0.Coords) (k0_t3 : Fin (k0_t3_loop i).trips) : Fin 4 → Nat :=
  let c0_56 : Index := 0#32
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c1_i32_45 : BitVec 32 := 1#32
  let arg9 : BitVec 32 := Scf.iv v106 c1_i32_45 k0_t3
  let v129 : Index := Scalar.indexCast arg9
  let c0_57 : Index := 0#32
  let c0_58 : Index := 0#32
  ![0, v129.toNat, 0, 0]
def k0_off12 (i : grid0.Coords) (k0_t3 : Fin (k0_t3_loop i).trips) : Fin 4 → Nat :=
  let c0_66 : Index := 0#32
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c1_i32_45 : BitVec 32 := 1#32
  let arg9 : BitVec 32 := Scf.iv v106 c1_i32_45 k0_t3
  let v150 : Index := Scalar.indexCast arg9
  let c0_67 : Index := 0#32
  let c0_68 : Index := 0#32
  ![0, v150.toNat, 0, 0]
@[reducible] def k0_t4_loop (i : grid0.Coords) : Scf.Loop 32 :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let v108 : BitVec 32 := Scalar.addi v106 v107
  let c1_i32_46 : BitVec 32 := 1#32
  ⟨v111, v108, c1_i32_46⟩
def k0_mult11 (i : grid0.Coords) (k0_t4 : Fin (k0_t4_loop i).trips) : BitVec 32 :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let c1_i32_46 : BitVec 32 := 1#32
  let arg9 : BitVec 32 := Scf.iv v111 c1_i32_46 k0_t4
  let c512_i32_52 : BitVec 32 := 512#32
  let v120 : BitVec 32 := Scalar.muli arg9 c512_i32_52
  v120
def k0_off13 (i : grid0.Coords) (k0_t4 : Fin (k0_t4_loop i).trips) : Fin 2 → Nat :=
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let c1_i32_46 : BitVec 32 := 1#32
  let arg9 : BitVec 32 := Scf.iv v111 c1_i32_46 k0_t4
  let c512_i32_52 : BitVec 32 := 512#32
  let v120 : BitVec 32 := Scalar.muli arg9 c512_i32_52
  let v121 : BitVec 32 := v120
  let v122 : Index := Scalar.indexCast v121
  let c0_53 : Index := 0#32
  ![v122.toNat, 0]
def k0_off14 (i : grid0.Coords) (k0_t4 : Fin (k0_t4_loop i).trips) : Fin 4 → Nat :=
  let c0_56 : Index := 0#32
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let c1_i32_46 : BitVec 32 := 1#32
  let arg9 : BitVec 32 := Scf.iv v111 c1_i32_46 k0_t4
  let v129 : Index := Scalar.indexCast arg9
  let c0_57 : Index := 0#32
  let c0_58 : Index := 0#32
  ![0, v129.toNat, 0, 0]
def k0_off15 (i : grid0.Coords) (k0_t4 : Fin (k0_t4_loop i).trips) : Fin 4 → Nat :=
  let c0_66 : Index := 0#32
  let arg1 : BitVec 32 := BitVec.ofNat 32 (i 1).val
  let c1_i32_35 : BitVec 32 := 1#32
  let v87 : BitVec 32 := Scalar.addi arg1 c1_i32_35
  let c15_i32 : BitVec 32 := 15#32
  let v62 : BitVec 32 := Scalar.subi c15_i32 arg1
  let c0_i32_37 : BitVec 32 := 0#32
  let v89 : BitVec 1 := Scalar.cmpi .sgt v62 c0_i32_37
  let v90 : BitVec 32 := Scalar.extui v89
  let c0_i32_38 : BitVec 32 := 0#32
  let v91 : BitVec 1 := Scalar.cmpi .slt v62 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi v62 c4_i32_36
  let c0_i32_41 : BitVec 32 := 0#32
  let v101 : BitVec 1 := Scalar.cmpi .ne v100 c0_i32_41
  let v102 : BitVec 1 := Scalar.andi v99 v101
  let v88 : BitVec 32 := Scalar.divsi v62 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 32 := Scalar.muli v104 c4_i32_43
  let v106 : BitVec 32 := Scalar.addi v87 v105
  let c16_i32 : BitVec 32 := 16#32
  let v107 : BitVec 32 := Scalar.subi c16_i32 v106
  let c1_i32_44 : BitVec 32 := 1#32
  let v109 : BitVec 32 := Scalar.divsi v107 c1_i32_44
  let v110 : BitVec 32 := Scalar.muli v109 c1_i32_44
  let v111 : BitVec 32 := Scalar.addi v106 v110
  let c1_i32_46 : BitVec 32 := 1#32
  let arg9 : BitVec 32 := Scf.iv v111 c1_i32_46 k0_t4
  let v150 : Index := Scalar.indexCast arg9
  let c0_67 : Index := 0#32
  let c0_68 : Index := 0#32
  ![0, v150.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "inv_ln2" => some (((Real.log 2)⁻¹ : ℝ) : EReal)
  | "log2_ln2" => some (((Real.log (Real.log 2)) * (Real.log 2)⁻¹ : ℝ) : EReal)
  | _ => none
-- ==== ReferenceIdeal.lean ====
abbrev S8192x1024 : Shape := ⟨2, ![8192, 1024]⟩
abbrev S8192x2048 : Shape := ⟨2, ![8192, 2048]⟩
abbrev S8192x8x2x128 : Shape := ⟨4, ![8192, 8, 2, 128]⟩
abbrev S8192x8x128 : Shape := ⟨3, ![8192, 8, 128]⟩
abbrev S8192x8x1x128 : Shape := ⟨4, ![8192, 8, 1, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x128 : Shape := ⟨3, ![8, 8192, 128]⟩
abbrev S16x512x8x128 : Shape := ⟨4, ![16, 512, 8, 128]⟩
abbrev S8x16x128x512 : Shape := ⟨4, ![8, 16, 128, 512]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x8x2x128, .f32⟩
  | .hbm, ⟨4, _⟩ => ⟨S8192x8x128, .f32⟩
  | .hbm, ⟨5, _⟩ => ⟨S8192x8x1x128, .f32⟩
  | .hbm, ⟨6, _⟩ => ⟨S8192x8x128, .f32⟩
  | .hbm, ⟨7, _⟩ => ⟨S8192x8x1x128, .f32⟩
  | .hbm, ⟨8, _⟩ => ⟨S8192x8x128, .f32⟩
  | .hbm, ⟨9, _⟩ => ⟨S8x8192x8192, .f32⟩
  | .hbm, ⟨10, _⟩ => ⟨S_, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .i1⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S8x8192, .i1⟩
  | .hbm, ⟨45, _⟩ => ⟨S_, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S_, .f32⟩
  | .hbm, ⟨50, _⟩ => ⟨S8x8192, .f32⟩
  | .hbm, ⟨51, _⟩ => ⟨S8x8192, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x128x8192, .f32⟩
  | .hbm, ⟨67, _⟩ => ⟨S8192x8x128, .f32⟩
  | .hbm, ⟨68, _⟩ => ⟨S8192x8x128, .f32⟩
  | .hbm, ⟨69, _⟩ => ⟨S8x128x8192, .f32⟩
  | .hbm, ⟨70, _⟩ => ⟨S8x8192x8192, .f32⟩
  | .hbm, ⟨71, _⟩ => ⟨S8x128x8192, .f32⟩
  | .hbm, ⟨72, _⟩ => ⟨S8192x8x128, .f32⟩
  | .hbm, ⟨73, _⟩ => ⟨S8x8192x8192, .f32⟩
  | .hbm, ⟨74, _⟩ => ⟨S8x8192x8192, .f32⟩
  | .hbm, ⟨75, _⟩ => ⟨S8x8192x8192, .f32⟩
  | .hbm, ⟨76, _⟩ => ⟨S_, .f32⟩
  | .hbm, ⟨77, _⟩ => ⟨S8x8192, .f32⟩
  | .hbm, ⟨78, _⟩ => ⟨S8x8192x1, .f32⟩
  | .hbm, ⟨79, _⟩ => ⟨S8x8192x1, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192, .f32⟩
  | .hbm, ⟨84, _⟩ => ⟨S8x8192x8192, .f32⟩
  | .hbm, ⟨85, _⟩ => ⟨S8x8192x8192, .f32⟩
  | .hbm, ⟨86, _⟩ => ⟨S8x8192x8192, .f32⟩
  | .hbm, ⟨87, _⟩ => ⟨S_, .f32⟩
  | .hbm, ⟨88, _⟩ => ⟨S8x8192x8192, .f32⟩
  | .hbm, ⟨89, _⟩ => ⟨S8x8192x8192, .f32⟩
  | .hbm, ⟨90, _⟩ => ⟨S8x8192x8192, .f32⟩
  | .hbm, ⟨91, _⟩ => ⟨S8x8192x8192, .f32⟩
  | .hbm, ⟨92, _⟩ => ⟨S8x8192x128, .f32⟩
  | .hbm, ⟨93, _⟩ => ⟨S8192x8x128, .f32⟩
  | .hbm, ⟨94, _⟩ => ⟨S8x8192x128, .f32⟩
  | .hbm, ⟨95, _⟩ => ⟨S8192x8x128, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S8192x8x128, .f32⟩
  | .hbm, ⟨102, _⟩ => ⟨S8192x8x128, .f32⟩
  | .hbm, ⟨103, _⟩ => ⟨S16x512x8x128, .f32⟩
  | .hbm, ⟨104, _⟩ => ⟨S8x16x128x512, .f32⟩
  | .hbm, ⟨105, _⟩ => ⟨S8192x8x1x128, .f32⟩
  | .hbm, ⟨106, _⟩ => ⟨S8192x8x1x128, .f32⟩
  | .hbm, ⟨107, _⟩ => ⟨S8192x8x2x128, .f32⟩
  | .hbm, ⟨108, _⟩ => ⟨S8192x2048, .f32⟩
  | .hbm, ⟨109, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_v17_1 : Ref sig .tc := ⟨.hbm, 23, rfl⟩
abbrev main_call0_v2 : Ref sig .tc := ⟨.hbm, 24, rfl⟩
abbrev main_v17_0 : Ref sig .tc := ⟨.hbm, 25, rfl⟩
abbrev main_call0_cst : Ref sig .tc := ⟨.hbm, 26, rfl⟩
abbrev main_v17_2 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call1_cst : Ref sig .tc := ⟨.hbm, 87, rfl⟩
abbrev main_call1_v0 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]
-- ==== Kernel2.lean ====
abbrev S8192x1024 : Shape := ⟨2, ![8192, 1024]⟩
abbrev S8192x2048 : Shape := ⟨2, ![8192, 2048]⟩
abbrev S_ : Shape := ⟨0, ![]⟩
abbrev S8x16x8x512 : Shape := ⟨4, ![8, 16, 8, 512]⟩
abbrev S1024x128 : Shape := ⟨2, ![1024, 128]⟩
abbrev S8192x256 : Shape := ⟨2, ![8192, 256]⟩
abbrev S1x2x8x512 : Shape := ⟨4, ![1, 2, 8, 512]⟩
abbrev S512x1 : Shape := ⟨2, ![512, 1]⟩
abbrev S512x128 : Shape := ⟨2, ![512, 128]⟩
abbrev S512x1024 : Shape := ⟨2, ![512, 1024]⟩
abbrev S512 : Shape := ⟨1, ![512]⟩
abbrev S512x512 : Shape := ⟨2, ![512, 512]⟩
abbrev S128x512 : Shape := ⟨2, ![128, 512]⟩
abbrev S8x512 : Shape := ⟨2, ![8, 512]⟩
abbrev S1x1x8x512 : Shape := ⟨4, ![1, 1, 8, 512]⟩

abbrev nBuf : Space → Nat
  | .hbm => 13
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x2048, .bf16⟩
  | .hbm, ⟨11, _⟩ => ⟨S8192x1024, .f32⟩
  | .hbm, ⟨12, _⟩ => ⟨S8x16x8x512, .f32⟩
  | .local _ .vmem, ⟨0, _⟩ => ⟨S1024x128, .bf16⟩
  | .local _ .vmem, ⟨1, _⟩ => ⟨S1024x128, .bf16⟩
  | .local _ .vmem, ⟨2, _⟩ => ⟨S8192x256, .bf16⟩
  | .local _ .vmem, ⟨3, _⟩ => ⟨S8192x256, .bf16⟩
  | .local _ .vmem, ⟨4, _⟩ => ⟨S1024x128, .f32⟩
  | .local _ .vmem, ⟨5, _⟩ => ⟨S1024x128, .f32⟩
  | .local _ .vmem, ⟨6, _⟩ => ⟨S1x2x8x512, .f32⟩
  | .local _ .vmem, ⟨7, _⟩ => ⟨S1x2x8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_8 : BitVec 32 := 1#32
  ⟨c0_i32_6, v24, c1_i32_8⟩
def k0_mult1 (i : grid0.Coords) (k0_t1 : Fin (k0_t1_loop i).trips) : BitVec 32 :=
  let c2_i32_56 : BitVec 32 := 2#32
  let c0_i32_6 : BitVec 32 := 0#32
  let c1_i32_8 : BitVec 32 := 1#32
  let arg6 : BitVec 32 := Scf.iv c0_i32_6 c1_i32_8 k0_t1
  let v154 : BitVec 32 := Scalar.muli c2_i32_56 arg6
  let c2_i32_57 : BitVec 32 := 2#32
  let v155 : BitVec 32 := Scalar.muli v154 c2_i32_57
  let c512_i32_58 : BitVec 32 := 512#32
  let v156 : BitVec 32 := Scalar.muli v155 c512_i32_58
  v156
def k0_off1 (i : grid0.Coords) (k0_t1 : Fin (k0_t1_loop i).trips) : Fin 2 → Nat :=
  let c2_i32_56 : BitVec 32 := 2#32
  let c0_i32_6 : BitVec 32 := 0#32
  let c1_i32_8 : BitVec 32 := 1#32
  let arg6 : BitVec 32 := Scf.iv c0_i32_6 c1_i32_8 k0_t1
  let v154 : BitVec 32 := Scalar.muli c2_i32_56 arg6
  let c2_i32_57 : BitVec 32 := 2#32
  let v155 : BitVec 32 := Scalar.muli v154 c2_i32_57
  let c512_i32_58 : BitVec 32 := 512#32
  let v156 : BitVec 32 := Scalar.muli v155 c512_i32_58
  let v157 : BitVec 32 := v156
  let v160 : Index := Scalar.indexCast v157
  let c0_61 : Index := 0#32
  ![v160.toNat, 0]
def k0_off2 (i : grid0.Coords) (k0_t1 : Fin (k0_t1_loop i).trips) : Fin 2 → Nat :=
  let c2_i32_56 : BitVec 32 := 2#32
  let c0_i32_6 : BitVec 32 := 0#32
  let c1_i32_8 : BitVec 32 := 1#32
  let arg6 : BitVec 32 := Scf.iv c0_i32_6 c1_i32_8 k0_t1
  let v154 : BitVec 32 := Scalar.muli c2_i32_56 arg6
  let c2_i32_57 : BitVec 32 := 2#32
  let v155 : BitVec 32 := Scalar.muli v154 c2_i32_57
  let c512_i32_58 : BitVec 32 := 512#32
  let v156 : BitVec 32 := Scalar.muli v155 c512_i32_58
  let v157 : BitVec 32 := v156
  let v178 : Index := Scalar.indexCast v157
  let c128_65 : Index := 128#32
  ![v178.toNat, 128]
def k0_mult2 (i : grid0.Coords) (k0_t1 : Fin (k0_t1_loop i).trips) : BitVec 32 :=
  let c2_i32_56 : BitVec 32 := 2#32
  let c0_i32_6 : BitVec 32 := 0#32
  let c1_i32_8 : BitVec 32 := 1#32
  let arg6 : BitVec 32 := Scf.iv c0_i32_6 c1_i32_8 k0_t1
  let v154 : BitVec 32 := Scalar.muli c2_i32_56 arg6
  let c2_i32_67 : BitVec 32 := 2#32
  let v184 : BitVec 32 := Scalar.muli v154 c2_i32_67
  let c512_i32_68 : BitVec 32 := 512#32
  let v185 : BitVec 32 := Scalar.muli v184 c512_i32_68
  v185
def k0_mult3 (i : grid0.Coords) (k0_t1 : Fin (k0_t1_loop i).trips) : BitVec 32 :=
  let c2_i32_54 : BitVec 32 := 2#32
  let c0_i32_6 : BitVec 32 := 0#32
  let c1_i32_8 : BitVec 32 := 1#32
  let arg6 : BitVec 32 := Scf.iv c0_i32_6 c1_i32_8 k0_t1
  let v152 : BitVec 32 := Scalar.muli c2_i32_54 arg6
  let c1_i32_55 : BitVec 32 := 1#32
  let v153 : BitVec 32 := Scalar.addi v152 c1_i32_55
  let c2_i32_77 : BitVec 32 := 2#32
  let v213 : BitVec 32 := Scalar.muli v153 c2_i32_77
  let c512_i32_78 : BitVec 32 := 512#32
  let v214 : BitVec 32 := Scalar.muli v213 c512_i32_78
  v214
def k0_off3 (i : grid0.Coords) (k0_t1 : Fin (k0_t1_loop i).trips) : Fin 2 → Nat :=
  let c2_i32_54 : BitVec 32 := 2#32
  let c0_i32_6 : BitVec 32 := 0#32
  let c1_i32_8 : BitVec 32 := 1#32
  let arg6 : BitVec 32 := Scf.iv c0_i32_6 c1_i32_8 k0_t1
  let v152 : BitVec 32 := Scalar.muli c2_i32_54 arg6
  let c1_i32_55 : BitVec 32 := 1#32
  let v153 : BitVec 32 := Scalar.addi v152 c1_i32_55
  let c2_i32_77 : BitVec 32 := 2#32
  let v213 : BitVec 32 := Scalar.muli v153 c2_i32_77
  let c512_i32_78 : BitVec 32 := 512#32
  let v214 : BitVec 32 := Scalar.muli v213 c512_i32_78
  let v215 : BitVec 32 := v214
  let v218 : Index := Scalar.indexCast v215
  let c0_81 : Index := 0#32
  ![v218.toNat, 0]
def k0_off4 (i : grid0.Coords) (k0_t1 : Fin (k0_t1_loop i).trips) : Fin 2 → Nat :=
  let c2_i32_54 : BitVec 32 := 2#32
  let c0_i32_6 : BitVec 32 := 0#32
  let c1_i32_8 : BitVec 32 := 1#32
  let arg6 : BitVec 32 := Scf.iv c0_i32_6 c1_i32_8 k0_t1
  let v152 : BitVec 32 := Scalar.muli c2_i32_54 arg6
  let c1_i32_55 : BitVec 32 := 1#32
  let v153 : BitVec 32 := Scalar.addi v152 c1_i32_55
  let c2_i32_77 : BitVec 32 := 2#32
  let v213 : BitVec 32 := Scalar.muli v153 c2_i32_77
  let c512_i32_78 : BitVec 32 := 512#32
  let v214 : BitVec 32 := Scalar.muli v213 c512_i32_78
  let v215 : BitVec 32 := v214
  let v236 : Index := Scalar.indexCast v215
  let c128_85 : Index := 128#32
  ![v236.toNat, 128]
def k0_mult4 (i : grid0.Coords) (k0_t1 : Fin (k0_t1_loop i).trips) : BitVec 32 :=
  let c2_i32_54 : BitVec 32 := 2#32
  let c0_i32_6 : BitVec 32 := 0#32
  let c1_i32_8 : BitVec 32 := 1#32
  let arg6 : BitVec 32 := Scf.iv c0_i32_6 c1_i32_8 k0_t1
  let v152 : BitVec 32 := Scalar.muli c2_i32_54 arg6
  let c1_i32_55 : BitVec 32 := 1#32
  let v153 : BitVec 32 := Scalar.addi v152 c1_i32_55
  let c2_i32_87 : BitVec 32 := 2#32
  let v242 : BitVec 32 := Scalar.muli v153 c2_i32_87
  let c512_i32_88 : BitVec 32 := 512#32
  let v243 : BitVec 32 := Scalar.muli v242 c512_i32_88
  v243
@[reducible] def k0_t2_loop (i : grid0.Coords) : Scf.Loop 32 :=
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let v21 : BitVec 32 := Scalar.addi c0_i32_6 v20
  let c1_i32_9 : BitVec 32 := 1#32
  ⟨v24, v21, c1_i32_9⟩
def k0_mult5 (i : grid0.Coords) (k0_t2 : Fin (k0_t2_loop i).trips) : BitVec 32 :=
  let c2_i32_56 : BitVec 32 := 2#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg6 : BitVec 32 := Scf.iv v24 c1_i32_9 k0_t2
  let v154 : BitVec 32 := Scalar.muli c2_i32_56 arg6
  let c2_i32_57 : BitVec 32 := 2#32
  let v155 : BitVec 32 := Scalar.muli v154 c2_i32_57
  let c512_i32_58 : BitVec 32 := 512#32
  let v156 : BitVec 32 := Scalar.muli v155 c512_i32_58
  v156
def k0_off5 (i : grid0.Coords) (k0_t2 : Fin (k0_t2_loop i).trips) : Fin 2 → Nat :=
  let c2_i32_56 : BitVec 32 := 2#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg6 : BitVec 32 := Scf.iv v24 c1_i32_9 k0_t2
  let v154 : BitVec 32 := Scalar.muli c2_i32_56 arg6
  let c2_i32_57 : BitVec 32 := 2#32
  let v155 : BitVec 32 := Scalar.muli v154 c2_i32_57
  let c512_i32_58 : BitVec 32 := 512#32
  let v156 : BitVec 32 := Scalar.muli v155 c512_i32_58
  let v157 : BitVec 32 := v156
  let v160 : Index := Scalar.indexCast v157
  let c0_61 : Index := 0#32
  ![v160.toNat, 0]
def k0_off6 (i : grid0.Coords) (k0_t2 : Fin (k0_t2_loop i).trips) : Fin 2 → Nat :=
  let c2_i32_56 : BitVec 32 := 2#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg6 : BitVec 32 := Scf.iv v24 c1_i32_9 k0_t2
  let v154 : BitVec 32 := Scalar.muli c2_i32_56 arg6
  let c2_i32_57 : BitVec 32 := 2#32
  let v155 : BitVec 32 := Scalar.muli v154 c2_i32_57
  let c512_i32_58 : BitVec 32 := 512#32
  let v156 : BitVec 32 := Scalar.muli v155 c512_i32_58
  let v157 : BitVec 32 := v156
  let v178 : Index := Scalar.indexCast v157
  let c128_65 : Index := 128#32
  ![v178.toNat, 128]
def k0_mult6 (i : grid0.Coords) (k0_t2 : Fin (k0_t2_loop i).trips) : BitVec 32 :=
  let c2_i32_56 : BitVec 32 := 2#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg6 : BitVec 32 := Scf.iv v24 c1_i32_9 k0_t2
  let v154 : BitVec 32 := Scalar.muli c2_i32_56 arg6
  let c2_i32_67 : BitVec 32 := 2#32
  let v184 : BitVec 32 := Scalar.muli v154 c2_i32_67
  let c512_i32_68 : BitVec 32 := 512#32
  let v185 : BitVec 32 := Scalar.muli v184 c512_i32_68
  v185
def k0_mult7 (i : grid0.Coords) (k0_t2 : Fin (k0_t2_loop i).trips) : BitVec 32 :=
  let c2_i32_54 : BitVec 32 := 2#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg6 : BitVec 32 := Scf.iv v24 c1_i32_9 k0_t2
  let v152 : BitVec 32 := Scalar.muli c2_i32_54 arg6
  let c1_i32_55 : BitVec 32 := 1#32
  let v153 : BitVec 32 := Scalar.addi v152 c1_i32_55
  let c2_i32_77 : BitVec 32 := 2#32
  let v213 : BitVec 32 := Scalar.muli v153 c2_i32_77
  let c512_i32_78 : BitVec 32 := 512#32
  let v214 : BitVec 32 := Scalar.muli v213 c512_i32_78
  v214
def k0_off7 (i : grid0.Coords) (k0_t2 : Fin (k0_t2_loop i).trips) : Fin 2 → Nat :=
  let c2_i32_54 : BitVec 32 := 2#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg6 : BitVec 32 := Scf.iv v24 c1_i32_9 k0_t2
  let v152 : BitVec 32 := Scalar.muli c2_i32_54 arg6
  let c1_i32_55 : BitVec 32 := 1#32
  let v153 : BitVec 32 := Scalar.addi v152 c1_i32_55
  let c2_i32_77 : BitVec 32 := 2#32
  let v213 : BitVec 32 := Scalar.muli v153 c2_i32_77
  let c512_i32_78 : BitVec 32 := 512#32
  let v214 : BitVec 32 := Scalar.muli v213 c512_i32_78
  let v215 : BitVec 32 := v214
  let v218 : Index := Scalar.indexCast v215
  let c0_81 : Index := 0#32
  ![v218.toNat, 0]
def k0_off8 (i : grid0.Coords) (k0_t2 : Fin (k0_t2_loop i).trips) : Fin 2 → Nat :=
  let c2_i32_54 : BitVec 32 := 2#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg6 : BitVec 32 := Scf.iv v24 c1_i32_9 k0_t2
  let v152 : BitVec 32 := Scalar.muli c2_i32_54 arg6
  let c1_i32_55 : BitVec 32 := 1#32
  let v153 : BitVec 32 := Scalar.addi v152 c1_i32_55
  let c2_i32_77 : BitVec 32 := 2#32
  let v213 : BitVec 32 := Scalar.muli v153 c2_i32_77
  let c512_i32_78 : BitVec 32 := 512#32
  let v214 : BitVec 32 := Scalar.muli v213 c512_i32_78
  let v215 : BitVec 32 := v214
  let v236 : Index := Scalar.indexCast v215
  let c128_85 : Index := 128#32
  ![v236.toNat, 128]
def k0_mult8 (i : grid0.Coords) (k0_t2 : Fin (k0_t2_loop i).trips) : BitVec 32 :=
  let c2_i32_54 : BitVec 32 := 2#32
  let c0_i32_6 : BitVec 32 := 0#32
  let arg1 : BitVec 32 := BitVec.ofNat 32 (i 1).val
  let c0_i32 : BitVec 32 := 0#32
  let v4 : BitVec 1 := Scalar.cmpi .sgt arg1 c0_i32
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v20 : BitVec 32 := Scalar.subi v19 c0_i32_6
  let c1_i32_7 : BitVec 32 := 1#32
  let v22 : BitVec 32 := Scalar.divsi v20 c1_i32_7
  let v23 : BitVec 32 := Scalar.muli v22 c1_i32_7
  let v24 : BitVec 32 := Scalar.addi c0_i32_6 v23
  let c1_i32_9 : BitVec 32 := 1#32
  let arg6 : BitVec 32 := Scf.iv v24 c1_i32_9 k0_t2
  let v152 : BitVec 32 := Scalar.muli c2_i32_54 arg6
  let c1_i32_55 : BitVec 32 := 1#32
  let v153 : BitVec 32 := Scalar.addi v152 c1_i32_55
  let c2_i32_87 : BitVec 32 := 2#32
  let v242 : BitVec 32 := Scalar.muli v153 c2_i32_87
  let c512_i32_88 : BitVec 32 := 512#32
  let v243 : BitVec 32 := Scalar.muli v242 c512_i32_88
  v243
@[reducible] def k0_t3_loop (i : grid0.Coords) : Scf.Loop 32 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c2_i32_10 : BitVec 32 := 2#32
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let v27 : BitVec 32 := Scalar.divsi arg1 c2_i32_10
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.muli v43 c2_i32_17
  let v45 : BitVec 32 := Scalar.subi arg1 v44
  let c1_i32_18 : BitVec 32 := 1#32
  let v47 : BitVec 32 := Scalar.divsi v45 c1_i32_18
  let v48 : BitVec 32 := Scalar.muli v47 c1_i32_18
  let v49 : BitVec 32 := Scalar.addi v44 v48
  let c1_i32_19 : BitVec 32 := 1#32
  ⟨v44, v49, c1_i32_19⟩
def k0_mult9 (i : grid0.Coords) (k0_t3 : Fin (k0_t3_loop i).trips) : BitVec 32 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c2_i32_10 : BitVec 32 := 2#32
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let v27 : BitVec 32 := Scalar.divsi arg1 c2_i32_10
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.muli v43 c2_i32_17
  let c1_i32_19 : BitVec 32 := 1#32
  let arg6 : BitVec 32 := Scf.iv v44 c1_i32_19 k0_t3
  let c2_i32_54 : BitVec 32 := 2#32
  let v152 : BitVec 32 := Scalar.muli arg6 c2_i32_54
  let c512_i32_55 : BitVec 32 := 512#32
  let v153 : BitVec 32 := Scalar.muli v152 c512_i32_55
  v153
def k0_off9 (i : grid0.Coords) (k0_t3 : Fin (k0_t3_loop i).trips) : Fin 2 → Nat :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c2_i32_10 : BitVec 32 := 2#32
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let v27 : BitVec 32 := Scalar.divsi arg1 c2_i32_10
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.muli v43 c2_i32_17
  let c1_i32_19 : BitVec 32 := 1#32
  let arg6 : BitVec 32 := Scf.iv v44 c1_i32_19 k0_t3
  let c2_i32_54 : BitVec 32 := 2#32
  let v152 : BitVec 32 := Scalar.muli arg6 c2_i32_54
  let c512_i32_55 : BitVec 32 := 512#32
  let v153 : BitVec 32 := Scalar.muli v152 c512_i32_55
  let v154 : BitVec 32 := v153
  let v157 : Index := Scalar.indexCast v154
  let c0_58 : Index := 0#32
  ![v157.toNat, 0]
def k0_off10 (i : grid0.Coords) (k0_t3 : Fin (k0_t3_loop i).trips) : Fin 2 → Nat :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c2_i32_10 : BitVec 32 := 2#32
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let v27 : BitVec 32 := Scalar.divsi arg1 c2_i32_10
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.muli v43 c2_i32_17
  let c1_i32_19 : BitVec 32 := 1#32
  let arg6 : BitVec 32 := Scf.iv v44 c1_i32_19 k0_t3
  let c2_i32_54 : BitVec 32 := 2#32
  let v152 : BitVec 32 := Scalar.muli arg6 c2_i32_54
  let c512_i32_55 : BitVec 32 := 512#32
  let v153 : BitVec 32 := Scalar.muli v152 c512_i32_55
  let v154 : BitVec 32 := v153
  let v175 : Index := Scalar.indexCast v154
  let c128_62 : Index := 128#32
  ![v175.toNat, 128]
def k0_mult10 (i : grid0.Coords) (k0_t3 : Fin (k0_t3_loop i).trips) : BitVec 32 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c2_i32_10 : BitVec 32 := 2#32
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let v27 : BitVec 32 := Scalar.divsi arg1 c2_i32_10
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.muli v43 c2_i32_17
  let c1_i32_19 : BitVec 32 := 1#32
  let arg6 : BitVec 32 := Scf.iv v44 c1_i32_19 k0_t3
  let c2_i32_64 : BitVec 32 := 2#32
  let v181 : BitVec 32 := Scalar.muli arg6 c2_i32_64
  let c512_i32_65 : BitVec 32 := 512#32
  let v182 : BitVec 32 := Scalar.muli v181 c512_i32_65
  v182
@[reducible] def k0_t4_loop (i : grid0.Coords) : Scf.Loop 32 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c2_i32_10 : BitVec 32 := 2#32
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let v27 : BitVec 32 := Scalar.divsi arg1 c2_i32_10
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.muli v43 c2_i32_17
  let v45 : BitVec 32 := Scalar.subi arg1 v44
  let c1_i32_18 : BitVec 32 := 1#32
  let v47 : BitVec 32 := Scalar.divsi v45 c1_i32_18
  let v48 : BitVec 32 := Scalar.muli v47 c1_i32_18
  let v49 : BitVec 32 := Scalar.addi v44 v48
  let v46 : BitVec 32 := Scalar.addi v44 v45
  let c1_i32_20 : BitVec 32 := 1#32
  ⟨v49, v46, c1_i32_20⟩
def k0_mult11 (i : grid0.Coords) (k0_t4 : Fin (k0_t4_loop i).trips) : BitVec 32 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c2_i32_10 : BitVec 32 := 2#32
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let v27 : BitVec 32 := Scalar.divsi arg1 c2_i32_10
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.muli v43 c2_i32_17
  let v45 : BitVec 32 := Scalar.subi arg1 v44
  let c1_i32_18 : BitVec 32 := 1#32
  let v47 : BitVec 32 := Scalar.divsi v45 c1_i32_18
  let v48 : BitVec 32 := Scalar.muli v47 c1_i32_18
  let v49 : BitVec 32 := Scalar.addi v44 v48
  let c1_i32_20 : BitVec 32 := 1#32
  let arg6 : BitVec 32 := Scf.iv v49 c1_i32_20 k0_t4
  let c2_i32_54 : BitVec 32 := 2#32
  let v152 : BitVec 32 := Scalar.muli arg6 c2_i32_54
  let c512_i32_55 : BitVec 32 := 512#32
  let v153 : BitVec 32 := Scalar.muli v152 c512_i32_55
  v153
def k0_off11 (i : grid0.Coords) (k0_t4 : Fin (k0_t4_loop i).trips) : Fin 2 → Nat :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c2_i32_10 : BitVec 32 := 2#32
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let v27 : BitVec 32 := Scalar.divsi arg1 c2_i32_10
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.muli v43 c2_i32_17
  let v45 : BitVec 32 := Scalar.subi arg1 v44
  let c1_i32_18 : BitVec 32 := 1#32
  let v47 : BitVec 32 := Scalar.divsi v45 c1_i32_18
  let v48 : BitVec 32 := Scalar.muli v47 c1_i32_18
  let v49 : BitVec 32 := Scalar.addi v44 v48
  let c1_i32_20 : BitVec 32 := 1#32
  let arg6 : BitVec 32 := Scf.iv v49 c1_i32_20 k0_t4
  let c2_i32_54 : BitVec 32 := 2#32
  let v152 : BitVec 32 := Scalar.muli arg6 c2_i32_54
  let c512_i32_55 : BitVec 32 := 512#32
  let v153 : BitVec 32 := Scalar.muli v152 c512_i32_55
  let v154 : BitVec 32 := v153
  let v157 : Index := Scalar.indexCast v154
  let c0_58 : Index := 0#32
  ![v157.toNat, 0]
def k0_off12 (i : grid0.Coords) (k0_t4 : Fin (k0_t4_loop i).trips) : Fin 2 → Nat :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c2_i32_10 : BitVec 32 := 2#32
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let v27 : BitVec 32 := Scalar.divsi arg1 c2_i32_10
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.muli v43 c2_i32_17
  let v45 : BitVec 32 := Scalar.subi arg1 v44
  let c1_i32_18 : BitVec 32 := 1#32
  let v47 : BitVec 32 := Scalar.divsi v45 c1_i32_18
  let v48 : BitVec 32 := Scalar.muli v47 c1_i32_18
  let v49 : BitVec 32 := Scalar.addi v44 v48
  let c1_i32_20 : BitVec 32 := 1#32
  let arg6 : BitVec 32 := Scf.iv v49 c1_i32_20 k0_t4
  let c2_i32_54 : BitVec 32 := 2#32
  let v152 : BitVec 32 := Scalar.muli arg6 c2_i32_54
  let c512_i32_55 : BitVec 32 := 512#32
  let v153 : BitVec 32 := Scalar.muli v152 c512_i32_55
  let v154 : BitVec 32 := v153
  let v175 : Index := Scalar.indexCast v154
  let c128_62 : Index := 128#32
  ![v175.toNat, 128]
def k0_mult12 (i : grid0.Coords) (k0_t4 : Fin (k0_t4_loop i).trips) : BitVec 32 :=
  let arg1 : BitVec 32 := BitVec.ofNat 32 (i 1).val
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c2_i32_10 : BitVec 32 := 2#32
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let v27 : BitVec 32 := Scalar.divsi arg1 c2_i32_10
  let c1_i32_16 : BitVec 32 := 1#32
  let v42 : BitVec 32 := Scalar.subi v27 c1_i32_16
  let v43 : BitVec 32 := Scalar.select v41 v42 v27
  let c2_i32_17 : BitVec 32 := 2#32
  let v44 : BitVec 32 := Scalar.muli v43 c2_i32_17
  let v45 : BitVec 32 := Scalar.subi arg1 v44
  let c1_i32_18 : BitVec 32 := 1#32
  let v47 : BitVec 32 := Scalar.divsi v45 c1_i32_18
  let v48 : BitVec 32 := Scalar.muli v47 c1_i32_18
  let v49 : BitVec 32 := Scalar.addi v44 v48
  let c1_i32_20 : BitVec 32 := 1#32
  let arg6 : BitVec 32 := Scf.iv v49 c1_i32_20 k0_t4
  let c2_i32_64 : BitVec 32 := 2#32
  let v181 : BitVec 32 := Scalar.muli arg6 c2_i32_64
  let c512_i32_65 : BitVec 32 := 512#32
  let v182 : BitVec 32 := Scalar.muli v181 c512_i32_65
  v182
def k0_mult13 (i : grid0.Coords) : BitVec 32 :=
  let arg1 : BitVec 32 := BitVec.ofNat 32 (i 1).val
  let c2_i32_21 : BitVec 32 := 2#32
  let v52 : BitVec 32 := Scalar.muli arg1 c2_i32_21
  let c512_i32 : BitVec 32 := 512#32
  let v53 : BitVec 32 := Scalar.muli v52 c512_i32
  v53
def k0_off13 (i : grid0.Coords) : Fin 2 → Nat :=
  let arg1 : BitVec 32 := BitVec.ofNat 32 (i 1).val
  let c2_i32_21 : BitVec 32 := 2#32
  let v52 : BitVec 32 := Scalar.muli arg1 c2_i32_21
  let c512_i32 : BitVec 32 := 512#32
  let v53 : BitVec 32 := Scalar.muli v52 c512_i32
  let v54 : BitVec 32 := v53
  let v57 : Index := Scalar.indexCast v54
  let c0_23 : Index := 0#32
  ![v57.toNat, 0]
def k0_off14 (i : grid0.Coords) : Fin 2 → Nat :=
  let arg1 : BitVec 32 := BitVec.ofNat 32 (i 1).val
  let c2_i32_21 : BitVec 32 := 2#32
  let v52 : BitVec 32 := Scalar.muli arg1 c2_i32_21
  let c512_i32 : BitVec 32 := 512#32
  let v53 : BitVec 32 := Scalar.muli v52 c512_i32
  let v54 : BitVec 32 := v53
  let v82 : Index := Scalar.indexCast v54
  let c128 : Index := 128#32
  ![v82.toNat, 128]
def k0_mult14 (i : grid0.Coords) : BitVec 32 :=
  let arg1 : BitVec 32 := BitVec.ofNat 32 (i 1).val
  let c2_i32_37 : BitVec 32 := 2#32
  let v102 : BitVec 32 := Scalar.muli arg1 c2_i32_37
  let c512_i32_38 : BitVec 32 := 512#32
  let v103 : BitVec 32 := Scalar.muli v102 c512_i32_38
  v103
def k0_off15 (i : grid0.Coords) : Fin 2 → Nat :=
  let arg1 : BitVec 32 := BitVec.ofNat 32 (i 1).val
  let c2_i32_37 : BitVec 32 := 2#32
  let v102 : BitVec 32 := Scalar.muli arg1 c2_i32_37
  let c512_i32_38 : BitVec 32 := 512#32
  let v103 : BitVec 32 := Scalar.muli v102 c512_i32_38
  let v104 : BitVec 32 := v103
  let v107 : Index := Scalar.indexCast v104
  let c0_40 : Index := 0#32
  ![v107.toNat, 0]
def k0_off16 (i : grid0.Coords) : Fin 2 → Nat :=
  let arg1 : BitVec 32 := BitVec.ofNat 32 (i 1).val
  let c2_i32_37 : BitVec 32 := 2#32
  let v102 : BitVec 32 := Scalar.muli arg1 c2_i32_37
  let c512_i32_38 : BitVec 32 := 512#32
  let v103 : BitVec 32 := Scalar.muli v102 c512_i32_38
  let v104 : BitVec 32 := v103
  let v132 : Index := Scalar.indexCast v104
  let c128_46 : Index := 128#32
  ![v132.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel2Ideal.lean ====
variable {F : FTy → Type} [FloatOps F] [Named F]
def κ : String → Option EReal := fun
  | "log2_e" => some (((Real.log 2)⁻¹ : ℝ) : EReal)
  | _ => none
-- ==== Reference2Ideal.lean ====
abbrev S8192x1024 : Shape := ⟨2, ![8192, 1024]⟩
abbrev S8192x2048 : Shape := ⟨2, ![8192, 2048]⟩
abbrev S8192x8x2x128 : Shape := ⟨4, ![8192, 8, 2, 128]⟩
abbrev S8192x8x128 : Shape := ⟨3, ![8192, 8, 128]⟩
abbrev S8192x8x1x128 : Shape := ⟨4, ![8192, 8, 1, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x16x1x512 : Shape := ⟨4, ![8, 16, 1, 512]⟩
abbrev S8x16x8x512 : Shape := ⟨4, ![8, 16, 8, 512]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x8x2x128, .f32⟩
  | .hbm, ⟨3, _⟩ => ⟨S8192x8x128, .f32⟩
  | .hbm, ⟨4, _⟩ => ⟨S8192x8x1x128, .f32⟩
  | .hbm, ⟨5, _⟩ => ⟨S8192x8x128, .f32⟩
  | .hbm, ⟨6, _⟩ => ⟨S8192x8x1x128, .f32⟩
  | .hbm, ⟨7, _⟩ => ⟨S8192x8x128, .f32⟩
  | .hbm, ⟨8, _⟩ => ⟨S8x8192x8192, .f32⟩
  | .hbm, ⟨9, _⟩ => ⟨S_, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S1x8192x8192, .i1⟩
  | .hbm, ⟨20, _⟩ => ⟨S_, .f32⟩
  | .hbm, ⟨21, _⟩ => ⟨S_, .f32⟩
  | .hbm, ⟨22, _⟩ => ⟨S8x8192x8192, .i1⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x128x8192, .f32⟩
  | .hbm, ⟨40, _⟩ => ⟨S8192x8x128, .f32⟩
  | .hbm, ⟨41, _⟩ => ⟨S8192x8x128, .f32⟩
  | .hbm, ⟨42, _⟩ => ⟨S8192x8x1x128, .f32⟩
  | .hbm, ⟨43, _⟩ => ⟨S8192x8x128, .f32⟩
  | .hbm, ⟨44, _⟩ => ⟨S8x8192x8192, .f32⟩
  | .hbm, ⟨45, _⟩ => ⟨S_, .f32⟩
  | .hbm, ⟨46, _⟩ => ⟨S_, .f32⟩
  | .hbm, ⟨47, _⟩ => ⟨S8x8192x8192, .f32⟩
  | .hbm, ⟨48, _⟩ => ⟨S8x8192x8192, .f32⟩
  | .hbm, ⟨49, _⟩ => ⟨S8192, .i32⟩
  | .hbm, ⟨50, _⟩ => ⟨S1x8192, .i32⟩
  | .hbm, ⟨51, _⟩ => ⟨S8192x1, .i32⟩
  | .hbm, ⟨52, _⟩ => ⟨S8192x8192, .i32⟩
  | .hbm, ⟨53, _⟩ => ⟨S8192x8192, .i32⟩
  | .hbm, ⟨54, _⟩ => ⟨S8192x8192, .i1⟩
  | .hbm, ⟨55, _⟩ => ⟨S1x8192x8192, .i1⟩
  | .hbm, ⟨56, _⟩ => ⟨S_, .f32⟩
  | .hbm, ⟨57, _⟩ => ⟨S_, .f32⟩
  | .hbm, ⟨58, _⟩ => ⟨S8x8192x8192, .i1⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192x1, .f32⟩
  | .hbm, ⟨70, _⟩ => ⟨S8x8192x1, .f32⟩
  | .hbm, ⟨71, _⟩ => ⟨S8x8192x1, .f32⟩
  | .hbm, ⟨72, _⟩ => ⟨S_, .f32⟩
  | .hbm, ⟨73, _⟩ => ⟨S_, .f32⟩
  | .hbm, ⟨74, _⟩ => ⟨S8x8192x1, .f32⟩
  | .hbm, ⟨75, _⟩ => ⟨S8x8192x1, .f32⟩
  | .hbm, ⟨76, _⟩ => ⟨S8192x1024, .f32⟩
  | .hbm, ⟨77, _⟩ => ⟨S8x16x1x512, .f32⟩
  | .hbm, ⟨78, _⟩ => ⟨S8x16x8x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel3.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩
abbrev S1024x1024 : Shape := ⟨2, ![1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x1024, .bf16⟩
  | .hbm, ⟨8, _⟩ => ⟨S4096x1024, .bf16⟩
  | .hbm, ⟨9, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x1024, .bf16⟩
  | .hbm, ⟨3, _⟩ => ⟨S4096x1024, .bf16⟩
  | .hbm, ⟨4, _⟩ => ⟨S8192x4096, .bf16⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S8192x1024 : Shape := ⟨2, ![8192, 1024]⟩
abbrev S4096x1024 : Shape := ⟨2, ![4096, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S1024x4096, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x4096, .f32⟩
  | .hbm, ⟨9, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1536 : Shape := ⟨2, ![8192, 1536]⟩
abbrev S8192x1024 : Shape := ⟨2, ![8192, 1024]⟩
abbrev S1536x1024 : Shape := ⟨2, ![1536, 1024]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S8192x1536, .bf16⟩
  | .hbm, ⟨3, _⟩ => ⟨S8192x1024, .bf16⟩
  | .hbm, ⟨4, _⟩ => ⟨S1536x1024, .f32⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S_, .f32⟩
  | .hbm, ⟨3, _⟩ => ⟨S1536x1024, .f32⟩
  | .hbm, ⟨4, _⟩ => ⟨S8192x1024, .f32⟩
  | .hbm, ⟨5, _⟩ => ⟨S1024x1536, .f32⟩
  | .hbm, ⟨6, _⟩ => ⟨S1536x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8192x1024 : Shape := ⟨2, ![8192, 1024]⟩
abbrev S1536x1024 : Shape := ⟨2, ![1536, 1024]⟩
abbrev S8192x1536 : Shape := ⟨2, ![8192, 1536]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1536x1024, .f32⟩
  | .hbm, ⟨2, _⟩ => ⟨S8192x1024, .bf16⟩
  | .hbm, ⟨3, _⟩ => ⟨S1536x1024, .bf16⟩
  | .hbm, ⟨4, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1536x1024 : Shape := ⟨2, ![1536, 1024]⟩
abbrev S_ : Shape := ⟨0, ![]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1536x1024, .f32⟩
  | .hbm, ⟨2, _⟩ => ⟨S_, .f32⟩
  | .hbm, ⟨3, _⟩ => ⟨S8192x1536, .f32⟩
  | .hbm, ⟨4, _⟩ => ⟨S8192x1024, .f32⟩
  | .hbm, ⟨5, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S8192x1024 : Shape := ⟨2, ![8192, 1024]⟩
abbrev S1024x2048 : Shape := ⟨2, ![1024, 2048]⟩
abbrev S8192x640 : Shape := ⟨2, ![8192, 640]⟩
abbrev S8192x768 : Shape := ⟨2, ![8192, 768]⟩
abbrev S512x1024 : Shape := ⟨2, ![512, 1024]⟩
abbrev S512x640 : Shape := ⟨2, ![512, 640]⟩
abbrev S512x768 : Shape := ⟨2, ![512, 768]⟩
abbrev S512x2048 : Shape := ⟨2, ![512, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x640, .f32⟩
  | .hbm, ⟨5, _⟩ => ⟨S8192x640, .f32⟩
  | .hbm, ⟨6, _⟩ => ⟨S8192x768, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x768, .f32⟩
  | .local _ .vmem, ⟨8, _⟩ => ⟨S512x768, .f32⟩
  | .local _ .vmem, ⟨9, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference12Ideal.lean ====
abbrev S8192x1024 : Shape := ⟨2, ![8192, 1024]⟩
abbrev S1024x2048 : Shape := ⟨2, ![1024, 2048]⟩
abbrev S8192x2048 : Shape := ⟨2, ![8192, 2048]⟩
abbrev S8192x640 : Shape := ⟨2, ![8192, 640]⟩
abbrev S8192x768 : Shape := ⟨2, ![8192, 768]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x640, .f32⟩
  | .hbm, ⟨4, _⟩ => ⟨S8192x640, .f32⟩
  | .hbm, ⟨5, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x256, .bf16⟩
  | .hbm, ⟨3, _⟩ => ⟨S256x2048, .bf16⟩
  | .hbm, ⟨4, _⟩ => ⟨S8192x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x256, .bf16⟩
  | .hbm, ⟨3, _⟩ => ⟨S256x2048, .bf16⟩
  | .hbm, ⟨4, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S8192x256 : Shape := ⟨2, ![8192, 256]⟩
abbrev S8192x2048 : Shape := ⟨2, ![8192, 2048]⟩
abbrev S256x2048 : Shape := ⟨2, ![256, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S8192x256, .bf16⟩
  | .hbm, ⟨3, _⟩ => ⟨S8192x2048, .bf16⟩
  | .hbm, ⟨4, _⟩ => ⟨S256x2048, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S2048x256, .f32⟩
  | .hbm, ⟨6, _⟩ => ⟨S256x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8192x2048 : Shape := ⟨2, ![8192, 2048]⟩
abbrev S256x2048 : Shape := ⟨2, ![256, 2048]⟩
abbrev S8192x256 : Shape := ⟨2, ![8192, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S8192x2048, .bf16⟩
  | .hbm, ⟨3, _⟩ => ⟨S256x2048, .bf16⟩
  | .hbm, ⟨4, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S256x2048 : Shape := ⟨2, ![256, 2048]⟩
abbrev S_ : Shape := ⟨0, ![]⟩
abbrev S8192x256 : Shape := ⟨2, ![8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S_, .f32⟩
  | .hbm, ⟨3, _⟩ => ⟨S8192x256, .f32⟩
  | .hbm, ⟨4, _⟩ => ⟨S8192x2048, .f32⟩
  | .hbm, ⟨5, _⟩ => ⟨S8192x256, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference17Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel18.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1x1024, .f32⟩
  | .hbm, ⟨4, _⟩ => ⟨S8192x4096, .bf16⟩
  | .hbm, ⟨5, _⟩ => ⟨S4096x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference18Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel19.lean ====
abbrev S8192x1536 : Shape := ⟨2, ![8192, 1536]⟩
abbrev S1536x1024 : Shape := ⟨2, ![1536, 1024]⟩
abbrev S8192x1024 : Shape := ⟨2, ![8192, 1024]⟩
abbrev S1x1024 : Shape := ⟨2, ![1, 1024]⟩
abbrev S1024x768 : Shape := ⟨2, ![1024, 768]⟩
abbrev S768x1024 : Shape := ⟨2, ![768, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1536, .f32⟩
  | .hbm, ⟨1, _⟩ => ⟨S1536x1024, .f32⟩
  | .hbm, ⟨2, _⟩ => ⟨S8192x1024, .f32⟩
  | .hbm, ⟨3, _⟩ => ⟨S1x1024, .f32⟩
  | .hbm, ⟨4, _⟩ => ⟨S8192x1536, .bf16⟩
  | .hbm, ⟨5, _⟩ => ⟨S1536x1024, .bf16⟩
  | .hbm, ⟨6, _⟩ => ⟨S8192x1024, .f32⟩
  | .hbm, ⟨7, _⟩ => ⟨S8192x1024, .bf16⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference19Ideal.lean ====
abbrev S8192x1536 : Shape := ⟨2, ![8192, 1536]⟩
abbrev S1536x1024 : Shape := ⟨2, ![1536, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S1536x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel20.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x4096, .bf16⟩
  | .hbm, ⟨4, _⟩ => ⟨S4096x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.KernelIdeal.Offsets.lean ====
/-
  The attention backward kernel's row blocks, by number.

  At grid point `(h, j)` the kernel works on row blocks `j, …, 15` of head `h`: block `j` on its own (the causal mask
  cuts it), then blocks four at a time, then what is left one at a time. This module says which block each access
  of the two loops meets, and how many trips the loops make.
-/
module

public import proofs.«01_k».proof.Proof.Gen.KernelIdeal.Loops
public import Idealize.ShloMosaic.Lib.LoopRemainder

@[expose] public section

namespace Cert.KernelIdeal.Hand

open Cert.KernelIdeal Cert.KernelIdeal.Gen
open Idealize.ShloMosaic

/-- The loop over groups of four blocks makes one trip per full group of the `15 - j` blocks below the diagonal. -/
theorem t1_trips : ∀ i : grid0.Coords, (k0_t1_loop i).trips = (15 - (i 1).val) / 4 := by decide +kernel
/-- The loop over single blocks makes one trip per block left over. -/
theorem t3_trips : ∀ i : grid0.Coords, (k0_t3_loop i).trips = (15 - (i 1).val) % 4 := by decide +kernel

theorem off4_eq : ∀ (i : grid0.Coords) (k : Fin (k0_t1_loop i).trips) (r : Fin 4),
    k0_off4 i k (BitVec.ofNat 32 r.val) = ![512 * ((i 1).val + 1 + 4 * k.val + r.val), 0] := by decide +kernel
theorem off5_eq : ∀ (i : grid0.Coords) (k : Fin (k0_t1_loop i).trips) (r : Fin 4),
    k0_off5 i k (BitVec.ofNat 32 r.val) = ![0, (i 1).val + 1 + 4 * k.val + r.val, 0, 0] := by decide +kernel
theorem off6_eq : ∀ (i : grid0.Coords) (k : Fin (k0_t1_loop i).trips) (r : Fin 4),
    k0_off6 i k (BitVec.ofNat 32 r.val) = ![0, (i 1).val + 1 + 4 * k.val + r.val, 0, 0] := by decide +kernel
theorem off10_eq : ∀ (i : grid0.Coords) (k : Fin (k0_t3_loop i).trips),
    k0_off10 i k = ![512 * ((i 1).val + 1 + 4 * ((15 - (i 1).val) / 4) + k.val), 0] := by decide +kernel
theorem off11_eq : ∀ (i : grid0.Coords) (k : Fin (k0_t3_loop i).trips),
    k0_off11 i k = ![0, (i 1).val + 1 + 4 * ((15 - (i 1).val) / 4) + k.val, 0, 0] := by decide +kernel
theorem off12_eq : ∀ (i : grid0.Coords) (k : Fin (k0_t3_loop i).trips),
    k0_off12 i k = ![0, (i 1).val + 1 + 4 * ((15 - (i 1).val) / 4) + k.val, 0, 0] := by decide +kernel

instance (i : grid0.Coords) (k : Fin (k0_t1_loop i).trips) : ClosedOff (k0_off6 i k 0#32) := ⟨_, off6_eq i k 0⟩
instance (i : grid0.Coords) (k : Fin (k0_t1_loop i).trips) : ClosedOff (k0_off6 i k 1#32) := ⟨_, off6_eq i k 1⟩
instance (i : grid0.Coords) (k : Fin (k0_t1_loop i).trips) : ClosedOff (k0_off6 i k 2#32) := ⟨_, off6_eq i k 2⟩
instance (i : grid0.Coords) (k : Fin (k0_t1_loop i).trips) : ClosedOff (k0_off6 i k 3#32) := ⟨_, off6_eq i k 3⟩
instance (i : grid0.Coords) (k : Fin (k0_t3_loop i).trips) : ClosedOff (k0_off12 i k) := ⟨_, off12_eq i k⟩

end Cert.KernelIdeal.Hand

end
-- ==== Proof.KernelIdeal.Step.lean ====
/-
  What one row block does, and a run of row blocks.

  The kernel keeps, at a grid point, three accumulators: the gradient of the queries of the whole head (`dq`, laid out
  transposed, sixteen blocks of 128 × 512), and the gradients of this block's keys and values (`dk`, `dv`). `step` is
  the effect of one row block below the diagonal on the three; `runFrom` is a run of consecutive row blocks.
-/
module

public import proofs.«01_k».proof.Proof.KernelIdeal.Offsets
public import Idealize.ShloMosaic.Lib.VecWindow

@[expose] public section

noncomputable section

namespace Cert.KernelIdeal.Hand

open Cert.KernelIdeal Cert.KernelIdeal.Gen
open Idealize.ShloMosaic Idealize.ShloMosaic.TcCoe

variable {F : FTy → Type} [FloatOps F] [Named F]

theorem inbQ (n : Fin 16) : ∀ a, (![512 * n.val, 0] : Fin 2 → ℕ) a + S512x128.size a ≤ S8192x128.size a := by
  revert n; decide
theorem inbR (n : Fin 16) : ∀ a, (![0, n.val, 0, 0] : Fin 4 → ℕ) a + S1x1x1x512.size a ≤ S1x16x8x512.size a := by
  revert n; decide
theorem inbD (n : Fin 16) : ∀ a, (![0, n.val, 0, 0] : Fin 4 → ℕ) a + S1x1x128x512.size a ≤ S1x16x128x512.size a := by
  revert n; decide

/-- Row block `n` of a head's 8192 × 128 array. -/
abbrev rows (X : Vec F S8192x128 .bf16) (n : Fin 16) : Vec F S512x128 .bf16 :=
  VecWindow.window X ![512 * n.val, 0] S512x128.size (inbQ n)
/-- Row block `n`'s 512 statistics (the first of their eight copies). -/
abbrev stat (X : Vec F S1x16x8x512 .f32) (n : Fin 16) : Vec F S1x1x1x512 .f32 :=
  VecWindow.window X ![0, n.val, 0, 0] S1x1x1x512.size (inbR n)
/-- Row block `n` of the query gradient. -/
abbrev dqBlock (D : Vec F S1x16x128x512 .f32) (n : Fin 16) : Vec F S1x1x128x512 .f32 :=
  VecWindow.window D ![0, n.val, 0, 0] S1x1x128x512.size (inbD n)

/-- The three accumulators: the head's query gradient, and this block's key and value gradients. -/
abbrev St (F : FTy → Type) : Type := Vec F S1x16x128x512 .f32 × (FVec F S512x128 .f32 × FVec F S512x128 .f32)

/-- One row block below the diagonal, added to the three accumulators. -/
def step (v4 v6 : FVec F S512x128 .bf16) (v9 : FVec F S128x512 .bf16) (Q DO : Vec F S8192x128 .bf16)
    (L DL : Vec F S1x16x8x512 .f32) (n : Fin 16) (s : St F) : St F :=
  (VecWindow.put s.1 ![0, n.val, 0, 0] S1x1x128x512.size
     (k0_pay94 (k0_pay66 v4 v6 v9 (rows Q n) (rows DO n) (stat L n) (stat DL n) (dqBlock s.1 n))),
   (k0_pay65 v4 v6 s.2.1 (rows Q n) (rows DO n) (stat L n) (stat DL n),
    k0_pay64 v4 s.2.2 (rows Q n) (rows DO n) (stat L n)))

/-- `m` consecutive row blocks from block `lb` on (blocks past the last do nothing). -/
def runFrom (v4 v6 : FVec F S512x128 .bf16) (v9 : FVec F S128x512 .bf16) (Q DO : Vec F S8192x128 .bf16)
    (L DL : Vec F S1x16x8x512 .f32) (lb : ℕ) (s : St F) : ℕ → St F
  | 0 => s
  | m + 1 => if h : lb + m < 16 then step v4 v6 v9 Q DO L DL ⟨lb + m, h⟩ (runFrom v4 v6 v9 Q DO L DL lb s m)
      else runFrom v4 v6 v9 Q DO L DL lb s m

section
variable (v4 v6 : FVec F S512x128 .bf16) (v9 : FVec F S128x512 .bf16) (Q DO : Vec F S8192x128 .bf16)
  (L DL : Vec F S1x16x8x512 .f32) (lb : ℕ) (s : St F)

theorem runFrom_zero : runFrom v4 v6 v9 Q DO L DL lb s 0 = s := rfl

theorem runFrom_succ (m : ℕ) (h : lb + m < 16) : runFrom v4 v6 v9 Q DO L DL lb s (m + 1)
    = step v4 v6 v9 Q DO L DL ⟨lb + m, h⟩ (runFrom v4 v6 v9 Q DO L DL lb s m) := dif_pos h

/-- Two runs one after the other are one run. -/
theorem runFrom_runFrom (a b : ℕ) : runFrom v4 v6 v9 Q DO L DL (lb + a) (runFrom v4 v6 v9 Q DO L DL lb s a) b
    = runFrom v4 v6 v9 Q DO L DL lb s (a + b) := by
  induction b with
  | zero => rfl
  | succ b ih =>
    by_cases h : lb + a + b < 16
    · rw [runFrom_succ _ _ _ _ _ _ _ _ _ _ h, ih, ← Nat.add_assoc,
        runFrom_succ v4 v6 v9 Q DO L DL lb s (a + b) (by omega)]
      exact congrArg (fun n => step v4 v6 v9 Q DO L DL n _) (Fin.ext (Nat.add_assoc ..))
    · have h' : ¬ lb + (a + b) < 16 := by omega
      have e : runFrom v4 v6 v9 Q DO L DL lb s (a + b + 1) = runFrom v4 v6 v9 Q DO L DL lb s (a + b) := dif_neg h'
      exact (dif_neg h).trans (ih.trans e.symm)
end

/-- The row block a trip of the loop over fours meets, `r`-th of its four. -/
theorem t1_lt (i : grid0.Coords) (k : Fin (k0_t1_loop i).trips) (r : ℕ) (hr : r < 4) :
    (i 1).val + 1 + 4 * k.val + r < 16 := by
  have h := k.isLt.trans_eq (t1_trips i)
  omega

theorem t3_lt (i : grid0.Coords) (k : Fin (k0_t3_loop i).trips) :
    (i 1).val + 1 + 4 * ((15 - (i 1).val) / 4) + k.val < 16 := by
  have h := k.isLt.trans_eq (t3_trips i)
  have : (i 1).val < 16 := (i 1).isLt
  omega

end Cert.KernelIdeal.Hand

end

end
-- ==== Proof.KernelIdeal.Trips.lean ====
/-
  The kernel's two loops over row blocks, by their invariants: before trip `k` the accumulators hold the run of the
  row blocks met so far.
-/
module

public import proofs.«01_k».proof.Proof.KernelIdeal.Step

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄G" => MT nD τ sig Unit (Elt F) ℕ (UR sig nD τ) ℕ

variable (c : Dev nD) (arg2 : Memref sig .tc .vmem S8192x128 .bf16) (arg4 : Memref sig .tc .vmem S8192x128 .bf16)
  (arg5 : Memref sig .tc .vmem S1x16x8x512 .f32) (arg6 : Memref sig .tc .vmem S1x16x8x512 .f32)
  (arg7 : Memref sig .tc .vmem S1x16x128x512 .f32)
  (X_arg2 : BufTy.Contents (Elt F) arg2.view.ty) (X_arg4 : BufTy.Contents (Elt F) arg4.view.ty)
  (X_arg5 : BufTy.Contents (Elt F) arg5.view.ty) (X_arg6 : BufTy.Contents (Elt F) arg6.view.ty)
  (v4 v6 : FVec F S512x128 .bf16) (v9 : FVec F S128x512 .bf16)

/-- The contents of the query gradient's buffer before trip `k`: what it held at the loop's entry, then any contents that
    read `X k`. -/
def cont (G : BufTy.Contents (Elt F) arg7.view.ty) (X : ℕ → Vec F S1x16x128x512 .f32) : ℕ → BufTy.Contents (Elt F) arg7.view.ty
  | 0 => G
  | k + 1 => arg7.view.rep (X (k + 1))

theorem read_cont (G : BufTy.Contents (Elt F) arg7.view.ty) (X : ℕ → Vec F S1x16x128x512 .f32)
    (h : X 0 = arg7.view.read (Elt F) G) (k : ℕ) : arg7.view.read (Elt F) (cont arg7 G X k) = X k := by
  cases k with
  | zero => exact h.symm
  | succ k => exact View.read_rep _ _

theorem to_cont (G : BufTy.Contents (Elt F) arg7.view.ty) (X : ℕ → Vec F S1x16x128x512 .f32) (k : ℕ) (g : BufTy.Contents (Elt F) arg7.view.ty) :
    iprop((arg7.view.loc (c : Thread nD τ) ↦[arg7.view.set]{fullShare} g) ∗ ⌜arg7.view.read (Elt F) g = X (k + 1)⌝)
      ⊢ (arg7.view.loc (c : Thread nD τ) ↦[arg7.view.set]{fullShare} cont arg7 G X (k + 1) : sProp 𝕄G) := by
  iintro ⟨H, %h⟩
  iapply (pointsTo_rep_of_read (c : Thread nD τ) arg7 g fullShare _ h)
  iexact H

/-- What a loop over row blocks holds when the accumulators stand at `s`: the operands as they are, the query gradient
    at contents `f`, and the carried pair at `s.2`. -/
abbrev held (f : BufTy.Contents (Elt F) arg7.view.ty) (s : St F) (acc : FVec F S512x128 .f32 × FVec F S512x128 .f32) : sProp 𝕄G :=
  iprop((arg2.view.loc (c : Thread nD τ) ↦[arg2.view.set]{fullShare} X_arg2)
    ∗ (arg4.view.loc (c : Thread nD τ) ↦[arg4.view.set]{fullShare} X_arg4)
    ∗ (arg5.view.loc (c : Thread nD τ) ↦[arg5.view.set]{fullShare} X_arg5)
    ∗ (arg6.view.loc (c : Thread nD τ) ↦[arg6.view.set]{fullShare} X_arg6)
    ∗ (arg7.view.loc (c : Thread nD τ) ↦[arg7.view.set]{fullShare} f)
    ∗ ⌜acc = s.2⌝)

/-- The accumulators after `m` row blocks from block `lb` on, the query gradient starting at what `arg7` reads. -/
abbrev runV (G : BufTy.Contents (Elt F) arg7.view.ty) (lb : ℕ) (init : FVec F S512x128 .f32 × FVec F S512x128 .f32) (m : ℕ) : St F :=
  runFrom v4 v6 v9 (arg2.view.read (Elt F) X_arg2) (arg4.view.read (Elt F) X_arg4) (arg5.view.read (Elt F) X_arg5)
    (arg6.view.read (Elt F) X_arg6) lb (arg7.view.read (Elt F) G, init) m

/-- One row block at what the operands read. -/
abbrev stepV (n : Fin 16) (s : St F) : St F :=
  step v4 v6 v9 (arg2.view.read (Elt F) X_arg2) (arg4.view.read (Elt F) X_arg4) (arg5.view.read (Elt F) X_arg5)
    (arg6.view.read (Elt F) X_arg6) n s

set_option warn.classDefReducibility false in
/-- The loop over what is left, one row block per trip. -/
@[sl_loop] def loopInv_t3 (𝒱 : Variants) (bd : Option 𝒱.V) (E : Set ℕ) (i : grid0.Coords) (harg2 : arg2.IsWhole) (arg3 : Memref sig .tc .vmem S512x256 .bf16) (harg3 : arg3.IsWhole) (harg4 : arg4.IsWhole) (harg5 : arg5.IsWhole) (harg6 : arg6.IsWhole) (harg7 : arg7.IsWhole) (arg8 : Memref sig .tc .vmem S512x256 .bf16) (harg8 : arg8.IsWhole) (arg1 : BitVec 32) (v48 : FVec F S512x128 .f32) (v51 : FVec F S512x128 .f32) (v62 : BitVec 32) (v63 : BitVec 32) (v77 : BitVec 1) (v106 : BitVec 32) (G : BufTy.Contents (Elt F) arg7.view.ty) (init : FVec F S512x128 .f32 × FVec F S512x128 .f32) :
    LoopInvTy_k0_t3 (F := F) Unit ℕ (UR sig nD τ) ℕ 𝒱 c bd E i arg2 harg2 arg3 harg3 arg4 harg4 arg5 harg5 arg6 harg6 arg7 harg7 arg8 harg8 arg1 v4 v6 v9 v48 v51 v62 v63 v77 v106 init where
  inv := fun k acc => held c arg2 arg4 arg5 arg6 arg7 X_arg2 X_arg4 X_arg5 X_arg6
    (cont arg7 G (fun m => (runV arg2 arg4 arg5 arg6 arg7 X_arg2 X_arg4 X_arg5 X_arg6 v4 v6 v9 G ((i 1).val + 1 + 4 * ((15 - (i 1).val) / 4)) init m).1) k)
    (runV arg2 arg4 arg5 arg6 arg7 X_arg2 X_arg4 X_arg5 X_arg6 v4 v6 v9 G ((i 1).val + 1 + 4 * ((15 - (i 1).val) / 4)) init k) acc
  step k acc := by
    unfold k0_t3_body
    iintro ⟨H2, H4, H5, H6, H7, %hacc⟩
    have hf := read_cont arg7 G (fun m => (runV arg2 arg4 arg5 arg6 arg7 X_arg2 X_arg4 X_arg5 X_arg6 v4 v6 v9 G ((i 1).val + 1 + 4 * ((15 - (i 1).val) / 4)) init m).1) rfl k.val
    generalize cont arg7 G _ k.val = f at hf ⊢
    dsimp only at hf
    sl_exec
    sl_step
    isplitl [H2]; · iexact H2
    isplitl [H4]; · iexact H4
    isplitl [H5]; · iexact H5
    isplitl [H6]; · iexact H6
    have hk := t3_lt i k
    have e0 := off12_eq i k
    have e1 := off10_eq i k
    have e2 := off11_eq i k
    isplitl [H7]
    · iapply to_cont; isplitl [H7]; · iexact H7
      ipureintro
      delta loopInv_t3.sl.r_2
      rw [View.read_writes_cons_put _ _ _ _ _ e0, View.writes_nil, hf]
      unfold runV
      rw [runFrom_succ _ _ _ _ _ _ _ _ _ _ hk]
      simp only [View.readAt_unit (s := S8192x128) _ _ _ e1 (inbQ ⟨_, hk⟩), View.readAt_unit (s := S1x16x8x512) _ _ _ e2 (inbR ⟨_, hk⟩),
        View.readAt_unit (s := S1x16x128x512) _ _ _ e0 (inbD ⟨_, hk⟩), hf]
      rfl
    · ipureintro
      delta loopInv_t3.sl.r loopInv_t3.sl.r_1
      unfold runV at hacc ⊢
      rw [runFrom_succ _ _ _ _ _ _ _ _ _ _ hk, hacc]
      simp only [View.readAt_unit (s := S8192x128) _ _ _ e1 (inbQ ⟨_, hk⟩), View.readAt_unit (s := S1x16x8x512) _ _ _ e2 (inbR ⟨_, hk⟩)]
      rfl

set_option warn.classDefReducibility false in
/-- The loop over full groups of four row blocks. -/
@[sl_loop] def loopInv_t1 (𝒱 : Variants) (bd : Option 𝒱.V) (E : Set ℕ) (i : grid0.Coords) (harg2 : arg2.IsWhole) (arg3 : Memref sig .tc .vmem S512x256 .bf16) (harg3 : arg3.IsWhole) (harg4 : arg4.IsWhole) (harg5 : arg5.IsWhole) (harg6 : arg6.IsWhole) (harg7 : arg7.IsWhole) (arg8 : Memref sig .tc .vmem S512x256 .bf16) (harg8 : arg8.IsWhole) (arg1 : BitVec 32) (v48 : FVec F S512x128 .f32) (v51 : FVec F S512x128 .f32) (v62 : BitVec 32) (v63 : BitVec 32) (v77 : BitVec 1) (G : BufTy.Contents (Elt F) arg7.view.ty) (init : FVec F S512x128 .f32 × FVec F S512x128 .f32) :
    LoopInvTy_k0_t1 (F := F) Unit ℕ (UR sig nD τ) ℕ 𝒱 c bd E i arg2 harg2 arg3 harg3 arg4 harg4 arg5 harg5 arg6 harg6 arg7 harg7 arg8 harg8 arg1 v4 v6 v9 v48 v51 v62 v63 v77 init where
  inv := fun k acc => held c arg2 arg4 arg5 arg6 arg7 X_arg2 X_arg4 X_arg5 X_arg6
    (cont arg7 G (fun m => (runV arg2 arg4 arg5 arg6 arg7 X_arg2 X_arg4 X_arg5 X_arg6 v4 v6 v9 G ((i 1).val + 1) init (4 * m)).1) k)
    (runV arg2 arg4 arg5 arg6 arg7 X_arg2 X_arg4 X_arg5 X_arg6 v4 v6 v9 G ((i 1).val + 1) init (4 * k)) acc
  step k acc := by
    unfold k0_t1_body
    iintro ⟨H2, H4, H5, H6, H7, %hacc⟩
    have hf := read_cont arg7 G (fun m => (runV arg2 arg4 arg5 arg6 arg7 X_arg2 X_arg4 X_arg5 X_arg6 v4 v6 v9 G ((i 1).val + 1) init (4 * m)).1) rfl k.val
    generalize cont arg7 G _ k.val = f at hf ⊢
    dsimp only at hf
    sl_exec
    sl_step
    isplitl [H2]; · iexact H2
    isplitl [H4]; · iexact H4
    isplitl [H5]; · iexact H5
    isplitl [H6]; · iexact H6
    have l0 := t1_lt i k 0 (by decide)
    have l1 := t1_lt i k 1 (by decide)
    have l2 := t1_lt i k 2 (by decide)
    have l3 := t1_lt i k 3 (by decide)
    have d0 : k0_off6 i k 0#32 = _ := off6_eq i k 0
    have d1 : k0_off6 i k 1#32 = _ := off6_eq i k 1
    have d2 : k0_off6 i k 2#32 = _ := off6_eq i k 2
    have d3 : k0_off6 i k 3#32 = _ := off6_eq i k 3
    have q0 : k0_off4 i k 0#32 = _ := off4_eq i k 0
    have q1 : k0_off4 i k 1#32 = _ := off4_eq i k 1
    have q2 : k0_off4 i k 2#32 = _ := off4_eq i k 2
    have q3 : k0_off4 i k 3#32 = _ := off4_eq i k 3
    have r0 : k0_off5 i k 0#32 = _ := off5_eq i k 0
    have r1 : k0_off5 i k 1#32 = _ := off5_eq i k 1
    have r2 : k0_off5 i k 2#32 = _ := off5_eq i k 2
    have r3 : k0_off5 i k 3#32 = _ := off5_eq i k 3
    have h4 : runV arg2 arg4 arg5 arg6 arg7 X_arg2 X_arg4 X_arg5 X_arg6 v4 v6 v9 G ((i 1).val + 1) init (4 * (k.val + 1))
        = stepV arg2 arg4 arg5 arg6 X_arg2 X_arg4 X_arg5 X_arg6 v4 v6 v9 ⟨_, l3⟩ (stepV arg2 arg4 arg5 arg6 X_arg2 X_arg4 X_arg5 X_arg6 v4 v6 v9 ⟨_, l2⟩ (stepV arg2 arg4 arg5 arg6 X_arg2 X_arg4 X_arg5 X_arg6 v4 v6 v9 ⟨_, l1⟩ (stepV arg2 arg4 arg5 arg6 X_arg2 X_arg4 X_arg5 X_arg6 v4 v6 v9 ⟨_, l0⟩
          (runV arg2 arg4 arg5 arg6 arg7 X_arg2 X_arg4 X_arg5 X_arg6 v4 v6 v9 G ((i 1).val + 1) init (4 * k.val))))) :=
      (runFrom_succ _ _ _ _ _ _ _ _ _ (4 * k.val + 3) l3).trans (congrArg _ ((runFrom_succ _ _ _ _ _ _ _ _ _ (4 * k.val + 2) l2).trans
        (congrArg _ ((runFrom_succ _ _ _ _ _ _ _ _ _ (4 * k.val + 1) l1).trans (congrArg _ (runFrom_succ _ _ _ _ _ _ _ _ _ (4 * k.val) l0))))))
    rw [h4]
    generalize runV arg2 arg4 arg5 arg6 arg7 X_arg2 X_arg4 X_arg5 X_arg6 v4 v6 v9 G ((i 1).val + 1) init (4 * k.val) = s at hf hacc h4 ⊢
    subst hacc
    isplitl [H7]
    · iapply to_cont; isplitl [H7]; · iexact H7
      ipureintro
      have w0 : arg7.view.read (Elt F) (arg7.view.writes (Elt F) f (loopInv_t1.sl.H7_1 arg2 arg4 arg5 arg6 arg7 X_arg2 X_arg4 X_arg5 X_arg6 v4 v6 v9 i k f))
          = (stepV arg2 arg4 arg5 arg6 X_arg2 X_arg4 X_arg5 X_arg6 v4 v6 v9 ⟨_, l0⟩ s).1 := by
        delta loopInv_t1.sl.H7_1
        rw [View.read_writes_cons_put _ _ _ _ _ d0, View.writes_nil, hf]
        delta loopInv_t1.sl.r loopInv_t1.sl.r_1 loopInv_t1.sl.r_2 loopInv_t1.sl.r_3 loopInv_t1.sl.r_4 loopInv_t1.sl.r_5 loopInv_t1.sl.r_6 loopInv_t1.sl.r_7 loopInv_t1.sl.r_8 loopInv_t1.sl.r_9 loopInv_t1.sl.r_10 loopInv_t1.sl.r_11 loopInv_t1.sl.r_12 loopInv_t1.sl.r_13 loopInv_t1.sl.r_14 loopInv_t1.sl.r_15 loopInv_t1.sl.r_16 loopInv_t1.sl.r_17
        simp only [View.readAt_unit (s := S8192x128) _ _ _ q0 (inbQ ⟨_, l0⟩), View.readAt_unit (s := S1x16x8x512) _ _ _ r0 (inbR ⟨_, l0⟩),
          View.readAt_unit (s := S1x16x128x512) _ _ _ d0 (inbD ⟨_, l0⟩), hf]
        rfl
      have w1 : arg7.view.read (Elt F) (arg7.view.writes (Elt F) f (loopInv_t1.sl.H7_2 arg2 arg4 arg5 arg6 arg7 X_arg2 X_arg4 X_arg5 X_arg6 v4 v6 v9 i k f))
          = (stepV arg2 arg4 arg5 arg6 X_arg2 X_arg4 X_arg5 X_arg6 v4 v6 v9 ⟨_, l1⟩ (stepV arg2 arg4 arg5 arg6 X_arg2 X_arg4 X_arg5 X_arg6 v4 v6 v9 ⟨_, l0⟩ s)).1 := by
        delta loopInv_t1.sl.H7_2
        rw [View.read_writes_cons_put _ _ _ _ _ d1, w0]
        delta loopInv_t1.sl.r loopInv_t1.sl.r_1 loopInv_t1.sl.r_2 loopInv_t1.sl.r_3 loopInv_t1.sl.r_4 loopInv_t1.sl.r_5 loopInv_t1.sl.r_6 loopInv_t1.sl.r_7 loopInv_t1.sl.r_8 loopInv_t1.sl.r_9 loopInv_t1.sl.r_10 loopInv_t1.sl.r_11 loopInv_t1.sl.r_12 loopInv_t1.sl.r_13 loopInv_t1.sl.r_14 loopInv_t1.sl.r_15 loopInv_t1.sl.r_16 loopInv_t1.sl.r_17
        simp only [View.readAt_unit (s := S8192x128) _ _ _ q1 (inbQ ⟨_, l1⟩), View.readAt_unit (s := S1x16x8x512) _ _ _ r1 (inbR ⟨_, l1⟩),
          View.readAt_unit (s := S1x16x128x512) _ _ _ d1 (inbD ⟨_, l1⟩), w0]
        rfl
      have w2 : arg7.view.read (Elt F) (arg7.view.writes (Elt F) f (loopInv_t1.sl.H7_3 arg2 arg4 arg5 arg6 arg7 X_arg2 X_arg4 X_arg5 X_arg6 v4 v6 v9 i k f))
          = (stepV arg2 arg4 arg5 arg6 X_arg2 X_arg4 X_arg5 X_arg6 v4 v6 v9 ⟨_, l2⟩ (stepV arg2 arg4 arg5 arg6 X_arg2 X_arg4 X_arg5 X_arg6 v4 v6 v9 ⟨_, l1⟩ (stepV arg2 arg4 arg5 arg6 X_arg2 X_arg4 X_arg5 X_arg6 v4 v6 v9 ⟨_, l0⟩ s))).1 := by
        delta loopInv_t1.sl.H7_3
        rw [View.read_writes_cons_put _ _ _ _ _ d2, w1]
        delta loopInv_t1.sl.r loopInv_t1.sl.r_1 loopInv_t1.sl.r_2 loopInv_t1.sl.r_3 loopInv_t1.sl.r_4 loopInv_t1.sl.r_5 loopInv_t1.sl.r_6 loopInv_t1.sl.r_7 loopInv_t1.sl.r_8 loopInv_t1.sl.r_9 loopInv_t1.sl.r_10 loopInv_t1.sl.r_11 loopInv_t1.sl.r_12 loopInv_t1.sl.r_13 loopInv_t1.sl.r_14 loopInv_t1.sl.r_15 loopInv_t1.sl.r_16 loopInv_t1.sl.r_17
        simp only [View.readAt_unit (s := S8192x128) _ _ _ q2 (inbQ ⟨_, l2⟩), View.readAt_unit (s := S1x16x8x512) _ _ _ r2 (inbR ⟨_, l2⟩),
          View.readAt_unit (s := S1x16x128x512) _ _ _ d2 (inbD ⟨_, l2⟩), w1]
        rfl
      refine Eq.trans ?_ (congrArg Prod.fst h4.symm)
      rw [View.read_writes_cons_put _ _ _ _ _ d3, w2]
      delta loopInv_t1.sl.r loopInv_t1.sl.r_1 loopInv_t1.sl.r_2 loopInv_t1.sl.r_3 loopInv_t1.sl.r_4 loopInv_t1.sl.r_5 loopInv_t1.sl.r_6 loopInv_t1.sl.r_7 loopInv_t1.sl.r_8 loopInv_t1.sl.r_9 loopInv_t1.sl.r_10 loopInv_t1.sl.r_11 loopInv_t1.sl.r_12 loopInv_t1.sl.r_13 loopInv_t1.sl.r_14 loopInv_t1.sl.r_15 loopInv_t1.sl.r_16 loopInv_t1.sl.r_17
      simp only [View.readAt_unit (s := S8192x128) _ _ _ q3 (inbQ ⟨_, l3⟩), View.readAt_unit (s := S1x16x8x512) _ _ _ r3 (inbR ⟨_, l3⟩),
          View.readAt_unit (s := S1x16x128x512) _ _ _ d3 (inbD ⟨_, l3⟩), w2]
      rfl
    · ipureintro
      delta loopInv_t1.sl.r loopInv_t1.sl.r_1 loopInv_t1.sl.r_2 loopInv_t1.sl.r_3 loopInv_t1.sl.r_4 loopInv_t1.sl.r_5 loopInv_t1.sl.r_6 loopInv_t1.sl.r_7 loopInv_t1.sl.r_8 loopInv_t1.sl.r_9 loopInv_t1.sl.r_10 loopInv_t1.sl.r_11 loopInv_t1.sl.r_12 loopInv_t1.sl.r_13 loopInv_t1.sl.r_14 loopInv_t1.sl.r_15 loopInv_t1.sl.r_16 loopInv_t1.sl.r_17
      simp only [View.readAt_unit (s := S8192x128) _ _ _ q0 (inbQ ⟨_, l0⟩), View.readAt_unit (s := S1x16x8x512) _ _ _ r0 (inbR ⟨_, l0⟩),
        View.readAt_unit (s := S8192x128) _ _ _ q1 (inbQ ⟨_, l1⟩), View.readAt_unit (s := S1x16x8x512) _ _ _ r1 (inbR ⟨_, l1⟩),
        View.readAt_unit (s := S8192x128) _ _ _ q2 (inbQ ⟨_, l2⟩), View.readAt_unit (s := S1x16x8x512) _ _ _ r2 (inbR ⟨_, l2⟩),
        View.readAt_unit (s := S8192x128) _ _ _ q3 (inbQ ⟨_, l3⟩), View.readAt_unit (s := S1x16x8x512) _ _ _ r3 (inbR ⟨_, l3⟩)]
      rfl

end Cert.KernelIdeal.Hand

end

end
-- ==== Proof.KernelIdeal.Point.lean ====
/-
  One grid point of the kernel: what it leaves in its two outputs, and its run.
-/
module

public import proofs.«01_k».proof.Proof.KernelIdeal.Trips

@[expose] public section

set_option maxRecDepth 8192
set_option maxHeartbeats 600000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-! ## What a point computes -/

/-- The point's block of keys: the first 128 columns of the block. -/
abbrev keys (KV : Vec F S512x256 .bf16) : Vec F S512x128 .bf16 :=
  VecWindow.window KV ![0, 0] S512x128.size inb_S512x256_S512x128_0_0
/-- The point's block of values: the last 128 columns of the block. -/
abbrev vals (KV : Vec F S512x256 .bf16) : Vec F S512x128 .bf16 :=
  VecWindow.window KV ![0, 128] S512x128.size inb_S512x256_S512x128_0_128

/-- The query gradient a point starts from: zeros at a head's first block, what the block before left otherwise. -/
def dqStart (i : grid0.Coords) (D : Vec F S1x16x128x512 .f32) : Vec F S1x16x128x512 .f32 :=
  if (i 1).val = 0 then k0_pay74 else D

/-- The exponentials of the diagonal block (transposed, masked). -/
abbrev diagExp (i : grid0.Coords) (Q : Vec F S8192x128 .bf16) (KV : Vec F S512x256 .bf16) (L : Vec F S1x16x8x512 .f32) :
    FVec F S512x512 .f32 := k0_pay81 i (keys KV) (rows Q (i 1)) (stat L (i 1))

/-- The accumulators after the diagonal block. -/
def diag (i : grid0.Coords) (Q : Vec F S8192x128 .bf16) (KV : Vec F S512x256 .bf16) (DO : Vec F S8192x128 .bf16)
    (L DL : Vec F S1x16x8x512 .f32) (D : Vec F S1x16x128x512 .f32) : St F :=
  (VecWindow.put D ![0, (i 1).val, 0, 0] S1x1x128x512.size
      (k0_pay85 (k0_pay76 (vals KV)) (k0_pay77 (keys KV)) (k0_pay80 (rows DO (i 1))) (diagExp i Q KV L) (stat DL (i 1)) (dqBlock D (i 1))),
   (k0_pay84 (k0_pay76 (vals KV)) k0_pay78 (k0_pay79 (rows Q (i 1))) (k0_pay80 (rows DO (i 1))) (diagExp i Q KV L) (stat DL (i 1)),
    k0_pay83 k0_pay78 (k0_pay80 (rows DO (i 1))) (diagExp i Q KV L)))

/-- The accumulators after the diagonal block and every row block below it. -/
def final (i : grid0.Coords) (Q : Vec F S8192x128 .bf16) (KV : Vec F S512x256 .bf16) (DO : Vec F S8192x128 .bf16)
    (L DL : Vec F S1x16x8x512 .f32) (D : Vec F S1x16x128x512 .f32) : St F :=
  runFrom (k0_pay75 (keys KV)) (k0_pay76 (vals KV)) (k0_pay77 (keys KV)) Q DO L DL ((i 1).val + 1)
    (diag i Q KV DO L DL (dqStart i D)) (15 - (i 1).val)

/-- What the point leaves in its block of key and value gradients: the keys' on the left, the values' (over log 2) on the right. -/
def dkv (s : St F) : Vec F S512x256 .bf16 :=
  VecWindow.put (VecWindow.put (fun _ => FloatOps.ofBits .bf16 0#16) ![0, 0] S512x128.size (k0_pay96 s.2.1)) ![0, 128] S512x128.size
    (k0_pay1 s.2.2 (Named.named κ "inv_ln2" 0x3FB8AA3B#32))

/-! ## The run -/

theorem cond_iff : ∀ i : grid0.Coords,
    Scalar.cmpi .ne (Scalar.extui (Scalar.cmpi .eq (BitVec.ofNat 32 (i 1).val) 0#32) : BitVec 32) 0#32 = 1#1 ↔ (i 1).val = 0 := by
  decide +kernel

/-- The two loops one after the other are the row blocks below the diagonal. -/
theorem both (arg2 : Memref sig .tc .vmem S8192x128 .bf16) (arg4 : Memref sig .tc .vmem S8192x128 .bf16)
    (arg5 : Memref sig .tc .vmem S1x16x8x512 .f32) (arg6 : Memref sig .tc .vmem S1x16x8x512 .f32)
    (arg7 : Memref sig .tc .vmem S1x16x128x512 .f32)
    (X_arg2 : BufTy.Contents (Elt F) arg2.view.ty) (X_arg4 : BufTy.Contents (Elt F) arg4.view.ty)
    (X_arg5 : BufTy.Contents (Elt F) arg5.view.ty) (X_arg6 : BufTy.Contents (Elt F) arg6.view.ty)
    (v4 v6 : FVec F S512x128 .bf16) (v9 : FVec F S128x512 .bf16) (i : grid0.Coords)
    (G : BufTy.Contents (Elt F) arg7.view.ty) (init : FVec F S512x128 .f32 × FVec F S512x128 .f32) (G1 : BufTy.Contents (Elt F) arg7.view.ty)
    (hG1 : G1 = cont arg7 G (fun m => (runV arg2 arg4 arg5 arg6 arg7 X_arg2 X_arg4 X_arg5 X_arg6 v4 v6 v9 G ((i 1).val + 1) init (4 * m)).1) (Scf.trips (k0_t1_loop i).lb (k0_t1_loop i).ub (k0_t1_loop i).st)) :
    runV arg2 arg4 arg5 arg6 arg7 X_arg2 X_arg4 X_arg5 X_arg6 v4 v6 v9 G1 ((i 1).val + 1 + 4 * ((15 - (i 1).val) / 4))
        ((runV arg2 arg4 arg5 arg6 arg7 X_arg2 X_arg4 X_arg5 X_arg6 v4 v6 v9 G ((i 1).val + 1) init (4 * (Scf.trips (k0_t1_loop i).lb (k0_t1_loop i).ub (k0_t1_loop i).st))).2.1,
         (runV arg2 arg4 arg5 arg6 arg7 X_arg2 X_arg4 X_arg5 X_arg6 v4 v6 v9 G ((i 1).val + 1) init (4 * (Scf.trips (k0_t1_loop i).lb (k0_t1_loop i).ub (k0_t1_loop i).st))).2.2)
        (Scf.trips (k0_t3_loop i).lb (k0_t3_loop i).ub (k0_t3_loop i).st)
      = runFrom v4 v6 v9 (arg2.view.read (Elt F) X_arg2) (arg4.view.read (Elt F) X_arg4) (arg5.view.read (Elt F) X_arg5)
          (arg6.view.read (Elt F) X_arg6) ((i 1).val + 1) (arg7.view.read (Elt F) G, init) (15 - (i 1).val) := by
  have e1 : arg7.view.read (Elt F) G1 = _ := (congrArg _ hG1).trans (read_cont arg7 G _ rfl _)
  have t1 : Scf.trips (k0_t1_loop i).lb (k0_t1_loop i).ub (k0_t1_loop i).st = _ := t1_trips i
  have t3 : Scf.trips (k0_t3_loop i).lb (k0_t3_loop i).ub (k0_t3_loop i).st = _ := t3_trips i
  unfold runV at e1 ⊢
  rw [e1, t1, t3]
  refine (runFrom_runFrom v4 v6 v9 _ _ _ _ ((i 1).val + 1) _ (4 * ((15 - (i 1).val) / 4)) ((15 - (i 1).val) % 4)).trans ?_
  rw [Nat.div_add_mod]

/-- Two puts that cover the block hide what was there before. -/
theorem put_put_cover {α : Type} (x x' : S512x256.Idx → α) (w w' : S512x128.Idx → α) :
    VecWindow.put (VecWindow.put x ![0, 0] S512x128.size w) ![0, 128] S512x128.size w'
      = VecWindow.put (VecWindow.put x' ![0, 0] S512x128.size w) ![0, 128] S512x128.size w' := by
  funext y
  have b0 : (y 0).val < 512 := (y 0).isLt
  have b1 : (y 1).val < 256 := (y 1).isLt
  by_cases h : (y 1).val < 128
  · have n1 : ¬ ∀ a : Fin 2, (![0, 128] : Fin 2 → ℕ) a ≤ (y a).val ∧ (y a).val < (![0, 128] : Fin 2 → ℕ) a + S512x128.size a := fun hh => by
      have := (hh 1).1; change 128 ≤ _ at this; omega
    have p0 : ∀ a : Fin 2, (![0, 0] : Fin 2 → ℕ) a ≤ (y a).val ∧ (y a).val < (![0, 0] : Fin 2 → ℕ) a + S512x128.size a := fun a => by
      match a with
      | 0 => exact ⟨Nat.zero_le _, by change _ < 0 + 512; omega⟩
      | 1 => exact ⟨Nat.zero_le _, by change _ < 0 + 128; omega⟩
    unfold VecWindow.put
    rw [dif_neg n1, dif_neg n1, dif_pos p0, dif_pos p0]
  · have p1 : ∀ a : Fin 2, (![0, 128] : Fin 2 → ℕ) a ≤ (y a).val ∧ (y a).val < (![0, 128] : Fin 2 → ℕ) a + S512x128.size a := fun a => by
      match a with
      | 0 => exact ⟨Nat.zero_le _, by change _ < 0 + 512; omega⟩
      | 1 => exact ⟨by change 128 ≤ _; omega, by change _ < 128 + 128; omega⟩
    unfold VecWindow.put
    rw [dif_pos p1, dif_pos p1]

/-- The block of key and value gradients after its two stores. -/
theorem read_dkv (arg8 : Memref sig .tc .vmem S512x256 .bf16) (f : BufTy.Contents (Elt F) arg8.view.ty)
    (dk dv : FVec F S512x128 .f32) (cst : F .f32) (s : St F) (hk : dk = s.2.1) (hv : dv = s.2.2) (hc : cst = Named.named κ "inv_ln2" 0x3FB8AA3B#32) :
    arg8.view.read (Elt F) (arg8.view.writes (Elt F) f
      [⟨Rect.unit ![0, 128] S512x128.size inb_S512x256_S512x128_0_128, k0_pay1 dv cst⟩,
       ⟨Rect.unit ![0, 0] S512x128.size inb_S512x256_S512x128_0_0, k0_pay96 dk⟩]) = dkv s := by
  subst hk hv hc
  rw [View.read_writes_cons_put _ _ _ _ _ rfl, View.read_writes_cons_put _ _ _ _ _ rfl]
  exact put_put_cover _ _ _ _

theorem runFrom_congr {v4 v4' v6 v6' : FVec F S512x128 .bf16} {v9 v9' : FVec F S128x512 .bf16} {Q DO : Vec F S8192x128 .bf16} {L DL : Vec F S1x16x8x512 .f32}
    {lb m : ℕ} {D D' : Vec F S1x16x128x512 .f32} {a a' b b' : FVec F S512x128 .f32}
    (h4 : v4 = v4') (h6 : v6 = v6') (h9 : v9 = v9') (hD : D = D') (ha : a = a') (hb : b = b') :
    runFrom v4 v6 v9 Q DO L DL lb (D, (a, b)) m = runFrom v4' v6' v9' Q DO L DL lb (D', (a', b')) m := by
  subst h4 h6 h9 hD ha hb; rfl

theorem dqStart_pos (i : grid0.Coords) (D : Vec F S1x16x128x512 .f32) (h : (i 1).val = 0) : dqStart i D = k0_pay74 := if_pos h
theorem dqStart_neg (i : grid0.Coords) (D : Vec F S1x16x128x512 .f32) (h : ¬ (i 1).val = 0) : dqStart i D = D := if_neg h
theorem read_whole (arg7 : Memref sig .tc .vmem S1x16x128x512 .f32) (f : BufTy.Contents (Elt F) arg7.view.ty) (w : Vec F S1x16x128x512 .f32) :
    arg7.view.read (Elt F) (arg7.view.writes (Elt F) f [⟨Rect.unit ![0, 0, 0, 0] S1x16x128x512.size inb_S1x16x128x512_S1x16x128x512_0_0_0_0, w⟩]) = w :=
  View.read_writes_full arg7.view f _ w []

/-- The same from what the loads before the loops read and the diagonal block's store left. -/
theorem fin_eq (arg2 : Memref sig .tc .vmem S8192x128 .bf16) (arg3 : Memref sig .tc .vmem S512x256 .bf16) (arg4 : Memref sig .tc .vmem S8192x128 .bf16)
    (arg5 : Memref sig .tc .vmem S1x16x8x512 .f32) (arg6 : Memref sig .tc .vmem S1x16x8x512 .f32)
    (arg7 : Memref sig .tc .vmem S1x16x128x512 .f32)
    (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (i : grid0.Coords)
    (f : BufTy.Contents (Elt F) arg7.view.ty) (D : Vec F S1x16x128x512 .f32) (hf : arg7.view.read (Elt F) f = dqStart i D) :
    let v3 : Vec F S512x128 .bf16 := arg3.view.readAt (Elt F) (Rect.unit (s := S512x256) ![0, 0] S512x128.size inb_S512x256_S512x128_0_0).toLoadRect X3
    let v5 : Vec F S512x128 .bf16 := arg3.view.readAt (Elt F) (Rect.unit (s := S512x256) ![0, 128] S512x128.size inb_S512x256_S512x128_0_128).toLoadRect X3
    let v18 : Vec F S512x128 .bf16 := arg2.view.readAt (Elt F) (Rect.unit (s := S8192x128) (k0_off1 i) S512x128.size (k0_off1_inb i)).toLoadRect X2
    let v21 : Vec F S512x128 .bf16 := arg4.view.readAt (Elt F) (Rect.unit (s := S8192x128) (k0_off1 i) S512x128.size (k0_off1_inb i)).toLoadRect X4
    let v32 : Vec F S1x1x1x512 .f32 := arg5.view.readAt (Elt F) (Rect.unit (s := S1x16x8x512) (k0_off2 i) S1x1x1x512.size (k0_off2_inb i)).toLoadRect X5
    let v41 : Vec F S1x1x1x512 .f32 := arg6.view.readAt (Elt F) (Rect.unit (s := S1x16x8x512) (k0_off2 i) S1x1x1x512.size (k0_off2_inb i)).toLoadRect X6
    let v53 : Vec F S1x1x128x512 .f32 := arg7.view.readAt (Elt F) (Rect.unit (s := S1x16x128x512) (k0_off3 i) S1x1x128x512.size (k0_off3_inb i)).toLoadRect f
    runFrom (k0_pay75 v3) (k0_pay76 v5) (k0_pay77 v3) (arg2.view.read (Elt F) X2) (arg4.view.read (Elt F) X4) (arg5.view.read (Elt F) X5)
          (arg6.view.read (Elt F) X6) ((i 1).val + 1)
          (arg7.view.read (Elt F) (View.write (Elt F) (arg7.view.slice (Rect.unit (s := S1x16x128x512) (k0_off3 i) S1x1x128x512.size (k0_off3_inb i))) f
              (k0_pay85 (k0_pay76 v5) (k0_pay77 v3) (k0_pay80 v21) (k0_pay81 i v3 v18 v32) v41 v53) Finset.univ),
            (k0_pay84 (k0_pay76 v5) k0_pay78 (k0_pay79 v18) (k0_pay80 v21) (k0_pay81 i v3 v18 v32) v41,
             k0_pay83 k0_pay78 (k0_pay80 v21) (k0_pay81 i v3 v18 v32))) (15 - (i 1).val)
      = final i (arg2.view.read (Elt F) X2) (arg3.view.read (Elt F) X3) (arg4.view.read (Elt F) X4) (arg5.view.read (Elt F) X5)
          (arg6.view.read (Elt F) X6) D := by
  intro v3 v5 v18 v21 v32 v41 v53
  have e18 : v18 = rows (arg2.view.read (Elt F) X2) (i 1) := View.readAt_unit (s := S8192x128) _ _ _ (k0_off1_eq i) (inbQ (i 1))
  have e21 : v21 = rows (arg4.view.read (Elt F) X4) (i 1) := View.readAt_unit (s := S8192x128) _ _ _ (k0_off1_eq i) (inbQ (i 1))
  have e32 : v32 = stat (arg5.view.read (Elt F) X5) (i 1) := View.readAt_unit (s := S1x16x8x512) _ _ _ (k0_off2_eq i) (inbR (i 1))
  have e41 : v41 = stat (arg6.view.read (Elt F) X6) (i 1) := View.readAt_unit (s := S1x16x8x512) _ _ _ (k0_off2_eq i) (inbR (i 1))
  have e53 : v53 = dqBlock (dqStart i D) (i 1) := (View.readAt_unit (s := S1x16x128x512) _ _ _ (k0_off3_eq i) (inbD (i 1))).trans (by rw [hf])
  have ew : ∀ w : Vec F S1x1x128x512 .f32, arg7.view.read (Elt F) (View.write (Elt F) (arg7.view.slice (Rect.unit (s := S1x16x128x512) (k0_off3 i) S1x1x128x512.size (k0_off3_inb i))) f w Finset.univ)
      = VecWindow.put (dqStart i D) ![0, (i 1).val, 0, 0] S1x1x128x512.size w := fun w => by
    show arg7.view.read (Elt F) (arg7.view.writes (Elt F) f [⟨Rect.unit (s := S1x16x128x512) (k0_off3 i) S1x1x128x512.size (k0_off3_inb i), w⟩]) = _
    rw [View.read_writes_cons_put _ _ _ _ _ (k0_off3_eq i), View.writes_nil, hf]
  rw [ew, e18, e21, e32, e41, e53]
  rfl

theorem pointRun (c : Dev nD) (i : grid0.Coords) (arg2 : Memref sig .tc .vmem S8192x128 .bf16) (harg2 : arg2.IsWhole) (arg3 : Memref sig .tc .vmem S512x256 .bf16) (harg3 : arg3.IsWhole) (arg4 : Memref sig .tc .vmem S8192x128 .bf16) (harg4 : arg4.IsWhole) (arg5 : Memref sig .tc .vmem S1x16x8x512 .f32) (harg5 : arg5.IsWhole) (arg6 : Memref sig .tc .vmem S1x16x8x512 .f32) (harg6 : arg6.IsWhole) (arg7 : Memref sig .tc .vmem S1x16x128x512 .f32) (harg7 : arg7.IsWhole) (arg8 : Memref sig .tc .vmem S512x256 .bf16) (harg8 : arg8.IsWhole)
    (Q : Vec F S8192x128 .bf16) (KV : Vec F S512x256 .bf16) (DO : Vec F S8192x128 .bf16)
    (L DL : Vec F S1x16x8x512 .f32) (D : Vec F S1x16x128x512 .f32) (K : PUnit → sProp 𝕄) :
    iprop(owns (c : Thread nD τ) arg2 fullShare Q ∗ owns (c : Thread nD τ) arg3 fullShare KV ∗ owns (c : Thread nD τ) arg4 fullShare DO
        ∗ owns (c : Thread nD τ) arg5 fullShare L ∗ owns (c : Thread nD τ) arg6 fullShare DL ∗ owns (c : Thread nD τ) arg7 fullShare D
        ∗ (∃ d, owns (c : Thread nD τ) arg8 fullShare d)
        ∗ (iprop(owns (c : Thread nD τ) arg2 fullShare Q ∗ owns (c : Thread nD τ) arg3 fullShare KV ∗ owns (c : Thread nD τ) arg4 fullShare DO
            ∗ owns (c : Thread nD τ) arg5 fullShare L ∗ owns (c : Thread nD τ) arg6 fullShare DL
            ∗ owns (c : Thread nD τ) arg7 fullShare (final i Q KV DO L DL D).1
            ∗ owns (c : Thread nD τ) arg8 fullShare (dkv (final i Q KV DO L DL D))) -∗ K ⟨⟩))
      ⊢ wp frame (wpE (defs₀ (F := F)) Variants.none c none) Set.univ
          (cc0_attn_bwd i arg2 harg2 arg3 harg3 arg4 harg4 arg5 harg5 arg6 harg6 arg7 harg7 arg8 harg8) K := by
  simp only [cc0_attn_bwd_eq_skeleton]; unfold cc0_attn_bwd_skel
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%d8, %X8, -, H8⟩, Hk⟩
  subst h2 h3 h4 h5 h6 h7
  by_cases hj : (i 1).val = 0
  · have hc := (cond_iff i).mpr hj
    sl_exec (disch := sl_exact hc)
    sl_step
    have hall := fin_eq arg2 arg3 arg4 arg5 arg6 arg7 X2 X3 X4 X5 X6 i (arg7.view.writes (Elt F) arg7.view.junk [⟨Rect.unit ![0, 0, 0, 0] S1x16x128x512.size inb_S1x16x128x512_S1x16x128x512_0_0_0_0, k0_pay74⟩]) (arg7.view.read (Elt F) X7) ((read_whole arg7 _ _).trans (dqStart_pos i _ hj).symm)
    delta pointRun.sl.r_6
    generalize hR : runV arg2 arg4 arg5 arg6 arg7 X2 X4 X5 X6 _ _ _ _ ((i 1).val + 1 + 4 * ((15 - (i 1).val) / 4)) _ (Scf.trips (k0_t3_loop i).lb (k0_t3_loop i).ub (k0_t3_loop i).st) = R
    have hfin : R = final i (arg2.view.read (Elt F) X2) (arg3.view.read (Elt F) X3) (arg4.view.read (Elt F) X4) (arg5.view.read (Elt F) X5) (arg6.view.read (Elt F) X6) (arg7.view.read (Elt F) X7) := by
      refine hR.symm.trans ((both (hG1 := rfl) ..).trans (Eq.trans ?_ hall))
      refine runFrom_congr ?_ ?_ ?_ ?_ ?_ ?_
      · rfl
      · rfl
      · rfl
      · refine congrArg (fun w => arg7.view.read (Elt F) (View.write (Elt F) (arg7.view.slice (Rect.unit (s := S1x16x128x512) (k0_off3 i) S1x1x128x512.size (k0_off3_inb i))) _ w Finset.univ)) ?_
        rfl
      · rfl
      · rfl
    iapply Hk
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]
    · iexists _; isplitr
      swap
      · iexact H7
      ipureintro
      refine (read_cont arg7 _ _ rfl _).trans ?_
      exact congrArg Prod.fst (hR.trans hfin)
    · iexists _; isplitr
      swap
      · iexact H8
      ipureintro
      rw [← hfin]
      exact read_dkv arg8 _ _ _ _ R rfl rfl rfl
  · have hc := mt (cond_iff i).mp hj
    sl_exec (disch := sl_exact hc)
    sl_step
    have hall := fin_eq arg2 arg3 arg4 arg5 arg6 arg7 X2 X3 X4 X5 X6 i (arg7.view.writes (Elt F) X7 []) (arg7.view.read (Elt F) X7) (dqStart_neg i _ hj).symm
    delta pointRun.sl.r_13
    generalize hR : runV arg2 arg4 arg5 arg6 arg7 X2 X4 X5 X6 _ _ _ _ ((i 1).val + 1 + 4 * ((15 - (i 1).val) / 4)) _ (Scf.trips (k0_t3_loop i).lb (k0_t3_loop i).ub (k0_t3_loop i).st) = R
    have hfin : R = final i (arg2.view.read (Elt F) X2) (arg3.view.read (Elt F) X3) (arg4.view.read (Elt F) X4) (arg5.view.read (Elt F) X5) (arg6.view.read (Elt F) X6) (arg7.view.read (Elt F) X7) := by
      refine hR.symm.trans ((both (hG1 := rfl) ..).trans (Eq.trans ?_ hall))
      refine runFrom_congr ?_ ?_ ?_ ?_ ?_ ?_
      · rfl
      · rfl
      · rfl
      · refine congrArg (fun w => arg7.view.read (Elt F) (View.write (Elt F) (arg7.view.slice (Rect.unit (s := S1x16x128x512) (k0_off3 i) S1x1x128x512.size (k0_off3_inb i))) _ w Finset.univ)) ?_
        rfl
      · rfl
      · rfl
    iapply Hk
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]
    · iexists _; isplitr
      swap
      · iexact H7
      ipureintro
      refine (read_cont arg7 _ _ rfl _).trans ?_
      exact congrArg Prod.fst (hR.trans hfin)
    · iexists _; isplitr
      swap
      · iexact H8
      ipureintro
      rw [← hfin]
      exact read_dkv arg8 _ _ _ _ R rfl rfl rfl

end Cert.KernelIdeal.Hand

end

end
-- ==== Proof.KernelIdeal.Body.lean ====
/-
  The kernel's run over its grid: what every point leaves, the body obligation, and the run of the whole program.
-/
module

public import proofs.«01_k».proof.Proof.KernelIdeal.Point
public import proofs.«01_k».proof.Proof.Gen.KernelIdeal.Frame

@[expose] public section

set_option maxRecDepth 8192
set_option maxHeartbeats 600000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-! ## What every point leaves -/

/-- The accumulators point `t` ends with, when the query gradient it finds is `D`. -/
def finalAt (c : Dev nD) (t : Fin cfg0.N) (D : Vec F S1x16x128x512 .f32) : St F :=
  final (cfg0.grid.coords t) (iblk m c 0 t) (iblk m c 1 t) (iblk m c 2 t) (iblk m c 3 t) (iblk m c 4 t) D

/-- The query gradient after point `n`. -/
def dqAt (c : Dev nD) : (n : ℕ) → n < cfg0.N → Vec F S1x16x128x512 .f32
  | 0, h => (finalAt m c ⟨0, h⟩ k0_pay74).1
  | n + 1, h => (finalAt m c ⟨n + 1, h⟩ (dqAt c n (Nat.lt_of_succ_lt h))).1

/-- The query gradient point `t` finds. -/
def dqBefore (c : Dev nD) (t : Fin cfg0.N) : Vec F S1x16x128x512 .f32 :=
  if h : t.val = 0 then k0_pay74 else dqAt m c (t.val - 1) (Nat.lt_of_le_of_lt (Nat.sub_le _ _) t.isLt)

theorem dqAt_eq (c : Dev nD) (t : Fin cfg0.N) : dqAt m c t.val t.isLt = (finalAt m c t (dqBefore m c t)).1 := by
  obtain ⟨n, h⟩ := t
  cases n with
  | zero => rfl
  | succ n => rfl

theorem coord1 : ∀ t : Fin cfg0.N, (cfg0.grid.coords t 1).val = t.val % 16 := by decide +kernel

/-- A head's first block forgets what it finds. -/
theorem final_reset (i : grid0.Coords) (h : (i 1).val = 0) (Q : Vec F S8192x128 .bf16) (KV : Vec F S512x256 .bf16) (DO : Vec F S8192x128 .bf16)
    (L DL : Vec F S1x16x8x512 .f32) (D D' : Vec F S1x16x128x512 .f32) : final i Q KV DO L DL D = final i Q KV DO L DL D' := by
  unfold final; rw [dqStart_pos i D h, dqStart_pos i D' h]

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t.val t.isLt
    | ⟨6, _⟩ => dkv (finalAt m c t (dqBefore m c t))
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqAt m c t.val t.isLt := by dsimp only [dats]
theorem after0_6 (c : Dev nD) (t : Fin cfg0.N) : (dats m 0 c).after 6 t = dkv (finalAt m c t (dqBefore m c t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Whatever the query gradient's buffer holds when the body runs, the point ends as from `dqBefore`: at a head's first
    block it is reset, and at another it is what the block before left. -/
theorem final_before (c : Dev nD) (t : Fin cfg0.N) (d) :
    final (cfg0.grid.coords t) (iblk m c 0 t) (iblk m c 1 t) (iblk m c 2 t) (iblk m c 3 t) (iblk m c 4 t) ((dats m 0 c).before 5 t d)
      = finalAt m c t (dqBefore m c t) := by
  by_cases h : t.val % 16 = 0
  · exact final_reset _ ((coord1 t).trans h) _ _ _ _ _ _ _
  · have h0 : t.val ≠ 0 := fun e => h (by rw [e])
    have e : (dats m 0 c).before 5 t d = dqBefore m c t := by
      rw [(dats m 0 c).before_out_kept 5 rfl t h0 (Bool.eq_false_iff.mpr fun hf => by
        have := (flush0_5 _).mp hf; have h2 : (t.val - 1) % 16 = 15 := this; omega) (fun _ => rfl) (fun _ _ => rfl), after0_5]
      unfold dqBefore; rw [dif_neg h0]
    rw [e]; rfl

/-! ## The body obligation -/

theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [dqAt_eq, ← final_before m c t d5]
  iapply (pointRun c (cfg0.grid.coords t) _ _ _ _ _ _ _ _ _ _ _ _ _ _ (iblk m c 0 t) (iblk m c 1 t) (iblk m c 2 t) (iblk m c 3 t) (iblk m c 4 t) ((dats m 0 c).before 5 t d5) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-! ## The run -/

set_option backward.isDefEq.respectTransparency.types false in
/-- Every weakly fair execution of the program terminates, with every array of the pipeline at what the proof data says
    and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) (A_eq m)) (run_main m ρ)

end Cert.KernelIdeal.Hand

end

end
-- ==== Proof.Value.Spec.lean ====
/-
  The gradient of causal softmax attention for one head, over the real numbers.

  A head has 8192 rows of queries `q`, keys `k`, values `v` and incoming gradients `w`, each of 128 numbers. Query `i`
  sees the keys `j ≤ i`. The score is the inner product over the square root of 96; `prob i j` is the softmax of the
  scores query `i` sees, and zero at the keys it does not see. Rows are numbered by natural numbers so that a block of
  rows is an interval.
-/
module

public import Mathlib.Analysis.SpecialFunctions.Log.Basic
public import Mathlib.Analysis.SpecialFunctions.Pow.Real
public import Mathlib.Algebra.BigOperators.Intervals
public import Mathlib.Data.EReal.Operations
public import Idealize.ShloMosaic.PureOps.Ideal

@[expose] public section

noncomputable section

namespace Cert.Attention

open Finset

/-- One head's rows: row number, then one of 128 columns. -/
abbrev Rows : Type := ℕ → Fin 128 → ℝ

variable (q k v w : Rows)

/-- The scaled score of query `i` against key `j`. -/
def score (i j : ℕ) : ℝ := (∑ d, q i d * k j d) / √96
/-- The softmax denominator of query `i`: the sum over the keys it sees. -/
def den (i : ℕ) : ℝ := ∑ j ∈ range (i + 1), Real.exp (score q k i j)
/-- The attention probability. -/
def prob (i j : ℕ) : ℝ := if j ≤ i then Real.exp (score q k i j) / den q k i else 0
/-- The gradient of the loss in the probability. -/
def dprob (i j : ℕ) : ℝ := ∑ d, w i d * v j d
/-- The softmax's row correction. -/
def delta (i : ℕ) : ℝ := ∑ j ∈ range 8192, prob q k i j * dprob v w i j
/-- The gradient of the loss in the scaled score. -/
def dscore (i j : ℕ) : ℝ := prob q k i j * (dprob v w i j - delta q k v w i)
/-- The gradient of the loss in the values. -/
def gradV (j : ℕ) (d : Fin 128) : ℝ := ∑ i ∈ range 8192, prob q k i j * w i d
/-- The gradient of the loss in the keys. -/
def gradK (j : ℕ) (d : Fin 128) : ℝ := ∑ i ∈ range 8192, dscore q k v w i j / √96 * q i d
/-- The gradient of the loss in the queries. -/
def gradQ (i : ℕ) (d : Fin 128) : ℝ := ∑ j ∈ range 8192, dscore q k v w i j / √96 * k j d

theorem sqrt96_pos : (0 : ℝ) < √96 := Real.sqrt_pos.mpr (by norm_num)
theorem log2_pos : (0 : ℝ) < Real.log 2 := Real.log_pos (by norm_num)

theorem den_pos (i : ℕ) : 0 < den q k i := sum_pos (fun _ _ => Real.exp_pos _) ⟨0, mem_range.mpr (Nat.succ_pos i)⟩

/-- The score as a masked, shifted exponential: what both programs take the softmax of, with the shift `M` they choose. -/
def shifted (M : ℝ) (i j : ℕ) : ℝ := if j ≤ i then Real.exp (score q k i j - M) else 0

/-- The shifted exponentials of a row add up to the denominator over `exp M`. -/
theorem sum_shifted (M : ℝ) (i : ℕ) (hi : i < 8192) : ∑ j ∈ range 8192, shifted q k M i j = den q k i * Real.exp (-M) := by
  have e : range (i + 1) = (range 8192).filter (· ≤ i) := by ext j; simp only [mem_range, mem_filter]; omega
  unfold den shifted
  rw [e, sum_filter, sum_mul]
  refine sum_congr rfl fun j _ => ?_
  split
  · rw [sub_eq_add_neg, Real.exp_add]
  · rw [zero_mul]

/-- The shift cancels in the quotient. -/
theorem shifted_div (M : ℝ) (i j : ℕ) : shifted q k M i j / (den q k i * Real.exp (-M)) = prob q k i j := by
  unfold shifted prob
  split
  · rw [sub_eq_add_neg, Real.exp_add, mul_div_mul_right _ _ (Real.exp_pos _).ne']
  · exact zero_div _

theorem prob_of_lt {i j : ℕ} (h : i < j) : prob q k i j = 0 := if_neg (by omega)
theorem dscore_of_lt {i j : ℕ} (h : i < j) : dscore q k v w i j = 0 := by rw [dscore, prob_of_lt q k h, zero_mul]

/-- The row correction as the inner product of the incoming gradient with the attention output. -/
theorem delta_eq (i : ℕ) : delta q k v w i = ∑ d, w i d * ∑ j ∈ range 8192, prob q k i j * v j d := by
  unfold delta dprob
  simp only [mul_sum]
  rw [sum_comm]
  exact sum_congr rfl fun d _ => sum_congr rfl fun j _ => by ring

/-- The softmax's gradient, as automatic differentiation of the quotient writes it: with the shifted exponentials `e`,
    their row sum `l`, and the sum of `dprob · (1/l²) · e` over the row. -/
theorem dscore_eq (M : ℝ) (i j : ℕ) (l : ℝ) (hl : l = den q k i * Real.exp (-M)) :
    (dprob v w i j * (1 / l) + -∑ c ∈ range 8192, dprob v w i c * (1 * (1 / (l * l))) * shifted q k M i c) * shifted q k M i j
      = dscore q k v w i j := by
  have hl0 : l ≠ 0 := hl ▸ (mul_pos (den_pos q k i) (Real.exp_pos _)).ne'
  have hp : ∀ c, shifted q k M i c = prob q k i c * l := fun c => by
    rw [← shifted_div q k M i c, hl, div_mul_cancel₀ _ (mul_pos (den_pos q k i) (Real.exp_pos _)).ne']
  have hs : ∑ c ∈ range 8192, dprob v w i c * (1 * (1 / (l * l))) * shifted q k M i c = delta q k v w i * (1 / l) := by
    unfold delta
    rw [sum_mul]
    refine sum_congr rfl fun c _ => ?_
    rw [hp c]; field_simp
  rw [hs, hp j, dscore]; field_simp; ring

/-- The base-two exponential the kernel takes: the score in units of log 2, less the row's log-sum-exp in those units,
    plus the constant that turns the result into `log 2` times the probability. -/
theorem exp2_eq (M : ℝ) (i j : ℕ) (h : j ≤ i) :
    Real.rpow 2 ((∑ d, k j d * (q i d * (1 / (√96 * Real.log 2))))
        - ((M + Real.log (den q k i * Real.exp (-M))) * (1 / Real.log 2) - Real.log (Real.log 2) * (Real.log 2)⁻¹))
      = Real.log 2 * prob q k i j := by
  have l2 := log2_pos
  have s96 := sqrt96_pos
  have hs : (∑ d, k j d * (q i d * (1 / (√96 * Real.log 2)))) = score q k i j / Real.log 2 := by
    unfold score
    rw [sum_div, sum_div]
    exact sum_congr rfl fun d _ => by field_simp
  rw [hs, Real.log_mul (den_pos q k i).ne' (Real.exp_pos _).ne', Real.log_exp]
  rw [Real.rpow_eq_pow]
  rw [Real.rpow_def_of_pos (by norm_num), prob, if_pos h]
  have : Real.log 2 * (score q k i j / Real.log 2 - ((M + (Real.log (den q k i) + -M)) * (1 / Real.log 2) - Real.log (Real.log 2) * (Real.log 2)⁻¹))
      = score q k i j - Real.log (den q k i) + Real.log (Real.log 2) := by field_simp; ring
  rw [this, Real.exp_add, Real.exp_sub, Real.exp_log (den_pos q k i), Real.exp_log l2]
  ring

/-- A sum over the rows up to the end of a block is the sum up to its start and the block's own. -/
theorem sum_block (f : ℕ → ℝ) (n : ℕ) :
    ∑ i ∈ range (512 * (n + 1)), f i = ∑ i ∈ range (512 * n), f i + ∑ b : Fin 512, f (512 * n + b.val) := by
  rw [Nat.mul_succ, sum_range_add, sum_range (fun x => f (512 * n + x))]

/-! ## Real sums among the extended reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

end Cert.Attention

end

end
-- ==== Proof.Value.RefInputs.lean ====
/-
  The reference's inputs read as rows of heads, and its literals.

  `Inputs` says that every entry of the three arguments is a real number, and names those numbers: `q h`, `k h`, `v h`
  and `w h` are head `h`'s rows. The queries and the incoming gradients keep head `h` in columns `128 h …`; the keys and
  values of head `h` are the two halves of columns `256 h …`.
-/
module

public import proofs.«01_k».proof.Proof.Value.Spec
public import proofs.«01_k».proof.Proof.Gen.ReferenceIdeal.Read
public import Idealize.ShloMosaic.Lib.Pointwise

@[expose] public section

noncomputable section

namespace Cert.ReferenceIdeal.Hand

open Cert.ReferenceIdeal Cert.ReferenceIdeal.Gen Cert.ReferenceIdeal.Read Cert.Attention
open Idealize.ShloMosaic Idealize.ShloMosaic.TcCoe

/-- The column of head `h`'s entry `d` in an array of 1024 columns. -/
abbrev col (h : Fin 8) (d : Fin 128) : Fin 1024 := ⟨128 * h.val + d.val, by omega⟩
/-- The column of entry `d` of head `h`'s half `s` in an array of 2048 columns. -/
abbrev col2 (h : Fin 8) (s : Fin 2) (d : Fin 128) : Fin 2048 := ⟨256 * h.val + 128 * s.val + d.val, by omega⟩

/-- Every entry of the three arguments is a real number: those of `q`, `k`, `v` and `w`. -/
structure Inputs (x0 : FVec Ideal S8192x1024 .f32) (x1 : FVec Ideal S8192x2048 .f32) (x2 : FVec Ideal S8192x1024 .f32)
    (q k v w : Fin 8 → Rows) : Prop where
  hq : ∀ (i : Fin 8192) h d, x0 (ix2 i (col h d)) = ((q h i.val d : ℝ) : EReal)
  hk : ∀ (i : Fin 8192) h d, x1 (ix2 i (col2 h 0 d)) = ((k h i.val d : ℝ) : EReal)
  hv : ∀ (i : Fin 8192) h d, x1 (ix2 i (col2 h 1 d)) = ((v h i.val d : ℝ) : EReal)
  hw : ∀ (i : Fin 8192) h d, x2 (ix2 i (col h d)) = ((w h i.val d : ℝ) : EReal)

variable {x0 : FVec Ideal S8192x1024 .f32} {x1 : FVec Ideal S8192x2048 .f32} {x2 : FVec Ideal S8192x1024 .f32}
  {q k v w : Fin 8 → Rows} (H : Inputs x0 x1 x2 q k v w)

include H

theorem v1_eq (i : Fin 8192) (h : Fin 8) (d : Fin 128) : val_main_v1 (F := Ideal) x0 (ix3 i h d) = ((q h i.val d : ℝ) : EReal) := by
  rw [val_main_v1_apply, ← H.hq i h d]
  exact congrArg x0 (funext fun a => match a with
    | ⟨0, _⟩ => Fin.ext (by show ((i.val * 8 + h.val) * 128 + d.val) / 1024 = i.val; omega)
    | ⟨1, _⟩ => Fin.ext (by show ((i.val * 8 + h.val) * 128 + d.val) % 1024 = 128 * h.val + d.val; omega))

theorem v48_eq (i : Fin 8192) (h : Fin 8) (d : Fin 128) : val_main_v48 (F := Ideal) x2 (ix3 i h d) = ((w h i.val d : ℝ) : EReal) := by
  rw [val_main_v48_apply, ← H.hw i h d]
  exact congrArg x2 (funext fun a => match a with
    | ⟨0, _⟩ => Fin.ext (by show ((i.val * 8 + h.val) * 128 + d.val) / 1024 = i.val; omega)
    | ⟨1, _⟩ => Fin.ext (by show ((i.val * 8 + h.val) * 128 + d.val) % 1024 = 128 * h.val + d.val; omega))

omit H in
theorem v0_eq (i : Fin 8192) (h : Fin 8) (s : Fin 2) (d : Fin 128) :
    val_main_v0 (F := Ideal) x1 (ix4 i h s d) = x1 (ix2 i (col2 h s d)) := by
  rw [val_main_v0_apply]
  exact congrArg x1 (funext fun a => match a with
    | ⟨0, _⟩ => Fin.ext (by show (((i.val * 8 + h.val) * 2 + s.val) * 128 + d.val) / 2048 = i.val; omega)
    | ⟨1, _⟩ => Fin.ext (by show (((i.val * 8 + h.val) * 2 + s.val) * 128 + d.val) % 2048 = 256 * h.val + 128 * s.val + d.val; omega))

theorem v3_eq (i : Fin 8192) (h : Fin 8) (d : Fin 128) : val_main_v3 (F := Ideal) x1 (ix3 i h d) = ((k h i.val d : ℝ) : EReal) := by
  rw [val_main_v3_apply, val_main_v2_apply, ← H.hk i h d, ← v0_eq (x1 := x1)]
  exact congrArg (val_main_v0 (F := Ideal) x1) (funext fun a => match a with
    | ⟨0, _⟩ => Fin.ext (by show ((i.val * 8 + h.val) * 128 + d.val) / 1024 = i.val; omega)
    | ⟨1, _⟩ => Fin.ext (by show ((i.val * 8 + h.val) * 128 + d.val) / 128 % 8 = h.val; omega)
    | ⟨2, _⟩ => rfl
    | ⟨3, _⟩ => Fin.ext (by show ((i.val * 8 + h.val) * 128 + d.val) % 128 = d.val; omega))

theorem v5_eq (i : Fin 8192) (h : Fin 8) (d : Fin 128) : val_main_v5 (F := Ideal) x1 (ix3 i h d) = ((v h i.val d : ℝ) : EReal) := by
  rw [val_main_v5_apply, val_main_v4_apply, ← H.hv i h d, ← v0_eq (x1 := x1)]
  exact congrArg (val_main_v0 (F := Ideal) x1) (funext fun a => match a with
    | ⟨0, _⟩ => Fin.ext (by show ((i.val * 8 + h.val) * 128 + d.val) / 1024 = i.val; omega)
    | ⟨1, _⟩ => Fin.ext (by show ((i.val * 8 + h.val) * 128 + d.val) / 128 % 8 = h.val; omega)
    | ⟨2, _⟩ => rfl
    | ⟨3, _⟩ => Fin.ext (by show ((i.val * 8 + h.val) * 128 + d.val) % 128 = d.val; omega))

omit H

/-! ## Literals -/

theorem lit96 : Ideal.ofBits .f32 0x42C00000#32 = ((96 : ℝ) : EReal) := by
  simp [Ideal.ofBits, Ideal.ieee, -EReal.coe_mul]; norm_num
theorem lit2 : Ideal.ofBits .f32 0x40000000#32 = ((2 : ℝ) : EReal) := by
  simp [Ideal.ofBits, Ideal.ieee, -EReal.coe_mul]; norm_num
theorem lit1 : Ideal.ofBits .f32 0x3F800000#32 = ((1 : ℝ) : EReal) := by
  simp [Ideal.ofBits, Ideal.ieee, -EReal.coe_mul]; norm_num
theorem litNegInf : Ideal.ofBits .f32 0xFF800000#32 = (⊥ : EReal) := by
  simp [Ideal.ofBits, Ideal.ieee]

theorem sqrt96 : Ideal.sqrt (Ideal.ofBits .f32 0x42C00000#32) = ((√96 : ℝ) : EReal) := by
  rw [lit96, Ideal.sqrt_coe, if_neg (by norm_num)]
theorem log2 : Ideal.log (Ideal.ofBits .f32 0x40000000#32) = ((Real.log 2 : ℝ) : EReal) := by
  rw [lit2, Ideal.log_coe, if_neg (by norm_num)]

end Cert.ReferenceIdeal.Hand

end

end
-- ==== Proof.Value.RefScores.lean ====
/-
  The reference's forward half: scores, mask, row maximum, exponentials, row sums and probabilities, as real numbers.
-/
module

public import proofs.«01_k».proof.Proof.Value.RefInputs

@[expose] public section

set_option maxRecDepth 4000

noncomputable section

namespace Cert.ReferenceIdeal.Hand

open Cert.ReferenceIdeal Cert.ReferenceIdeal.Gen Cert.ReferenceIdeal.Read Cert.Attention
open Idealize.ShloMosaic Idealize.ShloMosaic.TcCoe

/-- A quotient of real numbers. -/
theorem div_real (a b : ℝ) (hb : b ≠ 0) : Ideal.div ((a : ℝ) : EReal) ((b : ℝ) : EReal) = ((a / b : ℝ) : EReal) := by
  rw [Ideal.div_coe hb, ← EReal.coe_mul, mul_one_div]

/-- A sum of real numbers over the rows. -/
theorem sum_rows (f : ℕ → ℝ) : ∑ i : Fin 8192, ((f i.val : ℝ) : EReal) = ((∑ i ∈ Finset.range 8192, f i : ℝ) : EReal) := by
  rw [coe_sum, Finset.sum_range]

/-- A fold of maxima from `⊥` over entries that are real or `⊥`, one of them real, is real. -/
theorem fold_max_real {ι : Type} (s : Finset ι) (f : ι → EReal) (hf : ∀ i, f i ≠ ⊤) (i : ι) (hi : i ∈ s) (hr : f i ≠ ⊥) :
    ∃ M : ℝ, s.fold max ⊥ f = ((M : ℝ) : EReal) := by
  have ht : s.fold max ⊥ f ≠ ⊤ := by
    intro h
    have := Finset.fold_max_lt (s := s) (f := f) (b := ⊥) (c := ⊤) |>.mpr ⟨bot_lt_top, fun x _ => lt_top_iff_ne_top.mpr (hf x)⟩
    exact this.ne h
  have hb : s.fold max ⊥ f ≠ ⊥ := by
    have := Finset.le_fold_max (s := s) (f := f) (b := ⊥) (f i) |>.mpr (Or.inr ⟨i, hi, le_rfl⟩)
    exact fun h => hr (le_bot_iff.mp (h ▸ this))
  exact ⟨_, (EReal.coe_toReal ht hb).symm⟩

variable {x0 : FVec Ideal S8192x1024 .f32} {x1 : FVec Ideal S8192x2048 .f32} {x2 : FVec Ideal S8192x1024 .f32}
  {q k v w : Fin 8 → Rows} (H : Inputs x0 x1 x2 q k v w)

include H

theorem v6_eq (h : Fin 8) (i j : Fin 8192) :
    val_main_v6 (F := Ideal) x0 x1 (ix3 h i j) = ((∑ d, q h i.val d * k h j.val d : ℝ) : EReal) := by
  rw [val_main_v6_apply, ← coe_sum]
  refine Finset.sum_congr rfl fun d _ => ?_
  rw [EReal.coe_mul, ← v1_eq H i h d, ← v3_eq H j h d]
  congr 1 <;> exact congrArg _ (funext fun a => match a with | ⟨0, _⟩ => rfl | ⟨1, _⟩ => rfl | ⟨2, _⟩ => rfl)

omit H in
theorem v7_eq (i) : val_main_v7 (F := Ideal) i = ((√96 : ℝ) : EReal) := sqrt96

theorem v9_eq (h : Fin 8) (i j : Fin 8192) : val_main_v9 (F := Ideal) x0 x1 (ix3 h i j) = ((score (q h) (k h) i.val j.val : ℝ) : EReal) := by
  rw [val_main_v9_apply, val_main_v8_apply, v7_eq, v6_eq H]
  exact div_real _ _ sqrt96_pos.ne'

omit H

/-- The mask: query `i` sees the keys up to its own row. -/
theorem v17_1_eq (h : Fin 8) (i j : Fin 8192) : val_main_v17_1 (F := Ideal) (ix3 h i j) = if j.val ≤ i.val then 1#1 else 0#1 := by
  rw [val_main_v17_1_apply, val_main_v16_apply]
  show val_main_v15 (F := Ideal) (ix2 i j) = _
  rw [val_main_v15_apply, val_main_v13_apply, val_main_v14_apply, val_main_v11_apply, val_main_v12_apply]
  show IntOp.cmpi .sle (BitVec.ofNat 32 j.val) (BitVec.ofNat 32 i.val) = _
  have hi := i.isLt
  have hj := j.isLt
  simp only [IntOp.cmpi, BitVec.sle]
  have e : ∀ n : ℕ, n < 8192 → (BitVec.ofNat 32 n).toInt = n := fun n hn => by
    rw [BitVec.toInt_eq_toNat_cond, BitVec.toNat_ofNat, Nat.mod_eq_of_lt (by omega), if_pos (by omega)]
  rw [e _ hi, e _ hj]
  by_cases hle : j.val ≤ i.val <;> simp [hle]

include H

theorem v17_0_eq (h : Fin 8) (i j : Fin 8192) : val_main_v17_0 (F := Ideal) x0 x1 (ix3 h i j)
    = if j.val ≤ i.val then ((score (q h) (k h) i.val j.val : ℝ) : EReal) else ⊥ := by
  rw [val_main_v17_0_apply, v17_1_eq, v9_eq H, val_main_call0_v2_apply]
  show Scalar.select _ _ (Ideal.ofBits .f32 0xFF800000#32) = _
  rw [litNegInf]
  split <;> rfl

/-- The row maximum is a real number. -/
theorem v18_real (h : Fin 8) (i : Fin 8192) : ∃ M : ℝ, val_main_v18 (F := Ideal) x0 x1 (ix2 h i) = ((M : ℝ) : EReal) := by
  have e : val_main_v18 (F := Ideal) x0 x1 (ix2 h i)
      = (Finset.univ : Finset (Fin 8192)).fold max ⊥ (fun j => val_main_v17_0 (F := Ideal) x0 x1 (ix3 h i j)) := by
    unfold val_main_v18
    generalize val_main_v17_0 (F := Ideal) x0 x1 = y
    pointwise
    rw [show val_main_cst_1 (F := Ideal) (Shape.Idx.first h_S_) = ⊥ from litNegInf]
  rw [e]
  refine fold_max_real _ _ (fun j => ?_) i (Finset.mem_univ _) ?_
  · rw [v17_0_eq H]; split
    · exact EReal.coe_ne_top _
    · exact bot_ne_top
  · rw [v17_0_eq H, if_pos le_rfl]; exact EReal.coe_ne_bot _

/-- The row maximum. -/
def top (_ : Inputs x0 x1 x2 q k v w) (h : Fin 8) (i : ℕ) : ℝ := (val_main_v18 (F := Ideal) x0 x1 (ix2 h (Fin.ofNat 8192 i))).toReal

theorem v18_eq (h : Fin 8) (i : Fin 8192) : val_main_v18 (F := Ideal) x0 x1 (ix2 h i) = ((top H h i.val : ℝ) : EReal) := by
  obtain ⟨M, hM⟩ := v18_real H h i
  have : Fin.ofNat 8192 i.val = i := Fin.ext (Nat.mod_eq_of_lt i.isLt)
  rw [top, this, hM, EReal.toReal_coe]

omit H in
theorem v25_eq (i : S8x8192.Idx) : val_main_v25 (F := Ideal) x0 x1 i = val_main_v18 (F := Ideal) x0 x1 i := by
  have e : val_main_v24 (F := Ideal) i = ⊥ := by rw [val_main_v24_apply]; exact litNegInf
  rw [val_main_v25_apply, e]
  exact max_eq_right bot_le

theorem v36_eq (h : Fin 8) (i j : Fin 8192) : val_main_v36 (F := Ideal) x0 x1 (ix3 h i j) = ((top H h i.val : ℝ) : EReal) := by
  rw [val_main_v36_apply, val_main_v35_apply, v25_eq, ← v18_eq H]
  exact congrArg _ (funext fun a => match a with | ⟨0, _⟩ => rfl | ⟨1, _⟩ => rfl)

theorem v38_eq (h : Fin 8) (i j : Fin 8192) :
    val_main_v38 (F := Ideal) x0 x1 (ix3 h i j) = ((shifted (q h) (k h) (top H h i.val) i.val j.val : ℝ) : EReal) := by
  rw [val_main_v38_apply, val_main_v37_apply, v36_eq H, v17_0_eq H, Ideal.hostUnary_exp_def, Ideal.subf_def, shifted]
  by_cases hle : j.val ≤ i.val
  · rw [if_pos hle, if_pos hle, ← EReal.coe_sub, Ideal.exp_coe]
  · rw [if_neg hle, if_neg hle, EReal.bot_sub, Ideal.exp_bot, EReal.coe_zero]

/-- The row sum of the exponentials. -/
def total (h : Fin 8) (i : ℕ) : ℝ := den (q h) (k h) i * Real.exp (-top H h i)

theorem total_pos (h : Fin 8) (i : ℕ) : 0 < total H h i := mul_pos (den_pos _ _ _) (Real.exp_pos _)

theorem v39_eq (h : Fin 8) (i : Fin 8192) : val_main_v39 (F := Ideal) x0 x1 (ix2 h i) = ((total H h i.val : ℝ) : EReal) := by
  rw [val_main_v39_apply]
  show Ideal.ofBits .f32 0x00000000#32 + _ = _
  rw [Ideal.ofBits_zero_f32, zero_add, total, ← sum_shifted _ _ _ _ i.isLt, ← sum_rows]
  refine Finset.sum_congr rfl fun j _ => ?_
  rw [← v38_eq H]
  exact congrArg _ (funext fun a => match a with | ⟨0, _⟩ => rfl | ⟨1, _⟩ => rfl | ⟨2, _⟩ => rfl)

theorem v40_eq (h : Fin 8) (i : Fin 8192) : val_main_v40 (F := Ideal) x0 x1 (ix3 h i 0) = ((total H h i.val : ℝ) : EReal) := by
  rw [val_main_v40_apply, ← v39_eq H]
  exact congrArg _ (funext fun a => match a with | ⟨0, _⟩ => rfl | ⟨1, _⟩ => rfl)

theorem v42_eq (h : Fin 8) (i j : Fin 8192) : val_main_v42 (F := Ideal) x0 x1 (ix3 h i j) = ((prob (q h) (k h) i.val j.val : ℝ) : EReal) := by
  rw [val_main_v42_apply, v38_eq H, val_main_v41_apply]
  have e : idx_main_v41 (ix3 h i j) = ix3 h i 0 := funext fun a => match a with | ⟨0, _⟩ => rfl | ⟨1, _⟩ => rfl | ⟨2, _⟩ => rfl
  rw [e, v40_eq H]
  refine (div_real _ _ (total_pos H h i.val).ne').trans ?_
  rw [total, shifted_div]

end Cert.ReferenceIdeal.Hand

end

end
-- ==== Proof.Value.KernHost.lean ====
/-
  The five arrays the kernel's launch reads, as the program computes them from its three arguments before the launch:
  the scaled queries, the keys and values, the incoming gradients, each row's log-sum-exp in units of log 2, and each
  row's correction.

  Where the program computes what the reference also computes (the masked scores, their row maximum, the probabilities,
  the attention's output) the arrays are written with the reference's own.
-/
module

public import proofs.«01_k».proof.Proof.Value.RefScores
public import proofs.«01_k».proof.Proof.Gen.KernelIdeal.Frame
public import Idealize.ShloMosaic.Lib.Claim

@[expose] public section

set_option maxRecDepth 4000

noncomputable section

namespace Cert.KernelIdeal.Hand

open Cert.KernelIdeal Cert.KernelIdeal.Gen
open Cert.ReferenceIdeal.Read
open Idealize.ShloMosaic Idealize.ShloMosaic.TcCoe

variable (m : (ℓ : Loc nD τ sig) → Buf (Elt Ideal) ℓ) (c : Dev nD)

/-- The three arguments on core `c`. -/
abbrev a0 : FVec Ideal S8192x1024 .f32 := m ((c : Thread nD τ).loc main_arg0)
abbrev a1 : FVec Ideal S8192x2048 .f32 := m ((c : Thread nD τ).loc main_arg1)
abbrev a2 : FVec Ideal S8192x1024 .f32 := m ((c : Thread nD τ).loc main_arg2)

variable (x0 : FVec Ideal S8192x1024 .f32) (x1 : FVec Ideal S8192x2048 .f32) (x2 : FVec Ideal S8192x1024 .f32)

/-- The queries over the square root of 96 and log 2. -/
def queriesArr : FVec Ideal S8192x1024 .bf16 :=
  truncf .bf16 (Host.divf x0 (broadcastInDim S8192x1024 ![] bcast_S_S8192x1024
    (mulf (Host.sqrt (constant S_ .f32 0x42C00000#32)) (Host.log (constant S_ .f32 0x40000000#32))))) bitsLt_bf16_f32

/-- The row maxima of the masked scores, as a column. -/
def topArr : FVec Ideal S8x8192x1 .f32 := broadcastInDim S8x8192x1 ![0, 1] bcast_S8x8192_S8x8192x1_0_1 (val_main_v18 (F := Ideal) x0 x1)
/-- The exponentials of the masked scores less their row maximum. -/
def expArr : FVec Ideal S8x8192x8192 .f32 :=
  Host.exp (subf (val_main_v17_0 (F := Ideal) x0 x1) (broadcastInDim S8x8192x8192 ![0, 1, 2] bcast_S8x8192x1_S8x8192x8192_0_1_2 (topArr x0 x1)))
/-- Their row sums, as a column. -/
def totalArr : FVec Ideal S8x8192x1 .f32 := broadcastInDim S8x8192x1 ![0, 1] bcast_S8x8192_S8x8192x1_0_1
  (Host.reduceAdd (expArr x0 x1) (constant S_ .f32 0x00000000#32) reducesTo_S8x8192x8192_S8x8192_d2 h_S_)
/-- The attention's output. -/
def outArr : FVec Ideal S8192x8x128 .f32 :=
  transpose S8192x8x128 [2, 0, 1] (Host.dotGeneral (φ₁ := .f32) (φ₂ := .f32) dot_S8192x8x128_S8x8192x8192_S8x128x8192_0_2_2_1_1_0 none
    (val_main_v5 (F := Ideal) x1)
    (Host.divf (expArr x0 x1) (broadcastInDim S8x8192x8192 ![0, 1, 2] bcast_S8x8192x1_S8x8192x8192_0_1_2 (totalArr x0 x1))))
    transposes_S8x128x8192_S8192x8x128_2_0_1

/-- Each row's log-sum-exp over log 2, laid out in blocks of 512 rows with eight copies. -/
def lseArr : FVec Ideal S8x16x8x512 .f32 :=
  broadcastInDim S8x16x8x512 ![0, 1, 2, 3] bcast_S8x16x1x512_S8x16x8x512_0_1_2_3
    (shapeCast S8x16x1x512 (Host.divf
      (shapeCast S8x8192 (addf (topArr x0 x1) (Host.log (totalArr x0 x1))) shapeCasts_S8x8192x1_S8x8192)
      (broadcastInDim S8x8192 ![] bcast_S_S8x8192 (Host.log (constant S_ .f32 0x40000000#32)))) shapeCasts_S8x8192_S8x16x1x512)

/-- Each row's correction, the inner product of the incoming gradient and the output, laid out the same way. -/
def deltaArr : FVec Ideal S8x16x8x512 .f32 :=
  broadcastInDim S8x16x8x512 ![0, 1, 2, 3] bcast_S8x16x1x512_S8x16x8x512_0_1_2_3
    (shapeCast S8x16x1x512 (transpose S8x8192 [1, 0]
      (Host.reduceAdd (mulf (val_main_v48 (F := Ideal) x2) (outArr x0 x1)) (constant S_ .f32 0x00000000#32)
        reducesTo_S8192x8x128_S8192x8_d2 h_S_) transposes_S8192x8_S8x8192_1_0) shapeCasts_S8x8192_S8x16x1x512)

set_option backward.isDefEq.respectTransparency.types false in
theorem V_queries : V m c main_v45 = queriesArr (a0 m c) := by
  dsimp only [V, hostOps0, hostOps0_1, hostOps0_2, List.flatten_cons, List.flatten_nil, List.append_nil, List.cons_append, List.nil_append]; after_results; rfl
set_option backward.isDefEq.respectTransparency.types false in
theorem V_keys : V m c main_v46 = truncf .bf16 (a1 m c) bitsLt_bf16_f32 := by
  dsimp only [V, hostOps0, hostOps0_1, hostOps0_2, List.flatten_cons, List.flatten_nil, List.append_nil, List.cons_append, List.nil_append]; after_results
set_option backward.isDefEq.respectTransparency.types false in
theorem V_grads : V m c main_v47 = truncf .bf16 (a2 m c) bitsLt_bf16_f32 := by
  dsimp only [V, hostOps0, hostOps0_1, hostOps0_2, List.flatten_cons, List.flatten_nil, List.append_nil, List.cons_append, List.nil_append]; after_results
set_option backward.isDefEq.respectTransparency.types false in
theorem V_lse : V m c main_v49 = lseArr (a0 m c) (a1 m c) := by
  dsimp only [V, hostOps0, hostOps0_1, hostOps0_2, List.flatten_cons, List.flatten_nil, List.append_nil, List.cons_append, List.nil_append]; after_results; rfl
set_option maxRecDepth 40000 in
set_option backward.isDefEq.respectTransparency.types false in
theorem V_delta : V m c main_v51 = deltaArr (a0 m c) (a1 m c) (a2 m c) := by
  dsimp only [V, hostOps0, hostOps0_1, hostOps0_2, List.flatten_cons, List.flatten_nil, List.append_nil, List.cons_append, List.nil_append]; after_results; rfl

end Cert.KernelIdeal.Hand

end

end
-- ==== Proof.Value.RefGrads.lean ====
/-
  The reference's backward half: the gradients of scores, queries, keys and values, as real numbers, and the two results.
-/
module

public import proofs.«01_k».proof.Proof.Value.RefScores

@[expose] public section

set_option maxRecDepth 4000

noncomputable section

namespace Cert.ReferenceIdeal.Hand

open Cert.ReferenceIdeal Cert.ReferenceIdeal.Gen Cert.ReferenceIdeal.Read Cert.Attention
open Idealize.ShloMosaic Idealize.ShloMosaic.TcCoe

/-- Two rank-3 indices with the same coordinates. -/
theorem idx3_eq {a b c : ℕ} {x y : (⟨3, ![a, b, c]⟩ : Shape).Idx} (h0 : (x 0).val = (y 0).val) (h1 : (x 1).val = (y 1).val)
    (h2 : (x 2).val = (y 2).val) : x = y :=
  funext fun t => match t with | ⟨0, _⟩ => Fin.ext h0 | ⟨1, _⟩ => Fin.ext h1 | ⟨2, _⟩ => Fin.ext h2

/-- Two rank-4 indices with the same coordinates. -/
theorem idx4_eq {a b c d : ℕ} {x y : (⟨4, ![a, b, c, d]⟩ : Shape).Idx} (h0 : (x 0).val = (y 0).val) (h1 : (x 1).val = (y 1).val)
    (h2 : (x 2).val = (y 2).val) (h3 : (x 3).val = (y 3).val) : x = y :=
  funext fun t => match t with | ⟨0, _⟩ => Fin.ext h0 | ⟨1, _⟩ => Fin.ext h1 | ⟨2, _⟩ => Fin.ext h2 | ⟨3, _⟩ => Fin.ext h3

variable {x0 : FVec Ideal S8192x1024 .f32} {x1 : FVec Ideal S8192x2048 .f32} {x2 : FVec Ideal S8192x1024 .f32}
  {q k v w : Fin 8 → Rows} (H : Inputs x0 x1 x2 q k v w)

include H

theorem v49_eq (h : Fin 8) (d : Fin 128) (i : Fin 8192) : val_main_v49 (F := Ideal) x2 (ix3 h d i) = ((w h i.val d : ℝ) : EReal) := by
  rw [val_main_v49_apply, ← v48_eq H i h d]
  exact congrArg _ (idx3_eq rfl rfl rfl)

/-! ## Through the probabilities -/

theorem v50_eq (h : Fin 8) (i j : Fin 8192) : val_main_v50 (F := Ideal) x1 x2 (ix3 h i j) = ((dprob (v h) (w h) i.val j.val : ℝ) : EReal) := by
  rw [val_main_v50_apply, dprob, ← coe_sum]
  refine Finset.sum_congr rfl fun d _ => ?_
  rw [EReal.coe_mul, ← v49_eq H h d i, ← v5_eq H j h d]
  exact congrArg₂ (fun a b : EReal => a * b) (congrArg _ (idx3_eq rfl rfl rfl)) (congrArg _ (idx3_eq rfl rfl rfl))

theorem v52_eq (j : Fin 8192) (h : Fin 8) (d : Fin 128) : val_main_v52 (F := Ideal) x0 x1 x2 (ix3 j h d)
    = ((gradV (q h) (k h) (w h) j.val d : ℝ) : EReal) := by
  rw [val_main_v52_apply, val_main_v51_apply, gradV, ← sum_rows]
  refine Finset.sum_congr rfl fun i _ => ?_
  rw [EReal.coe_mul, ← v49_eq H h d i, ← v42_eq H h i j, mul_comm]
  exact congrArg₂ (fun a b : EReal => a * b) (congrArg _ (idx3_eq rfl rfl rfl)) (congrArg _ (idx3_eq rfl rfl rfl))

/-! ## Through the softmax -/

theorem v45_eq (h : Fin 8) (i : Fin 8192) : val_main_v45 (F := Ideal) x0 x1 (ix3 h i 0)
    = ((1 * (1 / (total H h i.val * total H h i.val)) : ℝ) : EReal) := by
  have e : val_main_v44 (F := Ideal) (ix3 h i 0) = ((1 : ℝ) : EReal) := by rw [val_main_v44_apply]; exact lit1
  rw [val_main_v45_apply, e, val_main_v43_apply, v40_eq H, Ideal.mulf_def, ← EReal.coe_mul, Ideal.hostDivf_def,
    Ideal.div_coe (mul_pos (total_pos H h i.val) (total_pos H h i.val)).ne', ← EReal.coe_mul]

theorem v55_eq (h : Fin 8) (i j : Fin 8192) : val_main_v55 (F := Ideal) x0 x1 x2 (ix3 h i j)
    = ((dprob (v h) (w h) i.val j.val * (1 * (1 / (total H h i.val * total H h i.val))) * shifted (q h) (k h) (top H h i.val) i.val j.val : ℝ) : EReal) := by
  have e : idx_main_v53 (ix3 h i j) = ix3 h i 0 := idx3_eq rfl rfl rfl
  rw [val_main_v55_apply, val_main_v54_apply, v50_eq H, val_main_v53_apply, e, v45_eq H, v38_eq H, Ideal.mulf_def, Ideal.mulf_def,
    ← EReal.coe_mul, ← EReal.coe_mul]

/-- The sum over a row of `dprob · (1/l²) · e`. -/
def rowSum (h : Fin 8) (i : ℕ) : ℝ :=
  ∑ c ∈ Finset.range 8192, dprob (v h) (w h) i c * (1 * (1 / (total H h i * total H h i))) * shifted (q h) (k h) (top H h i) i c

theorem v56_eq (h : Fin 8) (i : Fin 8192) : val_main_v56 (F := Ideal) x0 x1 x2 (ix2 h i) = ((rowSum H h i.val : ℝ) : EReal) := by
  have e : val_main_cst_11 (F := Ideal) (Shape.Idx.first h_S_) = 0 := Ideal.ofBits_zero_f32
  rw [val_main_v56_apply, rowSum, ← sum_rows]
  refine (congrArg (· + _) e).trans ((zero_add _).trans ?_)
  refine Finset.sum_congr rfl fun j _ => ?_
  rw [← v55_eq H]
  exact congrArg _ (idx3_eq rfl rfl rfl)

theorem v58_eq (h : Fin 8) (i : Fin 8192) : val_main_v58 (F := Ideal) x0 x1 x2 (ix3 h i 0) = ((-rowSum H h i.val : ℝ) : EReal) := by
  rw [val_main_v58_apply, val_main_v57_apply, EReal.coe_neg, ← v56_eq H]
  have hh := h.isLt
  have hi := i.isLt
  refine congrArg (fun y : EReal => -y) (congrArg (val_main_v56 (F := Ideal) x0 x1 x2) (funext fun a => match a with
    | ⟨0, _⟩ => Fin.ext (by show (h.val * 8192 + i.val) * 1 / 8192 = h.val; omega)
    | ⟨1, _⟩ => Fin.ext (by show (h.val * 8192 + i.val) * 1 % 8192 = i.val; omega)))

theorem v62_eq (h : Fin 8) (i j : Fin 8192) : val_main_v62 (F := Ideal) x0 x1 x2 (ix3 h i j) = ((-rowSum H h i.val : ℝ) : EReal) := by
  have e : val_main_cst_12 (F := Ideal) (Shape.Idx.first h_S_) = 0 := Ideal.ofBits_zero_f32
  rw [val_main_v62_apply, val_main_v61_apply]
  refine (congrArg (· + _) e).trans ((zero_add _).trans ?_)
  rw [Fin.sum_univ_one, ← v58_eq H]
  exact congrArg _ (idx3_eq rfl rfl rfl)

theorem v60_eq (h : Fin 8) (i j : Fin 8192) : val_main_v60 (F := Ideal) x0 x1 x2 (ix3 h i j)
    = ((dprob (v h) (w h) i.val j.val * (1 / total H h i.val) : ℝ) : EReal) := by
  have e : idx_main_v59 (ix3 h i j) = ix3 h i 0 := idx3_eq rfl rfl rfl
  rw [val_main_v60_apply, v50_eq H, val_main_v59_apply, e, v40_eq H, Ideal.hostDivf_def, Ideal.div_coe (total_pos H h i.val).ne',
    ← EReal.coe_mul]

theorem v64_eq (h : Fin 8) (i j : Fin 8192) : val_main_v64 (F := Ideal) x0 x1 x2 (ix3 h i j)
    = ((dscore (q h) (k h) (v h) (w h) i.val j.val : ℝ) : EReal) := by
  rw [val_main_v64_apply, val_main_v63_apply, v60_eq H, v62_eq H, v38_eq H, Ideal.addf_def, Ideal.mulf_def, ← EReal.coe_add, ← EReal.coe_mul,
    ← dscore_eq (q h) (k h) (v h) (w h) (top H h i.val) i.val j.val (total H h i.val) rfl]
  rfl

theorem v67_eq (h : Fin 8) (i j : Fin 8192) : val_main_v67 (F := Ideal) x0 x1 x2 (ix3 h i j)
    = ((dscore (q h) (k h) (v h) (w h) i.val j.val / √96 : ℝ) : EReal) := by
  have e : val_main_v65 (F := Ideal) x0 x1 x2 (ix3 h i j) = ((dscore (q h) (k h) (v h) (w h) i.val j.val : ℝ) : EReal) := by
    have z : val_main_call1_v0 (F := Ideal) (ix3 h i j) = 0 := by rw [val_main_call1_v0_apply]; exact Ideal.ofBits_zero_f32
    rw [val_main_v65_apply, v17_1_eq, v64_eq H, z]
    by_cases hle : j.val ≤ i.val
    · rw [if_pos hle]; rfl
    · rw [if_neg hle, dscore_of_lt _ _ _ _ (by omega), EReal.coe_zero]; rfl
  rw [val_main_v67_apply, e, val_main_v66_apply, v7_eq, Ideal.hostDivf_def, div_real _ _ sqrt96_pos.ne']

/-! ## The gradients of the keys and the queries -/

theorem v69_eq (j : Fin 8192) (h : Fin 8) (d : Fin 128) : val_main_v69 (F := Ideal) x0 x1 x2 (ix3 j h d)
    = ((gradK (q h) (k h) (v h) (w h) j.val d : ℝ) : EReal) := by
  rw [val_main_v69_apply, val_main_v68_apply, gradK, ← sum_rows]
  refine Finset.sum_congr rfl fun i _ => ?_
  rw [EReal.coe_mul, ← v67_eq H h i j, ← v1_eq H i h d]
  exact congrArg₂ (fun a b : EReal => a * b) (congrArg _ (idx3_eq rfl rfl rfl)) (congrArg _ (idx3_eq rfl rfl rfl))

theorem v71_eq (i : Fin 8192) (h : Fin 8) (d : Fin 128) : val_main_v71 (F := Ideal) x0 x1 x2 (ix3 i h d)
    = ((gradQ (q h) (k h) (v h) (w h) i.val d : ℝ) : EReal) := by
  rw [val_main_v71_apply, val_main_v70_apply, gradQ, ← sum_rows]
  refine Finset.sum_congr rfl fun j _ => ?_
  rw [EReal.coe_mul, ← v67_eq H h i j, ← v3_eq H j h d]
  exact congrArg₂ (fun a b : EReal => a * b) (congrArg _ (idx3_eq rfl rfl rfl)) (congrArg _ (idx3_eq rfl rfl rfl))

/-! ## The two results -/

/-- The first result: row `512 n + b` of the query gradient, scaled, at `(h, n, d, b)`. -/
theorem v78_eq (h : Fin 8) (n : Fin 16) (d : Fin 128) (b : Fin 512) : val_main_v78 (F := Ideal) x0 x1 x2 (ix4 h n d b)
    = ((gradQ (q h) (k h) (v h) (w h) (512 * n.val + b.val) d * (√96 * Real.log 2) : ℝ) : EReal) := by
  have e : idx_main_v77 (idx_main_v78 (ix4 h n d b)) = ix3 ⟨512 * n.val + b.val, by omega⟩ h d := idx3_eq
    (by show (((n.val * 512 + b.val) * 8 + h.val) * 128 + d.val) / 1024 = 512 * n.val + b.val; omega)
    (by show (((n.val * 512 + b.val) * 8 + h.val) * 128 + d.val) / 128 % 8 = h.val; omega)
    (by show (((n.val * 512 + b.val) * 8 + h.val) * 128 + d.val) % 128 = d.val; omega)
  have c : ∀ i, val_main_v75 (F := Ideal) i = ((√96 * Real.log 2 : ℝ) : EReal) := fun i => by
    rw [val_main_v75_apply, val_main_v74_apply, EReal.coe_mul, ← sqrt96, ← log2]; rfl
  rw [val_main_v78_apply, val_main_v77_apply, e, val_main_v76_apply, v71_eq H, c, Ideal.mulf_def, ← EReal.coe_mul]

/-- The stacked gradients: the keys' in the first half, the values' in the second. -/
theorem v81_eq (j : Fin 8192) (h : Fin 8) (s : Fin 2) (d : Fin 128) : val_main_v81 (F := Ideal) x0 x1 x2 (ix4 j h s d)
    = (((if s.val = 0 then gradK (q h) (k h) (v h) (w h) j.val d else gradV (q h) (k h) (w h) j.val d) : ℝ) : EReal) := by
  have e9 : val_main_v79 (F := Ideal) x0 x1 x2 (ix4 j h 0 d) = ((gradK (q h) (k h) (v h) (w h) j.val d : ℝ) : EReal) := by
    rw [val_main_v79_apply, ← v69_eq H]; exact congrArg _ (idx3_eq rfl rfl rfl)
  have e0 : val_main_v80 (F := Ideal) x0 x1 x2 (ix4 j h 0 d) = ((gradV (q h) (k h) (w h) j.val d : ℝ) : EReal) := by
    rw [val_main_v80_apply, ← v52_eq H]; exact congrArg _ (idx3_eq rfl rfl rfl)
  unfold val_main_v81
  match s with
  | ⟨0, _⟩ =>
    rw [if_pos rfl, ← e9]
    pointwise
  | ⟨1, _⟩ =>
    rw [if_neg Nat.one_ne_zero, ← e0]
    pointwise

/-- The second result: row `j`, at the column of entry `d` of head `h`'s half `s`. -/
theorem v83_eq (j : Fin 8192) (h : Fin 8) (s : Fin 2) (d : Fin 128) : val_main_v83 (F := Ideal) x0 x1 x2 (ix2 j (col2 h s d))
    = (((if s.val = 0 then gradK (q h) (k h) (v h) (w h) j.val d else gradV (q h) (k h) (w h) j.val d) : ℝ) : EReal) := by
  rw [val_main_v83_apply, val_main_v82_apply, ← v81_eq H]
  exact congrArg (val_main_v81 (F := Ideal) x0 x1 x2) (idx4_eq (x := idx_main_v82 (ix2 j (col2 h s d))) (y := ix4 j h s d)
    (by show (j.val * 2048 + (256 * h.val + 128 * s.val + d.val)) / 2048 = j.val; omega)
    (by show (j.val * 2048 + (256 * h.val + 128 * s.val + d.val)) / 256 % 8 = h.val; omega)
    (by show (j.val * 2048 + (256 * h.val + 128 * s.val + d.val)) / 128 % 2 = s.val; omega)
    (by show (j.val * 2048 + (256 * h.val + 128 * s.val + d.val)) % 128 = d.val; omega))

end Cert.ReferenceIdeal.Hand

end

end
-- ==== Proof.Value.Payload.lean ====
/-
  The kernel's block operations read at an index: each is a sum of products over the contracted axis, an exponential, or
  a copy. `v4` and `v6` are the block's keys and values, `v9` the transposed keys, `X` and `Y` a block of query and
  gradient rows, `l` and `δ` a block of the rows' two statistics.
-/
module

public import proofs.«01_k».proof.Proof.KernelIdeal.Step
public import proofs.«01_k».proof.Proof.Value.Spec
public import Idealize.ShloMosaic.Lib.Pointwise

@[expose] public section

set_option maxRecDepth 4000

noncomputable section

namespace Cert.KernelIdeal.Hand

open Cert.KernelIdeal Cert.KernelIdeal.Gen
open Idealize.ShloMosaic Idealize.ShloMosaic.TcCoe

/-- The kernel's two named constants, as real numbers. -/
theorem named_log2_ln2 : (Named.named κ "log2_ln2" 0xBF075D3C#32 : Ideal .f32) = ((Real.log (Real.log 2) * (Real.log 2)⁻¹ : ℝ) : EReal) :=
  IdealRules.named_const.ideal_named_scalar _ _ _ _ rfl
theorem named_inv_ln2 : (Named.named κ "inv_ln2" 0x3FB8AA3B#32 : Ideal .f32) = (((Real.log 2)⁻¹ : ℝ) : EReal) :=
  IdealRules.named_const.ideal_named_scalar _ _ _ _ rfl

variable (v4 v6 : FVec Ideal S512x128 .bf16) (v9 : FVec Ideal S128x512 .bf16) (X Y : Vec Ideal S512x128 .bf16)
  (l δ : Vec Ideal S1x1x1x512 .f32) (acc : FVec Ideal S512x128 .f32) (D : Vec Ideal S1x1x128x512 .f32)
  (a b : Fin 512) (d : Fin 128)

theorem pay62_at : k0_pay62 v4 X l (ix2 a b) = Ideal.exp2 ((∑ e : Fin 128, v4 (ix2 a e) * X (ix2 b e))
    - (l (ix4 0 0 0 b) - (Named.named κ "log2_ln2" 0xBF075D3C#32 : Ideal .f32))) := by
  pointwise [k0_pay62, k0_pay60]
  rfl

theorem pay63_at : k0_pay63 v4 v6 X Y l δ (ix2 a b) = k0_pay62 v4 X l (ix2 a b)
    * ((∑ e : Fin 128, v6 (ix2 a e) * Y (ix2 b e)) - δ (ix4 0 0 0 b)) := by
  unfold k0_pay63
  generalize k0_pay62 v4 X l = p
  pointwise [k0_pay61]

theorem pay64_at : k0_pay64 v4 acc X Y l (ix2 a d) = acc (ix2 a d) + ∑ b : Fin 512, k0_pay62 v4 X l (ix2 a b) * Y (ix2 b d) := by
  unfold k0_pay64
  generalize k0_pay62 v4 X l = p
  pointwise [k0_pay61]

theorem pay65_at : k0_pay65 v4 v6 acc X Y l δ (ix2 a d)
    = acc (ix2 a d) + ∑ b : Fin 512, k0_pay63 v4 v6 X Y l δ (ix2 a b) * X (ix2 b d) := by
  unfold k0_pay65
  generalize k0_pay63 v4 v6 X Y l δ = p
  pointwise [k0_pay60]

theorem pay66_at : k0_pay94 (k0_pay66 v4 v6 v9 X Y l δ D) (ix4 0 0 d b)
    = D (ix4 0 0 d b) + ∑ a : Fin 512, v9 (ix2 d a) * k0_pay63 v4 v6 X Y l δ (ix2 a b) := by
  unfold k0_pay94 k0_pay66
  generalize k0_pay63 v4 v6 X Y l δ = p
  pointwise []

/-! ## The diagonal block -/

variable (i : grid0.Coords) (p : FVec Ideal S512x512 .f32)

/-- Rows of the same block compare as they do inside the block. -/
theorem sle_rows (J : ℕ) (hJ : J < 16) (a b : Fin 512) :
    IntOp.cmpi .sle (IntOp.addi (Scalar.muli (BitVec.ofNat 32 J) 512#32) (BitVec.ofNat 32 a.val))
      (IntOp.addi (Scalar.muli (BitVec.ofNat 32 J) 512#32) (BitVec.ofNat 32 b.val)) = if a.val ≤ b.val then 1#1 else 0#1 := by
  have hr : ∀ x : Fin 512, (IntOp.addi (Scalar.muli (BitVec.ofNat 32 J) 512#32) (BitVec.ofNat 32 x.val)).toInt = (J * 512 + x.val : ℕ) := fun x => by
    have hx := x.isLt
    have e : IntOp.addi (Scalar.muli (BitVec.ofNat 32 J) 512#32) (BitVec.ofNat 32 x.val) = BitVec.ofNat 32 (J * 512 + x.val) := by
      show BitVec.ofNat 32 J * BitVec.ofNat 32 512 + BitVec.ofNat 32 x.val = _
      rw [BitVec.ofNat_add, BitVec.ofNat_mul]
    rw [e, BitVec.toInt_eq_toNat_cond, BitVec.toNat_ofNat, Nat.mod_eq_of_lt (by omega), if_pos (by omega)]
  simp only [IntOp.cmpi, BitVec.sle]
  rw [hr, hr]
  by_cases hle : a.val ≤ b.val <;> simp [hle]

theorem litNegInf : Ideal.ofBits .f32 0xFF800000#32 = (⊥ : EReal) := by
  simp [Ideal.ofBits, Ideal.ieee]

theorem pay81_at : k0_pay81 i v4 X l (ix2 a b) = Ideal.exp2 (
    (if a.val ≤ b.val then ∑ e : Fin 128, v4 (ix2 a e) * X (ix2 b e) else ⊥)
    - (l (ix4 0 0 0 b) - (Named.named κ "log2_ln2" 0xBF075D3C#32 : Ideal .f32))) := by
  pointwise [k0_pay81, k0_pay75, k0_pay79]
  rw [sle_rows _ (i 1).isLt, litNegInf]
  split <;> rfl

theorem pay82_at : k0_pay82 v6 Y p δ (ix2 a b) = p (ix2 a b) * ((∑ e : Fin 128, v6 (ix2 a e) * Y (ix2 b e)) - δ (ix4 0 0 0 b)) := by
  pointwise [k0_pay82]

theorem pay83_at : k0_pay83 acc Y p (ix2 a d) = acc (ix2 a d) + ∑ b : Fin 512, p (ix2 a b) * Y (ix2 b d) := by
  pointwise [k0_pay83]

theorem pay84_at : k0_pay84 v6 acc X Y p δ (ix2 a d) = acc (ix2 a d) + ∑ b : Fin 512, k0_pay82 v6 Y p δ (ix2 a b) * X (ix2 b d) := by
  unfold k0_pay84
  generalize k0_pay82 v6 Y p δ = p
  pointwise []

theorem pay85_at : k0_pay85 v6 v9 Y p δ D (ix4 0 0 d b) = D (ix4 0 0 d b) + ∑ a : Fin 512, v9 (ix2 d a) * k0_pay82 v6 Y p δ (ix2 a b) := by
  unfold k0_pay85
  generalize k0_pay82 v6 Y p δ = p
  pointwise []

/-! ## Copies and constants -/

theorem pay75_at (x : S512x128.Idx) : k0_pay75 X x = X x := by pointwise [k0_pay75]
theorem pay76_at (x : S512x128.Idx) : k0_pay76 X x = X x := by pointwise [k0_pay76]
theorem pay77_at : k0_pay77 X (ix2 d a) = X (ix2 a d) := by pointwise [k0_pay77, k0_pay75]
theorem pay79_at (x : S512x128.Idx) : k0_pay79 X x = X x := by pointwise [k0_pay79]
theorem pay80_at (x : S512x128.Idx) : k0_pay80 X x = X x := by pointwise [k0_pay80]
theorem pay78_at : k0_pay78 (F := Ideal) (ix2 a d) = 0 := by pointwise [k0_pay78]
theorem pay74_at (x : S1x16x128x512.Idx) : k0_pay74 (F := Ideal) x = 0 := by pointwise [k0_pay74]
theorem pay96_at : k0_pay96 acc (ix2 a d) = acc (ix2 a d) := by pointwise [k0_pay96]
theorem pay1_at (c : Ideal .f32) : k0_pay1 acc c (ix2 a d) = acc (ix2 a d) * c := by pointwise [k0_pay1]

end Cert.KernelIdeal.Hand

end

end
-- ==== Proof.Value.Block.lean ====
/-
  What the accumulators hold, over the real numbers.

  `Loaded` says what a grid point finds in its five inputs. `Acc n` says what its three accumulators hold once the query
  blocks before block `n` are done: the sums over the query rows before row `512 n` (for the key and value gradients), and
  over the key blocks up to this one or before this one (for each block of the query gradient). The query blocks above
  the diagonal contribute nothing, since a query sees no later key.
-/
module

public import proofs.«01_k».proof.Proof.Value.Payload
public import proofs.«01_k».proof.Proof.KernelIdeal.Point

@[expose] public section

set_option maxRecDepth 4000

noncomputable section

namespace Cert.KernelIdeal.Hand

open Cert.KernelIdeal Cert.KernelIdeal.Gen Cert.Attention
open Idealize.ShloMosaic Idealize.ShloMosaic.TcCoe

/-- A row's log-sum-exp in units of log 2, computed with the shift `M`. -/
def lse (q k : Rows) (M : ℕ → ℝ) (i : ℕ) : ℝ := (M i + Real.log (den q k i * Real.exp (-M i))) * (1 / Real.log 2)

/-- What a grid point of key block `J` finds: the head's scaled queries and gradients, its block of keys and values, and the
    two statistics of every query row. -/
structure Loaded (q k v w : Rows) (M : ℕ → ℝ) (J : ℕ) (Q : Vec Ideal S8192x128 .bf16) (KV : Vec Ideal S512x256 .bf16)
    (DO : Vec Ideal S8192x128 .bf16) (L DL : Vec Ideal S1x16x8x512 .f32) : Prop where
  hq : ∀ (i : Fin 8192) d, Q (ix2 i d) = ((q i.val d * (1 / (√96 * Real.log 2)) : ℝ) : EReal)
  hk : ∀ (a : Fin 512) (d : Fin 128), KV (ix2 a ⟨d.val, by omega⟩) = ((k (512 * J + a.val) d : ℝ) : EReal)
  hv : ∀ (a : Fin 512) (d : Fin 128), KV (ix2 a ⟨128 + d.val, by omega⟩) = ((v (512 * J + a.val) d : ℝ) : EReal)
  hw : ∀ (i : Fin 8192) d, DO (ix2 i d) = ((w i.val d : ℝ) : EReal)
  hl : ∀ (n : Fin 16) (b : Fin 512), L (ix4 0 n 0 b) = ((lse q k M (512 * n.val + b.val) : ℝ) : EReal)
  hd : ∀ (n : Fin 16) (b : Fin 512), DL (ix4 0 n 0 b) = ((delta q k v w (512 * n.val + b.val) : ℝ) : EReal)

/-! ## Blocks of the inputs -/

theorem rows_at (X : Vec Ideal S8192x128 .bf16) (n : Fin 16) (b : Fin 512) (d : Fin 128) :
    rows X n (ix2 b d) = X (ix2 ⟨512 * n.val + b.val, by omega⟩ d) :=
  congrArg X (funext fun a => match a with
    | ⟨0, _⟩ => Fin.ext (by show 512 * n.val + 1 * b.val = 512 * n.val + b.val; omega)
    | ⟨1, _⟩ => Fin.ext (by show 0 + 1 * d.val = d.val; omega))

theorem stat_at (X : Vec Ideal S1x16x8x512 .f32) (n : Fin 16) (b : Fin 512) : stat X n (ix4 0 0 0 b) = X (ix4 0 n 0 b) :=
  congrArg X (funext fun a => match a with
    | ⟨0, _⟩ => rfl
    | ⟨1, _⟩ => Fin.ext (by show n.val + 1 * 0 = n.val; omega)
    | ⟨2, _⟩ => rfl
    | ⟨3, _⟩ => Fin.ext (by show 0 + 1 * b.val = b.val; omega))

theorem dqBlock_at (D : Vec Ideal S1x16x128x512 .f32) (n : Fin 16) (d : Fin 128) (b : Fin 512) :
    dqBlock D n (ix4 0 0 d b) = D (ix4 0 n d b) :=
  congrArg D (funext fun a => match a with
    | ⟨0, _⟩ => rfl
    | ⟨1, _⟩ => Fin.ext (by show n.val + 1 * 0 = n.val; omega)
    | ⟨2, _⟩ => Fin.ext (by show 0 + 1 * d.val = d.val; omega)
    | ⟨3, _⟩ => Fin.ext (by show 0 + 1 * b.val = b.val; omega))

theorem keys_at (KV : Vec Ideal S512x256 .bf16) (a : Fin 512) (d : Fin 128) : keys KV (ix2 a d) = KV (ix2 a ⟨d.val, by omega⟩) :=
  congrArg KV (funext fun c => match c with
    | ⟨0, _⟩ => Fin.ext (by show 0 + 1 * a.val = a.val; omega)
    | ⟨1, _⟩ => Fin.ext (by show 0 + 1 * d.val = d.val; omega))

theorem vals_at (KV : Vec Ideal S512x256 .bf16) (a : Fin 512) (d : Fin 128) : vals KV (ix2 a d) = KV (ix2 a ⟨128 + d.val, by omega⟩) :=
  congrArg KV (funext fun c => match c with
    | ⟨0, _⟩ => Fin.ext (by show 0 + 1 * a.val = a.val; omega)
    | ⟨1, _⟩ => Fin.ext (by show 128 + 1 * d.val = 128 + d.val; omega))

/-- One block of the query gradient replaced. -/
theorem put_at (D : Vec Ideal S1x16x128x512 .f32) (n : Fin 16) (W : Vec Ideal S1x1x128x512 .f32) (N : Fin 16) (d : Fin 128) (b : Fin 512) :
    VecWindow.put D ![0, n.val, 0, 0] S1x1x128x512.size W (ix4 0 N d b) = if N = n then W (ix4 0 0 d b) else D (ix4 0 N d b) := by
  unfold VecWindow.put
  by_cases h : N = n
  · subst h
    rw [dif_pos (fun a => match a with
      | ⟨0, _⟩ => ⟨le_rfl, Nat.one_pos⟩
      | ⟨1, _⟩ => ⟨le_rfl, Nat.lt_succ_self N.val⟩
      | ⟨2, _⟩ => ⟨Nat.zero_le _, by show d.val < 0 + 128; omega⟩
      | ⟨3, _⟩ => ⟨Nat.zero_le _, by show b.val < 0 + 512; omega⟩), if_pos rfl]
    exact congrArg W (funext fun a => match a with
      | ⟨0, _⟩ => rfl
      | ⟨1, _⟩ => Fin.ext (by show N.val - N.val = 0; omega)
      | ⟨2, _⟩ => rfl
      | ⟨3, _⟩ => rfl)
  · rw [dif_neg (fun hh => h (Fin.ext (by
      have := hh 1; change n.val ≤ N.val ∧ N.val < n.val + 1 at this; omega))), if_neg h]

/-! ## The accumulators -/

section
variable (q k v w : Rows) (M : ℕ → ℝ) (J : ℕ)

/-- What the accumulators hold once the query blocks before block `n` are done. -/
structure Acc (n : ℕ) (s : St Ideal) : Prop where
  dk : ∀ (a : Fin 512) d, s.2.1 (ix2 a d) = ((∑ i ∈ Finset.range (512 * n),
    (Real.log 2 * dscore q k v w i (512 * J + a.val)) * (q i d * (1 / (√96 * Real.log 2))) : ℝ) : EReal)
  dv : ∀ (a : Fin 512) d, s.2.2 (ix2 a d) = ((∑ i ∈ Finset.range (512 * n),
    (Real.log 2 * prob q k i (512 * J + a.val)) * w i d : ℝ) : EReal)
  dq : ∀ (N : Fin 16) d (b : Fin 512), s.1 (ix4 0 N d b) = ((∑ j ∈ Finset.range (512 * (if N.val < n then J + 1 else J)),
    k j d * (Real.log 2 * dscore q k v w (512 * N.val + b.val) j) : ℝ) : EReal)

variable {q k v w M J}

/-- A finite sum of products of real numbers among the extended reals. -/
theorem coe_sum_mul {ι : Type} [Fintype ι] (f g : ι → ℝ) : ∑ b, ((f b : ℝ) : EReal) * ((g b : ℝ) : EReal) = ((∑ b, f b * g b : ℝ) : EReal) := by
  rw [← coe_sum]; exact Finset.sum_congr rfl fun b _ => (EReal.coe_mul _ _).symm

/-- One more query block. -/
theorem Acc.next {n : Fin 16} {s s' : St Ideal} (A : Acc q k v w J n.val s)
    (hdk : ∀ (a : Fin 512) d, s'.2.1 (ix2 a d) = s.2.1 (ix2 a d) + ∑ b : Fin 512,
      ((Real.log 2 * dscore q k v w (512 * n.val + b.val) (512 * J + a.val) : ℝ) : EReal) * ((q (512 * n.val + b.val) d * (1 / (√96 * Real.log 2)) : ℝ) : EReal))
    (hdv : ∀ (a : Fin 512) d, s'.2.2 (ix2 a d) = s.2.2 (ix2 a d) + ∑ b : Fin 512,
      ((Real.log 2 * prob q k (512 * n.val + b.val) (512 * J + a.val) : ℝ) : EReal) * ((w (512 * n.val + b.val) d : ℝ) : EReal))
    (hdq : ∀ (N : Fin 16) d (b : Fin 512), s'.1 (ix4 0 N d b) = if N = n then s.1 (ix4 0 n d b) + ∑ a : Fin 512,
      ((k (512 * J + a.val) d : ℝ) : EReal) * ((Real.log 2 * dscore q k v w (512 * n.val + b.val) (512 * J + a.val) : ℝ) : EReal)
      else s.1 (ix4 0 N d b)) : Acc q k v w J (n.val + 1) s' where
  dk a d := by rw [hdk, A.dk, coe_sum_mul, ← EReal.coe_add, sum_block]
  dv a d := by rw [hdv, A.dv, coe_sum_mul, ← EReal.coe_add, sum_block]
  dq N d b := by
    rw [hdq]
    by_cases h : N = n
    · subst h
      rw [if_pos rfl, A.dq, if_neg (lt_irrefl _), if_pos (Nat.lt_succ_self _), coe_sum_mul, ← EReal.coe_add]
      rw [sum_block]
    · rw [if_neg h, A.dq]
      have h' : N.val ≠ n.val := fun e => h (Fin.ext e)
      have e : (N.val < n.val + 1) = (N.val < n.val) := propext ⟨fun _ => by omega, fun _ => by omega⟩
      simp only [e]

/-- Before its diagonal block, a point's accumulators hold the sums over the query blocks above the diagonal: all of
    those terms are zero. -/
theorem Acc.start {s : St Ideal} (hJ : J < 16) (h1 : ∀ (a : Fin 512) d, s.2.1 (ix2 a d) = 0) (h2 : ∀ (a : Fin 512) d, s.2.2 (ix2 a d) = 0)
    (h3 : ∀ (N : Fin 16) d (b : Fin 512), s.1 (ix4 0 N d b) = ((∑ j ∈ Finset.range (512 * J),
      k j d * (Real.log 2 * dscore q k v w (512 * N.val + b.val) j) : ℝ) : EReal)) : Acc q k v w J J s where
  dk a d := by
    rw [h1, Finset.sum_eq_zero, EReal.coe_zero]
    intro i hi
    rw [Finset.mem_range] at hi
    rw [dscore_of_lt q k v w (by omega), mul_zero, zero_mul]
  dv a d := by
    rw [h2, Finset.sum_eq_zero, EReal.coe_zero]
    intro i hi
    rw [Finset.mem_range] at hi
    rw [prob_of_lt q k (by omega), mul_zero, zero_mul]
  dq N d b := by
    rw [h3]
    by_cases h : N.val < J
    · rw [if_pos h, sum_block, Finset.sum_eq_zero (s := Finset.univ), add_zero]
      intro a _
      have := b.isLt
      rw [dscore_of_lt q k v w (by omega), mul_zero, mul_zero]
    · rw [if_neg h]

end

end Cert.KernelIdeal.Hand

end

end
-- ==== Proof.Value.KernInputs.lean ====
/-
  The five arrays the kernel's launch reads, as real numbers.
-/
module

public import proofs.«01_k».proof.Proof.Value.KernHost
public import proofs.«01_k».proof.Proof.Value.RefGrads
public import proofs.«01_k».proof.Proof.Value.Block

@[expose] public section

set_option maxRecDepth 4000

noncomputable section

namespace Cert.KernelIdeal.Hand

open Cert.KernelIdeal Cert.KernelIdeal.Gen Cert.Attention
open Cert.ReferenceIdeal.Read Cert.ReferenceIdeal.Hand
open Idealize.ShloMosaic Idealize.ShloMosaic.TcCoe

variable {x0 : FVec Ideal S8192x1024 .f32} {x1 : FVec Ideal S8192x2048 .f32} {x2 : FVec Ideal S8192x1024 .f32}
  {q k v w : Fin 8 → Rows} (H : Inputs x0 x1 x2 q k v w)

include H

theorem queriesArr_at (i : Fin 8192) (h : Fin 8) (d : Fin 128) :
    queriesArr x0 (ix2 i (col h d)) = ((q h i.val d * (1 / (√96 * Real.log 2)) : ℝ) : EReal) := by
  have e : queriesArr x0 (ix2 i (col h d)) = Ideal.div (x0 (ix2 i (col h d)))
      (Ideal.sqrt (Ideal.ofBits .f32 0x42C00000#32) * Ideal.log (Ideal.ofBits .f32 0x40000000#32)) := by
    pointwise [queriesArr]
  rw [e, H.hq, sqrt96, log2, ← EReal.coe_mul, Ideal.div_coe (mul_pos sqrt96_pos log2_pos).ne', ← EReal.coe_mul]

theorem expArr_at (h : Fin 8) (i j : Fin 8192) :
    expArr x0 x1 (ix3 h i j) = ((shifted (q h) (k h) (top H h i.val) i.val j.val : ℝ) : EReal) := by
  have e : expArr x0 x1 (ix3 h i j) = Ideal.exp (val_main_v17_0 (F := Ideal) x0 x1 (ix3 h i j) - val_main_v18 (F := Ideal) x0 x1 (ix2 h i)) := by
    unfold expArr topArr
    generalize val_main_v17_0 (F := Ideal) x0 x1 = y
    generalize val_main_v18 (F := Ideal) x0 x1 = z
    pointwise []
  rw [e, v17_0_eq H, v18_eq H, shifted]
  by_cases hle : j.val ≤ i.val
  · rw [if_pos hle, if_pos hle, ← EReal.coe_sub, Ideal.exp_coe]
  · rw [if_neg hle, if_neg hle, EReal.bot_sub, Ideal.exp_bot, EReal.coe_zero]

theorem totalArr_at (h : Fin 8) (i : Fin 8192) : totalArr x0 x1 (ix3 h i 0) = ((total H h i.val : ℝ) : EReal) := by
  have e : totalArr x0 x1 (ix3 h i 0) = ∑ j : Fin 8192, expArr x0 x1 (ix3 h i j) := by
    unfold totalArr
    generalize expArr x0 x1 = y
    pointwise []
  rw [e, total, ← sum_shifted _ _ _ _ i.isLt, ← sum_rows]
  exact Finset.sum_congr rfl fun j _ => expArr_at H h i j

theorem outArr_at (i : Fin 8192) (h : Fin 8) (d : Fin 128) :
    outArr x0 x1 (ix3 i h d) = ((∑ j ∈ Finset.range 8192, prob (q h) (k h) i.val j * v h j d : ℝ) : EReal) := by
  have e : outArr x0 x1 (ix3 i h d) = ∑ j : Fin 8192, val_main_v5 (F := Ideal) x1 (ix3 j h d)
      * Ideal.div (expArr x0 x1 (ix3 h i j)) (totalArr x0 x1 (ix3 h i 0)) := by
    unfold outArr
    generalize expArr x0 x1 = y
    generalize totalArr x0 x1 = z
    generalize val_main_v5 (F := Ideal) x1 = u
    pointwise []
  rw [e, ← sum_rows]
  refine Finset.sum_congr rfl fun j _ => ?_
  rw [v5_eq H, expArr_at H, totalArr_at H, div_real _ _ (total_pos H h i.val).ne', total, shifted_div, ← EReal.coe_mul, mul_comm]

end Cert.KernelIdeal.Hand

end

end
-- ==== Proof.Value.KernStats.lean ====
/-
  Each row's log-sum-exp and correction, as real numbers, in the layout the launch reads.
-/
module

public import proofs.«01_k».proof.Proof.Value.KernInputs

@[expose] public section

set_option maxRecDepth 4000

noncomputable section

namespace Cert.KernelIdeal.Hand

open Cert.KernelIdeal Cert.KernelIdeal.Gen Cert.Attention
open Cert.ReferenceIdeal.Read Cert.ReferenceIdeal.Hand
open Idealize.ShloMosaic Idealize.ShloMosaic.TcCoe

variable {x0 : FVec Ideal S8192x1024 .f32} {x1 : FVec Ideal S8192x2048 .f32} {x2 : FVec Ideal S8192x1024 .f32}
  {q k v w : Fin 8 → Rows} (H : Inputs x0 x1 x2 q k v w)

include H

omit H in
/-- The row of a block's entry. -/
theorem row_eq (r : Fin 8192) (n : Fin 16) (b : Fin 512) (hr : r.val = 512 * n.val + b.val) (h : n.val * 512 + b.val < 8192) :
    (⟨n.val * 512 + b.val, h⟩ : Fin 8192) = r := Fin.ext (by rw [hr]; show _ + _ = _; omega)

omit H in
/-- The layout in blocks with eight copies, read at an entry. -/
theorem blocks_at (y : FVec Ideal S8x8192 .f32) (h : Fin 8) (n : Fin 16) (s : Fin 8) (b : Fin 512) (r : Fin 8192) (hr : r.val = 512 * n.val + b.val) :
    broadcastInDim S8x16x8x512 ![0, 1, 2, 3] bcast_S8x16x1x512_S8x16x8x512_0_1_2_3
      (shapeCast S8x16x1x512 y shapeCasts_S8x8192_S8x16x1x512) (ix4 h n s b) = y (ix2 h r) := by
  pointwise []
  rw [row_eq r n b hr]

omit H in
theorem column_at (y : FVec Ideal S8x8192x1 .f32) (h : Fin 8) (r : Fin 8192) :
    shapeCast S8x8192 y shapeCasts_S8x8192x1_S8x8192 (ix2 h r) = y (ix3 h r 0) := by
  pointwise []

omit H in
theorem logs_at (y : FVec Ideal S8x8192 .f32) (z : FVec Ideal S8x8192x1 .f32) (h : Fin 8) (r : Fin 8192) :
    addf (broadcastInDim S8x8192x1 ![0, 1] bcast_S8x8192_S8x8192x1_0_1 y) (Host.log z) (ix3 h r 0)
      = y (ix2 h r) + Ideal.log (z (ix3 h r 0)) := by
  pointwise []

omit H in
theorem unit_at (h : Fin 8) (r : Fin 8192) :
    broadcastInDim S8x8192 ![] bcast_S_S8x8192 (Host.log (constant (F := Ideal) S_ .f32 0x40000000#32)) (ix2 h r)
      = Ideal.log (Ideal.ofBits .f32 0x40000000#32) := by
  pointwise []

omit H in
theorem quot_at (y z : FVec Ideal S8x8192 .f32) (h : Fin 8) (r : Fin 8192) :
    Host.divf y z (ix2 h r) = Ideal.div (y (ix2 h r)) (z (ix2 h r)) := by
  pointwise []

omit H in
theorem lseArr_eq (h : Fin 8) (n : Fin 16) (s : Fin 8) (b : Fin 512) (r : Fin 8192) (hr : r.val = 512 * n.val + b.val) :
    lseArr x0 x1 (ix4 h n s b) = Ideal.div (val_main_v18 (F := Ideal) x0 x1 (ix2 h r)
      + Ideal.log (totalArr x0 x1 (ix3 h r 0))) (Ideal.log (Ideal.ofBits .f32 0x40000000#32)) := by
  unfold lseArr topArr
  generalize val_main_v18 (F := Ideal) x0 x1 = y
  generalize totalArr x0 x1 = z
  rw [blocks_at _ h n s b r hr, quot_at, column_at, logs_at, unit_at]

theorem lseArr_at (h : Fin 8) (n : Fin 16) (s : Fin 8) (b : Fin 512) (r : Fin 8192) (hr : r.val = 512 * n.val + b.val) :
    lseArr x0 x1 (ix4 h n s b) = ((lse (q h) (k h) (top H h) r.val : ℝ) : EReal) := by
  rw [lseArr_eq h n s b r hr, v18_eq H, totalArr_at H, log2, Ideal.log_coe, if_neg (not_le.mpr (total_pos H h _)), ← EReal.coe_add,
    Ideal.div_coe log2_pos.ne', ← EReal.coe_mul]
  unfold lse total
  with_reducible rfl

theorem deltaArr_at (h : Fin 8) (n : Fin 16) (s : Fin 8) (b : Fin 512) (r : Fin 8192) (hr : r.val = 512 * n.val + b.val) :
    deltaArr x0 x1 x2 (ix4 h n s b) = ((delta (q h) (k h) (v h) (w h) r.val : ℝ) : EReal) := by
  have e : deltaArr x0 x1 x2 (ix4 h n s b) = ∑ d : Fin 128, val_main_v48 (F := Ideal) x2 (ix3 r h d) * outArr x0 x1 (ix3 r h d) := by
    unfold deltaArr
    generalize val_main_v48 (F := Ideal) x2 = y
    generalize outArr x0 x1 = z
    refine (blocks_at _ h n s b r hr).trans ?_
    pointwise []
  rw [e, delta_eq, ← coe_sum_mul]
  exact Finset.sum_congr rfl fun d _ => by rw [v48_eq H, outArr_at H]

end Cert.KernelIdeal.Hand

end

end
-- ==== Proof.Value.Steps.lean ====
/-
  The diagonal block and the blocks below it, as steps of the accumulators; and so what a grid point ends with.
-/
module

public import proofs.«01_k».proof.Proof.Value.Block

@[expose] public section

set_option maxRecDepth 4000

noncomputable section

namespace Cert.KernelIdeal.Hand

open Cert.KernelIdeal Cert.KernelIdeal.Gen Cert.Attention
open Idealize.ShloMosaic Idealize.ShloMosaic.TcCoe

section
variable {q k v w : Rows} {M : ℕ → ℝ} {J : ℕ} {Q : Vec Ideal S8192x128 .bf16} {KV : Vec Ideal S512x256 .bf16}
  {DO : Vec Ideal S8192x128 .bf16} {L DL : Vec Ideal S1x16x8x512 .f32} (H : Loaded q k v w M J Q KV DO L DL)
include H

/-! ## The blocks a step reads -/

theorem keys_eq (a : Fin 512) (d : Fin 128) : k0_pay75 (keys KV) (ix2 a d) = ((k (512 * J + a.val) d : ℝ) : EReal) := by
  rw [pay75_at, keys_at, H.hk]
theorem vals_eq (a : Fin 512) (d : Fin 128) : k0_pay76 (vals KV) (ix2 a d) = ((v (512 * J + a.val) d : ℝ) : EReal) := by
  rw [pay76_at, vals_at, H.hv]
theorem keysT_eq (a : Fin 512) (d : Fin 128) : k0_pay77 (keys KV) (ix2 d a) = ((k (512 * J + a.val) d : ℝ) : EReal) := by
  rw [pay77_at, keys_at, H.hk]
theorem queries_eq (n : Fin 16) (b : Fin 512) (d : Fin 128) :
    rows Q n (ix2 b d) = ((q (512 * n.val + b.val) d * (1 / (√96 * Real.log 2)) : ℝ) : EReal) := by
  rw [rows_at, H.hq]
theorem grads_eq (n : Fin 16) (b : Fin 512) (d : Fin 128) : rows DO n (ix2 b d) = ((w (512 * n.val + b.val) d : ℝ) : EReal) := by
  rw [rows_at, H.hw]

/-- The inner products of keys with scaled queries. -/
theorem score_eq (n : Fin 16) (a b : Fin 512) : ∑ e : Fin 128, k0_pay75 (keys KV) (ix2 a e) * rows Q n (ix2 b e)
    = ((∑ e, k (512 * J + a.val) e * (q (512 * n.val + b.val) e * (1 / (√96 * Real.log 2))) : ℝ) : EReal) := by
  rw [← coe_sum_mul]
  exact Finset.sum_congr rfl fun e _ => by rw [keys_eq H, queries_eq H]

/-- The inner products of values with incoming gradients. -/
theorem dprob_eq (n : Fin 16) (a b : Fin 512) : ∑ e : Fin 128, k0_pay76 (vals KV) (ix2 a e) * rows DO n (ix2 b e)
    = ((dprob v w (512 * n.val + b.val) (512 * J + a.val) : ℝ) : EReal) := by
  rw [dprob, ← coe_sum]
  exact Finset.sum_congr rfl fun e _ => by rw [vals_eq H, grads_eq H, EReal.coe_mul, mul_comm]

/-- The base-two exponential of an unmasked entry is log 2 times the probability. -/
theorem exp2_score (n : Fin 16) (a b : Fin 512) (h : 512 * J + a.val ≤ 512 * n.val + b.val) :
    Ideal.exp2 ((∑ e : Fin 128, k0_pay75 (keys KV) (ix2 a e) * rows Q n (ix2 b e))
      - (stat L n (ix4 0 0 0 b) - (Named.named κ "log2_ln2" 0xBF075D3C#32 : Ideal .f32)))
      = ((Real.log 2 * prob q k (512 * n.val + b.val) (512 * J + a.val) : ℝ) : EReal) := by
  rw [score_eq H, stat_at, H.hl, named_log2_ln2, ← EReal.coe_sub, ← EReal.coe_sub, Ideal.exp2_coe, lse, exp2_eq _ _ _ _ _ h]

/-! ## A block below the diagonal -/

theorem pay62_eq (n : Fin 16) (a b : Fin 512) (h : J < n.val) : k0_pay62 (k0_pay75 (keys KV)) (rows Q n) (stat L n) (ix2 a b)
    = ((Real.log 2 * prob q k (512 * n.val + b.val) (512 * J + a.val) : ℝ) : EReal) := by
  rw [pay62_at, exp2_score H _ _ _ (by omega)]

theorem pay63_eq (n : Fin 16) (a b : Fin 512) (h : J < n.val) :
    k0_pay63 (k0_pay75 (keys KV)) (k0_pay76 (vals KV)) (rows Q n) (rows DO n) (stat L n) (stat DL n) (ix2 a b)
    = ((Real.log 2 * dscore q k v w (512 * n.val + b.val) (512 * J + a.val) : ℝ) : EReal) := by
  rw [pay63_at, pay62_eq H n a b h, dprob_eq H, stat_at, H.hd, ← EReal.coe_sub, ← EReal.coe_mul, mul_assoc, dscore]

theorem step_acc (n : Fin 16) (h : J < n.val) (s : St Ideal) (A : Acc q k v w J n.val s) :
    Acc q k v w J (n.val + 1) (step (k0_pay75 (keys KV)) (k0_pay76 (vals KV)) (k0_pay77 (keys KV)) Q DO L DL n s) := by
  refine A.next (fun a d => ?_) (fun a d => ?_) (fun N d b => ?_)
  · refine (pay65_at ..).trans (congrArg _ (Finset.sum_congr rfl fun b _ => ?_))
    rw [pay63_eq H n a b h, queries_eq H]
  · refine (pay64_at ..).trans (congrArg _ (Finset.sum_congr rfl fun b _ => ?_))
    rw [pay62_eq H n a b h, grads_eq H]
  · refine (put_at ..).trans ?_
    by_cases e : N = n
    · rw [if_pos e, if_pos e, pay66_at, dqBlock_at]
      refine congrArg _ (Finset.sum_congr rfl fun a _ => ?_)
      rw [pay63_eq H n a b h, keysT_eq H]
    · rw [if_neg e, if_neg e]

theorem runFrom_acc (lb : ℕ) (h : J < lb) (s : St Ideal) (A : Acc q k v w J lb s) : ∀ m, lb + m ≤ 16 →
    Acc q k v w J (lb + m) (runFrom (k0_pay75 (keys KV)) (k0_pay76 (vals KV)) (k0_pay77 (keys KV)) Q DO L DL lb s m)
  | 0, _ => A
  | m + 1, hm => by
    rw [runFrom_succ _ _ _ _ _ _ _ _ _ m (by omega)]
    exact step_acc H ⟨lb + m, by omega⟩ (by show J < lb + m; omega) _ (runFrom_acc lb h s A m (by omega))

/-! ## The diagonal block -/

variable (i : grid0.Coords) (hi : (i 1).val = J)
include hi

theorem pay81_eq (a b : Fin 512) : diagExp i Q KV L (ix2 a b)
    = ((Real.log 2 * prob q k (512 * (i 1).val + b.val) (512 * J + a.val) : ℝ) : EReal) := by
  refine (pay81_at ..).trans ?_
  by_cases h : a.val ≤ b.val
  · rw [if_pos h]
    refine Eq.trans (congrArg (fun x : EReal => Ideal.exp2 (x - _)) (Finset.sum_congr rfl fun e _ =>
      congrArg (fun x : EReal => x * _) (pay75_at _ _).symm)) (exp2_score H (i 1) a b (by rw [hi]; omega))
  · rw [if_neg h, EReal.bot_sub, Ideal.exp2_bot, prob_of_lt q k (by rw [hi]; omega), mul_zero, EReal.coe_zero]

theorem pay82_eq (a b : Fin 512) :
    k0_pay82 (k0_pay76 (vals KV)) (k0_pay80 (rows DO (i 1))) (diagExp i Q KV L) (stat DL (i 1)) (ix2 a b)
    = ((Real.log 2 * dscore q k v w (512 * (i 1).val + b.val) (512 * J + a.val) : ℝ) : EReal) := by
  have e : ∑ e : Fin 128, k0_pay76 (vals KV) (ix2 a e) * k0_pay80 (rows DO (i 1)) (ix2 b e) = _ :=
    (Finset.sum_congr rfl fun e _ => congrArg (fun x : EReal => _ * x) (pay80_at _ _)).trans (dprob_eq H (i 1) a b)
  have e' : stat DL (i 1) (ix4 0 0 0 b) = _ := (stat_at DL (i 1) b).trans (H.hd (i 1) b)
  refine (pay82_at ..).trans ?_
  refine (congrArg₂ (fun x y : EReal => x * y) (pay81_eq H i hi a b) (congrArg₂ (fun x y : EReal => x - y) e e')).trans ?_
  rw [← EReal.coe_sub, ← EReal.coe_mul, mul_assoc, dscore]

theorem diag_acc (D : Vec Ideal S1x16x128x512 .f32) (hD : ∀ (N : Fin 16) d (b : Fin 512), D (ix4 0 N d b)
      = ((∑ j ∈ Finset.range (512 * J), k j d * (Real.log 2 * dscore q k v w (512 * N.val + b.val) j) : ℝ) : EReal)) :
    Acc q k v w J (J + 1) (diag i Q KV DO L DL D) := by
  have hJ : J < 16 := hi ▸ (i 1).isLt
  have A : Acc q k v w J (i 1).val (D, (k0_pay78, k0_pay78)) := by
    rw [hi]; exact Acc.start hJ (fun a d => pay78_at a d) (fun a d => pay78_at a d) hD
  have B := A.next (n := i 1) (s' := diag i Q KV DO L DL D) (fun a d => ?_) (fun a d => ?_) (fun N d b => ?_)
  · rw [hi] at B; exact B
  · refine (pay84_at ..).trans (congrArg _ (Finset.sum_congr rfl fun b _ => ?_))
    exact congrArg₂ (fun x y : EReal => x * y) (pay82_eq H i hi a b) ((pay79_at ..).trans (queries_eq H (i 1) b d))
  · refine (pay83_at ..).trans (congrArg _ (Finset.sum_congr rfl fun b _ => ?_))
    exact congrArg₂ (fun x y : EReal => x * y) (pay81_eq H i hi a b) ((pay80_at ..).trans (grads_eq H (i 1) b d))
  · refine (put_at D (i 1) _ N d b).trans ?_
    by_cases e : N = i 1
    · rw [if_pos e, if_pos e]
      refine (pay85_at ..).trans (congrArg₂ (fun x y : EReal => x + y) (dqBlock_at D (i 1) d b) (Finset.sum_congr rfl fun a _ => ?_))
      exact congrArg₂ (fun x y : EReal => x * y) (keysT_eq H a d) (pay82_eq H i hi a b)
    · rw [if_neg e, if_neg e]

/-- A grid point, from a query gradient that holds the sums over the key blocks before its own. -/
theorem final_acc (D : Vec Ideal S1x16x128x512 .f32) (hD : ∀ (N : Fin 16) d (b : Fin 512), dqStart i D (ix4 0 N d b)
      = ((∑ j ∈ Finset.range (512 * J), k j d * (Real.log 2 * dscore q k v w (512 * N.val + b.val) j) : ℝ) : EReal)) :
    Acc q k v w J 16 (final i Q KV DO L DL D) := by
  have hJ : J < 16 := hi ▸ (i 1).isLt
  have A := diag_acc H i hi (dqStart i D) hD
  have B := runFrom_acc H (J + 1) (Nat.lt_succ_self J) _ A (15 - J) (by omega)
  rw [show J + 1 + (15 - J) = 16 by omega] at B
  unfold final
  rw [hi]
  exact B

end

/-! ## The block of key and value gradients -/

theorem dkv_keys (s : St Ideal) (a : Fin 512) (d : Fin 128) : dkv s (ix2 a ⟨d.val, by omega⟩) = s.2.1 (ix2 a d) := by
  unfold dkv VecWindow.put
  rw [dif_neg (fun hh => by have := (hh 1).1; change 128 ≤ d.val at this; omega), dif_pos (fun c => match c with
    | ⟨0, _⟩ => ⟨Nat.zero_le _, by show a.val < 0 + 512; omega⟩
    | ⟨1, _⟩ => ⟨Nat.zero_le _, by show d.val < 0 + 128; omega⟩)]
  refine Eq.trans ?_ (pay96_at s.2.1 a d)
  exact congrArg (k0_pay96 s.2.1) (funext fun c => match c with | ⟨0, _⟩ => rfl | ⟨1, _⟩ => rfl)

theorem dkv_vals (s : St Ideal) (a : Fin 512) (d : Fin 128) :
    dkv s (ix2 a ⟨128 + d.val, by omega⟩) = s.2.2 (ix2 a d) * (((Real.log 2)⁻¹ : ℝ) : EReal) := by
  unfold dkv VecWindow.put
  rw [dif_pos (fun c => match c with
    | ⟨0, _⟩ => ⟨Nat.zero_le _, by show a.val < 0 + 512; omega⟩
    | ⟨1, _⟩ => ⟨by show 128 ≤ 128 + d.val; omega, by show 128 + d.val < 128 + 128; omega⟩)]
  rw [named_inv_ln2]
  refine Eq.trans ?_ (pay1_at s.2.2 a d _)
  exact congrArg (k0_pay1 s.2.2 _) (funext fun c => match c with
    | ⟨0, _⟩ => rfl
    | ⟨1, _⟩ => Fin.ext (by show 128 + d.val - 128 = d.val; omega))

end Cert.KernelIdeal.Hand

end

end
-- ==== Proof.Value.Windows.lean ====
/-
  What each grid point finds in its five input windows: point `t` works on head `t / 16` and key block `t % 16`.
-/
module

public import proofs.«01_k».proof.Proof.Value.KernStats
public import proofs.«01_k».proof.Proof.Value.Steps
public import proofs.«01_k».proof.Proof.KernelIdeal.Body
public import Idealize.ShloMosaic.Lib.Pipeline.ValueKit.Geometry

@[expose] public section

set_option maxRecDepth 4000

noncomputable section

namespace Cert.KernelIdeal.Hand

open Cert.KernelIdeal Cert.KernelIdeal.Gen Cert.Attention
open Cert.ReferenceIdeal.Read Cert.ReferenceIdeal.Hand
open Idealize.ShloMosaic Idealize.ShloMosaic.TcCoe

theorem index0 : ∀ t : Fin cfg0.N, win0_0.index t = ![0, t.val / 16] := (by decide +kernel : ∀ t : Fin grid0.N, _)
theorem index1 : ∀ t : Fin cfg0.N, win0_1.index t = ![t.val % 16, t.val / 16] := (by decide +kernel : ∀ t : Fin grid0.N, _)
theorem index2 : ∀ t : Fin cfg0.N, win0_2.index t = ![0, t.val / 16] := (by decide +kernel : ∀ t : Fin grid0.N, _)
theorem index3 : ∀ t : Fin cfg0.N, win0_3.index t = ![t.val / 16, 0, 0, 0] := (by decide +kernel : ∀ t : Fin grid0.N, _)
theorem index4 : ∀ t : Fin cfg0.N, win0_4.index t = ![t.val / 16, 0, 0, 0] := (by decide +kernel : ∀ t : Fin grid0.N, _)

theorem points (t : Fin cfg0.N) : t.val < 128 := t.isLt

/-- The head of a grid point. -/
def head (t : Fin cfg0.N) : Fin 8 := ⟨t.val / 16, by have := points t; omega⟩

theorem head_val (t : Fin cfg0.N) : (head t).val = t.val / 16 := rfl

/-- A change of format keeps every value. -/
theorem narrow_at {s : Shape} (x : FVec Ideal s .f32) (h : FTy.bf16.bits < FTy.f32.bits) (i : s.Idx) :
    (truncf .bf16 x h : FVec Ideal s .bf16) i = x i := rfl

section
variable (t : Fin cfg0.N)

theorem emb0 (i : Fin 8192) (d : Fin 128) : (win0_0.blk t).view.emb (ix2 i d) = ix2 i (col (head t) d) := by
  blk_ext [index0]
  all_goals simp only [head_val]; omega
theorem emb1 (a : Fin 512) (s : Fin 2) (d : Fin 128) (e : Fin 256) (he : e.val = 128 * s.val + d.val) :
    (win0_1.blk t).view.emb (ix2 a e) = ix2 ⟨512 * (t.val % 16) + a.val, by omega⟩ (col2 (head t) s d) := by
  blk_ext [index1]
  all_goals simp only [head_val]; omega
theorem emb2 (i : Fin 8192) (d : Fin 128) : (win0_2.blk t).view.emb (ix2 i d) = ix2 i (col (head t) d) := by
  blk_ext [index2]
  all_goals simp only [head_val]; omega
theorem emb3 (n : Fin 16) (b : Fin 512) : (win0_3.blk t).view.emb (ix4 0 n 0 b) = ix4 (head t) n 0 b := by
  blk_ext [index3]
  all_goals simp only [head_val]; omega
theorem emb4 (n : Fin 16) (b : Fin 512) : (win0_4.blk t).view.emb (ix4 0 n 0 b) = ix4 (head t) n 0 b := by
  blk_ext [index4]
  all_goals simp only [head_val]; omega
end

variable {m : (ℓ : Loc nD τ sig) → Buf (Elt Ideal) ℓ} {c : Dev nD} {q k v w : Fin 8 → Rows}
  (H : Inputs (a0 m c) (a1 m c) (a2 m c) q k v w)

omit H
variable (t : Fin cfg0.N)

theorem read0 (i : Fin 8192) (d : Fin 128) : iblk m c 0 t (ix2 i d) = V m c main_v45 (ix2 i (col (head t) d)) :=
  congrArg (V m c main_v45) (emb0 t i d)
theorem read1 (a : Fin 512) (s : Fin 2) (d : Fin 128) (e : Fin 256) (he : e.val = 128 * s.val + d.val) :
    iblk m c 1 t (ix2 a e) = V m c main_v46 (ix2 ⟨512 * (t.val % 16) + a.val, by omega⟩ (col2 (head t) s d)) :=
  congrArg (V m c main_v46) (emb1 t a s d e he)
theorem read2 (i : Fin 8192) (d : Fin 128) : iblk m c 2 t (ix2 i d) = V m c main_v47 (ix2 i (col (head t) d)) :=
  congrArg (V m c main_v47) (emb2 t i d)
theorem read3 (n : Fin 16) (b : Fin 512) : iblk m c 3 t (ix4 0 n 0 b) = V m c main_v49 (ix4 (head t) n 0 b) :=
  congrArg (V m c main_v49) (emb3 t n b)
theorem read4 (n : Fin 16) (b : Fin 512) : iblk m c 4 t (ix4 0 n 0 b) = V m c main_v51 (ix4 (head t) n 0 b) :=
  congrArg (V m c main_v51) (emb4 t n b)

include H

/-- What point `t` finds in its windows. -/
theorem loaded : Loaded (q (head t)) (k (head t)) (v (head t)) (w (head t)) (top H (head t)) (t.val % 16)
    (iblk m c 0 t) (iblk m c 1 t) (iblk m c 2 t) (iblk m c 3 t) (iblk m c 4 t) where
  hq i d := by
    rw [read0, V_queries, queriesArr_at H]
  hk a d := by
    rw [read1 t a 0 d _ (by show d.val = 128 * 0 + d.val; omega), V_keys, narrow_at, H.hk]
  hv a d := by
    rw [read1 t a 1 d _ (by show 128 + d.val = 128 * 1 + d.val; omega), V_keys, narrow_at, H.hv]
  hw i d := by
    rw [read2, V_grads, narrow_at, H.hw]
  hl n b := by
    rw [read3, V_lse, lseArr_at H (head t) n 0 b ⟨512 * n.val + b.val, by omega⟩ rfl]
  hd n b := by
    rw [read4, V_delta, deltaArr_at H (head t) n 0 b ⟨512 * n.val + b.val, by omega⟩ rfl]

end Cert.KernelIdeal.Hand

end

end
-- ==== Proof.Value.Results.lean ====
/-
  The two arrays the launch leaves are the reference's results.

  After the grid point of key block `J`, a head's block of the query gradient holds the sums over the keys before row
  `512 (J + 1)`; after the last block these are the sums over all keys. A point's block of the key and value gradients
  holds the sums over all queries.
-/
module

public import proofs.«01_k».proof.Proof.Value.Windows

@[expose] public section

set_option maxRecDepth 4000

noncomputable section

namespace Cert.KernelIdeal.Hand

open Cert.KernelIdeal Cert.KernelIdeal.Gen Cert.Attention
open Cert.ReferenceIdeal.Read Cert.ReferenceIdeal.Hand
open Idealize.ShloMosaic Idealize.ShloMosaic.TcCoe

variable {m : (ℓ : Loc nD τ sig) → Buf (Elt Ideal) ℓ} {c : Dev nD} {q k v w : Fin 8 → Rows}
  (H : Inputs (a0 m c) (a1 m c) (a2 m c) q k v w)

/-- The sums over the keys before row `n`, of head `h`'s query gradient in the kernel's units. -/
def dqSum (q k v w : Fin 8 → Rows) (h : Fin 8) (n : ℕ) (N : Fin 16) (d : Fin 128) (b : Fin 512) : ℝ :=
  ∑ j ∈ Finset.range n, k h j d * (Real.log 2 * dscore (q h) (k h) (v h) (w h) (512 * N.val + b.val) j)

include H

/-- What point `t` ends with, when the query gradient it finds holds the sums over the earlier key blocks. -/
theorem finalAt_acc (t : Fin cfg0.N) (D : Vec Ideal S1x16x128x512 .f32) (hD : ¬ t.val % 16 = 0 → ∀ N d b,
      D (ix4 0 N d b) = ((dqSum q k v w (head t) (512 * (t.val % 16)) N d b : ℝ) : EReal)) :
    Acc (q (head t)) (k (head t)) (v (head t)) (w (head t)) (t.val % 16) 16 (finalAt m c t D) := by
  refine final_acc (loaded H t) (cfg0.grid.coords t) (coord1 t) D fun N d b => ?_
  by_cases h : t.val % 16 = 0
  · refine (congrFun (dqStart_pos (cfg0.grid.coords t) D ((coord1 t).trans h)) _).trans ((pay74_at _).trans ?_)
    rw [h, Nat.mul_zero, Finset.range_zero, Finset.sum_empty, EReal.coe_zero]
  · refine (congrFun (dqStart_neg (cfg0.grid.coords t) D (fun e => h ((coord1 t).symm.trans e))) _).trans (hD h N d b)

/-- The query gradient after point `n`. -/
theorem dqAt_eq_sum : ∀ (n : ℕ) (hn : n < cfg0.N) N d b,
    dqAt m c n hn (ix4 0 N d b) = ((dqSum q k v w (head ⟨n, hn⟩) (512 * (n % 16 + 1)) N d b : ℝ) : EReal)
  | 0, hn, N, d, b => by
    have A := (finalAt_acc H ⟨0, hn⟩ (k0_pay74 (F := Ideal)) fun h => absurd (Nat.zero_mod 16) h).dq N d b
    rw [if_pos N.isLt] at A
    exact A
  | n + 1, hn, N, d, b => by
    have A := (finalAt_acc H ⟨n + 1, hn⟩ (dqAt m c n (Nat.lt_of_succ_lt hn)) fun h N d b => by
      rw [dqAt_eq_sum n _ N d b]
      have h1 : ¬ (n + 1) % 16 = 0 := h
      have e : head ⟨n, Nat.lt_of_succ_lt hn⟩ = head ⟨n + 1, hn⟩ := Fin.ext (by rw [head_val, head_val]; show n / 16 = (n + 1) / 16; omega)
      have e' : n % 16 + 1 = (n + 1) % 16 := by omega
      rw [e, e']).dq N d b
    rw [if_pos N.isLt] at A
    exact A

/-- What every point ends with. -/
theorem point_acc (t : Fin cfg0.N) : Acc (q (head t)) (k (head t)) (v (head t)) (w (head t)) (t.val % 16) 16
    (finalAt m c t (dqBefore m c t)) := by
  refine finalAt_acc H t _ fun h N d b => ?_
  have h0 : ¬ t.val = 0 := fun e => h (by rw [e])
  unfold dqBefore
  rw [dif_neg h0, dqAt_eq_sum H]
  have e : head ⟨t.val - 1, Nat.lt_of_le_of_lt (Nat.sub_le _ _) t.isLt⟩ = head t :=
    Fin.ext (by rw [head_val, head_val]; show (t.val - 1) / 16 = t.val / 16; omega)
  have e' : (t.val - 1) % 16 + 1 = t.val % 16 := by omega
  rw [e, e']

omit H in
theorem gradQ_sum (h : Fin 8) (N : Fin 16) (d : Fin 128) (b : Fin 512) : dqSum q k v w h 8192 N d b
    = gradQ (q h) (k h) (v h) (w h) (512 * N.val + b.val) d * (√96 * Real.log 2) := by
  rw [dqSum, gradQ, Finset.sum_mul]
  refine Finset.sum_congr rfl fun j _ => ?_
  have := sqrt96_pos.ne'
  field_simp

omit H in
theorem gradK_sum (q k v w : Rows) (j : ℕ) (d : Fin 128) : ∑ i ∈ Finset.range (512 * 16),
    (Real.log 2 * dscore q k v w i j) * (q i d * (1 / (√96 * Real.log 2))) = gradK q k v w j d := by
  rw [gradK]
  refine Finset.sum_congr rfl fun i _ => ?_
  have := sqrt96_pos.ne'
  have := log2_pos.ne'
  field_simp

omit H in
theorem gradV_sum (q k w : Rows) (j : ℕ) (d : Fin 128) :
    (∑ i ∈ Finset.range (512 * 16), (Real.log 2 * prob q k i j) * w i d) * (Real.log 2)⁻¹ = gradV q k w j d := by
  rw [gradV, Finset.sum_mul]
  refine Finset.sum_congr rfl fun i _ => ?_
  have := log2_pos.ne'
  field_simp

/-- A head's finished query gradient. -/
theorem dq_done (t : Fin cfg0.N) (ht : t.val % 16 = 15) (N : Fin 16) (d : Fin 128) (b : Fin 512) :
    dqAt m c t.val t.isLt (ix4 0 N d b) = val_main_v78 (F := Ideal) (a0 m c) (a1 m c) (a2 m c) (ix4 (head t) N d b) := by
  rw [dqAt_eq_sum H, v78_eq H, ht, gradQ_sum]

/-- A point's block of the key and value gradients. -/
theorem dkv_done (t : Fin cfg0.N) (a : Fin 512) (s : Fin 2) (d : Fin 128) (e : Fin 256) (he : e.val = 128 * s.val + d.val) (j : Fin 8192)
    (hj : j.val = 512 * (t.val % 16) + a.val) :
    dkv (finalAt m c t (dqBefore m c t)) (ix2 a e)
      = val_main_v83 (F := Ideal) (a0 m c) (a1 m c) (a2 m c) (ix2 j (col2 (head t) s d)) := by
  rw [v83_eq H, hj]
  have A := point_acc H t
  by_cases hs : s.val = 0
  · have hd : d.val < 256 := by omega
    have hE : e = ⟨d.val, hd⟩ := Fin.ext (by show e.val = d.val; omega)
    rw [hE, dkv_keys, A.dk, if_pos hs, gradK_sum]
  · have hd : 128 + d.val < 256 := by omega
    have hE : e = ⟨128 + d.val, hd⟩ := Fin.ext (by show e.val = 128 + d.val; omega)
    rw [hE, dkv_vals, A.dv, if_neg hs, ← EReal.coe_mul, gradV_sum]

end Cert.KernelIdeal.Hand

end

end
-- ==== Proof.Value.Arrays.lean ====
/-
  The launch's two output arrays, gathered from the blocks its points write back.
-/
module

public import proofs.«01_k».proof.Proof.Value.Results

@[expose] public section

set_option maxRecDepth 4000

noncomputable section

namespace Cert.KernelIdeal.Hand

open Cert.KernelIdeal Cert.KernelIdeal.Gen Cert.Attention
open Cert.ReferenceIdeal.Read Cert.ReferenceIdeal.Hand
open Idealize.ShloMosaic Idealize.ShloMosaic.TcCoe

theorem index5 : ∀ t : Fin cfg0.N, win0_5.index t = ![t.val / 16, 0, 0, 0] := (by decide +kernel : ∀ t : Fin grid0.N, _)
theorem index6 : ∀ t : Fin cfg0.N, win0_6.index t = ![t.val % 16, t.val / 16] := (by decide +kernel : ∀ t : Fin grid0.N, _)

theorem emb5 (t : Fin cfg0.N) (N : Fin 16) (d : Fin 128) (b : Fin 512) :
    (win0_5.blk t).view.emb (ix4 0 N d b) = ix4 (head t) N d b := by
  blk_ext [index5]
  all_goals simp only [head_val]; omega
theorem emb6 (t : Fin cfg0.N) (a : Fin 512) (s : Fin 2) (d : Fin 128) (e : Fin 256) (he : e.val = 128 * s.val + d.val) :
    (win0_6.blk t).view.emb (ix2 a e) = ix2 ⟨512 * (t.val % 16) + a.val, by omega⟩ (col2 (head t) s d) := by
  blk_ext [index6]
  all_goals simp only [head_val]; omega

theorem block5 (y : S1x16x128x512.Idx) : ∃ (N : Fin 16) (d : Fin 128) (b : Fin 512), y = ix4 0 N d b :=
  ⟨y 1, y 2, y 3, funext fun a => match a with
    | ⟨0, _⟩ => Fin.ext (by have : (y 0).val < 1 := (y 0).isLt; show (y 0).val = 0; omega)
    | ⟨1, _⟩ => rfl
    | ⟨2, _⟩ => rfl
    | ⟨3, _⟩ => rfl⟩
theorem block6 (y : S512x256.Idx) : ∃ (a : Fin 512) (s : Fin 2) (d : Fin 128) (e : Fin 256), e.val = 128 * s.val + d.val ∧ y = ix2 a e := by
  have h : (y 1).val < 256 := (y 1).isLt
  exact ⟨y 0, ⟨(y 1).val / 128, by omega⟩, ⟨(y 1).val % 128, by omega⟩, y 1, by show (y 1).val = 128 * ((y 1).val / 128) + (y 1).val % 128; omega,
    funext fun a => match a with
    | ⟨0, _⟩ => rfl
    | ⟨1, _⟩ => rfl⟩

variable {m : (ℓ : Loc nD τ sig) → Buf (Elt Ideal) ℓ} {c : Dev nD} {q k v w : Fin 8 → Rows}
  (H : Inputs (a0 m c) (a1 m c) (a2 m c) q k v w)

include H

/-- The query gradient. -/
theorem array5 : (dats m 0 c).arrAt 5 cfg0.N = val_main_v78 (F := Ideal) (a0 m c) (a1 m c) (a2 m c) := by
  refine (dats m 0 c).arrAt_eq_of_covers 5 _ (by decide +kernel) fun t hf y => ?_
  blk_simp
  rw [after0_5]
  obtain ⟨N, d, b, rfl⟩ := block5 y
  rw [emb5]
  exact dq_done H t ((flush0_5 t).mp hf) N d b

/-- The key and value gradients. -/
theorem array6 : (dats m 0 c).arrAt 6 cfg0.N = val_main_v83 (F := Ideal) (a0 m c) (a1 m c) (a2 m c) := by
  refine (dats m 0 c).arrAt_eq_of_covers 6 _ (by decide +kernel) fun t hf y => ?_
  blk_simp
  rw [after0_6]
  obtain ⟨a, s, d, e, he, rfl⟩ := block6 y
  rw [emb6 t a s d e he]
  exact dkv_done H t a s d e he _ rfl

end Cert.KernelIdeal.Hand

end

end
-- ==== Proof.Value.Finite.lean ====
/-
  The precondition says that every entry of the three arguments is a real number.
-/
module

public import proofs.«01_k».proof.Pre_finite
public import proofs.«01_k».proof.Proof.Value.RefInputs

@[expose] public section

set_option maxRecDepth 4000

noncomputable section

namespace Cert.Pre_finite.Hand

open Cert.Pre_finite Cert.Attention Cert.ReferenceIdeal.Hand
open Idealize.ShloMosaic

/-- The side conditions the precondition's text states. -/
instance facts : Cert.Pre_finite.Facts where
  bcast_S_S8192x1024 := by decide
  slices_S8192x2048_S8192x1024_0_0 := by decide
  slices_S8192x2048_S8192x1024_0_1024 := by decide

/-- The test the precondition makes of one entry. -/
def isReal (x : EReal) : BitVec 1 := Ideal.cmp .olt (max x (-x)) (Ideal.ofBits .f32 0x7F800000#32)

theorem litPosInf : Ideal.ofBits .f32 0x7F800000#32 = (⊤ : EReal) := by
  simp [Ideal.ofBits, Ideal.ieee]

theorem of_isReal {x : EReal} (h : isReal x = 1#1) : x = ((x.toReal : ℝ) : EReal) := by
  have hlt : max x (-x) < (⊤ : EReal) := by
    by_contra hn
    rw [isReal, litPosInf] at h
    simp [Ideal.cmp, hn] at h
  refine (EReal.coe_toReal (fun e => ?_) (fun e => ?_)).symm
  · rw [e] at hlt; simp at hlt
  · rw [e] at hlt; simp at hlt

theorem both {a b : BitVec 1} : a &&& b = 1#1 → a = 1#1 ∧ b = 1#1 := by revert a b; decide

variable (x0 : FVec Ideal S8192x1024 .f32) (x1 : FVec Ideal S8192x2048 .f32) (x2 : FVec Ideal S8192x1024 .f32)

theorem fn_at (i : Fin 8192) (e : Fin 1024) : Cert.Pre_finite.fn (F := Ideal) x0 x1 x2 (ix2 i e)
    = ((isReal (x0 (ix2 i e)) &&& isReal (x1 (ix2 i ⟨e.val, by omega⟩))) &&& isReal (x1 (ix2 i ⟨1024 + e.val, by omega⟩)))
      &&& isReal (x2 (ix2 i e)) := by
  pointwise [Cert.Pre_finite.fn, isReal]
  simp only [IntOp.andi, Ideal.absf_def]

variable {x0 x1 x2}

section
variable (hpre : Cert.Pre_finite.fn (F := Ideal) x0 x1 x2 = fun _ => 1#1)

include hpre

theorem entries (i : Fin 8192) (e : Fin 1024) : isReal (x0 (ix2 i e)) = 1#1 ∧ isReal (x1 (ix2 i ⟨e.val, by omega⟩)) = 1#1
    ∧ isReal (x1 (ix2 i ⟨1024 + e.val, by omega⟩)) = 1#1 ∧ isReal (x2 (ix2 i e)) = 1#1 := by
  have h := congrFun hpre (ix2 i e)
  rw [fn_at] at h
  obtain ⟨h, h3⟩ := both h
  obtain ⟨h, h2⟩ := both h
  obtain ⟨h0, h1⟩ := both h
  exact ⟨h0, h1, h2, h3⟩

theorem keys_entry (i : Fin 8192) (e : Fin 2048) : x1 (ix2 i e) = (((x1 (ix2 i e)).toReal : ℝ) : EReal) := by
  by_cases h : e.val < 1024
  · exact of_isReal (entries hpre i ⟨e.val, h⟩).2.1
  · have e' : e = ⟨1024 + (e.val - 1024), by omega⟩ := Fin.ext (by show e.val = 1024 + (e.val - 1024); omega)
    rw [e']
    exact of_isReal (entries hpre i ⟨e.val - 1024, by omega⟩).2.2.1
end

/-- An array's entries as real numbers, by head, row and column. -/
def rowsOf (x : FVec Ideal S8192x1024 .f32) (h : Fin 8) : Rows := fun i d => (x (ix2 (Fin.ofNat 8192 i) (col h d))).toReal
/-- The entries of half `s` of the keys' and values' array. -/
def halfOf (x : FVec Ideal S8192x2048 .f32) (s : Fin 2) (h : Fin 8) : Rows := fun i d => (x (ix2 (Fin.ofNat 8192 i) (col2 h s d))).toReal

/-- Under the precondition the arguments are arrays of real numbers. -/
theorem inputs (hpre : Cert.Pre_finite.fn (F := Ideal) x0 x1 x2 = fun _ => 1#1) :
    Inputs x0 x1 x2 (rowsOf x0) (halfOf x1 0) (halfOf x1 1) (rowsOf x2) where
  hq i h d := by
    have e : Fin.ofNat 8192 i.val = i := Fin.ext (Nat.mod_eq_of_lt i.isLt)
    rw [rowsOf, e]; exact of_isReal (entries hpre i (col h d)).1
  hk i h d := by
    have e : Fin.ofNat 8192 i.val = i := Fin.ext (Nat.mod_eq_of_lt i.isLt)
    rw [halfOf, e]; exact keys_entry hpre i _
  hv i h d := by
    have e : Fin.ofNat 8192 i.val = i := Fin.ext (Nat.mod_eq_of_lt i.isLt)
    rw [halfOf, e]; exact keys_entry hpre i _
  hw i h d := by
    have e : Fin.ofNat 8192 i.val = i := Fin.ext (Nat.mod_eq_of_lt i.isLt)
    rw [rowsOf, e]; exact of_isReal (entries hpre i (col h d)).2.2.2

end Cert.Pre_finite.Hand

end

end
-- ==== Proof.Value.Claim.lean ====
/-
  The value claim: from finite arguments the kernel and the reference end with the same two arrays.
-/
module

public import proofs.«01_k».proof.Defs
public import proofs.«01_k».proof.Proof.Value.Arrays
public import proofs.«01_k».proof.Proof.Value.Finite

@[expose] public section

set_option maxRecDepth 4000

noncomputable section

namespace Cert.KernelIdeal.Hand

open Cert.KernelIdeal Cert.KernelIdeal.Gen
open Cert.ReferenceIdeal.Read
open Idealize.ShloMosaic Idealize.ShloMosaic.TcCoe Idealize.SL.Sem

variable (m : (ℓ : Loc nD τ sig) → Buf (Elt Ideal) ℓ) (ρ : Dev nD → PrngReg)

/-- The kernel's run, with its two results. -/
theorem run_values (hpre : Pre_KernelIdeal_finite m) : θ_run defs (onTc (τ := τ) (main (F := Ideal))) ⟨m, fun _ => 0, ρ⟩ (fun r => ∀ c : Dev nD,
      r.2.mem ((c.tc : Thread nD τ).loc main_v52_0) = val_main_v78 (F := Ideal) (a0 m c) (a1 m c) (a2 m c)
      ∧ r.2.mem ((c.tc : Thread nD τ).loc main_v52_1) = val_main_v83 (F := Ideal) (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    have H := Cert.Pre_finite.Hand.inputs (hpre c)
    ⟨(h.1.out_eq c 5).trans (array5 H), (h.1.out_eq c 6).trans (array6 H),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main m ρ)

/-- The two programs' results agree. -/
theorem agree : algebraic_KernelIdeal_ReferenceIdeal_pre_finite := by
  intro m g m' g' hpre hargs
  refine ⟨fun c => val_main_v78 (F := Ideal) (a0 m c) (a1 m c) (a2 m c), fun c => val_main_v83 (F := Ideal) (a0 m c) (a1 m c) (a2 m c),
    run_values m g hpre, (θ_run Cert.ReferenceIdeal.defs _ _).mono (fun r h c => ?_) (Cert.ReferenceIdeal.Value.run (F := Ideal) m' g')⟩
  obtain ⟨h0, h1, h2⟩ := h c
  obtain ⟨e0, e1, e2⟩ := hargs c
  refine ⟨h0.trans ((val_main_v78_eq m' c).trans ?_), h1.trans ((val_main_v83_eq m' c).trans ?_), h2⟩
  · rw [e0, e1, e2]
  · rw [e0, e1, e2]

end Cert.KernelIdeal.Hand

end

end
-- ==== Proof.Forward.Step.lean ====
/-
  The forward kernel's update by one block of keys, and a run of blocks.

  At a grid point the kernel keeps, for each of its two groups of 512 query rows, the running maximum of the scores, the
  running sum of their exponentials and the running weighted sum of the values. `step` is the effect of one block of 1024
  keys on the three; `runTo` is the effect of the first `n` blocks.
-/
module

public import proofs.«01_k».proof.Proof.Gen.Kernel2Ideal.Frame
public import Idealize.ShloMosaic.Lib.VecWindow
public import Idealize.ShloMosaic.Lib.LoopRemainder

@[expose] public section

noncomputable section

namespace Cert.Kernel2Ideal.Hand

open Cert.Kernel2Ideal Cert.Kernel2Ideal.Gen
open Idealize.ShloMosaic Idealize.ShloMosaic.TcCoe

variable {F : FTy → Type} [FloatOps F] [Named F]

theorem t1_trips : ∀ i : grid0.Coords, (k0_t1_loop i).trips = (i 1).val / 2 := by decide +kernel
theorem t2_trips : ∀ i : grid0.Coords, (k0_t2_loop i).trips = 0 := by decide +kernel
theorem t3_trips : ∀ i : grid0.Coords, (k0_t3_loop i).trips = (i 1).val % 2 := by decide +kernel
theorem t4_trips : ∀ i : grid0.Coords, (k0_t4_loop i).trips = 0 := by decide +kernel

theorem off1_eq : ∀ (i : grid0.Coords) (k : Fin (k0_t1_loop i).trips), k0_off1 i k = ![1024 * (2 * k.val), 0] := by decide +kernel
theorem off2_eq : ∀ (i : grid0.Coords) (k : Fin (k0_t1_loop i).trips), k0_off2 i k = ![1024 * (2 * k.val), 128] := by decide +kernel
theorem off3_eq : ∀ (i : grid0.Coords) (k : Fin (k0_t1_loop i).trips), k0_off3 i k = ![1024 * (2 * k.val + 1), 0] := by decide +kernel
theorem off4_eq : ∀ (i : grid0.Coords) (k : Fin (k0_t1_loop i).trips), k0_off4 i k = ![1024 * (2 * k.val + 1), 128] := by decide +kernel
theorem off9_eq : ∀ (i : grid0.Coords) (k : Fin (k0_t3_loop i).trips), k0_off9 i k = ![1024 * (2 * ((i 1).val / 2) + k.val), 0] := by decide +kernel
theorem off10_eq : ∀ (i : grid0.Coords) (k : Fin (k0_t3_loop i).trips), k0_off10 i k = ![1024 * (2 * ((i 1).val / 2) + k.val), 128] := by decide +kernel
theorem off13_eq : ∀ i : grid0.Coords, k0_off13 i = ![1024 * (i 1).val, 0] := by decide +kernel
theorem off14_eq : ∀ i : grid0.Coords, k0_off14 i = ![1024 * (i 1).val, 128] := by decide +kernel
theorem off15_eq : ∀ i : grid0.Coords, k0_off15 i = ![1024 * (i 1).val, 0] := by decide +kernel
theorem off16_eq : ∀ i : grid0.Coords, k0_off16 i = ![1024 * (i 1).val, 128] := by decide +kernel

theorem t1_lt (i : grid0.Coords) (k : Fin (k0_t1_loop i).trips) (r : ℕ) (hr : r < 2) : 2 * k.val + r < 8 := by
  have h := k.isLt.trans_eq (t1_trips i)
  have : (i 1).val < 8 := (i 1).isLt
  omega
theorem t3_lt (i : grid0.Coords) (k : Fin (k0_t3_loop i).trips) : 2 * ((i 1).val / 2) + k.val < 8 := by
  have h := k.isLt.trans_eq (t3_trips i)
  have : (i 1).val < 8 := (i 1).isLt
  omega

theorem inbQ (p : Fin 2) : ∀ a, (![512 * p.val, 0] : Fin 2 → ℕ) a + S512x128.size a ≤ S1024x128.size a := by
  revert p; decide
theorem inbK (n : Fin 8) : ∀ a, (![1024 * n.val, 0] : Fin 2 → ℕ) a + S1024x128.size a ≤ S8192x256.size a := by
  revert n; decide
theorem inbV (n : Fin 8) : ∀ a, (![1024 * n.val, 128] : Fin 2 → ℕ) a + S1024x128.size a ≤ S8192x256.size a := by
  revert n; decide
theorem inbK' (n : Fin 8) : ∀ a, (![1024 * n.val, 0] : Fin 2 → ℕ) a + S512x128.size a ≤ S8192x256.size a := by
  revert n; decide
theorem inbV' (n : Fin 8) : ∀ a, (![1024 * n.val, 128] : Fin 2 → ℕ) a + S512x128.size a ≤ S8192x256.size a := by
  revert n; decide

/-- The `p`-th group of 512 query rows. -/
abbrev part (Q : Vec F S1024x128 .bf16) (p : Fin 2) : Vec F S512x128 .bf16 :=
  VecWindow.window Q ![512 * p.val, 0] S512x128.size (inbQ p)
/-- Block `n` of 1024 keys. -/
abbrev keys (KV : Vec F S8192x256 .bf16) (n : Fin 8) : Vec F S1024x128 .bf16 :=
  VecWindow.window KV ![1024 * n.val, 0] S1024x128.size (inbK n)
/-- Block `n` of 1024 values. -/
abbrev vals (KV : Vec F S8192x256 .bf16) (n : Fin 8) : Vec F S1024x128 .bf16 :=
  VecWindow.window KV ![1024 * n.val, 128] S1024x128.size (inbV n)
/-- The first 512 keys of block `n`. -/
abbrev keys' (KV : Vec F S8192x256 .bf16) (n : Fin 8) : Vec F S512x128 .bf16 :=
  VecWindow.window KV ![1024 * n.val, 0] S512x128.size (inbK' n)
/-- The first 512 values of block `n`. -/
abbrev vals' (KV : Vec F S8192x256 .bf16) (n : Fin 8) : Vec F S512x128 .bf16 :=
  VecWindow.window KV ![1024 * n.val, 128] S512x128.size (inbV' n)

/-- The running maximum, sum of exponentials and weighted sum of the values. -/
abbrev St (F : FTy → Type) : Type := FVec F S512x1 .f32 × FVec F S512x1 .f32 × FVec F S512x128 .f32

/-- One block of keys `k` and values `v`, taken into the three. -/
def step (q : Vec F S512x128 .bf16) (k v : Vec F S1024x128 .bf16) (s : St F) : St F :=
  (k0_pay6 s.1 q k, k0_pay9 s.1 s.2.1 q k, k0_pay10 s.1 s.2.2 q k v)

/-- Before any key. -/
def empty : St F := (k0_pay65, k0_pay66, k0_pay67)

/-- After the first `n` blocks (blocks past the last do nothing). -/
def runTo (q : Vec F S512x128 .bf16) (KV : Vec F S8192x256 .bf16) : ℕ → St F
  | 0 => empty
  | n + 1 => if h : n < 8 then step q (keys KV ⟨n, h⟩) (vals KV ⟨n, h⟩) (runTo q KV n) else runTo q KV n

theorem runTo_succ (q : Vec F S512x128 .bf16) (KV : Vec F S8192x256 .bf16) (n : ℕ) (h : n < 8) :
    runTo q KV (n + 1) = step q (keys KV ⟨n, h⟩) (vals KV ⟨n, h⟩) (runTo q KV n) := dif_pos h

/-- Both groups' three, in the order the loops carry them. -/
def both (a b : St F) : FVec F S512x1 .f32 × FVec F S512x1 .f32 × FVec F S512x128 .f32 × FVec F S512x1 .f32 × FVec F S512x1 .f32 × FVec F S512x128 .f32 :=
  (a.1, a.2.1, a.2.2, b.1, b.2.1, b.2.2)

end Cert.Kernel2Ideal.Hand

end

end
-- ==== Proof.Forward.Trips.lean ====
/-
  A trip of each of the forward kernel's loops, in terms of `step`.
-/
module

public import proofs.«01_k».proof.Proof.Forward.Step

@[expose] public section

set_option maxRecDepth 8192
noncomputable section

namespace Cert.Kernel2Ideal.Hand

open Cert.Kernel2Ideal Cert.Kernel2Ideal.Gen
open Idealize.ShloMosaic Idealize.ShloMosaic.TcCoe

variable {F : FTy → Type} [FloatOps F] [Named F]
variable (𝒱 : Variants) (c : Dev nD) (bd : Option 𝒱.V) (i : grid0.Coords) (arg2 : Memref sig .tc .vmem S1024x128 .bf16) (harg2 : arg2.IsWhole) (arg3 : Memref sig .tc .vmem S8192x256 .bf16) (harg3 : arg3.IsWhole) (arg4 : Memref sig .tc .vmem S1024x128 .f32) (harg4 : arg4.IsWhole) (arg5 : Memref sig .tc .vmem S1x2x8x512 .f32) (harg5 : arg5.IsWhole) (X_arg2 : BufTy.Contents (Elt F) arg2.view.ty) (X_arg3 : BufTy.Contents (Elt F) arg3.view.ty)

/-- What a load of a group of 512 query rows finds. -/
theorem load_part (p : Fin 2) (off : Fin 2 → ℕ) (e : off = ![512 * p.val, 0]) (h) :
    View.readAt (Elt F) arg2.view (Rect.unit (s := S1024x128) off S512x128.size h).toLoadRect X_arg2 = part (arg2.view.read (Elt F) X_arg2) p :=
  View.readAt_unit (s := S1024x128) _ _ _ e (inbQ p)

/-- What a load of a block of keys finds. -/
theorem load_keys (n : Fin 8) (off : Fin 2 → ℕ) (e : off = ![1024 * n.val, 0]) (h) :
    View.readAt (Elt F) arg3.view (Rect.unit (s := S8192x256) off S1024x128.size h).toLoadRect X_arg3 = keys (arg3.view.read (Elt F) X_arg3) n :=
  View.readAt_unit (s := S8192x256) _ _ _ e (inbK n)
/-- What a load of a block of values finds. -/
theorem load_vals (n : Fin 8) (off : Fin 2 → ℕ) (e : off = ![1024 * n.val, 128]) (h) :
    View.readAt (Elt F) arg3.view (Rect.unit (s := S8192x256) off S1024x128.size h).toLoadRect X_arg3 = vals (arg3.view.read (Elt F) X_arg3) n :=
  View.readAt_unit (s := S8192x256) _ _ _ e (inbV n)
theorem load_keys' (n : Fin 8) (off : Fin 2 → ℕ) (e : off = ![1024 * n.val, 0]) (h) :
    View.readAt (Elt F) arg3.view (Rect.unit (s := S8192x256) off S512x128.size h).toLoadRect X_arg3 = keys' (arg3.view.read (Elt F) X_arg3) n :=
  View.readAt_unit (s := S8192x256) _ _ _ e (inbK' n)
theorem load_vals' (n : Fin 8) (off : Fin 2 → ℕ) (e : off = ![1024 * n.val, 128]) (h) :
    View.readAt (Elt F) arg3.view (Rect.unit (s := S8192x256) off S512x128.size h).toLoadRect X_arg3 = vals' (arg3.view.read (Elt F) X_arg3) n :=
  View.readAt_unit (s := S8192x256) _ _ _ e (inbV' n)

section
variable (w0 : BitVec 32) (v26_0 v26_1 : FVec F S512x1 .f32) (v26_2 : FVec F S512x128 .f32) (v26_3 v26_4 : FVec F S512x1 .f32) (v26_5 : FVec F S512x128 .f32)
 (w1 w2 : BitVec 32) (w3 : BitVec 1) (w4 : BitVec 32)

theorem trip3_loads (k : Fin (k0_t3_loop i).trips) (a b : St F) (h0 h1 h2 h3) :
   tripR_k0_t3 (F := F) 𝒱 c bd i arg2 harg2 arg3 harg3 arg4 harg4 arg5 harg5 w0 v26_0 v26_1 v26_2 v26_3 v26_4 v26_5 w1 w2 w3 w4 X_arg2 X_arg3 k (both a b)
    = both
      (step (View.readAt (Elt F) arg2.view (Rect.unit (s := S1024x128) ![0, 0] S512x128.size h0).toLoadRect X_arg2)
        (View.readAt (Elt F) arg3.view (Rect.unit (s := S8192x256) (k0_off9 i k) S1024x128.size h2).toLoadRect X_arg3)
        (View.readAt (Elt F) arg3.view (Rect.unit (s := S8192x256) (k0_off10 i k) S1024x128.size h3).toLoadRect X_arg3) a)
      (step (View.readAt (Elt F) arg2.view (Rect.unit (s := S1024x128) ![512, 0] S512x128.size h1).toLoadRect X_arg2)
        (View.readAt (Elt F) arg3.view (Rect.unit (s := S8192x256) (k0_off9 i k) S1024x128.size h2).toLoadRect X_arg3)
        (View.readAt (Elt F) arg3.view (Rect.unit (s := S8192x256) (k0_off10 i k) S1024x128.size h3).toLoadRect X_arg3) b) := by
  unfold tripR_k0_t3
  delta trip_k0_t3
  rfl
end

theorem trip1_loads (k : Fin (k0_t1_loop i).trips) (a b : St F) (h0 h1 h2 h3 h4 h5) :
   tripR_k0_t1 (F := F) 𝒱 c bd i arg2 harg2 arg3 harg3 arg4 harg4 arg5 harg5 X_arg2 X_arg3 k (both a b)
    = both
      (step (View.readAt (Elt F) arg2.view (Rect.unit (s := S1024x128) ![0, 0] S512x128.size h0).toLoadRect X_arg2)
        (View.readAt (Elt F) arg3.view (Rect.unit (s := S8192x256) (k0_off3 i k) S1024x128.size h4).toLoadRect X_arg3)
        (View.readAt (Elt F) arg3.view (Rect.unit (s := S8192x256) (k0_off4 i k) S1024x128.size h5).toLoadRect X_arg3)
        (step (View.readAt (Elt F) arg2.view (Rect.unit (s := S1024x128) ![0, 0] S512x128.size h0).toLoadRect X_arg2)
          (View.readAt (Elt F) arg3.view (Rect.unit (s := S8192x256) (k0_off1 i k) S1024x128.size h2).toLoadRect X_arg3)
          (View.readAt (Elt F) arg3.view (Rect.unit (s := S8192x256) (k0_off2 i k) S1024x128.size h3).toLoadRect X_arg3) a))
      (step (View.readAt (Elt F) arg2.view (Rect.unit (s := S1024x128) ![512, 0] S512x128.size h1).toLoadRect X_arg2)
        (View.readAt (Elt F) arg3.view (Rect.unit (s := S8192x256) (k0_off3 i k) S1024x128.size h4).toLoadRect X_arg3)
        (View.readAt (Elt F) arg3.view (Rect.unit (s := S8192x256) (k0_off4 i k) S1024x128.size h5).toLoadRect X_arg3)
        (step (View.readAt (Elt F) arg2.view (Rect.unit (s := S1024x128) ![512, 0] S512x128.size h1).toLoadRect X_arg2)
          (View.readAt (Elt F) arg3.view (Rect.unit (s := S8192x256) (k0_off1 i k) S1024x128.size h2).toLoadRect X_arg3)
          (View.readAt (Elt F) arg3.view (Rect.unit (s := S8192x256) (k0_off2 i k) S1024x128.size h3).toLoadRect X_arg3) b)) := by
  unfold tripR_k0_t1
  delta trip_k0_t1
  rfl

variable {i}

theorem trip1_eq (k : Fin (k0_t1_loop i).trips) (a b : St F) :
   tripR_k0_t1 (F := F) 𝒱 c bd i arg2 harg2 arg3 harg3 arg4 harg4 arg5 harg5 X_arg2 X_arg3 k (both a b)
    = both
      (step (part (arg2.view.read (Elt F) X_arg2) 0) (keys (arg3.view.read (Elt F) X_arg3) ⟨2 * k.val + 1, t1_lt i k 1 (by decide)⟩) (vals (arg3.view.read (Elt F) X_arg3) ⟨2 * k.val + 1, t1_lt i k 1 (by decide)⟩)
        (step (part (arg2.view.read (Elt F) X_arg2) 0) (keys (arg3.view.read (Elt F) X_arg3) ⟨2 * k.val, t1_lt i k 0 (by decide)⟩) (vals (arg3.view.read (Elt F) X_arg3) ⟨2 * k.val, t1_lt i k 0 (by decide)⟩) a))
      (step (part (arg2.view.read (Elt F) X_arg2) 1) (keys (arg3.view.read (Elt F) X_arg3) ⟨2 * k.val + 1, t1_lt i k 1 (by decide)⟩) (vals (arg3.view.read (Elt F) X_arg3) ⟨2 * k.val + 1, t1_lt i k 1 (by decide)⟩)
        (step (part (arg2.view.read (Elt F) X_arg2) 1) (keys (arg3.view.read (Elt F) X_arg3) ⟨2 * k.val, t1_lt i k 0 (by decide)⟩) (vals (arg3.view.read (Elt F) X_arg3) ⟨2 * k.val, t1_lt i k 0 (by decide)⟩) b)) := by
  rw [trip1_loads 𝒱 c bd i arg2 harg2 arg3 harg3 arg4 harg4 arg5 harg5 X_arg2 X_arg3 k a b inb_S1024x128_S512x128_0_0 inb_S1024x128_S512x128_512_0
    (off1_eq i k ▸ inbK ⟨2 * k.val, t1_lt i k 0 (by decide)⟩) (off2_eq i k ▸ inbV ⟨2 * k.val, t1_lt i k 0 (by decide)⟩)
    (off3_eq i k ▸ inbK ⟨2 * k.val + 1, t1_lt i k 1 (by decide)⟩) (off4_eq i k ▸ inbV ⟨2 * k.val + 1, t1_lt i k 1 (by decide)⟩)]
  rw [load_part arg2 X_arg2 0 ![0, 0] rfl, load_part arg2 X_arg2 1 ![512, 0] rfl,
    load_keys arg3 X_arg3 ⟨2 * k.val, t1_lt i k 0 (by decide)⟩ _ (off1_eq i k), load_vals arg3 X_arg3 ⟨2 * k.val, t1_lt i k 0 (by decide)⟩ _ (off2_eq i k),
    load_keys arg3 X_arg3 ⟨2 * k.val + 1, t1_lt i k 1 (by decide)⟩ _ (off3_eq i k), load_vals arg3 X_arg3 ⟨2 * k.val + 1, t1_lt i k 1 (by decide)⟩ _ (off4_eq i k)]

/-- The loop over pairs of blocks, `n` trips in. -/
theorem st1_eq : ∀ n, n ≤ (k0_t1_loop i).trips →
   st_k0_t1 (F := F) 𝒱 c bd i arg2 harg2 arg3 harg3 arg4 harg4 arg5 harg5 X_arg2 X_arg3 (both empty empty) n
    = both (runTo (part (arg2.view.read (Elt F) X_arg2) 0) (arg3.view.read (Elt F) X_arg3) (2 * n))
      (runTo (part (arg2.view.read (Elt F) X_arg2) 1) (arg3.view.read (Elt F) X_arg3) (2 * n))
  | 0, _ => rfl
  | n + 1, h => by
    have e := st_k0_t1_succ (F := F) 𝒱 c bd i arg2 harg2 arg3 harg3 arg4 harg4 arg5 harg5 X_arg2 X_arg3 (both empty empty) ⟨n, h⟩
    have h0 := t1_lt i ⟨n, h⟩ 0 (by decide)
    have h1 := t1_lt i ⟨n, h⟩ 1 (by decide)
    dsimp only at e h0 h1
    rw [e, st1_eq n (Nat.le_of_succ_le h), trip1_eq]
    rw [show 2 * (n + 1) = (2 * n + 1) + 1 from rfl, runTo_succ _ _ _ h1, runTo_succ _ _ _ h1, runTo_succ _ _ _ h0, runTo_succ _ _ _ h0]
    rfl

section
variable (w0 : BitVec 32) (v26_0 v26_1 : FVec F S512x1 .f32) (v26_2 : FVec F S512x128 .f32) (v26_3 v26_4 : FVec F S512x1 .f32) (v26_5 : FVec F S512x128 .f32)
 (w1 w2 : BitVec 32) (w3 : BitVec 1) (w4 : BitVec 32)

theorem trip3_eq (k : Fin (k0_t3_loop i).trips) (a b : St F) :
   tripR_k0_t3 (F := F) 𝒱 c bd i arg2 harg2 arg3 harg3 arg4 harg4 arg5 harg5 w0 v26_0 v26_1 v26_2 v26_3 v26_4 v26_5 w1 w2 w3 w4 X_arg2 X_arg3 k (both a b)
    = both
      (step (part (arg2.view.read (Elt F) X_arg2) 0) (keys (arg3.view.read (Elt F) X_arg3) ⟨_, t3_lt i k⟩) (vals (arg3.view.read (Elt F) X_arg3) ⟨_, t3_lt i k⟩) a)
      (step (part (arg2.view.read (Elt F) X_arg2) 1) (keys (arg3.view.read (Elt F) X_arg3) ⟨_, t3_lt i k⟩) (vals (arg3.view.read (Elt F) X_arg3) ⟨_, t3_lt i k⟩) b) := by
  rw [trip3_loads 𝒱 c bd i arg2 harg2 arg3 harg3 arg4 harg4 arg5 harg5 X_arg2 X_arg3 w0 v26_0 v26_1 v26_2 v26_3 v26_4 v26_5 w1 w2 w3 w4 k a b inb_S1024x128_S512x128_0_0 inb_S1024x128_S512x128_512_0
    (off9_eq i k ▸ inbK ⟨_, t3_lt i k⟩) (off10_eq i k ▸ inbV ⟨_, t3_lt i k⟩)]
  rw [load_part arg2 X_arg2 0 ![0, 0] rfl, load_part arg2 X_arg2 1 ![512, 0] rfl,
    load_keys arg3 X_arg3 ⟨_, t3_lt i k⟩ _ (off9_eq i k), load_vals arg3 X_arg3 ⟨_, t3_lt i k⟩ _ (off10_eq i k)]

/-- The loop over the block left over, `n` trips in. -/
theorem st3_eq : ∀ n, n ≤ (k0_t3_loop i).trips →
   st_k0_t3 (F := F) 𝒱 c bd i arg2 harg2 arg3 harg3 arg4 harg4 arg5 harg5 w0 v26_0 v26_1 v26_2 v26_3 v26_4 v26_5 w1 w2 w3 w4 X_arg2 X_arg3
      (both (runTo (part (arg2.view.read (Elt F) X_arg2) 0) (arg3.view.read (Elt F) X_arg3) (2 * ((i 1).val / 2)))
        (runTo (part (arg2.view.read (Elt F) X_arg2) 1) (arg3.view.read (Elt F) X_arg3) (2 * ((i 1).val / 2)))) n
    = both (runTo (part (arg2.view.read (Elt F) X_arg2) 0) (arg3.view.read (Elt F) X_arg3) (2 * ((i 1).val / 2) + n))
      (runTo (part (arg2.view.read (Elt F) X_arg2) 1) (arg3.view.read (Elt F) X_arg3) (2 * ((i 1).val / 2) + n))
  | 0, _ => rfl
  | n + 1, h => by
    have e := st_k0_t3_succ (F := F) 𝒱 c bd i arg2 harg2 arg3 harg3 arg4 harg4 arg5 harg5 w0 v26_0 v26_1 v26_2 v26_3 v26_4 v26_5 w1 w2 w3 w4 X_arg2 X_arg3
      (both (runTo (part (arg2.view.read (Elt F) X_arg2) 0) (arg3.view.read (Elt F) X_arg3) (2 * ((i 1).val / 2)))
        (runTo (part (arg2.view.read (Elt F) X_arg2) 1) (arg3.view.read (Elt F) X_arg3) (2 * ((i 1).val / 2)))) ⟨n, h⟩
    have h0 := t3_lt i ⟨n, h⟩
    dsimp only at e h0
    rw [e, st3_eq n (Nat.le_of_succ_le h), trip3_eq]
    rw [← Nat.add_assoc, runTo_succ _ _ _ h0, runTo_succ _ _ _ h0]
end

end Cert.Kernel2Ideal.Hand

end

end
-- ==== Proof.Forward.Pieces.lean ====
/-
  What the forward kernel's body stores at a grid point: the two groups' outputs and the two groups' log-sum-exps, in
  terms of the run over the blocks of keys before the point's own.
-/
module

public import proofs.«01_k».proof.Proof.Forward.Trips

@[expose] public section

set_option maxRecDepth 8192
noncomputable section

namespace Cert.Kernel2Ideal.Hand

open Cert.Kernel2Ideal Cert.Kernel2Ideal.Gen
open Idealize.ShloMosaic Idealize.ShloMosaic.TcCoe

variable {F : FTy → Type} [FloatOps F] [Named F]

/-- The first group's output: its own 512 keys, masked, taken in after the blocks before, and the quotient. -/
def out0 (q : Vec F S512x128 .bf16) (k v : Vec F S512x128 .bf16) (s : St F) : FVec F S512x128 .f32 :=
  k0_pay96 (k0_pay93 s.1 q k) (k0_pay94 s.1 s.2.1 q k) (k0_pay95 s.1 s.2.2 q k) v
/-- The first group's log-sum-exp. -/
def lse0 (q : Vec F S512x128 .bf16) (k : Vec F S512x128 .bf16) (s : St F) : FVec F S1x1x8x512 .f32 :=
  k0_pay97 (k0_pay91 s.1 q k) (k0_pay94 s.1 s.2.1 q k)
/-- The second group's output: the 1024 keys of the point's own block, masked, and the quotient. -/
def out1 (q : Vec F S512x128 .bf16) (k v : Vec F S1024x128 .bf16) (s : St F) : FVec F S512x128 .f32 :=
  k0_pay3 s.2.1 s.2.2 (k0_pay98 q k) (k0_pay99 s.1 q k) (k0_pay100 s.1 q k) v
/-- The second group's log-sum-exp. -/
def lse1 (q : Vec F S512x128 .bf16) (k : Vec F S1024x128 .bf16) (s : St F) : FVec F S1x1x8x512 .f32 :=
  k0_pay4 s.2.1 (k0_pay98 q k) (k0_pay99 s.1 q k) (k0_pay100 s.1 q k)

variable (c : Dev nD) (i : grid0.Coords) (arg2 : Memref sig .tc .vmem S1024x128 .bf16) (harg2 : arg2.IsWhole) (arg3 : Memref sig .tc .vmem S8192x256 .bf16) (harg3 : arg3.IsWhole) (arg4 : Memref sig .tc .vmem S1024x128 .f32) (harg4 : arg4.IsWhole) (arg5 : Memref sig .tc .vmem S1x2x8x512 .f32) (harg5 : arg5.IsWhole)
  (x0 : Vec F S1024x128 .bf16) (x1 : Vec F S8192x256 .bf16)

theorem trips1 : Scf.trips (k0_t1_loop i).lb (k0_t1_loop i).ub (k0_t1_loop i).st = (i 1).val / 2 := t1_trips i
theorem trips2 : Scf.trips (k0_t2_loop i).lb (k0_t2_loop i).ub (k0_t2_loop i).st = 0 := t2_trips i
theorem trips3 : Scf.trips (k0_t3_loop i).lb (k0_t3_loop i).ub (k0_t3_loop i).st = (i 1).val % 2 := t3_trips i
theorem trips4 : Scf.trips (k0_t4_loop i).lb (k0_t4_loop i).ub (k0_t4_loop i).st = 0 := t4_trips i

/-- After the loop over pairs of blocks. -/
theorem carried2 : (kernelRun0_A.sl.r c i arg2 harg2 arg3 harg3 arg4 harg4 arg5 harg5 x0 x1, kernelRun0_A.sl.r_1 c i arg2 harg2 arg3 harg3 arg4 harg4 arg5 harg5 x0 x1, kernelRun0_A.sl.r_2 c i arg2 harg2 arg3 harg3 arg4 harg4 arg5 harg5 x0 x1, kernelRun0_A.sl.r_3 c i arg2 harg2 arg3 harg3 arg4 harg4 arg5 harg5 x0 x1, kernelRun0_A.sl.r_4 c i arg2 harg2 arg3 harg3 arg4 harg4 arg5 harg5 x0 x1, kernelRun0_A.sl.r_5 c i arg2 harg2 arg3 harg3 arg4 harg4 arg5 harg5 x0 x1)
    = both (runTo (part x0 0) x1 (2 * ((i 1).val / 2))) (runTo (part x0 1) x1 (2 * ((i 1).val / 2))) := by
  have H := st1_eq (F := F) Variants.none c none (i := i) arg2 harg2 arg3 harg3 arg4 harg4 arg5 harg5 (harg2.unread x0) (harg3.unread x1) ((i 1).val / 2) (le_of_eq (t1_trips i).symm)
  rw [harg2.read_unread, harg3.read_unread] at H
  delta kernelRun0_A.sl.r kernelRun0_A.sl.r_1 kernelRun0_A.sl.r_2 kernelRun0_A.sl.r_3 kernelRun0_A.sl.r_4 kernelRun0_A.sl.r_5
  rw [trips2, trips1]
  exact H

/-- After the loop over the block left over: all blocks before the point's own. -/
theorem carried3 (w0 : BitVec 32) (v26_0 v26_1 : FVec F S512x1 .f32) (v26_2 : FVec F S512x128 .f32) (v26_3 v26_4 : FVec F S512x1 .f32) (v26_5 : FVec F S512x128 .f32)
    (w1 w2 : BitVec 32) (w3 : BitVec 1) (w4 : BitVec 32) :
   st_k0_t3 (F := F) Variants.none c none i arg2 harg2 arg3 harg3 arg4 harg4 arg5 harg5 w0 v26_0 v26_1 v26_2 v26_3 v26_4 v26_5 w1 w2 w3 w4 (harg2.unread x0) (harg3.unread x1)
      (both (runTo (part x0 0) x1 (2 * ((i 1).val / 2))) (runTo (part x0 1) x1 (2 * ((i 1).val / 2)))) ((i 1).val % 2)
    = both (runTo (part x0 0) x1 (i 1).val) (runTo (part x0 1) x1 (i 1).val) := by
  have H := st3_eq (F := F) Variants.none c none (i := i) arg2 harg2 arg3 harg3 arg4 harg4 arg5 harg5 (harg2.unread x0) (harg3.unread x1) w0 v26_0 v26_1 v26_2 v26_3 v26_4 v26_5 w1 w2 w3 w4 ((i 1).val % 2) (le_of_eq (t3_trips i).symm)
  rw [harg2.read_unread, harg3.read_unread, Nat.div_add_mod] at H
  exact H

/-- The second group's three before its own block. -/
theorem carried : (kernelRun0_A.sl.r_6 c i arg2 harg2 arg3 harg3 arg4 harg4 arg5 harg5 x0 x1, kernelRun0_A.sl.r_7 c i arg2 harg2 arg3 harg3 arg4 harg4 arg5 harg5 x0 x1, kernelRun0_A.sl.r_8 c i arg2 harg2 arg3 harg3 arg4 harg4 arg5 harg5 x0 x1) = runTo (part x0 1) x1 (i 1).val := by
  delta kernelRun0_A.sl.r_6 kernelRun0_A.sl.r_7 kernelRun0_A.sl.r_8
  rw [trips4, trips3, carried2, carried3]
  rfl

theorem first_max : kernelRun0_A.sl.r_9 c i arg2 harg2 arg3 harg3 arg4 harg4 arg5 harg5 x0 x1
    = k0_pay91 (runTo (part x0 0) x1 (i 1).val).1 (part x0 0) (keys' x1 (i 1)) := by
  delta kernelRun0_A.sl.r_9
  rw [trips4, trips3, carried2, carried3]
  rw [load_part arg2 (harg2.unread x0) 0 ![0, 0] rfl, load_keys' arg3 (harg3.unread x1) (i 1) _ (off13_eq i), harg2.read_unread, harg3.read_unread]
  rfl

theorem first_exps : kernelRun0_A.sl.r_10 c i arg2 harg2 arg3 harg3 arg4 harg4 arg5 harg5 x0 x1
    = k0_pay93 (runTo (part x0 0) x1 (i 1).val).1 (part x0 0) (keys' x1 (i 1)) := by
  delta kernelRun0_A.sl.r_10
  rw [trips4, trips3, carried2, carried3]
  rw [load_part arg2 (harg2.unread x0) 0 ![0, 0] rfl, load_keys' arg3 (harg3.unread x1) (i 1) _ (off13_eq i), harg2.read_unread, harg3.read_unread]
  rfl

theorem first_sum : kernelRun0_A.sl.r_11 c i arg2 harg2 arg3 harg3 arg4 harg4 arg5 harg5 x0 x1
    = k0_pay94 (runTo (part x0 0) x1 (i 1).val).1 (runTo (part x0 0) x1 (i 1).val).2.1 (part x0 0) (keys' x1 (i 1)) := by
  delta kernelRun0_A.sl.r_11
  rw [trips4, trips3, carried2, carried3]
  rw [load_part arg2 (harg2.unread x0) 0 ![0, 0] rfl, load_keys' arg3 (harg3.unread x1) (i 1) _ (off13_eq i), harg2.read_unread, harg3.read_unread]
  rfl

theorem first_acc : kernelRun0_A.sl.r_12 c i arg2 harg2 arg3 harg3 arg4 harg4 arg5 harg5 x0 x1
    = k0_pay95 (runTo (part x0 0) x1 (i 1).val).1 (runTo (part x0 0) x1 (i 1).val).2.2 (part x0 0) (keys' x1 (i 1)) := by
  delta kernelRun0_A.sl.r_12
  rw [trips4, trips3, carried2, carried3]
  rw [load_part arg2 (harg2.unread x0) 0 ![0, 0] rfl, load_keys' arg3 (harg3.unread x1) (i 1) _ (off13_eq i), harg2.read_unread, harg3.read_unread]
  rfl

theorem second_scores : kernelRun0_A.sl.r_13 i arg2 harg2 arg3 harg3 x0 x1
    = k0_pay98 (part x0 1) (keys x1 (i 1)) := by
  delta kernelRun0_A.sl.r_13
  rw [load_part arg2 (harg2.unread x0) 1 ![512, 0] rfl, load_keys arg3 (harg3.unread x1) (i 1) _ (off15_eq i), harg2.read_unread, harg3.read_unread]

theorem second_max : kernelRun0_A.sl.r_14 c i arg2 harg2 arg3 harg3 arg4 harg4 arg5 harg5 x0 x1
    = k0_pay99 (runTo (part x0 1) x1 (i 1).val).1 (part x0 1) (keys x1 (i 1)) := by
  delta kernelRun0_A.sl.r_14
  rw [load_part arg2 (harg2.unread x0) 1 ![512, 0] rfl, load_keys arg3 (harg3.unread x1) (i 1) _ (off15_eq i), harg2.read_unread, harg3.read_unread]
  rw [← carried c i arg2 harg2 arg3 harg3 arg4 harg4 arg5 harg5 x0 x1]

theorem second_scale : kernelRun0_A.sl.r_15 c i arg2 harg2 arg3 harg3 arg4 harg4 arg5 harg5 x0 x1
    = k0_pay100 (runTo (part x0 1) x1 (i 1).val).1 (part x0 1) (keys x1 (i 1)) := by
  delta kernelRun0_A.sl.r_15
  rw [load_part arg2 (harg2.unread x0) 1 ![512, 0] rfl, load_keys arg3 (harg3.unread x1) (i 1) _ (off15_eq i), harg2.read_unread, harg3.read_unread]
  rw [← carried c i arg2 harg2 arg3 harg3 arg4 harg4 arg5 harg5 x0 x1]

/-- The output window's two pieces, last first. -/
theorem pieces2 : (kernelRun0_A (F := F) c i arg2 harg2 arg3 harg3 arg4 harg4 arg5 harg5 x0 x1).1
    = [⟨Rect.unit (s := S1024x128) ![512, 0] S512x128.size inb_S1024x128_S512x128_512_0, out1 (part x0 1) (keys x1 (i 1)) (vals x1 (i 1)) (runTo (part x0 1) x1 (i 1).val)⟩,
       ⟨Rect.unit (s := S1024x128) ![0, 0] S512x128.size inb_S1024x128_S512x128_0_0, out0 (part x0 0) (keys' x1 (i 1)) (vals' x1 (i 1)) (runTo (part x0 0) x1 (i 1).val)⟩] := by
  delta kernelRun0_A
  dsimp only
  rw [second_scores, second_max, second_scale, first_exps, first_sum, first_acc]
  rw [load_vals arg3 (harg3.unread x1) (i 1) _ (off16_eq i), load_vals' arg3 (harg3.unread x1) (i 1) _ (off14_eq i), harg3.read_unread]
  rw [← carried c i arg2 harg2 arg3 harg3 arg4 harg4 arg5 harg5 x0 x1]
  rfl

/-- The log-sum-exp window's two pieces, last first. -/
theorem pieces3 : (kernelRun0_A (F := F) c i arg2 harg2 arg3 harg3 arg4 harg4 arg5 harg5 x0 x1).2.1
    = [⟨Rect.unit (s := S1x2x8x512) ![0, 1, 0, 0] S1x1x8x512.size inb_S1x2x8x512_S1x1x8x512_0_1_0_0, lse1 (part x0 1) (keys x1 (i 1)) (runTo (part x0 1) x1 (i 1).val)⟩,
       ⟨Rect.unit (s := S1x2x8x512) ![0, 0, 0, 0] S1x1x8x512.size inb_S1x2x8x512_S1x1x8x512_0_0_0_0, lse0 (part x0 0) (keys' x1 (i 1)) (runTo (part x0 0) x1 (i 1).val)⟩] := by
  delta kernelRun0_A
  dsimp only
  rw [second_scores, second_max, second_scale, first_max, first_sum]
  rw [← carried c i arg2 harg2 arg3 harg3 arg4 harg4 arg5 harg5 x0 x1]
  rfl

end Cert.Kernel2Ideal.Hand

end

end
-- ==== Proof.Forward.Online.lean ====
/-
  The softmax of one query row taken block by block of keys, over the extended reals.

  `weight` is the exponential of a score in units of log 2, less a shift `μ`, and zero at the keys the query does not
  see. `Running` says what the kernel holds of a row after the first `n` keys: a shift `μ` — any real number —, the sum of
  the weights under it, and the weighted sum of the values; before any key it holds `⊥`, 0 and 0.
-/
module

public import proofs.«01_k».proof.Proof.Value.RefScores

@[expose] public section

noncomputable section

namespace Cert.Attention

open Finset Idealize.ShloMosaic
open Cert.ReferenceIdeal.Hand (fold_max_real)

/-- The values of one head: any extended reals. -/
abbrev Values := ℕ → Fin 128 → EReal

variable (q k : Rows) (v : Values)

/-- The attention output of query `i`. -/
def output (i : ℕ) (d : Fin 128) : EReal := ∑ j ∈ range 8192, ((prob q k i j : ℝ) : EReal) * v j d
/-- The log-sum-exp of query `i`'s scores, in units of log 2. -/
def logSumExp (i : ℕ) : ℝ := Real.log (den q k i) / Real.log 2

/-- A key's weight under the shift `μ`. -/
def weight (μ : ℝ) (i j : ℕ) : ℝ := if j ≤ i then Real.rpow 2 (score q k i j / Real.log 2 - μ) else 0

theorem two_rpow (x : ℝ) : Real.rpow 2 x = Real.exp (Real.log 2 * x) := by
  rw [Real.rpow_eq_pow, Real.rpow_def_of_pos (by norm_num)]

/-- A change of shift scales every weight. -/
theorem weight_shift (μ μ' : ℝ) (i j : ℕ) : Real.rpow 2 (μ - μ') * weight q k μ i j = weight q k μ' i j := by
  unfold weight
  split
  · rw [two_rpow, two_rpow, two_rpow, ← Real.exp_add]; congr 1; ring
  · exact mul_zero _

/-- A key's weight is its probability, up to a factor of the row. -/
theorem weight_eq (μ : ℝ) (i j : ℕ) : weight q k μ i j = prob q k i j * (den q k i * Real.rpow 2 (-μ)) := by
  unfold weight prob
  have l2 := log2_pos
  have hd := den_pos q k i
  split
  · rw [two_rpow, two_rpow, div_mul_eq_mul_div, mul_comm (den q k i), ← mul_assoc, mul_div_assoc, div_self hd.ne', mul_one, ← Real.exp_add]
    congr 1; field_simp; ring
  · exact (zero_mul _).symm

/-- A factor that is a real number and not negative goes into a sum of extended reals. -/
theorem scale_sum {ι : Type} (s : Finset ι) (a : ℝ) (ha : 0 ≤ a) (f : ι → EReal) : (a : EReal) * ∑ j ∈ s, f j = ∑ j ∈ s, (a : EReal) * f j := by
  classical
  induction s using Finset.induction_on with
  | empty => rw [sum_empty, sum_empty, mul_zero]
  | insert x s hx ih =>
    rw [sum_insert hx, sum_insert hx, EReal.left_distrib_of_nonneg_of_ne_top (EReal.coe_nonneg.mpr ha) (EReal.coe_ne_top a), ih]

/-- Past the row's own key no weight is left. -/
theorem sum_past {M : Type} [AddCommMonoid M] (f : ℕ → M) (i n : ℕ) (hn : i < n) (hf : ∀ j, i < j → f j = 0) : ∑ j ∈ range n, f j = ∑ j ∈ range (i + 1), f j := by
  symm
  refine sum_subset (fun j hj => ?_) fun j hj hj' => ?_
  · rw [mem_range] at hj ⊢; omega
  · rw [mem_range] at hj hj'; exact hf j (by omega)

theorem sum_prob (i n : ℕ) (hn : i < n) : ∑ j ∈ range n, prob q k i j = 1 := by
  rw [sum_past _ i n hn fun j hj => prob_of_lt q k hj]
  have : ∀ j ∈ range (i + 1), prob q k i j = Real.exp (score q k i j) / den q k i := fun j hj => by
    rw [mem_range] at hj; exact if_pos (by omega)
  rw [sum_congr rfl this, ← sum_div]
  exact div_self (den_pos q k i).ne'

theorem sum_weight (μ : ℝ) (i n : ℕ) (hn : i < n) : ∑ j ∈ range n, weight q k μ i j = den q k i * Real.rpow 2 (-μ) := by
  rw [sum_congr rfl fun j _ => weight_eq q k μ i j, ← sum_mul, sum_prob q k i n hn, one_mul]

theorem total_pos' (μ : ℝ) (i : ℕ) : 0 < den q k i * Real.rpow 2 (-μ) :=
  mul_pos (den_pos q k i) (by rw [two_rpow]; exact Real.exp_pos _)

theorem sum_weight_mul (μ : ℝ) (i n : ℕ) (hn : i < n) (hn' : n ≤ 8192) (d : Fin 128) :
    ∑ j ∈ range n, ((weight q k μ i j : ℝ) : EReal) * v j d = ((den q k i * Real.rpow 2 (-μ) : ℝ) : EReal) * output q k v i d := by
  unfold output
  have h0 : ∀ j, i < j → ((prob q k i j : ℝ) : EReal) * v j d = 0 := fun j hj => by rw [prob_of_lt q k hj, EReal.coe_zero, zero_mul]
  have h1 : ∀ j, ((weight q k μ i j : ℝ) : EReal) * v j d = ((den q k i * Real.rpow 2 (-μ) : ℝ) : EReal) * (((prob q k i j : ℝ) : EReal) * v j d) := fun j => by
    rw [weight_eq, mul_comm (prob q k i j), EReal.coe_mul, mul_assoc]
  rw [sum_congr rfl fun j _ => h1 j, ← scale_sum _ _ (total_pos' q k μ i).le, sum_past _ i 8192 (by omega) h0, ← sum_past _ i n hn h0]

/-- The shift cancels in the log-sum-exp. -/
theorem lse_shift (μ : ℝ) (i : ℕ) : μ + Real.log (den q k i * Real.rpow 2 (-μ)) * (Real.log 2)⁻¹ = logSumExp q k i := by
  have l2 := log2_pos
  unfold logSumExp
  rw [two_rpow, Real.log_mul (den_pos q k i).ne' (Real.exp_pos _).ne', Real.log_exp]
  field_simp; ring

/-- What the kernel holds of row `i` after the first `n` keys, with the shift `μ`. -/
structure Running (i n : ℕ) (m l : EReal) (acc : Fin 128 → EReal) (μ : ℝ) : Prop where
  hm : m = ((μ : ℝ) : EReal)
  hl : l = ((∑ j ∈ range n, weight q k μ i j : ℝ) : EReal)
  hacc : ∀ d, acc d = ∑ j ∈ range n, ((weight q k μ i j : ℝ) : EReal) * v j d

/-- What the kernel holds of row `i` after the first `n` keys. -/
def Held (i n : ℕ) (m l : EReal) (acc : Fin 128 → EReal) : Prop :=
  (n = 0 ∧ m = ⊥ ∧ l = 0 ∧ ∀ d, acc d = 0) ∨ ∃ μ : ℝ, Running q k v i n m l acc μ

theorem sum_extend {M : Type} [AddCommMonoid M] (f : ℕ → M) (n N : ℕ) : ∑ j ∈ range (n + N), f j = ∑ j ∈ range n, f j + ∑ b : Fin N, f (n + b.val) := by
  rw [sum_range_add, sum_range (fun x => f (n + x))]

variable {q k : Rows} {v : Values}

/-- One more block of `N` keys. -/
theorem Held.next {i n N : ℕ} {m l m' l' : EReal} {acc acc' : Fin 128 → EReal} (A : Held q k v i n m l acc) (sc : Fin N → EReal)
    (hN : 0 < N) (hn : n ≤ i)
    (hs : ∀ b, sc b = if n + b.val ≤ i then ((score q k i (n + b.val) / Real.log 2 : ℝ) : EReal) else ⊥)
    (hm : m' = max m (univ.fold max ⊥ sc))
    (hl : l' = Ideal.exp2 (m - m') * l + ∑ b, Ideal.exp2 (sc b - m'))
    (hacc : ∀ d, acc' d = Ideal.exp2 (m - m') * acc d + ∑ b : Fin N, Ideal.exp2 (sc b - m') * v (n + b.val) d) :
    ∃ μ, Running q k v i (n + N) m' l' acc' μ := by
  obtain ⟨M, hM⟩ : ∃ M : ℝ, univ.fold max ⊥ sc = ((M : ℝ) : EReal) := by
    refine fold_max_real _ _ (fun b => ?_) ⟨0, hN⟩ (mem_univ _) ?_
    · rw [hs]; split
      · exact EReal.coe_ne_top _
      · exact bot_ne_top
    · rw [hs, if_pos (by simpa using hn)]; exact EReal.coe_ne_bot _
  have hw : ∀ (μ : ℝ) (b : Fin N), Ideal.exp2 (sc b - (μ : EReal)) = ((weight q k μ i (n + b.val) : ℝ) : EReal) := fun μ b => by
    rw [hs, weight]
    by_cases h : n + b.val ≤ i
    · rw [if_pos h, if_pos h, ← EReal.coe_sub, Ideal.exp2_coe]
    · rw [if_neg h, if_neg h, EReal.bot_sub, Ideal.exp2_bot, EReal.coe_zero]
  rcases A with ⟨rfl, rm, rl, racc⟩ | ⟨μ, A⟩
  · rw [rm, hM, max_eq_right bot_le] at hm
    refine ⟨M, hm, ?_, fun d => ?_⟩
    · rw [hl, rl, hm, mul_zero, zero_add, sum_congr rfl fun b _ => hw M b, coe_sum, sum_extend, range_zero, sum_empty, zero_add]
    · rw [hacc, racc, hm, mul_zero, zero_add, sum_congr rfl fun b _ => congrArg (fun x : EReal => x * _) (hw M b), sum_extend, range_zero, sum_empty, zero_add]
  · have e : m' = ((max μ M : ℝ) : EReal) := by rw [hm, A.hm, hM]; exact (EReal.coe_strictMono.monotone.map_max).symm
    refine ⟨max μ M, e, ?_, fun d => ?_⟩
    · rw [hl, A.hl, A.hm, e, ← EReal.coe_sub, Ideal.exp2_coe, ← EReal.coe_mul, sum_congr rfl fun b _ => hw (max μ M) b, coe_sum, ← EReal.coe_add, sum_extend, mul_sum]
      exact congrArg _ (congrArg (· + _) (sum_congr rfl fun j _ => weight_shift q k _ _ _ _))
    · have hp : 0 ≤ Real.rpow 2 (μ - max μ M) := by rw [two_rpow]; exact (Real.exp_pos _).le
      rw [hacc, A.hacc, A.hm, e, ← EReal.coe_sub, Ideal.exp2_coe, scale_sum _ _ hp, sum_congr rfl fun b _ => congrArg (fun x : EReal => x * _) (hw (max μ M) b), sum_extend]
      refine congrArg (· + _) (sum_congr rfl fun j _ => ?_)
      rw [← mul_assoc, ← EReal.coe_mul, weight_shift]

/-- The quotient at the end. -/
theorem Running.output {i n : ℕ} {m l : EReal} {acc : Fin 128 → EReal} {μ : ℝ} (A : Running q k v i n m l acc μ) (hn : i < n) (hn' : n ≤ 8192)
    (d : Fin 128) : Ideal.div (acc d) l = Cert.Attention.output q k v i d := by
  have hp := total_pos' q k μ i
  rw [A.hacc, A.hl, sum_weight q k μ i n hn, sum_weight_mul q k v μ i n hn hn', Ideal.div_coe hp.ne', mul_comm (_ : EReal) (Cert.Attention.output q k v i d), mul_assoc,
    ← EReal.coe_mul, mul_one_div, div_self hp.ne', EReal.coe_one, mul_one]

/-- The log-sum-exp at the end. -/
theorem Running.lse {i n : ℕ} {m l : EReal} {acc : Fin 128 → EReal} {μ : ℝ} (A : Running q k v i n m l acc μ) (hn : i < n) :
    m + Ideal.log l * (((Real.log 2)⁻¹ : ℝ) : EReal) = ((logSumExp q k i : ℝ) : EReal) := by
  rw [A.hm, A.hl, sum_weight q k μ i n hn, Ideal.log_coe, if_neg (not_le.mpr (total_pos' q k μ i)), ← EReal.coe_mul, ← EReal.coe_add, lse_shift]

end Cert.Attention

end

end
-- ==== Proof.Forward.Payload.lean ====
/-
  The forward kernel's block operations read at an index. `q` is a group of 512 query rows, `k` and `v` a block of keys and
  of values, `m`, `l` and `acc` the running maximum, sum and weighted sum.
-/
module

public import proofs.«01_k».proof.Proof.Forward.Pieces
public import proofs.«01_k».proof.Proof.Forward.Online
public import Idealize.ShloMosaic.Lib.Pointwise

@[expose] public section

set_option maxRecDepth 4000

noncomputable section

namespace Cert.Kernel2Ideal.Hand

open Cert.Kernel2Ideal Cert.Kernel2Ideal.Gen
open Idealize.ShloMosaic Idealize.ShloMosaic.TcCoe

theorem named_log2_e : (Named.named κ "log2_e" 0x3FB8AA3B#32 : Ideal .f32) = (((Real.log 2)⁻¹ : ℝ) : EReal) :=
  IdealRules.named_const.ideal_named_scalar _ _ _ _ rfl

theorem litNegInf : Ideal.ofBits .f32 0xFF800000#32 = (⊥ : EReal) := by
  simp [Ideal.ofBits, Ideal.ieee]

variable (q : Vec Ideal S512x128 .bf16) (k v : Vec Ideal S1024x128 .bf16) (k' v' : Vec Ideal S512x128 .bf16)
  (m l α : FVec Ideal S512x1 .f32) (acc : FVec Ideal S512x128 .f32) (sc : FVec Ideal S512x1024 .f32) (sc' : FVec Ideal S512x512 .f32)
  (a : Fin 512) (b : Fin 1024) (b' : Fin 512) (d : Fin 128)

/-! ## A block before the point's own -/

theorem pay5_at : k0_pay5 q k (ix2 a b) = ∑ e : Fin 128, q (ix2 a e) * k (ix2 b e) := by
  pointwise [k0_pay5]

theorem pay6_at : k0_pay6 m q k (ix2 a 0) = max (m (ix2 a 0)) (Finset.univ.fold max ⊥ fun b : Fin 1024 => k0_pay5 q k (ix2 a b)) := by
  unfold k0_pay6
  generalize k0_pay5 q k = s
  pointwise
  rw [litNegInf]

theorem pay7_at : k0_pay7 m q k (ix2 a 0) = Ideal.exp2 (m (ix2 a 0) - k0_pay6 m q k (ix2 a 0)) := by
  unfold k0_pay7
  generalize k0_pay6 m q k = s
  pointwise
  rfl

theorem pay8_at : k0_pay8 m q k (ix2 a b) = Ideal.exp2 (k0_pay5 q k (ix2 a b) - k0_pay6 m q k (ix2 a 0)) := by
  unfold k0_pay8
  generalize k0_pay6 m q k = s
  generalize k0_pay5 q k = s
  pointwise
  rfl

theorem pay9_at : k0_pay9 m l q k (ix2 a 0) = k0_pay7 m q k (ix2 a 0) * l (ix2 a 0) + ∑ b : Fin 1024, k0_pay8 m q k (ix2 a b) := by
  unfold k0_pay9
  generalize k0_pay7 m q k = s
  generalize k0_pay8 m q k = s
  pointwise

theorem pay10_at : k0_pay10 m acc q k v (ix2 a d) = k0_pay7 m q k (ix2 a 0) * acc (ix2 a d) + ∑ b : Fin 1024, k0_pay8 m q k (ix2 a b) * v (ix2 b d) := by
  unfold k0_pay10
  generalize k0_pay7 m q k = s
  generalize k0_pay8 m q k = s
  pointwise

theorem pay65_at : k0_pay65 (F := Ideal) (ix2 a 0) = ⊥ := by
  pointwise [k0_pay65]
  exact litNegInf
theorem pay66_at : k0_pay66 (F := Ideal) (ix2 a 0) = 0 := by pointwise [k0_pay66]
theorem pay67_at : k0_pay67 (F := Ideal) (ix2 a d) = 0 := by pointwise [k0_pay67]

/-! ## The point's own keys, masked -/

theorem sle_word (n : ℕ) (x y : ℕ) (hx : x < 4096) (hy : y < 4096) (hn : n < 4096) :
    IntOp.cmpi .sle (BitVec.ofNat 32 x) (IntOp.addi (BitVec.ofNat 32 y) (BitVec.ofNat 32 n)) = if x ≤ y + n then 1#1 else 0#1 := by
  have hr : ∀ z : ℕ, z < 10000 → (BitVec.ofNat 32 z).toInt = (z : ℕ) := fun z hz => by
    rw [BitVec.toInt_eq_toNat_cond, BitVec.toNat_ofNat, Nat.mod_eq_of_lt (by omega), if_pos (by omega)]
  have e : IntOp.addi (BitVec.ofNat 32 y) (BitVec.ofNat 32 n) = BitVec.ofNat 32 (y + n) := (BitVec.ofNat_add ..).symm
  rw [e]
  simp only [IntOp.cmpi, BitVec.sle]
  rw [hr x (by omega), hr (y + n) (by omega)]
  by_cases hle : x ≤ y + n
  · rw [if_pos hle, decide_eq_true (by exact_mod_cast hle)]; rfl
  · rw [if_neg hle, decide_eq_false (by exact_mod_cast hle)]; rfl

theorem pay90_at : k0_pay90 q k' (ix2 a b') = if b'.val ≤ a.val then ∑ e : Fin 128, q (ix2 a e) * k' (ix2 b' e) else ⊥ := by
  pointwise [k0_pay90]
  rw [show (0#32 : BitVec 32) = BitVec.ofNat 32 0 from rfl, sle_word 0 _ _ (by omega) (by omega) (by omega), litNegInf, Nat.add_zero]
  split <;> rfl

theorem pay91_at : k0_pay91 m q k' (ix2 a 0) = max (m (ix2 a 0)) (Finset.univ.fold max ⊥ fun b : Fin 512 => k0_pay90 q k' (ix2 a b)) := by
  unfold k0_pay91
  generalize k0_pay90 q k' = s
  pointwise
  rw [litNegInf]

theorem pay92_at : k0_pay92 m q k' (ix2 a 0) = Ideal.exp2 (m (ix2 a 0) - k0_pay91 m q k' (ix2 a 0)) := by
  unfold k0_pay92
  generalize k0_pay91 m q k' = s
  pointwise
  rfl

theorem pay93_at : k0_pay93 m q k' (ix2 a b') = Ideal.exp2 (k0_pay90 q k' (ix2 a b') - k0_pay91 m q k' (ix2 a 0)) := by
  unfold k0_pay93
  generalize k0_pay91 m q k' = s
  generalize k0_pay90 q k' = s
  pointwise
  rfl

theorem pay94_at : k0_pay94 m l q k' (ix2 a 0) = k0_pay92 m q k' (ix2 a 0) * l (ix2 a 0) + ∑ b : Fin 512, k0_pay93 m q k' (ix2 a b) := by
  unfold k0_pay94
  generalize k0_pay92 m q k' = s
  generalize k0_pay93 m q k' = s
  pointwise

theorem pay95_at : k0_pay95 m acc q k' (ix2 a d) = k0_pay92 m q k' (ix2 a 0) * acc (ix2 a d) := by
  unfold k0_pay95
  generalize k0_pay92 m q k' = s
  pointwise

theorem pay96_at : k0_pay96 sc' l acc v' (ix2 a d) = Ideal.div (acc (ix2 a d) + ∑ b : Fin 512, sc' (ix2 a b) * v' (ix2 b d)) (l (ix2 a 0)) := by
  pointwise [k0_pay96]

theorem pay97_at (s : Fin 8) : k0_pay97 m l (ix4 0 0 s a) = m (ix2 a 0) + Ideal.log (l (ix2 a 0)) * (Named.named κ "log2_e" 0x3FB8AA3B#32 : Ideal .f32) := by
  pointwise [k0_pay97]

theorem pay98_at : k0_pay98 q k (ix2 a b) = if b.val ≤ a.val + 512 then ∑ e : Fin 128, q (ix2 a e) * k (ix2 b e) else ⊥ := by
  pointwise [k0_pay98]
  rw [show (512#32 : BitVec 32) = BitVec.ofNat 32 512 from rfl, sle_word 512 _ _ (by omega) (by omega) (by omega), litNegInf]
  split <;> rfl

theorem pay99_at : k0_pay99 m q k (ix2 a 0) = max (m (ix2 a 0)) (Finset.univ.fold max ⊥ fun b : Fin 1024 => k0_pay98 q k (ix2 a b)) := by
  unfold k0_pay99
  generalize k0_pay98 q k = s
  pointwise
  rw [litNegInf]

theorem pay100_at : k0_pay100 m q k (ix2 a 0) = Ideal.exp2 (m (ix2 a 0) - k0_pay99 m q k (ix2 a 0)) := by
  unfold k0_pay100
  generalize k0_pay99 m q k = s
  pointwise
  rfl

theorem pay1_at : k0_pay1 sc m (ix2 a b) = Ideal.exp2 (sc (ix2 a b) - m (ix2 a 0)) := by
  pointwise [k0_pay1]
  rfl

theorem pay2_at : k0_pay2 l sc m α (ix2 a 0) = α (ix2 a 0) * l (ix2 a 0) + ∑ b : Fin 1024, k0_pay1 sc m (ix2 a b) := by
  unfold k0_pay2
  generalize k0_pay1 sc m = s
  pointwise

theorem pay3_at : k0_pay3 l acc sc m α v (ix2 a d)
    = Ideal.div (α (ix2 a 0) * acc (ix2 a d) + ∑ b : Fin 1024, k0_pay1 sc m (ix2 a b) * v (ix2 b d)) (k0_pay2 l sc m α (ix2 a 0)) := by
  unfold k0_pay3
  generalize k0_pay2 l sc m α = t
  generalize k0_pay1 sc m = s
  pointwise

theorem pay4_at (s : Fin 8) : k0_pay4 l sc m α (ix4 0 0 s a)
    = m (ix2 a 0) + Ideal.log (k0_pay2 l sc m α (ix2 a 0)) * (Named.named κ "log2_e" 0x3FB8AA3B#32 : Ideal .f32) := by
  unfold k0_pay4
  generalize k0_pay2 l sc m α = t
  pointwise

end Cert.Kernel2Ideal.Hand

end

end
-- ==== Proof.Forward.Rows.lean ====
/-
  What a grid point of the forward kernel computes for each of its query rows: the attention output and the log-sum-exp.
-/
module

public import proofs.«01_k».proof.Proof.Forward.Payload

@[expose] public section

set_option maxRecDepth 4000

noncomputable section

namespace Cert.Kernel2Ideal.Hand

open Cert.Kernel2Ideal Cert.Kernel2Ideal.Gen Cert.Attention
open Idealize.ShloMosaic Idealize.ShloMosaic.TcCoe

/-- What the grid point of query block `J` finds: its 1024 scaled query rows, and all the head's keys and values. -/
structure Loaded (q k : Rows) (v : Values) (J : ℕ) (Q : Vec Ideal S1024x128 .bf16) (KV : Vec Ideal S8192x256 .bf16) : Prop where
  hq : ∀ (r : Fin 1024) d, Q (ix2 r d) = ((q (1024 * J + r.val) d * (1 / (√96 * Real.log 2)) : ℝ) : EReal)
  hk : ∀ (j : Fin 8192) (d : Fin 128), KV (ix2 j ⟨d.val, by omega⟩) = ((k j.val d : ℝ) : EReal)
  hv : ∀ (j : Fin 8192) (d : Fin 128), KV (ix2 j ⟨128 + d.val, by omega⟩) = v j.val d

variable {q k : Rows} {v : Values} {J : ℕ} {Q : Vec Ideal S1024x128 .bf16} {KV : Vec Ideal S8192x256 .bf16} (L : Loaded q k v J Q KV)

include L

theorem part_at (p : Fin 2) (a : Fin 512) (d : Fin 128) :
    part Q p (ix2 a d) = ((q (1024 * J + 512 * p.val + a.val) d * (1 / (√96 * Real.log 2)) : ℝ) : EReal) := by
  rw [show 1024 * J + 512 * p.val + a.val = 1024 * J + (⟨512 * p.val + a.val, by omega⟩ : Fin 1024).val from Nat.add_assoc _ _ _, ← L.hq]
  exact congrArg Q (funext fun c => match c with
    | ⟨0, _⟩ => Fin.ext (by show 512 * p.val + 1 * a.val = 512 * p.val + a.val; omega)
    | ⟨1, _⟩ => Fin.ext (by show 0 + 1 * d.val = d.val; omega))

theorem keys_at (n : Fin 8) (b : Fin 1024) (d : Fin 128) : keys KV n (ix2 b d) = ((k (1024 * n.val + b.val) d : ℝ) : EReal) :=
  (congrArg KV (funext fun c => match c with
    | ⟨0, _⟩ => Fin.ext (by show 1024 * n.val + 1 * b.val = 1024 * n.val + b.val; omega)
    | ⟨1, _⟩ => Fin.ext (by show 0 + 1 * d.val = d.val; omega))).trans (L.hk ⟨1024 * n.val + b.val, by omega⟩ d)

theorem vals_at (n : Fin 8) (b : Fin 1024) (d : Fin 128) : vals KV n (ix2 b d) = v (1024 * n.val + b.val) d :=
  (congrArg KV (funext fun c => match c with
    | ⟨0, _⟩ => Fin.ext (by show 1024 * n.val + 1 * b.val = 1024 * n.val + b.val; omega)
    | ⟨1, _⟩ => Fin.ext (by show 128 + 1 * d.val = 128 + d.val; omega))).trans (L.hv ⟨1024 * n.val + b.val, by omega⟩ d)

theorem keys'_at (n : Fin 8) (b : Fin 512) (d : Fin 128) : keys' KV n (ix2 b d) = ((k (1024 * n.val + b.val) d : ℝ) : EReal) :=
  (congrArg KV (funext fun c => match c with
    | ⟨0, _⟩ => Fin.ext (by show 1024 * n.val + 1 * b.val = 1024 * n.val + b.val; omega)
    | ⟨1, _⟩ => Fin.ext (by show 0 + 1 * d.val = d.val; omega))).trans (L.hk ⟨1024 * n.val + b.val, by omega⟩ d)

theorem vals'_at (n : Fin 8) (b : Fin 512) (d : Fin 128) : vals' KV n (ix2 b d) = v (1024 * n.val + b.val) d :=
  (congrArg KV (funext fun c => match c with
    | ⟨0, _⟩ => Fin.ext (by show 1024 * n.val + 1 * b.val = 1024 * n.val + b.val; omega)
    | ⟨1, _⟩ => Fin.ext (by show 128 + 1 * d.val = 128 + d.val; omega))).trans (L.hv ⟨1024 * n.val + b.val, by omega⟩ d)

omit L in
/-- A scaled query row against a key row: the score in units of log 2. -/
theorem score_sum (i j : ℕ) : ∑ e : Fin 128, ((q i e * (1 / (√96 * Real.log 2)) : ℝ) : EReal) * ((k j e : ℝ) : EReal)
    = ((score q k i j / Real.log 2 : ℝ) : EReal) := by
  have h1 : score q k i j / Real.log 2 = ∑ e : Fin 128, q i e * (1 / (√96 * Real.log 2)) * k j e := by
    rw [score, div_div, Finset.sum_div]
    refine Finset.sum_congr rfl fun e _ => ?_
    rw [mul_one_div, div_mul_eq_mul_div]
  rw [h1, ← Cert.Attention.coe_sum]
  exact Finset.sum_congr rfl fun e _ => (EReal.coe_mul _ _).symm

theorem score_at (p : Fin 2) (a : Fin 512) (n : Fin 8) (b : Fin 1024) : ∑ e : Fin 128, part Q p (ix2 a e) * keys KV n (ix2 b e)
    = ((score q k (1024 * J + 512 * p.val + a.val) (1024 * n.val + b.val) / Real.log 2 : ℝ) : EReal) := by
  rw [← score_sum]
  exact Finset.sum_congr rfl fun e _ => by rw [part_at L, keys_at L]

theorem score'_at (p : Fin 2) (a : Fin 512) (n : Fin 8) (b : Fin 512) : ∑ e : Fin 128, part Q p (ix2 a e) * keys' KV n (ix2 b e)
    = ((score q k (1024 * J + 512 * p.val + a.val) (1024 * n.val + b.val) / Real.log 2 : ℝ) : EReal) := by
  rw [← score_sum]
  exact Finset.sum_congr rfl fun e _ => by rw [part_at L, keys'_at L]

/-- After `n` of the blocks before the point's own, the three hold the first `1024 n` keys. -/
theorem runTo_held (hJ : J < 8) (p : Fin 2) (a : Fin 512) : ∀ n : ℕ, n ≤ J → Held q k v (1024 * J + 512 * p.val + a.val) (1024 * n)
    ((runTo (part Q p) KV n).1 (ix2 a 0)) ((runTo (part Q p) KV n).2.1 (ix2 a 0)) (fun d => (runTo (part Q p) KV n).2.2 (ix2 a d))
  | 0, _ => Or.inl ⟨rfl, pay65_at a, pay66_at a, fun d => pay67_at a d⟩
  | n + 1, hn => by
    have h8 : n < 8 := by omega
    rw [runTo_succ _ _ n h8, Nat.mul_succ 1024 n]
    refine Or.inr (Held.next (N := 1024) (runTo_held hJ p a n (by omega)) (fun b => k0_pay5 (part Q p) (keys KV ⟨n, h8⟩) (ix2 a b)) (by omega) (by show 1024 * n ≤ _; omega)
      (fun b => ?_) (pay6_at _ _ _ a) ?_ fun d => ?_)
    · rw [pay5_at, score_at L, if_pos (by show 1024 * n + b.val ≤ _; omega)]
    · show k0_pay9 _ _ _ _ (ix2 a 0) = _
      rw [pay9_at, pay7_at]
      simp only [pay8_at]
      rfl
    · show k0_pay10 _ _ _ _ _ (ix2 a d) = _
      rw [pay10_at, pay7_at]
      simp only [pay8_at, vals_at L]
      rfl

/-- The first group's rows after the point's own keys. -/
theorem first_running (hJ : J < 8) (a : Fin 512) : ∃ μ, Running q k v (1024 * J + a.val) (1024 * J + 512)
    (k0_pay91 (runTo (part Q 0) KV J).1 (part Q 0) (keys' KV ⟨J, hJ⟩) (ix2 a 0))
    (k0_pay94 (runTo (part Q 0) KV J).1 (runTo (part Q 0) KV J).2.1 (part Q 0) (keys' KV ⟨J, hJ⟩) (ix2 a 0))
    (fun d => k0_pay95 (runTo (part Q 0) KV J).1 (runTo (part Q 0) KV J).2.2 (part Q 0) (keys' KV ⟨J, hJ⟩) (ix2 a d)
      + ∑ b : Fin 512, k0_pay93 (runTo (part Q 0) KV J).1 (part Q 0) (keys' KV ⟨J, hJ⟩) (ix2 a b) * vals' KV ⟨J, hJ⟩ (ix2 b d)) μ := by
  refine Held.next (N := 512) (runTo_held L hJ 0 a J le_rfl) (fun b => k0_pay90 (part Q 0) (keys' KV ⟨J, hJ⟩) (ix2 a b)) (by omega) (by omega)
    (fun b => ?_) (pay91_at _ _ _ a) ?_ fun d => ?_
  · rw [pay90_at, score'_at L]
    exact if_congr (by show b.val ≤ a.val ↔ 1024 * J + b.val ≤ 1024 * J + 512 * 0 + a.val; omega) rfl rfl
  · rw [pay94_at, pay92_at]
    simp only [pay93_at]
  · rw [pay95_at, pay92_at]
    simp only [pay93_at, vals'_at L]

theorem out0_at (hJ : J < 8) (a : Fin 512) (d : Fin 128) :
    out0 (part Q 0) (keys' KV ⟨J, hJ⟩) (vals' KV ⟨J, hJ⟩) (runTo (part Q 0) KV J) (ix2 a d) = output q k v (1024 * J + a.val) d := by
  obtain ⟨μ, A⟩ := first_running L hJ a
  rw [out0, pay96_at]
  exact A.output (by omega) (by omega) d

theorem lse0_at (hJ : J < 8) (a : Fin 512) (s : Fin 8) :
    lse0 (part Q 0) (keys' KV ⟨J, hJ⟩) (runTo (part Q 0) KV J) (ix4 0 0 s a) = ((logSumExp q k (1024 * J + a.val) : ℝ) : EReal) := by
  obtain ⟨μ, A⟩ := first_running L hJ a
  rw [lse0, pay97_at, named_log2_e]
  exact A.lse (by omega)

/-- The second group's rows after the point's own keys. -/
theorem second_running (hJ : J < 8) (a : Fin 512) : ∃ μ, Running q k v (1024 * J + 512 + a.val) (1024 * J + 1024)
    (k0_pay99 (runTo (part Q 1) KV J).1 (part Q 1) (keys KV ⟨J, hJ⟩) (ix2 a 0))
    (k0_pay2 (runTo (part Q 1) KV J).2.1 (k0_pay98 (part Q 1) (keys KV ⟨J, hJ⟩)) (k0_pay99 (runTo (part Q 1) KV J).1 (part Q 1) (keys KV ⟨J, hJ⟩))
      (k0_pay100 (runTo (part Q 1) KV J).1 (part Q 1) (keys KV ⟨J, hJ⟩)) (ix2 a 0))
    (fun d => k0_pay100 (runTo (part Q 1) KV J).1 (part Q 1) (keys KV ⟨J, hJ⟩) (ix2 a 0) * (runTo (part Q 1) KV J).2.2 (ix2 a d)
      + ∑ b : Fin 1024, k0_pay1 (k0_pay98 (part Q 1) (keys KV ⟨J, hJ⟩)) (k0_pay99 (runTo (part Q 1) KV J).1 (part Q 1) (keys KV ⟨J, hJ⟩)) (ix2 a b)
        * vals KV ⟨J, hJ⟩ (ix2 b d)) μ := by
  refine Held.next (N := 1024) (runTo_held L hJ 1 a J le_rfl) (fun b => k0_pay98 (part Q 1) (keys KV ⟨J, hJ⟩) (ix2 a b)) (by omega) (by omega)
    (fun b => ?_) (pay99_at _ _ _ a) ?_ fun d => ?_
  · rw [pay98_at, score_at L]
    exact if_congr (by show b.val ≤ a.val + 512 ↔ 1024 * J + b.val ≤ 1024 * J + 512 * 1 + a.val; omega) rfl rfl
  · rw [pay2_at, pay100_at]
    simp only [pay1_at]
  · rw [pay100_at]
    simp only [pay1_at, vals_at L]

theorem out1_at (hJ : J < 8) (a : Fin 512) (d : Fin 128) :
    out1 (part Q 1) (keys KV ⟨J, hJ⟩) (vals KV ⟨J, hJ⟩) (runTo (part Q 1) KV J) (ix2 a d) = output q k v (1024 * J + 512 + a.val) d := by
  obtain ⟨μ, A⟩ := second_running L hJ a
  rw [out1, pay3_at]
  exact A.output (by omega) (by omega) d

theorem lse1_at (hJ : J < 8) (a : Fin 512) (s : Fin 8) :
    lse1 (part Q 1) (keys KV ⟨J, hJ⟩) (runTo (part Q 1) KV J) (ix4 0 0 s a) = ((logSumExp q k (1024 * J + 512 + a.val) : ℝ) : EReal) := by
  obtain ⟨μ, A⟩ := second_running L hJ a
  rw [lse1, pay4_at, named_log2_e]
  exact A.lse (by omega)

end Cert.Kernel2Ideal.Hand

end

end
-- ==== Proof.Forward.Same.lean ====
/-
  The forward reference's scores, mask and probabilities are those of the backward reference's forward half, stage by stage.
-/
module

public import proofs.«01_k».proof.Proof.Gen.ReferenceIdeal.Read
public import proofs.«01_k».proof.Proof.Gen.Reference2Ideal.Read

@[expose] public section

noncomputable section

namespace Cert.Reference2Ideal.Hand

open Cert.Reference2Ideal.Read
open Idealize.ShloMosaic Idealize.ShloMosaic.TcCoe

variable (x0 : FVec Ideal Cert.Reference2Ideal.S8192x1024 .f32) (x1 : FVec Ideal Cert.Reference2Ideal.S8192x2048 .f32)

theorem v0_same : val_main_v0 (F := Ideal) x1 = Cert.ReferenceIdeal.Read.val_main_v0 (F := Ideal) x1 := by
  unfold val_main_v0 Cert.ReferenceIdeal.Read.val_main_v0; rfl
theorem v1_same : val_main_v1 (F := Ideal) x0 = Cert.ReferenceIdeal.Read.val_main_v1 (F := Ideal) x0 := by
  unfold val_main_v1 Cert.ReferenceIdeal.Read.val_main_v1; rfl
theorem v2_same : val_main_v2 (F := Ideal) x1 = Cert.ReferenceIdeal.Read.val_main_v2 (F := Ideal) x1 := by
  unfold val_main_v2 Cert.ReferenceIdeal.Read.val_main_v2; rw [v0_same]
theorem v3_same : val_main_v3 (F := Ideal) x1 = Cert.ReferenceIdeal.Read.val_main_v3 (F := Ideal) x1 := by
  unfold val_main_v3 Cert.ReferenceIdeal.Read.val_main_v3; rw [v2_same]
theorem v5_same : val_main_v5 (F := Ideal) x1 = Cert.ReferenceIdeal.Read.val_main_v5 (F := Ideal) x1 := by
  unfold val_main_v5 Cert.ReferenceIdeal.Read.val_main_v5 val_main_v4 Cert.ReferenceIdeal.Read.val_main_v4; rw [v0_same]
theorem v6_same : val_main_v6 (F := Ideal) x0 x1 = Cert.ReferenceIdeal.Read.val_main_v6 (F := Ideal) x0 x1 := by
  unfold val_main_v6 Cert.ReferenceIdeal.Read.val_main_v6; rw [v1_same, v3_same]; rfl
theorem v8_same : val_main_v8 (F := Ideal) = Cert.ReferenceIdeal.Read.val_main_v8 (F := Ideal) := by
  unfold val_main_v8 Cert.ReferenceIdeal.Read.val_main_v8 val_main_v7 Cert.ReferenceIdeal.Read.val_main_v7; rfl
theorem v9_same : val_main_v9 (F := Ideal) x0 x1 = Cert.ReferenceIdeal.Read.val_main_v9 (F := Ideal) x0 x1 := by
  unfold val_main_v9 Cert.ReferenceIdeal.Read.val_main_v9; rw [v6_same, v8_same]
theorem v34_same : val_main_v34 (F := Ideal) x0 x1 = val_main_v6 (F := Ideal) x0 x1 := by
  unfold val_main_v34 val_main_v6; rfl
theorem v16_same : val_main_v16 (F := Ideal) = Cert.ReferenceIdeal.Read.val_main_v16 (F := Ideal) := by
  unfold val_main_v16 val_main_v15 val_main_v14 val_main_v13 val_main_v12 val_main_v11 val_main_v10 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v10; rfl
theorem mask_same : val_main_call0_v1 (F := Ideal) = Cert.ReferenceIdeal.Read.val_main_v17_1 (F := Ideal) := by
  unfold val_main_call0_v1 Cert.ReferenceIdeal.Read.val_main_v17_1; rw [v16_same]
theorem fill_same : val_main_call0_v2 (F := Ideal) = Cert.ReferenceIdeal.Read.val_main_call0_v2 (F := Ideal) := by
  unfold val_main_call0_v2 val_main_call0_v0 val_main_cst_0 Cert.ReferenceIdeal.Read.val_main_call0_v2 Cert.ReferenceIdeal.Read.val_main_call0_v0 Cert.ReferenceIdeal.Read.val_main_cst_0; rfl
theorem v17_same : val_main_v17 (F := Ideal) x0 x1 = Cert.ReferenceIdeal.Read.val_main_v17_0 (F := Ideal) x0 x1 := by
  unfold val_main_v17 Cert.ReferenceIdeal.Read.val_main_v17_0; rw [mask_same, fill_same, v9_same]
theorem v18_same : val_main_v18 (F := Ideal) x0 x1 = Cert.ReferenceIdeal.Read.val_main_v18 (F := Ideal) x0 x1 := by
  unfold val_main_v18 Cert.ReferenceIdeal.Read.val_main_v18 val_main_cst_1 Cert.ReferenceIdeal.Read.val_main_cst_1; rw [v17_same]
theorem v36_same : val_main_v36 (F := Ideal) = val_main_v8 (F := Ideal) := by
  unfold val_main_v36 val_main_v35 val_main_cst_4 val_main_v8 val_main_v7 val_main_cst; rfl
theorem v37_same : val_main_v37 (F := Ideal) x0 x1 = val_main_v9 (F := Ideal) x0 x1 := by
  unfold val_main_v37 val_main_v9; rw [v34_same, v36_same]
theorem v44_same : val_main_v44 (F := Ideal) = val_main_v16 (F := Ideal) := by
  unfold val_main_v44 val_main_v43 val_main_v42 val_main_v41 val_main_v40 val_main_v39 val_main_v38 val_main_v16 val_main_v15 val_main_v14 val_main_v13 val_main_v12 val_main_v11 val_main_v10; rfl
theorem v45_same : val_main_v45 (F := Ideal) x0 x1 = val_main_v17 (F := Ideal) x0 x1 := by
  unfold val_main_v45 val_main_v17 val_main_call1_v1 val_main_call1_v2 val_main_call1_v0 val_main_cst_5 val_main_call0_v1 val_main_call0_v2 val_main_call0_v0 val_main_cst_0; rw [v44_same, v37_same]
theorem v46_same : val_main_v46 (F := Ideal) x0 x1 = val_main_v18 (F := Ideal) x0 x1 := by
  unfold val_main_v46 val_main_v18 val_main_cst_6 val_main_cst_1; rw [v45_same]

end Cert.Reference2Ideal.Hand

end

end
-- ==== Proof.Forward.Reference.lean ====
/-
  The forward reference's two results: every row's attention output and its log-sum-exp in units of log 2.

  The reference's scores and mask are those of the backward reference's forward half, so its reads serve here. They are
  stated for arguments that are real numbers throughout. Here the values may be any extended reals; the scores do not
  read them, so for the scores zeros stand in, and the queries for the incoming gradients, which this half does not have.
-/
module

public import proofs.«01_k».proof.Proof.Value.RefScores
public import proofs.«01_k».proof.Proof.Forward.Online
public import proofs.«01_k».proof.Proof.Forward.Same
public import Idealize.ShloMosaic.Lib.Pointwise

@[expose] public section

set_option maxRecDepth 4000

noncomputable section

namespace Cert.Reference2Ideal.Hand

open Cert.Reference2Ideal Cert.Reference2Ideal.Gen Cert.Reference2Ideal.Read Cert.Attention
open Cert.ReferenceIdeal.Hand (Inputs col col2 top total total_pos div_real sum_rows litNegInf log2)
open Idealize.ShloMosaic Idealize.ShloMosaic.TcCoe

/-- Every query and every key is a real number: those of `q` and `k`. -/
structure Args (x0 : FVec Ideal S8192x1024 .f32) (x1 : FVec Ideal S8192x2048 .f32) (q k : Fin 8 → Rows) : Prop where
  hq : ∀ (i : Fin 8192) h d, x0 (ix2 i (col h d)) = ((q h i.val d : ℝ) : EReal)
  hk : ∀ (i : Fin 8192) h d, x1 (ix2 i (col2 h 0 d)) = ((k h i.val d : ℝ) : EReal)

/-- The values of head `h`. -/
def valuesOf (x1 : FVec Ideal S8192x2048 .f32) (h : Fin 8) : Values := fun j d => x1 (ix2 (Fin.ofNat 8192 j) (col2 h 1 d))

theorem valuesOf_val (x1 : FVec Ideal S8192x2048 .f32) (h : Fin 8) (j : Fin 8192) (d : Fin 128) : valuesOf x1 h j.val d = x1 (ix2 j (col2 h 1 d)) := by
  have e : Fin.ofNat 8192 j.val = j := Fin.ext (Nat.mod_eq_of_lt j.isLt)
  rw [valuesOf, e]

variable {x0 : FVec Ideal S8192x1024 .f32} {x1 : FVec Ideal S8192x2048 .f32} {q k : Fin 8 → Rows}

/-! ## The arguments by heads -/

theorem query_at (i : Fin 8192) (h : Fin 8) (d : Fin 128) : Cert.ReferenceIdeal.Read.val_main_v1 (F := Ideal) x0 (ix3 i h d) = x0 (ix2 i (col h d)) := by
  rw [Cert.ReferenceIdeal.Read.val_main_v1_apply]
  exact congrArg x0 (funext fun a => match a with
    | ⟨0, _⟩ => Fin.ext (by show ((i.val * 8 + h.val) * 128 + d.val) / 1024 = i.val; omega)
    | ⟨1, _⟩ => Fin.ext (by show ((i.val * 8 + h.val) * 128 + d.val) % 1024 = 128 * h.val + d.val; omega))

theorem key_at (i : Fin 8192) (h : Fin 8) (d : Fin 128) : Cert.ReferenceIdeal.Read.val_main_v3 (F := Ideal) x1 (ix3 i h d) = x1 (ix2 i (col2 h 0 d)) := by
  rw [Cert.ReferenceIdeal.Read.val_main_v3_apply, Cert.ReferenceIdeal.Read.val_main_v2_apply, ← Cert.ReferenceIdeal.Hand.v0_eq (x1 := x1)]
  exact congrArg (Cert.ReferenceIdeal.Read.val_main_v0 (F := Ideal) x1) (funext fun a => match a with
    | ⟨0, _⟩ => Fin.ext (by show ((i.val * 8 + h.val) * 128 + d.val) / 1024 = i.val; omega)
    | ⟨1, _⟩ => Fin.ext (by show ((i.val * 8 + h.val) * 128 + d.val) / 128 % 8 = h.val; omega)
    | ⟨2, _⟩ => rfl
    | ⟨3, _⟩ => Fin.ext (by show ((i.val * 8 + h.val) * 128 + d.val) % 128 = d.val; omega))

theorem value_at (i : Fin 8192) (h : Fin 8) (d : Fin 128) : Cert.ReferenceIdeal.Read.val_main_v5 (F := Ideal) x1 (ix3 i h d) = x1 (ix2 i (col2 h 1 d)) := by
  rw [Cert.ReferenceIdeal.Read.val_main_v5_apply, Cert.ReferenceIdeal.Read.val_main_v4_apply, ← Cert.ReferenceIdeal.Hand.v0_eq (x1 := x1)]
  exact congrArg (Cert.ReferenceIdeal.Read.val_main_v0 (F := Ideal) x1) (funext fun a => match a with
    | ⟨0, _⟩ => Fin.ext (by show ((i.val * 8 + h.val) * 128 + d.val) / 1024 = i.val; omega)
    | ⟨1, _⟩ => Fin.ext (by show ((i.val * 8 + h.val) * 128 + d.val) / 128 % 8 = h.val; omega)
    | ⟨2, _⟩ => rfl
    | ⟨3, _⟩ => Fin.ext (by show ((i.val * 8 + h.val) * 128 + d.val) % 128 = d.val; omega))

/-- The keys, with zeros for the values. -/
def keysOnly (x1 : FVec Ideal S8192x2048 .f32) : FVec Ideal S8192x2048 .f32 := fun y => if (y 1).val % 256 < 128 then x1 y else 0

theorem keysOnly_key (i : Fin 8192) (h : Fin 8) (d : Fin 128) : keysOnly x1 (ix2 i (col2 h 0 d)) = x1 (ix2 i (col2 h 0 d)) :=
  if_pos (by show (256 * h.val + 128 * 0 + d.val) % 256 < 128; omega)
theorem keysOnly_value (i : Fin 8192) (h : Fin 8) (d : Fin 128) : keysOnly x1 (ix2 i (col2 h 1 d)) = 0 :=
  if_neg (by show ¬ (256 * h.val + 128 * 1 + d.val) % 256 < 128; omega)

theorem keys_same : Cert.ReferenceIdeal.Read.val_main_v3 (F := Ideal) (keysOnly x1) = Cert.ReferenceIdeal.Read.val_main_v3 (F := Ideal) x1 := by
  funext y
  have hy : y = ix3 (y 0) (y 1) (y 2) := funext fun a => match a with | ⟨0, _⟩ => rfl | ⟨1, _⟩ => rfl | ⟨2, _⟩ => rfl
  rw [hy]
  exact (key_at (y 0) (y 1) (y 2)).trans ((keysOnly_key (y 0) (y 1) (y 2)).trans (key_at (y 0) (y 1) (y 2)).symm)

theorem products_same : Cert.ReferenceIdeal.Read.val_main_v6 (F := Ideal) x0 (keysOnly x1) = Cert.ReferenceIdeal.Read.val_main_v6 (F := Ideal) x0 x1 := by
  unfold Cert.ReferenceIdeal.Read.val_main_v6; rw [keys_same]
theorem scores_same : Cert.ReferenceIdeal.Read.val_main_v9 (F := Ideal) x0 (keysOnly x1) = Cert.ReferenceIdeal.Read.val_main_v9 (F := Ideal) x0 x1 := by
  unfold Cert.ReferenceIdeal.Read.val_main_v9; rw [products_same]
theorem masked_same : Cert.ReferenceIdeal.Read.val_main_v17_0 (F := Ideal) x0 (keysOnly x1) = Cert.ReferenceIdeal.Read.val_main_v17_0 (F := Ideal) x0 x1 := by
  unfold Cert.ReferenceIdeal.Read.val_main_v17_0; rw [scores_same]
theorem tops_same : Cert.ReferenceIdeal.Read.val_main_v18 (F := Ideal) x0 (keysOnly x1) = Cert.ReferenceIdeal.Read.val_main_v18 (F := Ideal) x0 x1 := by
  unfold Cert.ReferenceIdeal.Read.val_main_v18; rw [masked_same]

theorem Args.inputs (H : Args x0 x1 q k) : Inputs x0 (keysOnly x1) x0 q k (fun _ _ _ => 0) q where
  hq := H.hq
  hk i h d := (keysOnly_key i h d).trans (H.hk i h d)
  hv i h d := (keysOnly_value i h d).trans EReal.coe_zero.symm
  hw := H.hq

variable (H : Args x0 x1 q k)

include H

/-! ## The probabilities and the output -/

theorem v17_eq (h : Fin 8) (i j : Fin 8192) : val_main_v17 (F := Ideal) x0 x1 (ix3 h i j)
    = if j.val ≤ i.val then ((score (q h) (k h) i.val j.val : ℝ) : EReal) else ⊥ := by
  rw [v17_same, ← masked_same, Cert.ReferenceIdeal.Hand.v17_0_eq H.inputs]

theorem v18_eq (h : Fin 8) (i : Fin 8192) : val_main_v18 (F := Ideal) x0 x1 (ix2 h i) = ((top H.inputs h i.val : ℝ) : EReal) := by
  rw [v18_same, ← tops_same, Cert.ReferenceIdeal.Hand.v18_eq H.inputs]

/-- A masked score less its row's maximum, exponentiated. -/
theorem exp_shifted (h : Fin 8) (i j : Fin 8192) :
    Ideal.exp (val_main_v17 (F := Ideal) x0 x1 (ix3 h i j) - val_main_v18 (F := Ideal) x0 x1 (ix2 h i))
      = ((shifted (q h) (k h) (top H.inputs h i.val) i.val j.val : ℝ) : EReal) := by
  rw [v17_eq H, v18_eq H, shifted]
  by_cases hle : j.val ≤ i.val
  · rw [if_pos hle, if_pos hle, ← EReal.coe_sub, Ideal.exp_coe]
  · rw [if_neg hle, if_neg hle, EReal.bot_sub, Ideal.exp_bot, EReal.coe_zero]

omit H in
theorem v22_eq (h : Fin 8) (i j : Fin 8192) : val_main_v22 (F := Ideal) x0 x1 (ix3 h i j) = val_main_v18 (F := Ideal) x0 x1 (ix2 h i) := by
  have e : ∀ y, val_main_v19 (F := Ideal) y = ⊥ := fun y => by rw [val_main_v19_apply]; exact litNegInf
  rw [val_main_v22_apply, val_main_v21_apply, val_main_v20_apply, e]
  refine (max_eq_right bot_le).trans ?_
  exact congrArg _ (funext fun a => match a with | ⟨0, _⟩ => rfl | ⟨1, _⟩ => rfl)

theorem v24_eq (h : Fin 8) (i j : Fin 8192) :
    val_main_v24 (F := Ideal) x0 x1 (ix3 h i j) = ((shifted (q h) (k h) (top H.inputs h i.val) i.val j.val : ℝ) : EReal) := by
  rw [val_main_v24_apply, val_main_v23_apply, v22_eq, Ideal.hostUnary_exp_def, Ideal.subf_def, exp_shifted H]

/-- A row sum of the exponentials. -/
theorem sum_eq (h : Fin 8) (i : Fin 8192) :
    ∑ j : Fin 8192, ((shifted (q h) (k h) (top H.inputs h i.val) i.val j.val : ℝ) : EReal) = ((total H.inputs h i.val : ℝ) : EReal) := by
  rw [sum_rows (fun j => shifted (q h) (k h) (top H.inputs h i.val) i.val j), total, sum_shifted _ _ _ _ i.isLt]

theorem v25_eq (h : Fin 8) (i : Fin 8192) : val_main_v25 (F := Ideal) x0 x1 (ix2 h i) = ((total H.inputs h i.val : ℝ) : EReal) := by
  rw [val_main_v25_apply]
  show Ideal.ofBits .f32 0x00000000#32 + _ = _
  rw [Ideal.ofBits_zero_f32, zero_add, ← sum_eq H]
  refine Finset.sum_congr rfl fun j _ => ?_
  rw [← v24_eq H]
  exact congrArg _ (funext fun a => match a with | ⟨0, _⟩ => rfl | ⟨1, _⟩ => rfl | ⟨2, _⟩ => rfl)

theorem v28_eq (h : Fin 8) (i j : Fin 8192) : val_main_v28 (F := Ideal) x0 x1 (ix3 h i j) = ((prob (q h) (k h) i.val j.val : ℝ) : EReal) := by
  have e : val_main_v27 (F := Ideal) x0 x1 (ix3 h i j) = ((total H.inputs h i.val : ℝ) : EReal) := by
    rw [val_main_v27_apply, val_main_v26_apply, ← v25_eq H]
    exact congrArg _ (funext fun a => match a with | ⟨0, _⟩ => rfl | ⟨1, _⟩ => rfl)
  rw [val_main_v28_apply, v24_eq H, e]
  refine (div_real _ _ (total_pos H.inputs h i.val).ne').trans ?_
  rw [total, shifted_div]

theorem v29_eq (h : Fin 8) (d : Fin 128) (i : Fin 8192) :
    val_main_v29 (F := Ideal) x0 x1 (ix3 h d i) = output (q h) (k h) (valuesOf x1 h) i.val d := by
  rw [val_main_v29_apply, output, Finset.sum_range]
  refine Finset.sum_congr rfl fun j _ => ?_
  have e5 : lidx_main_v29 (ix3 h d i) j = ix3 j h d := funext fun a => match a with | ⟨0, _⟩ => rfl | ⟨1, _⟩ => rfl | ⟨2, _⟩ => rfl
  have e28 : ridx_main_v29 (ix3 h d i) j = ix3 h i j := funext fun a => match a with | ⟨0, _⟩ => rfl | ⟨1, _⟩ => rfl | ⟨2, _⟩ => rfl
  rw [e5, e28, v28_eq H, v5_same, value_at, valuesOf_val, mul_comm]

/-- The first result. -/
theorem v58_eq (i : Fin 8192) (h : Fin 8) (d : Fin 128) :
    val_main_v58 (F := Ideal) x0 x1 (ix2 i (col h d)) = output (q h) (k h) (valuesOf x1 h) i.val d := by
  rw [val_main_v58_apply, val_main_v30_apply, ← v29_eq H h d i]
  exact congrArg (val_main_v29 (F := Ideal) x0 x1) (funext fun a => match a with
    | ⟨0, _⟩ => Fin.ext (by show (i.val * 1024 + (128 * h.val + d.val)) / 128 % 8 = h.val; omega)
    | ⟨1, _⟩ => Fin.ext (by show (i.val * 1024 + (128 * h.val + d.val)) % 128 = d.val; omega)
    | ⟨2, _⟩ => Fin.ext (by show (i.val * 1024 + (128 * h.val + d.val)) / 1024 = i.val; omega))

/-! ## The log-sum-exp -/

theorem v47_eq (h : Fin 8) (i : Fin 8192) : val_main_v47 (F := Ideal) x0 x1 (ix3 h i 0) = ((top H.inputs h i.val : ℝ) : EReal) := by
  rw [val_main_v47_apply, v46_same, ← v18_eq H]
  exact congrArg _ (funext fun a => match a with | ⟨0, _⟩ => rfl | ⟨1, _⟩ => rfl)

theorem v50_eq (h : Fin 8) (i j : Fin 8192) :
    val_main_v50 (F := Ideal) x0 x1 (ix3 h i j) = ((shifted (q h) (k h) (top H.inputs h i.val) i.val j.val : ℝ) : EReal) := by
  have e : val_main_v48 (F := Ideal) x0 x1 (ix3 h i j) = val_main_v18 (F := Ideal) x0 x1 (ix2 h i) := by
    rw [val_main_v48_apply, v18_eq H, ← v47_eq H]
    exact congrArg _ (funext fun a => match a with | ⟨0, _⟩ => rfl | ⟨1, _⟩ => rfl | ⟨2, _⟩ => rfl)
  rw [val_main_v50_apply, val_main_v49_apply, e, v45_same, Ideal.hostUnary_exp_def, Ideal.subf_def, exp_shifted H]

theorem v52_eq (h : Fin 8) (i : Fin 8192) : val_main_v52 (F := Ideal) x0 x1 (ix3 h i 0) = ((total H.inputs h i.val : ℝ) : EReal) := by
  have e : idx_main_v52 (ix3 h i 0) = ix2 h i := funext fun a => match a with | ⟨0, _⟩ => rfl | ⟨1, _⟩ => rfl
  rw [val_main_v52_apply, e, val_main_v51_apply]
  show Ideal.ofBits .f32 0x00000000#32 + _ = _
  rw [Ideal.ofBits_zero_f32, zero_add, ← sum_eq H]
  refine Finset.sum_congr rfl fun j _ => ?_
  rw [← v50_eq H]
  exact congrArg _ (funext fun a => match a with | ⟨0, _⟩ => rfl | ⟨1, _⟩ => rfl | ⟨2, _⟩ => rfl)

theorem v57_eq (h : Fin 8) (i : Fin 8192) :
    val_main_v57 (F := Ideal) x0 x1 (ix3 h i 0) = ((logSumExp (q h) (k h) i.val : ℝ) : EReal) := by
  have e56 : val_main_v56 (F := Ideal) (ix3 h i 0) = ((Real.log 2 : ℝ) : EReal) := by
    rw [val_main_v56_apply, val_main_v55_apply]; exact log2
  have e54 : val_main_v54 (F := Ideal) x0 x1 (ix3 h i 0) = ((Real.log (den (q h) (k h) i.val) : ℝ) : EReal) := by
    rw [val_main_v54_apply, val_main_v53_apply, v47_eq H, v52_eq H]
    show ((top H.inputs h i.val : ℝ) : EReal) + Ideal.log ((total H.inputs h i.val : ℝ) : EReal) = _
    rw [Ideal.log_coe, if_neg (not_le.mpr (total_pos H.inputs h i.val)), ← EReal.coe_add, total,
      Real.log_mul (den_pos _ _ _).ne' (Real.exp_pos _).ne', Real.log_exp]
    congr 1; ring
  rw [val_main_v57_apply, e54, e56]
  exact div_real _ _ log2_pos.ne'

/-- The second result. -/
theorem v60_eq (h : Fin 8) (n : Fin 16) (s : Fin 8) (b : Fin 512) :
    val_main_v60 (F := Ideal) x0 x1 (ix4 h n s b) = ((logSumExp (q h) (k h) (512 * n.val + b.val) : ℝ) : EReal) := by
  rw [val_main_v60_apply, val_main_v59_apply, ← v57_eq H h ⟨512 * n.val + b.val, by omega⟩]
  exact congrArg (val_main_v57 (F := Ideal) x0 x1) (funext fun a => match a with
    | ⟨0, _⟩ => Fin.ext (by show (((h.val * 16 + n.val) * 1 + 0) * 512 + b.val) / 8192 = h.val; omega)
    | ⟨1, _⟩ => Fin.ext (by show (((h.val * 16 + n.val) * 1 + 0) * 512 + b.val) / 1 % 8192 = 512 * n.val + b.val; omega)
    | ⟨2, _⟩ => rfl)

end Cert.Reference2Ideal.Hand

end

end
-- ==== Proof.Forward.Windows.lean ====
/-
  The forward launch: what each grid point finds in its two input windows and leaves in its two output windows. Point `t`
  works on head `t / 8` and the block `t % 8` of 1024 query rows.
-/
module

public import proofs.«01_k».proof.Proof.Forward.Rows
public import proofs.«01_k».proof.Proof.Forward.Reference
public import Idealize.ShloMosaic.Lib.Claim
public import Idealize.ShloMosaic.Lib.Pipeline.ValueKit.Geometry

@[expose] public section

set_option maxRecDepth 4000

noncomputable section

namespace Cert.Kernel2Ideal.Hand

open Cert.Kernel2Ideal Cert.Kernel2Ideal.Gen Cert.Attention
open Cert.Reference2Ideal.Hand (Args valuesOf valuesOf_val)
open Cert.ReferenceIdeal.Hand (col col2 sqrt96 log2)
open Idealize.ShloMosaic Idealize.ShloMosaic.TcCoe

section
variable (m : (ℓ : Loc nD τ sig) → Buf (Elt Ideal) ℓ) (c : Dev nD)

/-- The two arguments on core `c`. -/
abbrev a0 : FVec Ideal S8192x1024 .f32 := m ((c : Thread nD τ).loc main_arg0)
abbrev a1 : FVec Ideal S8192x2048 .f32 := m ((c : Thread nD τ).loc main_arg1)

/-- The queries over the square root of 96 and log 2. -/
def queriesArr (x0 : FVec Ideal S8192x1024 .f32) : FVec Ideal S8192x1024 .bf16 :=
  truncf .bf16 (Host.divf x0 (broadcastInDim S8192x1024 ![] bcast_S_S8192x1024
    (mulf (Host.sqrt (constant S_ .f32 0x42C00000#32)) (Host.log (constant S_ .f32 0x40000000#32))))) bitsLt_bf16_f32

set_option backward.isDefEq.respectTransparency.types false in
theorem V_queries : V m c main_v5 = queriesArr (a0 m c) := by
  dsimp only [V, hostOps0, List.flatten_cons, List.flatten_nil, List.append_nil, List.cons_append, List.nil_append]; after_results; rfl
set_option backward.isDefEq.respectTransparency.types false in
theorem V_keys : V m c main_v6 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val % 8, t.val / 8] := (by decide +kernel : ∀ t : Fin grid0.N, _)
theorem index1 : ∀ t : Fin cfg0.N, win0_1.index t = ![0, t.val / 8] := (by decide +kernel : ∀ t : Fin grid0.N, _)
theorem index2 : ∀ t : Fin cfg0.N, win0_2.index t = ![t.val % 8, t.val / 8] := (by decide +kernel : ∀ t : Fin grid0.N, _)
theorem index3 : ∀ t : Fin cfg0.N, win0_3.index t = ![t.val / 8, t.val % 8, 0, 0] := (by decide +kernel : ∀ t : Fin grid0.N, _)
theorem coord1 : ∀ t : Fin cfg0.N, (cfg0.grid.coords t 1).val = t.val % 8 := (by decide +kernel : ∀ t : Fin grid0.N, (grid0.coords t 1).val = t.val % 8)

theorem points (t : Fin cfg0.N) : t.val < 64 := t.isLt

/-- The head of a grid point. -/
def head (t : Fin cfg0.N) : Fin 8 := ⟨t.val / 8, by have := points t; omega⟩

theorem head_val (t : Fin cfg0.N) : (head t).val = t.val / 8 := rfl

section
variable (t : Fin cfg0.N)

theorem emb0 (r : Fin 1024) (d : Fin 128) : (win0_0.blk t).view.emb (ix2 r d) = ix2 ⟨1024 * (t.val % 8) + r.val, by omega⟩ (col (head t) d) := by
  blk_ext [index0]
  all_goals simp only [head_val]; omega
theorem emb1 (j : Fin 8192) (s : Fin 2) (d : Fin 128) (e : Fin 256) (he : e.val = 128 * s.val + d.val) :
    (win0_1.blk t).view.emb (ix2 j e) = ix2 j (col2 (head t) s d) := by
  blk_ext [index1]
  all_goals simp only [head_val]; omega
theorem emb2 (r : Fin 1024) (d : Fin 128) : (win0_2.blk t).view.emb (ix2 r d) = ix2 ⟨1024 * (t.val % 8) + r.val, by omega⟩ (col (head t) d) := by
  blk_ext [index2]
  all_goals simp only [head_val]; omega
theorem emb3 (p : Fin 2) (s : Fin 8) (b : Fin 512) :
    (win0_3.blk t).view.emb (ix4 0 p s b) = ix4 (head t) ⟨2 * (t.val % 8) + p.val, by omega⟩ s b := by
  blk_ext [index3]
  all_goals simp only [head_val]; omega
end

variable {m : (ℓ : Loc nD τ sig) → Buf (Elt Ideal) ℓ} {c : Dev nD} (t : Fin cfg0.N)

theorem read0 (r : Fin 1024) (d : Fin 128) :
    iblk m c 0 t (ix2 r d) = V m c main_v5 (ix2 ⟨1024 * (t.val % 8) + r.val, by omega⟩ (col (head t) d)) :=
  congrArg (V m c main_v5) (emb0 t r d)
theorem read1 (j : Fin 8192) (s : Fin 2) (d : Fin 128) (e : Fin 256) (he : e.val = 128 * s.val + d.val) :
    iblk m c 1 t (ix2 j e) = V m c main_v6 (ix2 j (col2 (head t) s d)) :=
  congrArg (V m c main_v6) (emb1 t j s d e he)

/-- A change of format keeps every value. -/
theorem narrow_at {s : Shape} (x : FVec Ideal s .f32) (h : FTy.bf16.bits < FTy.f32.bits) (i : s.Idx) :
    (truncf .bf16 x h : FVec Ideal s .bf16) i = x i := rfl

variable {q k : Fin 8 → Rows} (H : Args (a0 m c) (a1 m c) q k)

include H

theorem queriesArr_at (i : Fin 8192) (h : Fin 8) (d : Fin 128) :
    queriesArr (a0 m c) (ix2 i (col h d)) = ((q h i.val d * (1 / (√96 * Real.log 2)) : ℝ) : EReal) := by
  have e : queriesArr (a0 m c) (ix2 i (col h d)) = Ideal.div (a0 m c (ix2 i (col h d)))
      (Ideal.sqrt (Ideal.ofBits .f32 0x42C00000#32) * Ideal.log (Ideal.ofBits .f32 0x40000000#32)) := by
    generalize a0 m c = y
    pointwise [queriesArr]
  rw [e, H.hq, sqrt96, log2, ← EReal.coe_mul, Ideal.div_coe (mul_pos sqrt96_pos log2_pos).ne', ← EReal.coe_mul]

/-- What point `t` finds in its windows. -/
theorem loaded : Loaded (q (head t)) (k (head t)) (valuesOf (a1 m c) (head t)) (t.val % 8) (iblk m c 0 t) (iblk m c 1 t) where
  hq r d := by
    rw [read0, V_queries, queriesArr_at H]
  hk j d := by
    rw [read1 t j 0 d _ (by show d.val = 128 * 0 + d.val; omega), V_keys, narrow_at, H.hk]
  hv j d := by
    rw [read1 t j 1 d _ (by show 128 + d.val = 128 * 1 + d.val; omega), V_keys, narrow_at, valuesOf_val]

end Cert.Kernel2Ideal.Hand

end

end
-- ==== Proof.Forward.Arrays.lean ====
/-
  The forward launch's two output arrays are the reference's results.
-/
module

public import proofs.«01_k».proof.Proof.Forward.Windows
public import proofs.«01_k».proof.Proof.Gen.Kernel2Ideal.Value

@[expose] public section

set_option maxRecDepth 4000

noncomputable section

namespace Cert.Kernel2Ideal.Hand

open Cert.Kernel2Ideal Cert.Kernel2Ideal.Gen Cert.Attention
open Cert.Reference2Ideal.Read (val_main_v58 val_main_v60)
open Cert.Reference2Ideal.Hand (Args valuesOf)
open Cert.ReferenceIdeal.Hand (col)
open Idealize.ShloMosaic Idealize.ShloMosaic.TcCoe

/-! ## Two pieces of a window -/

theorem put_in (D : Vec Ideal S1024x128 .f32) (n : ℕ) (W : Vec Ideal S512x128 .f32) (r : Fin 1024) (a : Fin 512) (d : Fin 128)
    (h : r.val = n + a.val) : VecWindow.put D ![n, 0] S512x128.size W (ix2 r d) = W (ix2 a d) := by
  unfold VecWindow.put
  rw [dif_pos (fun x => match x with
    | ⟨0, _⟩ => ⟨by show n ≤ r.val; omega, by show r.val < n + 512; omega⟩
    | ⟨1, _⟩ => ⟨Nat.zero_le _, by show d.val < 0 + 128; omega⟩)]
  exact congrArg W (funext fun x => match x with
    | ⟨0, _⟩ => Fin.ext (by show r.val - n = a.val; omega)
    | ⟨1, _⟩ => rfl)

theorem put_out (D : Vec Ideal S1024x128 .f32) (n : ℕ) (W : Vec Ideal S512x128 .f32) (r : Fin 1024) (d : Fin 128)
    (h : r.val < n) : VecWindow.put D ![n, 0] S512x128.size W (ix2 r d) = D (ix2 r d) := by
  unfold VecWindow.put
  rw [dif_neg fun hh => by have := (hh 0).1; change n ≤ r.val at this; omega]

theorem put4_in (D : Vec Ideal S1x2x8x512 .f32) (p : Fin 2) (W : Vec Ideal S1x1x8x512 .f32) (s : Fin 8) (b : Fin 512) :
    VecWindow.put D ![0, p.val, 0, 0] S1x1x8x512.size W (ix4 0 p s b) = W (ix4 0 0 s b) := by
  unfold VecWindow.put
  rw [dif_pos (fun x => match x with
    | ⟨0, _⟩ => ⟨le_rfl, Nat.one_pos⟩
    | ⟨1, _⟩ => ⟨le_rfl, Nat.lt_succ_self p.val⟩
    | ⟨2, _⟩ => ⟨Nat.zero_le _, by show s.val < 0 + 8; omega⟩
    | ⟨3, _⟩ => ⟨Nat.zero_le _, by show b.val < 0 + 512; omega⟩)]
  exact congrArg W (funext fun x => match x with
    | ⟨0, _⟩ => rfl
    | ⟨1, _⟩ => Fin.ext (by show p.val - p.val = 0; omega)
    | ⟨2, _⟩ => rfl
    | ⟨3, _⟩ => rfl)

theorem put4_out (D : Vec Ideal S1x2x8x512 .f32) (W : Vec Ideal S1x1x8x512 .f32) (s : Fin 8) (b : Fin 512) :
    VecWindow.put D ![0, 1, 0, 0] S1x1x8x512.size W (ix4 0 0 s b) = D (ix4 0 0 s b) := by
  unfold VecWindow.put
  rw [dif_neg fun hh => by have := (hh 1).1; change 1 ≤ 0 at this; omega]

/-! ## A point's two output windows -/

section
variable (c : Dev nD) (i : grid0.Coords) (arg2 : Memref sig .tc .vmem S1024x128 .bf16) (harg2 : arg2.IsWhole) (arg3 : Memref sig .tc .vmem S8192x256 .bf16) (harg3 : arg3.IsWhole) (arg4 : Memref sig .tc .vmem S1024x128 .f32) (harg4 : arg4.IsWhole) (arg5 : Memref sig .tc .vmem S1x2x8x512 .f32) (harg5 : arg5.IsWhole)
  (x0 : Vec Ideal S1024x128 .bf16) (x1 : Vec Ideal S8192x256 .bf16) {q k : Rows} {v : Values}

theorem outputs_at (L : Loaded q k v (i 1).val x0 x1) (r : Fin 1024) (d : Fin 128) :
    out0_A_2 c i arg2 harg2 arg3 harg3 arg4 harg4 arg5 harg5 x0 x1 (ix2 r d) = output q k v (1024 * (i 1).val + r.val) d := by
  have h8 : (i 1).val < 8 := (i 1).isLt
  unfold out0_A_2
  rw [pieces2, View.read_writes_cons_put _ _ _ _ _ rfl, View.read_writes_cons_put _ _ _ _ _ rfl, View.writes_nil]
  by_cases h : r.val < 512
  · rw [put_out _ 512 _ r d h, put_in _ 0 _ r ⟨r.val, h⟩ d (by show r.val = 0 + r.val; omega)]
    exact out0_at L h8 ⟨r.val, h⟩ d
  · rw [put_in _ 512 _ r ⟨r.val - 512, by omega⟩ d (by show r.val = 512 + (r.val - 512); omega)]
    refine (out1_at L h8 ⟨r.val - 512, by omega⟩ d).trans ?_
    rw [show 1024 * (i 1).val + 512 + (⟨r.val - 512, by omega⟩ : Fin 512).val = 1024 * (i 1).val + r.val by
      show 1024 * (i 1).val + 512 + (r.val - 512) = 1024 * (i 1).val + r.val; omega]

theorem stats_at (L : Loaded q k v (i 1).val x0 x1) (p : Fin 2) (s : Fin 8) (b : Fin 512) :
    out0_A_3 c i arg2 harg2 arg3 harg3 arg4 harg4 arg5 harg5 x0 x1 (ix4 0 p s b)
      = ((logSumExp q k (1024 * (i 1).val + 512 * p.val + b.val) : ℝ) : EReal) := by
  have h8 : (i 1).val < 8 := (i 1).isLt
  unfold out0_A_3
  rw [pieces3, View.read_writes_cons_put _ _ _ _ _ rfl, View.read_writes_cons_put _ _ _ _ _ rfl, View.writes_nil]
  match p with
  | ⟨0, _⟩ => exact (put4_out _ _ s b).trans ((put4_in _ 0 _ s b).trans (lse0_at L h8 b s))
  | ⟨1, _⟩ => exact (put4_in _ 1 _ s b).trans (lse1_at L h8 b s)
end

/-! ## The arrays -/

theorem block2 (y : S1024x128.Idx) : ∃ (r : Fin 1024) (d : Fin 128), y = ix2 r d :=
  ⟨y 0, y 1, funext fun a => match a with
    | ⟨0, _⟩ => rfl
    | ⟨1, _⟩ => rfl⟩
theorem block3 (y : S1x2x8x512.Idx) : ∃ (p : Fin 2) (s : Fin 8) (b : Fin 512), y = ix4 0 p s b :=
  ⟨y 1, y 2, y 3, funext fun a => match a with
    | ⟨0, _⟩ => Fin.ext (by have : (y 0).val < 1 := (y 0).isLt; show (y 0).val = 0; omega)
    | ⟨1, _⟩ => rfl
    | ⟨2, _⟩ => rfl
    | ⟨3, _⟩ => rfl⟩

variable {m : (ℓ : Loc nD τ sig) → Buf (Elt Ideal) ℓ} {c : Dev nD} {q k : Fin 8 → Rows} (H : Args (a0 m c) (a1 m c) q k)

include H

/-- What point `t` finds, at its coordinates. -/
theorem loaded' (t : Fin cfg0.N) :
    Loaded (q (head t)) (k (head t)) (valuesOf (a1 m c) (head t)) (cfg0.grid.coords t 1).val (iblk m c 0 t) (iblk m c 1 t) := by
  rw [coord1 t]; exact loaded t H

/-- The attention output. -/
theorem array2 : (dats m 0 c).arrAt 2 cfg0.N = val_main_v58 (F := Ideal) (a0 m c) (a1 m c) := by
  refine (dats m 0 c).arrAt_eq_of_covers 2 _ (by decide +kernel) fun t hf y => ?_
  blk_simp
  rw [after0_2]
  simp only [outsAt0]
  obtain ⟨r, d, rfl⟩ := block2 y
  rw [emb2, Cert.Reference2Ideal.Hand.v58_eq H]
  refine (outputs_at c _ _ _ _ _ _ _ _ _ _ _ (loaded' H t) r d).trans ?_
  rw [coord1 t]

/-- The log-sum-exps. -/
theorem array3 : (dats m 0 c).arrAt 3 cfg0.N = val_main_v60 (F := Ideal) (a0 m c) (a1 m c) := by
  refine (dats m 0 c).arrAt_eq_of_covers 3 _ (by decide +kernel) fun t hf y => ?_
  blk_simp
  rw [after0_3]
  simp only [outsAt0]
  obtain ⟨p, s, b, rfl⟩ := block3 y
  rw [emb3, Cert.Reference2Ideal.Hand.v60_eq H]
  refine (stats_at c _ _ _ _ _ _ _ _ _ _ _ (loaded' H t) p s b).trans ?_
  rw [coord1 t, show 1024 * (t.val % 8) + 512 * p.val + b.val = 512 * (2 * (t.val % 8) + p.val) + b.val by omega]

end Cert.Kernel2Ideal.Hand

end

end
-- ==== Proof.Forward.Finite.lean ====
/-
  What the forward call's precondition gives: every query and every key is a real number.
-/
module

public import proofs.«01_k».proof.Proof.Value.Finite
public import proofs.«01_k».proof.Proof.Forward.Reference
public import proofs.«01_k».proof.Pre_finite2

@[expose] public section

set_option maxRecDepth 4000

noncomputable section

namespace Cert.Pre_finite2.Hand

open Cert.Pre_finite2 Cert.Attention
open Cert.Reference2Ideal.Hand (Args query_at key_at)
open Cert.ReferenceIdeal.Read (val_main_v1 val_main_v3)
open Cert.Pre_finite.Hand (isReal of_isReal both rowsOf halfOf)
open Idealize.ShloMosaic

/-- The side conditions the precondition's text states. -/
instance facts : Cert.Pre_finite2.Facts where
  shapeCasts_S8192x1024_S8192x8x128 := by decide
  bcast_S_S8192x8x128 := by decide
  shapeCasts_S8192x2048_S8192x8x2x128 := by decide
  slices_S8192x8x2x128_S8192x8x1x128_0_0_0_0 := by decide
  shapeCasts_S8192x8x1x128_S8192x8x128 := by decide

variable {x0 : FVec Ideal S8192x1024 .f32} {x1 : FVec Ideal S8192x2048 .f32}

/-- The test of two arrays' entries. -/
def test (y z : FVec Ideal S8192x8x128 .f32) : IVec S8192x8x128 1 :=
  andi (cmpf .olt (Host.absf y) (broadcastInDim S8192x8x128 ![] Facts.bcast_S_S8192x8x128 (constant S_ .f32 0x7F800000#32)))
    (cmpf .olt (Host.absf z) (broadcastInDim S8192x8x128 ![] Facts.bcast_S_S8192x8x128 (constant S_ .f32 0x7F800000#32)))

theorem test_at (y z : FVec Ideal S8192x8x128 .f32) (i : Fin 8192) (h : Fin 8) (d : Fin 128) : test y z (ix3 i h d) = isReal (y (ix3 i h d)) &&& isReal (z (ix3 i h d)) := by
  pointwise [test, isReal]
  simp only [IntOp.andi, Ideal.absf_def]

/-- The precondition tests the queries and the keys. -/
theorem fn_eq : Cert.Pre_finite2.fn (F := Ideal) x0 x1 = test (val_main_v1 (F := Ideal) x0) (val_main_v3 (F := Ideal) x1) := by
  unfold val_main_v3 Cert.ReferenceIdeal.Read.val_main_v2 Cert.ReferenceIdeal.Read.val_main_v0 val_main_v1 test Cert.Pre_finite2.fn
  rfl

/-- Under the precondition the queries and keys are real numbers. -/
theorem args (hpre : Cert.Pre_finite2.fn (F := Ideal) x0 x1 = fun _ => 1#1) : Args x0 x1 (rowsOf x0) (halfOf x1 0) := by
  have entry : ∀ (i : Fin 8192) (h : Fin 8) (d : Fin 128),
      isReal (x0 (ix2 i (Cert.ReferenceIdeal.Hand.col h d))) = 1#1 ∧ isReal (x1 (ix2 i (Cert.ReferenceIdeal.Hand.col2 h 0 d))) = 1#1 := fun i h d => by
    have e := (test_at _ _ i h d).symm.trans (congrFun (fn_eq.symm.trans hpre) (ix3 i h d))
    rw [query_at, key_at] at e
    exact both e
  refine ⟨fun i h d => ?_, fun i h d => ?_⟩
  · have e : Fin.ofNat 8192 i.val = i := Fin.ext (Nat.mod_eq_of_lt i.isLt)
    rw [rowsOf, e]; exact of_isReal (entry i h d).1
  · have e : Fin.ofNat 8192 i.val = i := Fin.ext (Nat.mod_eq_of_lt i.isLt)
    rw [halfOf, e]; exact of_isReal (entry i h d).2

end Cert.Pre_finite2.Hand

end

end
-- ==== Proof.Forward.Claim.lean ====
/-
  The forward call's value claim: from finite arguments the kernel and the reference end with the same two arrays.
-/
module

public import proofs.«01_k».proof.Defs
public import proofs.«01_k».proof.Proof.Gen.Reference2Ideal.Run
public import proofs.«01_k».proof.Proof.Forward.Arrays
public import proofs.«01_k».proof.Proof.Forward.Finite

@[expose] public section

set_option maxRecDepth 4000

noncomputable section

namespace Cert.Kernel2Ideal.Hand

open Cert.Kernel2Ideal Cert.Kernel2Ideal.Gen
open Cert.Reference2Ideal.Read
open Idealize.ShloMosaic Idealize.ShloMosaic.TcCoe Idealize.SL.Sem

variable (m : (ℓ : Loc nD τ sig) → Buf (Elt Ideal) ℓ) (ρ : Dev nD → PrngReg)

/-- The kernel's run, with its two results. -/
theorem run_values (hpre : Pre_Kernel2Ideal_finite2 m) : θ_run defs (onTc (τ := τ) (main (F := Ideal))) ⟨m, fun _ => 0, ρ⟩ (fun r => ∀ c : Dev nD,
      r.2.mem ((c.tc : Thread nD τ).loc main_v7_0) = val_main_v58 (F := Ideal) (a0 m c) (a1 m c)
      ∧ r.2.mem ((c.tc : Thread nD τ).loc main_v7_1) = val_main_v60 (F := Ideal) (a0 m c) (a1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    have H := Cert.Pre_finite2.Hand.args (hpre c)
    ⟨(h c).1.trans (array2 H), (h c).2.1.trans (array3 H), (h c).2.2⟩) (Cert.Kernel2Ideal.Value.run_blocks m ρ)

/-- The two programs' results agree. -/
theorem agree : algebraic_Kernel2Ideal_Reference2Ideal_pre_finite2 := by
  intro m g m' g' hpre hargs
  refine ⟨fun c => val_main_v58 (F := Ideal) (a0 m c) (a1 m c), fun c => val_main_v60 (F := Ideal) (a0 m c) (a1 m c),
    run_values m g hpre, (θ_run Cert.Reference2Ideal.defs _ _).mono (fun r h c => ?_) (Cert.Reference2Ideal.Value.run (F := Ideal) m' g')⟩
  obtain ⟨h0, h1, h2⟩ := h c
  obtain ⟨e0, e1⟩ := hargs c
  refine ⟨h0.trans ((val_main_v58_eq m' c).trans ?_), h1.trans ((val_main_v60_eq (F := Ideal) _ _).trans ?_), h2⟩
  · rw [e0, e1]
  · rw [e0, e1]

end Cert.Kernel2Ideal.Hand

end

end
-- ==== Proof.Mlp.DownDx.lean ====
/-
  The gradient of the MLP's pre-activation: what the launch leaves is the reference's result.
-/
module

public import proofs.«01_k».proof.Proof.Gen.Kernel3Ideal.Value
public import proofs.«01_k».proof.Proof.Gen.Reference3Ideal.Read
public import proofs.«01_k».proof.Proof.Value.RefInputs
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel3Ideal.Hand

open Cert.Kernel3Ideal Cert.Kernel3Ideal.Gen
open Cert.Reference3Ideal.Read
open Idealize.ShloMosaic Idealize.ShloMosaic.TcCoe

theorem zeros : (![0, 0] : Fin 2 → Nat) = fun _ => 0 := funext fun a => by fin_cases a <;> rfl

/-- What a point leaves in its output window. -/
theorem out_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)
    (x0 x1 x2 : Vec Ideal S1024x1024 .bf16) :
    out0_A_3 c i arg3 harg3 arg4 harg4 arg5 harg5 arg6 harg6 arg7 harg7 x0 x1 x2 = k0_pay1 x0 x1 x2 := by
  unfold out0_A_3
  rw [View.read_writes_eq_canon _ _ _ (cover0_A_3 c i arg3 harg3 arg4 harg4 arg5 harg5 arg6 harg6 arg7 harg7 x0 x1 x2)]
  unfold kernelRun0_A
  dsimp only
  rw [View.canon_unit_zero zeros]
  simp only [View.readAt_eq_ld, harg3.read_unread, harg4.read_unread, harg5.read_unread, View.ld_unit_zero (S := S1024x1024) zeros]

/-- The product with the transposed block, times twice the third block. -/
theorem pay_at (x0 x1 x2 : Vec Ideal S1024x1024 .bf16) (r d : Fin 1024) :
    k0_pay1 x0 x1 x2 (ix2 r d) = (∑ e : Fin 1024, x0 (ix2 r e) * x1 (ix2 d e)) * ((2 : ℝ) * x2 (ix2 r d)) := by
  rw [← Cert.ReferenceIdeal.Hand.lit2]
  pointwise [k0_pay1]

section
variable (m : (ℓ : Loc nD τ sig) → Buf (Elt Ideal) ℓ) (c : Dev nD)

/-- The three arguments on core `c`. -/
abbrev a0 : FVec Ideal S8192x1024 .f32 := m ((c : Thread nD τ).loc main_arg0)
abbrev a1 : FVec Ideal S4096x1024 .f32 := m ((c : Thread nD τ).loc main_arg1)
abbrev a2 : FVec Ideal S8192x4096 .f32 := m ((c : Thread nD τ).loc main_arg2)

set_option backward.isDefEq.respectTransparency.types false in
theorem V_dy : V m c main_v3 = truncf .bf16 (a0 m c) bitsLt_bf16_f32 := by
  dsimp only [V, hostOps0, List.flatten_cons, List.flatten_nil, List.append_nil, List.cons_append, List.nil_append]; after_results
set_option backward.isDefEq.respectTransparency.types false in
theorem V_w : V m c main_v4 = truncf .bf16 (a1 m c) bitsLt_bf16_f32 := by
  dsimp only [V, hostOps0, List.flatten_cons, List.flatten_nil, List.append_nil, List.cons_append, List.nil_append]; after_results
set_option backward.isDefEq.respectTransparency.types false in
theorem V_r : V m c main_v2 = truncf .bf16 (maximumf (a2 m c) (broadcastInDim S8192x4096 ![] bcast_S_S8192x4096 (constant S_ .f32 0x00000000#32))) bitsLt_bf16_f32 := by
  dsimp only [V, hostOps0, List.flatten_cons, List.flatten_nil, List.append_nil, List.cons_append, List.nil_append]; after_results
end

theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, t.val % 4] := (by decide +kernel : ∀ t : Fin grid0.N, _)
theorem index3 : ∀ t : Fin cfg0.N, win0_3.index t = ![t.val / 4, t.val % 4] := (by decide +kernel : ∀ t : Fin grid0.N, _)

theorem points (t : Fin cfg0.N) : t.val < 32 := t.isLt

/-- A point's row and column of the result, from those of its block. -/
def row (t : Fin cfg0.N) (r : Fin 1024) : Fin 8192 := ⟨1024 * (t.val / 4) + r.val, by have := points t; omega⟩
def colm (t : Fin cfg0.N) (d : Fin 1024) : Fin 4096 := ⟨1024 * (t.val % 4) + d.val, by omega⟩
theorem row_val (t : Fin cfg0.N) (r : Fin 1024) : (row t r).val = 1024 * (t.val / 4) + r.val := rfl
theorem colm_val (t : Fin cfg0.N) (d : Fin 1024) : (colm t d).val = 1024 * (t.val % 4) + d.val := rfl

section
variable (t : Fin cfg0.N) (r d e : Fin 1024)

theorem emb0 : (win0_0.blk t).view.emb (ix2 r e) = ix2 (row t r) e := by
  blk_ext [index0]
  all_goals first | (simp only [row_val]; omega) | omega
theorem emb1 : (win0_1.blk t).view.emb (ix2 d e) = ix2 (colm t d) e := by
  blk_ext [index1]
  all_goals first | (simp only [colm_val]; omega) | omega
theorem emb2 : (win0_2.blk t).view.emb (ix2 r d) = ix2 (row t r) (colm t d) := by
  blk_ext [index2]
  all_goals simp only [row_val, colm_val]; omega
theorem emb3 : (win0_3.blk t).view.emb (ix2 r d) = ix2 (row t r) (colm t d) := by
  blk_ext [index3]
  all_goals simp only [row_val, colm_val]; omega

variable (m : (ℓ : Loc nD τ sig) → Buf (Elt Ideal) ℓ) (c : Dev nD)

theorem read0 : iblk m c 0 t (ix2 r e) = a0 m c (ix2 (row t r) e) := by
  refine (congrArg (V m c main_v3) (emb0 t r e)).trans ?_
  rw [V_dy]; rfl
theorem read1 : iblk m c 1 t (ix2 d e) = a1 m c (ix2 (colm t d) e) := by
  refine (congrArg (V m c main_v4) (emb1 t d e)).trans ?_
  rw [V_w]; rfl
theorem read2 : iblk m c 2 t (ix2 r d) = max (a2 m c (ix2 (row t r) (colm t d))) 0 := by
  refine (congrArg (V m c main_v2) (emb2 t r d)).trans ?_
  rw [V_r, ← Ideal.ofBits_zero_f32]
  generalize a2 m c = y
  pointwise
end

/-! ## The reference -/

theorem ref_at (x0 : FVec Ideal S8192x1024 .f32) (x1 : FVec Ideal S4096x1024 .f32) (x2 : FVec Ideal S8192x4096 .f32) (i : Fin 8192) (j : Fin 4096) :
    val_main_v12 (F := Ideal) x0 x1 x2 (ix2 i j) = (∑ e : Fin 1024, x0 (ix2 i e) * x1 (ix2 j e)) * ((2 : ℝ) * max (x2 (ix2 i j)) 0) := by
  have e8 : val_main_v8 (F := Ideal) x0 x1 (ix2 i j) = ∑ e : Fin 1024, x0 (ix2 i e) * x1 (ix2 j e) := by
    rw [val_main_v8_apply]
    refine Finset.sum_congr rfl fun e _ => congrArg₂ _ (congrArg x0 ?_) (congrArg x1 ?_)
    · exact funext fun a => match a with | ⟨0, _⟩ => rfl | ⟨1, _⟩ => rfl
    · exact funext fun a => match a with | ⟨0, _⟩ => rfl | ⟨1, _⟩ => rfl
  have e6 : val_main_v6 (F := Ideal) x2 (ix2 i j) = (2 : ℝ) * max (x2 (ix2 i j)) 0 := by
    rw [val_main_v6_apply, val_main_v5_apply, val_main_cst_1_apply, val_main_v0_apply, val_main_call0_v0_apply, val_main_call0_cst_apply,
      ← Cert.ReferenceIdeal.Hand.lit2, ← Ideal.ofBits_zero_f32]
    rfl
  rw [val_main_v12_apply, val_main_v11_apply, val_main_v2_apply, val_main_v9_apply, val_main_v1_apply, val_main_cst_apply, val_main_v10_apply, val_main_cst_2_apply, e8, e6]
  show Scalar.select (Ideal.cmp .ogt (x2 (ix2 i j)) (Ideal.ofBits .f32 0x00000000#32)) (_ * _ : EReal) (Ideal.ofBits .f32 0x00000000#32) = _
  rw [Ideal.ofBits_zero_f32]
  by_cases h : 0 < x2 (ix2 i j)
  · have : Ideal.cmp .ogt (x2 (ix2 i j)) 0 = 1#1 := by simp [Ideal.cmp, h]
    rw [this]; rfl
  · have : Ideal.cmp .ogt (x2 (ix2 i j)) 0 = 0#1 := by simp [Ideal.cmp, h]
    rw [this, max_eq_right (not_lt.mp h), mul_zero, mul_zero]; rfl

/-! ## The array -/

theorem block (y : S1024x1024.Idx) : ∃ r d : Fin 1024, y = ix2 r d :=
  ⟨y 0, y 1, funext fun a => match a with
    | ⟨0, _⟩ => rfl
    | ⟨1, _⟩ => rfl⟩

theorem array (m : (ℓ : Loc nD τ sig) → Buf (Elt Ideal) ℓ) (c : Dev nD) :
    (dats m 0 c).arrAt 3 cfg0.N = val_main_v12 (F := Ideal) (a0 m c) (a1 m c) (a2 m c) := by
  refine (dats m 0 c).arrAt_eq_of_covers 3 _ (by decide +kernel) fun t hf y => ?_
  blk_simp
  rw [after0_3]
  simp only [outsAt0]
  obtain ⟨r, d, rfl⟩ := block y
  rw [emb3, out_eq, pay_at, ref_at, read2]
  refine congrArg (· * _) (Finset.sum_congr rfl fun e _ => ?_)
  rw [read0, read1]

end Cert.Kernel3Ideal.Hand

end

end
-- ==== Proof.Mlp.DownDw.lean ====
/-
  The gradient of an MLP weight: eight blocks of 1024 rows are summed point after point, and the sum is the reference's
  sum over all the 8192 rows.
-/
module

public import proofs.«01_k».proof.Proof.Gen.Kernel4Ideal.Value
public import proofs.«01_k».proof.Proof.Gen.Reference4Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel4Ideal.Hand

open Cert.Kernel4Ideal Cert.Kernel4Ideal.Gen
open Cert.Reference4Ideal.Read
open Idealize.ShloMosaic Idealize.ShloMosaic.TcCoe

theorem zeros : (![0, 0] : Fin 2 → Nat) = fun _ => 0 := funext fun a => by fin_cases a <;> rfl

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec Ideal S1024x1024 .bf16) (xs0 : Vec Ideal S1024x1024 .f32)

/-- The first block of rows starts the sum. -/
theorem start_eq (hc0 : cond0_0 i) (hc1 : ¬cond0_1 i) (hc2 : ¬cond0_2 i) : sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero zeros]
  simp only [View.readAt_eq_ld, harg3.read_unread, harg4.read_unread, harg6.read_unread, View.ld_unit_zero (S := S1024x1024) zeros]

/-- A later one adds to it. -/
theorem add_eq (hc0 : ¬cond0_0 i) (hc1 : cond0_1 i) (hc2 : ¬cond0_2 i) : sout0_B_0 c i arg3 harg3 arg4 harg4 arg5 harg5 arg6 harg6 hc0 hc1 hc2 x0 x1 xs0 = k0_pay2 xs0 x0 x1 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero zeros]
  simp only [View.readAt_eq_ld, harg3.read_unread, harg4.read_unread, harg6.read_unread, View.ld_unit_zero (S := S1024x1024) zeros]

/-- So does the last one, … -/
theorem last_eq (hc0 : ¬cond0_0 i) (hc1 : cond0_1 i) (hc2 : cond0_2 i) : sout0_C_0 c i arg3 harg3 arg4 harg4 arg5 harg5 arg6 harg6 hc0 hc1 hc2 x0 x1 xs0 = k0_pay2 xs0 x0 x1 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero zeros]
  simp only [View.readAt_eq_ld, harg3.read_unread, harg4.read_unread, harg6.read_unread, View.ld_unit_zero (S := S1024x1024) zeros]

/-- … which also leaves the sum in the output window. -/
theorem out_eq (hc0 : ¬cond0_0 i) (hc1 : cond0_1 i) (hc2 : cond0_2 i) : out0_C_2 c i arg3 harg3 arg4 harg4 arg5 harg5 arg6 harg6 hc0 hc1 hc2 x0 x1 xs0 = k0_pay2 xs0 x0 x1 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero zeros, View.readCov_unit_zero (S := S1024x1024) _ zeros]
  simp only [View.readAt_eq_ld, harg3.read_unread, harg4.read_unread, harg6.read_unread, View.ld_unit_zero (S := S1024x1024) zeros]
end

theorem pay1_at (x0 x1 : Vec Ideal S1024x1024 .bf16) (r d : Fin 1024) :
    k0_pay1 x0 x1 (ix2 r d) = ∑ e : Fin 1024, x0 (ix2 e r) * x1 (ix2 e d) := by
  pointwise [k0_pay1]
theorem pay2_at (y : Vec Ideal S1024x1024 .f32) (x0 x1 : Vec Ideal S1024x1024 .bf16) (r d : Fin 1024) :
    k0_pay2 y x0 x1 (ix2 r d) = y (ix2 r d) + ∑ e : Fin 1024, x0 (ix2 e r) * x1 (ix2 e d) := by
  pointwise [k0_pay2]

section
variable (m : (ℓ : Loc nD τ sig) → Buf (Elt Ideal) ℓ) (c : Dev nD)

/-- The two arguments on core `c`. -/
abbrev a0 : FVec Ideal S8192x4096 .f32 := m ((c : Thread nD τ).loc main_arg0)
abbrev a1 : FVec Ideal S8192x1024 .f32 := m ((c : Thread nD τ).loc main_arg1)

set_option backward.isDefEq.respectTransparency.types false in
theorem V_s : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_dy : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val % 8, t.val / 8] := (by decide +kernel : ∀ t : Fin grid0.N, _)
theorem index1 : ∀ t : Fin cfg0.N, win0_1.index t = ![t.val % 8, 0] := (by decide +kernel : ∀ t : Fin grid0.N, _)
theorem index2 : ∀ t : Fin cfg0.N, win0_2.index t = ![t.val / 8, 0] := (by decide +kernel : ∀ t : Fin grid0.N, _)

theorem points (t : Fin cfg0.N) : t.val < 32 := t.isLt

/-- The rows that a point sums over, and the row of the result that it works on. -/
def summed (t : Fin cfg0.N) (e : Fin 1024) : Fin 8192 := ⟨1024 * (t.val % 8) + e.val, by omega⟩
def row (t : Fin cfg0.N) (r : Fin 1024) : Fin 4096 := ⟨1024 * (t.val / 8) + r.val, by have := points t; omega⟩
theorem summed_val (t : Fin cfg0.N) (e : Fin 1024) : (summed t e).val = 1024 * (t.val % 8) + e.val := rfl
theorem row_val (t : Fin cfg0.N) (r : Fin 1024) : (row t r).val = 1024 * (t.val / 8) + r.val := rfl

section
variable (t : Fin cfg0.N) (r d e : Fin 1024)

theorem emb0 : (win0_0.blk t).view.emb (ix2 e r) = ix2 (summed t e) (row t r) := by
  blk_ext [index0]
  all_goals simp only [summed_val, row_val]; omega
theorem emb1 : (win0_1.blk t).view.emb (ix2 e d) = ix2 (summed t e) d := by
  blk_ext [index1]
  all_goals first | (simp only [summed_val]; omega) | omega
theorem emb2 : (win0_2.blk t).view.emb (ix2 r d) = ix2 (row t r) d := by
  blk_ext [index2]
  all_goals first | (simp only [row_val]; omega) | omega

variable (m : (ℓ : Loc nD τ sig) → Buf (Elt Ideal) ℓ) (c : Dev nD)

theorem read0 : iblk m c 0 t (ix2 e r) = a0 m c (ix2 (summed t e) (row t r)) := by
  refine (congrArg (V m c main_v0) (emb0 t r e)).trans ?_
  rw [V_s]; rfl
theorem read1 : iblk m c 1 t (ix2 e d) = a1 m c (ix2 (summed t e) d) := by
  refine (congrArg (V m c main_v1) (emb1 t d e)).trans ?_
  rw [V_dy]; rfl
end

/-! ## The sum so far -/

section
variable (m : (ℓ : Loc nD τ sig) → Buf (Elt Ideal) ℓ) (c : Dev nD)

/-- One row's contribution to an entry of the result. -/
def term (a : ℕ) (d : Fin 1024) (q : ℕ) : EReal :=
  if h : q < 8192 ∧ a < 4096 then a0 m c (ix2 ⟨q, h.1⟩ ⟨a, h.2⟩) * a1 m c (ix2 ⟨q, h.1⟩ d) else 0

/-- A point's product sums the contributions of its 1024 rows. -/
theorem product_at (t : Fin cfg0.N) (r d : Fin 1024) (x0 x1 : Vec Ideal S1024x1024 .bf16) (h0 : x0 = iblk m c 0 t) (h1 : x1 = iblk m c 1 t) :
    (∑ e : Fin 1024, x0 (ix2 e r) * x1 (ix2 e d) : EReal)
      = ∑ q ∈ Finset.range 1024, term m c (1024 * (t.val / 8) + r.val) d (1024 * (t.val % 8) + q) := by
  subst h0 h1
  rw [Finset.sum_range]
  refine Finset.sum_congr rfl fun e _ => ?_
  have := points t
  rw [read0, read1, term, dif_pos ⟨by omega, by omega⟩]
  rfl

/-- After a point, the scratch holds the sum of the contributions of the rows up to its own. -/
theorem so_far (n : ℕ) (hn : n < cfg0.N) (r d : Fin 1024) :
    (outsAt0 m c n hn).2 (ix2 r d) = ∑ q ∈ Finset.range (1024 * (n % 8 + 1)), term m c (1024 * (n / 8) + r.val) d q := by
  induction n with
  | zero =>
    rw [outsAt0_A m c ⟨0, hn⟩ rfl (by simp) (by simp)]
    dsimp only
    rw [start_eq, pay1_at, product_at m c ⟨0, hn⟩ r d _ _ rfl rfl]
    refine Finset.sum_congr rfl fun q _ => ?_
    show term m c _ d (0 + q) = _
    rw [Nat.zero_add]
  | succ n ih =>
    have hN : n + 1 < 32 := hn
    by_cases h0 : (n + 1) % 8 = 0
    · rw [outsAt0_A m c ⟨n + 1, hn⟩ h0 (by dsimp only; omega) (by dsimp only; omega)]
      dsimp only
      rw [start_eq, pay1_at, product_at m c ⟨n + 1, hn⟩ r d _ _ rfl rfl, h0]
      refine Finset.sum_congr rfl fun q _ => ?_
      rw [Nat.mul_zero, Nat.zero_add]
    · have e : 1024 * ((n + 1) % 8 + 1) = 1024 * (n % 8 + 1) + 1024 := by omega
      have e' : 1024 * ((n + 1) % 8) = 1024 * (n % 8 + 1) := by omega
      have e'' : (n + 1) / 8 = n / 8 := by omega
      rw [e, Finset.sum_range_add, e'', ← ih (Nat.lt_of_succ_lt hn)]
      have step := product_at m c ⟨n + 1, hn⟩ r d _ _ rfl rfl
      dsimp only at step
      rw [e', e''] at step
      by_cases h2 : (n + 1) % 8 = 7
      · rw [outsAt0_C m c ⟨n + 1, hn⟩ h0 (by dsimp only; omega) h2]
        dsimp only
        rw [last_eq, pay2_at, step]
        rfl
      · rw [outsAt0_B m c ⟨n + 1, hn⟩ h0 (by dsimp only; omega) h2]
        dsimp only
        rw [add_eq, pay2_at, step]
        rfl

/-- At a point that writes back, the output window holds what the scratch does. -/
theorem written (t : Fin cfg0.N) (h : t.val % 8 = 7) : (outsAt0 m c t.val t.isLt).1 = (outsAt0 m c t.val t.isLt).2 := by
  rw [outsAt0_C m c t (by omega) (by omega) h]
  dsimp only
  rw [out_eq, last_eq]
end

/-! ## The reference -/

theorem ref_at (x0 : FVec Ideal S8192x4096 .f32) (x1 : FVec Ideal S8192x1024 .f32) (i : Fin 4096) (j : Fin 1024) :
    val_main_v3 (F := Ideal) x0 x1 (ix2 i j) = ∑ q : Fin 8192, x0 (ix2 q i) * x1 (ix2 q j) := by
  rw [val_main_v3_apply, val_main_v2_apply]
  refine Finset.sum_congr rfl fun q _ => (mul_comm _ _).trans (congrArg₂ _ (congrArg x0 ?_) (congrArg x1 ?_))
  · exact funext fun a => match a with | ⟨0, _⟩ => rfl | ⟨1, _⟩ => rfl
  · exact funext fun a => match a with | ⟨0, _⟩ => rfl | ⟨1, _⟩ => rfl

/-! ## The array -/

theorem block (y : S1024x1024.Idx) : ∃ r d : Fin 1024, y = ix2 r d :=
  ⟨y 0, y 1, funext fun a => match a with
    | ⟨0, _⟩ => rfl
    | ⟨1, _⟩ => rfl⟩

theorem array (m : (ℓ : Loc nD τ sig) → Buf (Elt Ideal) ℓ) (c : Dev nD) :
    (dats m 0 c).arrAt 2 cfg0.N = val_main_v3 (F := Ideal) (a0 m c) (a1 m c) := by
  refine (dats m 0 c).arrAt_eq_of_covers 2 _ (by decide +kernel) fun t hf y => ?_
  blk_simp
  have h7 : t.val % 8 = 7 := (flush0_2 t).mp hf
  have := points t
  rw [after0_2, written m c t h7]
  obtain ⟨r, d, rfl⟩ := block y
  rw [emb2, ref_at]
  refine (so_far m c t.val t.isLt r d).trans ?_
  rw [h7, Finset.sum_range]
  refine Finset.sum_congr rfl fun q _ => ?_
  rw [term, dif_pos ⟨q.isLt, by omega⟩]
  rfl

end Cert.Kernel4Ideal.Hand

end

end
-- ==== Proof.Mlp.Up.lean ====
/-
  The MLP's first product with its squared ReLU: what the launch leaves is the reference's two results.
-/
module

public import proofs.«01_k».proof.Proof.Gen.Kernel5Ideal.Value
public import proofs.«01_k».proof.Proof.Gen.Reference5Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel5Ideal.Hand

open Cert.Kernel5Ideal Cert.Kernel5Ideal.Gen
open Cert.Reference5Ideal.Read
open Idealize.ShloMosaic Idealize.ShloMosaic.TcCoe

theorem zeros : (![0, 0] : Fin 2 → Nat) = fun _ => 0 := funext fun a => by fin_cases a <;> rfl

/-- What a point leaves in its two output windows. -/
theorem out2_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)
    (x0 x1 : Vec Ideal S1024x1024 .bf16) :
    out0_A_2 c i arg3 harg3 arg4 harg4 arg5 harg5 arg6 harg6 arg7 harg7 x0 x1 = k0_pay2 x0 x1 := by
  unfold out0_A_2
  rw [View.read_writes_eq_canon _ _ _ (cover0_A_2 c i arg3 harg3 arg4 harg4 arg5 harg5 arg6 harg6 arg7 harg7 x0 x1)]
  unfold kernelRun0_A
  dsimp only
  rw [View.canon_unit_zero zeros]
  simp only [View.readAt_eq_ld, harg3.read_unread, harg4.read_unread, View.ld_unit_zero (S := S1024x1024) zeros]
theorem out3_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)
    (x0 x1 : Vec Ideal S1024x1024 .bf16) :
    out0_A_3 c i arg3 harg3 arg4 harg4 arg5 harg5 arg6 harg6 arg7 harg7 x0 x1 = k0_pay3 x0 x1 := by
  unfold out0_A_3
  rw [View.read_writes_eq_canon _ _ _ (cover0_A_3 c i arg3 harg3 arg4 harg4 arg5 harg5 arg6 harg6 arg7 harg7 x0 x1)]
  unfold kernelRun0_A
  dsimp only
  rw [View.canon_unit_zero zeros]
  simp only [View.readAt_eq_ld, harg3.read_unread, harg4.read_unread, View.ld_unit_zero (S := S1024x1024) zeros]

/-- The ReLU of the product with the transposed block. -/
theorem relu_at (x0 x1 : Vec Ideal S1024x1024 .bf16) (r d : Fin 1024) :
    k0_pay1 x0 x1 (ix2 r d) = max (∑ e : Fin 1024, x0 (ix2 r e) * x1 (ix2 d e)) 0 := by
  rw [← Ideal.ofBits_zero_f32]
  pointwise [k0_pay1]
theorem first_at (x0 x1 : Vec Ideal S1024x1024 .bf16) (i : S1024x1024.Idx) : k0_pay2 x0 x1 i = k0_pay1 x0 x1 i := rfl
theorem second_at (x0 x1 : Vec Ideal S1024x1024 .bf16) (i : S1024x1024.Idx) : k0_pay3 x0 x1 i = k0_pay1 x0 x1 i * k0_pay1 x0 x1 i := rfl

section
variable (m : (ℓ : Loc nD τ sig) → Buf (Elt Ideal) ℓ) (c : Dev nD)

/-- The two arguments on core `c`. -/
abbrev a0 : FVec Ideal S8192x1024 .f32 := m ((c : Thread nD τ).loc main_arg0)
abbrev a1 : FVec Ideal S4096x1024 .f32 := m ((c : Thread nD τ).loc main_arg1)

set_option backward.isDefEq.respectTransparency.types false in
theorem V_h : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_w : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val / 4, 0] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, t.val % 4] := (by decide +kernel : ∀ t : Fin grid0.N, _)
theorem index3 : ∀ t : Fin cfg0.N, win0_3.index t = ![t.val / 4, t.val % 4] := (by decide +kernel : ∀ t : Fin grid0.N, _)

theorem points (t : Fin cfg0.N) : t.val < 32 := t.isLt

/-- A point's row and column of the result, from those of its block. -/
def row (t : Fin cfg0.N) (r : Fin 1024) : Fin 8192 := ⟨1024 * (t.val / 4) + r.val, by have := points t; omega⟩
def colm (t : Fin cfg0.N) (d : Fin 1024) : Fin 4096 := ⟨1024 * (t.val % 4) + d.val, by omega⟩
theorem row_val (t : Fin cfg0.N) (r : Fin 1024) : (row t r).val = 1024 * (t.val / 4) + r.val := rfl
theorem colm_val (t : Fin cfg0.N) (d : Fin 1024) : (colm t d).val = 1024 * (t.val % 4) + d.val := rfl

section
variable (t : Fin cfg0.N) (r d e : Fin 1024)

theorem emb0 : (win0_0.blk t).view.emb (ix2 r e) = ix2 (row t r) e := by
  blk_ext [index0]
  all_goals first | (simp only [row_val]; omega) | omega
theorem emb1 : (win0_1.blk t).view.emb (ix2 d e) = ix2 (colm t d) e := by
  blk_ext [index1]
  all_goals first | (simp only [colm_val]; omega) | omega
theorem emb2 : (win0_2.blk t).view.emb (ix2 r d) = ix2 (row t r) (colm t d) := by
  blk_ext [index2]
  all_goals simp only [row_val, colm_val]; omega
theorem emb3 : (win0_3.blk t).view.emb (ix2 r d) = ix2 (row t r) (colm t d) := by
  blk_ext [index3]
  all_goals simp only [row_val, colm_val]; omega

variable (m : (ℓ : Loc nD τ sig) → Buf (Elt Ideal) ℓ) (c : Dev nD)

theorem read0 : iblk m c 0 t (ix2 r e) = a0 m c (ix2 (row t r) e) := by
  refine (congrArg (V m c main_v0) (emb0 t r e)).trans ?_
  rw [V_h]; rfl
theorem read1 : iblk m c 1 t (ix2 d e) = a1 m c (ix2 (colm t d) e) := by
  refine (congrArg (V m c main_v1) (emb1 t d e)).trans ?_
  rw [V_w]; rfl
/-- The ReLU of the arguments' product, at a point's place of the result. -/
theorem relu_read : k0_pay1 (F := Ideal) (iblk m c 0 t) (iblk m c 1 t) (ix2 r d)
    = max (∑ e : Fin 1024, a0 m c (ix2 (row t r) e) * a1 m c (ix2 (colm t d) e)) 0 := by
  refine (relu_at _ _ r d).trans (congrArg (max · 0) (Finset.sum_congr rfl fun e _ => ?_))
  rw [read0, read1]
end

/-! ## The reference -/

section
variable (x0 : FVec Ideal S8192x1024 .f32) (x1 : FVec Ideal S4096x1024 .f32) (i : Fin 8192) (j : Fin 4096)

theorem ref_relu : val_main_v2 (F := Ideal) x0 x1 (ix2 i j) = max (∑ e : Fin 1024, x0 (ix2 i e) * x1 (ix2 j e)) 0 := by
  have e1 : val_main_v1 (F := Ideal) x0 x1 (ix2 i j) = ∑ e : Fin 1024, x0 (ix2 i e) * x1 (ix2 j e) := by
    rw [val_main_v1_apply]
    refine Finset.sum_congr rfl fun e _ => congrArg₂ _ (congrArg x0 ?_) ?_
    · exact funext fun a => match a with | ⟨0, _⟩ => rfl | ⟨1, _⟩ => rfl
    · rw [val_main_v0_apply]
      exact congrArg x1 (funext fun a => match a with | ⟨0, _⟩ => rfl | ⟨1, _⟩ => rfl)
  rw [val_main_v2_apply, val_main_call0_v0_apply, val_main_call0_cst_apply, e1, ← Ideal.ofBits_zero_f32]
  rfl
theorem ref_first : val_main_v3 (F := Ideal) x0 x1 (ix2 i j) = val_main_v2 (F := Ideal) x0 x1 (ix2 i j) := by
  rw [val_main_v3_apply]; rfl
theorem ref_second : val_main_v5 (F := Ideal) x0 x1 (ix2 i j) = val_main_v2 (F := Ideal) x0 x1 (ix2 i j) * val_main_v2 (F := Ideal) x0 x1 (ix2 i j) := by
  rw [val_main_v5_apply, val_main_v4_apply]; rfl
end

/-! ## The array -/

theorem block (y : S1024x1024.Idx) : ∃ r d : Fin 1024, y = ix2 r d :=
  ⟨y 0, y 1, funext fun a => match a with
    | ⟨0, _⟩ => rfl
    | ⟨1, _⟩ => rfl⟩

section
variable (m : (ℓ : Loc nD τ sig) → Buf (Elt Ideal) ℓ) (c : Dev nD)

/-- The ReLU. -/
theorem array2 : (dats m 0 c).arrAt 2 cfg0.N = val_main_v3 (F := Ideal) (a0 m c) (a1 m c) := by
  refine (dats m 0 c).arrAt_eq_of_covers 2 _ (by decide +kernel) fun t hf y => ?_
  blk_simp
  rw [after0_2]
  simp only [outsAt0]
  obtain ⟨r, d, rfl⟩ := block y
  rw [emb2, out2_eq, first_at, ref_first, ref_relu]
  exact relu_read t r d m c

/-- Its square. -/
theorem array3 : (dats m 0 c).arrAt 3 cfg0.N = val_main_v5 (F := Ideal) (a0 m c) (a1 m c) := by
  refine (dats m 0 c).arrAt_eq_of_covers 3 _ (by decide +kernel) fun t hf y => ?_
  blk_simp
  rw [after0_3]
  simp only [outsAt0]
  obtain ⟨r, d, rfl⟩ := block y
  rw [emb3, out3_eq, second_at, ref_second, ref_relu]
  exact congrArg₂ _ (relu_read t r d m c) (relu_read t r d m c)
end

end Cert.Kernel5Ideal.Hand

end

end
-- ==== Proof.Mlp.Claim.lean ====
/-
  The value claims of the MLP's calls: from any arguments the kernel and the reference end with the same arrays.
-/
module

public import proofs.«01_k».proof.Defs
public import proofs.«01_k».proof.Proof.Gen.Reference3Ideal.Run
public import proofs.«01_k».proof.Proof.Gen.Reference4Ideal.Run
public import proofs.«01_k».proof.Proof.Gen.Reference5Ideal.Run
public import proofs.«01_k».proof.Proof.Mlp.DownDx
public import proofs.«01_k».proof.Proof.Mlp.DownDw
public import proofs.«01_k».proof.Proof.Mlp.Up

@[expose] public section

set_option maxRecDepth 4000

noncomputable section

open Idealize.ShloMosaic Idealize.ShloMosaic.TcCoe Idealize.SL.Sem

/-- The gradient of the MLP's pre-activation. -/
theorem Cert.Kernel3Ideal.Hand.agree : Cert.algebraic_Kernel3Ideal_Reference3Ideal := by
  intro m g m' g' _ hargs
  refine ⟨fun c => Cert.Reference3Ideal.Read.val_main_v12 (F := Ideal) (Cert.Kernel3Ideal.Hand.a0 m c) (Cert.Kernel3Ideal.Hand.a1 m c) (Cert.Kernel3Ideal.Hand.a2 m c),
    (θ_run Cert.Kernel3Ideal.defs _ _).mono (fun _ h c => ⟨(h c).1.trans (Cert.Kernel3Ideal.Hand.array m c), (h c).2⟩) (Cert.Kernel3Ideal.Value.run_blocks m g),
    (θ_run Cert.Reference3Ideal.defs _ _).mono (fun r h c => ?_) (Cert.Reference3Ideal.Value.run (F := Ideal) m' g')⟩
  obtain ⟨e0, e1, e2⟩ := hargs c
  refine ⟨(h c).1.trans ((Cert.Reference3Ideal.Read.val_main_v12_eq (F := Ideal) _ _ _).trans ?_), (h c).2⟩
  rw [e0, e1, e2]

/-- The gradient of a weight. -/
theorem Cert.Kernel4Ideal.Hand.agree : Cert.algebraic_Kernel4Ideal_Reference4Ideal := by
  intro m g m' g' _ hargs
  refine ⟨fun c => Cert.Reference4Ideal.Read.val_main_v3 (F := Ideal) (Cert.Kernel4Ideal.Hand.a0 m c) (Cert.Kernel4Ideal.Hand.a1 m c),
    (θ_run Cert.Kernel4Ideal.defs _ _).mono (fun _ h c => ⟨(h c).1.trans (Cert.Kernel4Ideal.Hand.array m c), (h c).2⟩) (Cert.Kernel4Ideal.Value.run_blocks m g),
    (θ_run Cert.Reference4Ideal.defs _ _).mono (fun r h c => ?_) (Cert.Reference4Ideal.Value.run (F := Ideal) m' g')⟩
  obtain ⟨e0, e1⟩ := hargs c
  refine ⟨(h c).1.trans ((Cert.Reference4Ideal.Read.val_main_v3_eq (F := Ideal) _ _).trans ?_), (h c).2⟩
  rw [e0, e1]

/-- The first product with its squared ReLU. -/
theorem Cert.Kernel5Ideal.Hand.agree : Cert.algebraic_Kernel5Ideal_Reference5Ideal := by
  intro m g m' g' _ hargs
  refine ⟨fun c => Cert.Reference5Ideal.Read.val_main_v3 (F := Ideal) (Cert.Kernel5Ideal.Hand.a0 m c) (Cert.Kernel5Ideal.Hand.a1 m c),
    fun c => Cert.Reference5Ideal.Read.val_main_v5 (F := Ideal) (Cert.Kernel5Ideal.Hand.a0 m c) (Cert.Kernel5Ideal.Hand.a1 m c),
    (θ_run Cert.Kernel5Ideal.defs _ _).mono (fun _ h c => ⟨(h c).1.trans (Cert.Kernel5Ideal.Hand.array2 m c), (h c).2.1.trans (Cert.Kernel5Ideal.Hand.array3 m c), (h c).2.2⟩) (Cert.Kernel5Ideal.Value.run_blocks m g),
    (θ_run Cert.Reference5Ideal.defs _ _).mono (fun r h c => ?_) (Cert.Reference5Ideal.Value.run (F := Ideal) m' g')⟩
  obtain ⟨e0, e1⟩ := hargs c
  refine ⟨(h c).1.trans ((Cert.Reference5Ideal.Read.val_main_v3_eq (F := Ideal) _ _).trans ?_),
    (h c).2.1.trans ((Cert.Reference5Ideal.Read.val_main_v5_eq (F := Ideal) _ _).trans ?_), (h c).2.2⟩
  · rw [e0, e1]
  · rw [e0, e1]

end

end
-- ==== Proof.Products.InDw.lean ====
/-
  The gradient of the input projection: eight blocks of 1024 rows are summed point after point, and the sum is the
  reference's sum over all the 8192 rows.
-/
module

public import proofs.«01_k».proof.Proof.Gen.Kernel6Ideal.Value
public import proofs.«01_k».proof.Proof.Gen.Reference6Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel6Ideal.Hand

open Cert.Kernel6Ideal Cert.Kernel6Ideal.Gen
open Cert.Reference6Ideal.Read
open Idealize.ShloMosaic Idealize.ShloMosaic.TcCoe

theorem zeros : (![0, 0] : Fin 2 → Nat) = fun _ => 0 := funext fun a => by fin_cases a <;> rfl

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1024x1024 .bf16) (xs0 : Vec Ideal S1024x1024 .f32)

/-- The first block of rows starts the sum. -/
theorem start_eq (hc0 : cond0_0 i) (hc1 : ¬cond0_1 i) (hc2 : ¬cond0_2 i) : sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero zeros]
  simp only [View.readAt_eq_ld, harg3.read_unread, harg4.read_unread, harg6.read_unread, View.ld_unit_zero (S := S1024x1024) zeros]

/-- A later one adds to it. -/
theorem add_eq (hc0 : ¬cond0_0 i) (hc1 : cond0_1 i) (hc2 : ¬cond0_2 i) : sout0_B_0 c i arg3 harg3 arg4 harg4 arg5 harg5 arg6 harg6 hc0 hc1 hc2 x0 x1 xs0 = k0_pay2 xs0 x0 x1 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero zeros]
  simp only [View.readAt_eq_ld, harg3.read_unread, harg4.read_unread, harg6.read_unread, View.ld_unit_zero (S := S1024x1024) zeros]

/-- So does the last one, … -/
theorem last_eq (hc0 : ¬cond0_0 i) (hc1 : cond0_1 i) (hc2 : cond0_2 i) : sout0_C_0 c i arg3 harg3 arg4 harg4 arg5 harg5 arg6 harg6 hc0 hc1 hc2 x0 x1 xs0 = k0_pay2 xs0 x0 x1 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero zeros]
  simp only [View.readAt_eq_ld, harg3.read_unread, harg4.read_unread, harg6.read_unread, View.ld_unit_zero (S := S1024x1024) zeros]

/-- … which also leaves the sum in the output window. -/
theorem out_eq (hc0 : ¬cond0_0 i) (hc1 : cond0_1 i) (hc2 : cond0_2 i) : out0_C_2 c i arg3 harg3 arg4 harg4 arg5 harg5 arg6 harg6 hc0 hc1 hc2 x0 x1 xs0 = k0_pay2 xs0 x0 x1 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero zeros, View.readCov_unit_zero (S := S1024x1024) _ zeros]
  simp only [View.readAt_eq_ld, harg3.read_unread, harg4.read_unread, harg6.read_unread, View.ld_unit_zero (S := S1024x1024) zeros]
end

theorem pay1_at (x0 : Vec Ideal S1024x1024 .bf16) (x1 : Vec Ideal S1024x1024 .bf16) (r : Fin 1024) (d : Fin 1024) :
    k0_pay1 x0 x1 (ix2 r d) = ∑ e : Fin 1024, x0 (ix2 e r) * x1 (ix2 e d) := by
  pointwise [k0_pay1]
theorem pay2_at (y : Vec Ideal S1024x1024 .f32) (x0 : Vec Ideal S1024x1024 .bf16) (x1 : Vec Ideal S1024x1024 .bf16) (r : Fin 1024) (d : Fin 1024) :
    k0_pay2 y x0 x1 (ix2 r d) = y (ix2 r d) + ∑ e : Fin 1024, x0 (ix2 e r) * x1 (ix2 e d) := by
  pointwise [k0_pay2]

section
variable (m : (ℓ : Loc nD τ sig) → Buf (Elt Ideal) ℓ) (c : Dev nD)

/-- The two arguments on core `c`. -/
abbrev a0 : FVec Ideal S8192x1024 .f32 := m ((c : Thread nD τ).loc main_arg0)
abbrev a1 : FVec Ideal S8192x2048 .f32 := m ((c : Thread nD τ).loc main_arg1)

set_option backward.isDefEq.respectTransparency.types false in
theorem V_s : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_dy : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val % 8, t.val / 8 / 2] := (by decide +kernel : ∀ t : Fin grid0.N, _)
theorem index1 : ∀ t : Fin cfg0.N, win0_1.index t = ![t.val % 8, t.val / 8 % 2] := (by decide +kernel : ∀ t : Fin grid0.N, _)
theorem index2 : ∀ t : Fin cfg0.N, win0_2.index t = ![t.val / 8 / 2, t.val / 8 % 2] := (by decide +kernel : ∀ t : Fin grid0.N, _)

theorem points (t : Fin cfg0.N) : t.val < 16 := t.isLt

/-- The rows that a point sums over, and the rows and columns of the result that it works on. -/
def summed (t : Fin cfg0.N) (e : Fin 1024) : Fin 8192 := ⟨1024 * (t.val % 8) + e.val, by omega⟩
def row (t : Fin cfg0.N) (r : Fin 1024) : Fin 1024 := ⟨1024 * (t.val / 8 / 2) + r.val, by have := points t; omega⟩
def colm (t : Fin cfg0.N) (d : Fin 1024) : Fin 2048 := ⟨1024 * (t.val / 8 % 2) + d.val, by omega⟩
theorem summed_val (t : Fin cfg0.N) (e : Fin 1024) : (summed t e).val = 1024 * (t.val % 8) + e.val := rfl
theorem row_val (t : Fin cfg0.N) (r : Fin 1024) : (row t r).val = 1024 * (t.val / 8 / 2) + r.val := rfl
theorem colm_val (t : Fin cfg0.N) (d : Fin 1024) : (colm t d).val = 1024 * (t.val / 8 % 2) + d.val := rfl

section
variable (t : Fin cfg0.N) (r : Fin 1024) (d : Fin 1024) (e : Fin 1024)

theorem emb0 : (win0_0.blk t).view.emb (ix2 e r) = ix2 (summed t e) (row t r) := by
  blk_ext [index0]
  all_goals simp only [summed_val, row_val]; omega
theorem emb1 : (win0_1.blk t).view.emb (ix2 e d) = ix2 (summed t e) (colm t d) := by
  blk_ext [index1]
  all_goals simp only [summed_val, colm_val]; omega
theorem emb2 : (win0_2.blk t).view.emb (ix2 r d) = ix2 (row t r) (colm t d) := by
  blk_ext [index2]
  all_goals simp only [row_val, colm_val]; omega

variable (m : (ℓ : Loc nD τ sig) → Buf (Elt Ideal) ℓ) (c : Dev nD)

theorem read0 : iblk m c 0 t (ix2 e r) = a0 m c (ix2 (summed t e) (row t r)) := by
  refine (congrArg (V m c main_v0) (emb0 t r e)).trans ?_
  rw [V_s]; rfl
theorem read1 : iblk m c 1 t (ix2 e d) = a1 m c (ix2 (summed t e) (colm t d)) := by
  refine (congrArg (V m c main_v1) (emb1 t d e)).trans ?_
  rw [V_dy]; rfl
end

/-! ## The sum so far -/

section
variable (m : (ℓ : Loc nD τ sig) → Buf (Elt Ideal) ℓ) (c : Dev nD)

/-- One row's contribution to an entry of the result. -/
def term (a b q : ℕ) : EReal :=
  if h : q < 8192 ∧ a < 1024 ∧ b < 2048 then a0 m c (ix2 ⟨q, h.1⟩ ⟨a, h.2.1⟩) * a1 m c (ix2 ⟨q, h.1⟩ ⟨b, h.2.2⟩) else 0

/-- A point's product sums the contributions of its 1024 rows. -/
theorem product_at (t : Fin cfg0.N) (r : Fin 1024) (d : Fin 1024) (x0 : Vec Ideal S1024x1024 .bf16) (x1 : Vec Ideal S1024x1024 .bf16) (h0 : x0 = iblk m c 0 t) (h1 : x1 = iblk m c 1 t) :
    (∑ e : Fin 1024, x0 (ix2 e r) * x1 (ix2 e d) : EReal)
      = ∑ q ∈ Finset.range 1024, term m c (1024 * (t.val / 8 / 2) + r.val) (1024 * (t.val / 8 % 2) + d.val) (1024 * (t.val % 8) + q) := by
  subst h0 h1
  rw [Finset.sum_range]
  refine Finset.sum_congr rfl fun e _ => ?_
  have := points t
  rw [read0, read1, term, dif_pos ⟨by omega, by omega, by omega⟩]
  rfl

/-- After a point, the scratch holds the sum of the contributions of the rows up to its own. -/
theorem so_far (n : ℕ) (hn : n < cfg0.N) (r : Fin 1024) (d : Fin 1024) :
    (outsAt0 m c n hn).2 (ix2 r d) = ∑ q ∈ Finset.range (1024 * (n % 8 + 1)), term m c (1024 * (n / 8 / 2) + r.val) (1024 * (n / 8 % 2) + d.val) q := by
  induction n with
  | zero =>
    rw [outsAt0_A m c ⟨0, hn⟩ rfl (by simp) (by simp)]
    dsimp only
    rw [start_eq, pay1_at, product_at m c ⟨0, hn⟩ r d _ _ rfl rfl]
    refine Finset.sum_congr rfl fun q _ => ?_
    show term m c _ _ (0 + q) = _
    rw [Nat.zero_add]
  | succ n ih =>
    have hN : n + 1 < 16 := hn
    by_cases h0 : (n + 1) % 8 = 0
    · rw [outsAt0_A m c ⟨n + 1, hn⟩ h0 (by dsimp only; omega) (by dsimp only; omega)]
      dsimp only
      rw [start_eq, pay1_at, product_at m c ⟨n + 1, hn⟩ r d _ _ rfl rfl, h0]
      refine Finset.sum_congr rfl fun q _ => ?_
      rw [Nat.mul_zero, Nat.zero_add]
    · have e : 1024 * ((n + 1) % 8 + 1) = 1024 * (n % 8 + 1) + 1024 := by omega
      have e' : 1024 * ((n + 1) % 8) = 1024 * (n % 8 + 1) := by omega
      have e'' : (n + 1) / 8 = n / 8 := by omega
      rw [e, Finset.sum_range_add, e'', ← ih (Nat.lt_of_succ_lt hn)]
      have step := product_at m c ⟨n + 1, hn⟩ r d _ _ rfl rfl
      dsimp only at step
      rw [e', e''] at step
      by_cases h2 : (n + 1) % 8 = 7
      · rw [outsAt0_C m c ⟨n + 1, hn⟩ h0 (by dsimp only; omega) h2]
        dsimp only
        rw [last_eq, pay2_at, step]
        rfl
      · rw [outsAt0_B m c ⟨n + 1, hn⟩ h0 (by dsimp only; omega) h2]
        dsimp only
        rw [add_eq, pay2_at, step]
        rfl

/-- At a point that writes back, the output window holds what the scratch does. -/
theorem written (t : Fin cfg0.N) (h : t.val % 8 = 7) : (outsAt0 m c t.val t.isLt).1 = (outsAt0 m c t.val t.isLt).2 := by
  rw [outsAt0_C m c t (by omega) (by omega) h]
  dsimp only
  rw [out_eq, last_eq]
end

/-! ## The reference -/

theorem ref_at (x0 : FVec Ideal S8192x1024 .f32) (x1 : FVec Ideal S8192x2048 .f32) (i : Fin 1024) (j : Fin 2048) :
    val_main_v3 (F := Ideal) x0 x1 (ix2 i j) = ∑ q : Fin 8192, x0 (ix2 q i) * x1 (ix2 q j) := by
  rw [val_main_v3_apply, val_main_v2_apply]
  refine Finset.sum_congr rfl fun q _ => (mul_comm _ _).trans (congrArg₂ _ (congrArg x0 ?_) (congrArg x1 ?_))
  · exact funext fun a => match a with | ⟨0, _⟩ => rfl | ⟨1, _⟩ => rfl
  · exact funext fun a => match a with | ⟨0, _⟩ => rfl | ⟨1, _⟩ => rfl

/-! ## The array -/

theorem block (y : S1024x1024.Idx) : ∃ (r : Fin 1024) (d : Fin 1024), y = ix2 r d :=
  ⟨y 0, y 1, funext fun a => match a with
    | ⟨0, _⟩ => rfl
    | ⟨1, _⟩ => rfl⟩

theorem array (m : (ℓ : Loc nD τ sig) → Buf (Elt Ideal) ℓ) (c : Dev nD) :
    (dats m 0 c).arrAt 2 cfg0.N = val_main_v3 (F := Ideal) (a0 m c) (a1 m c) := by
  refine (dats m 0 c).arrAt_eq_of_covers 2 _ (by decide +kernel) fun t hf y => ?_
  blk_simp
  have h7 : t.val % 8 = 7 := (flush0_2 t).mp hf
  have := points t
  rw [after0_2, written m c t h7]
  obtain ⟨r, d, rfl⟩ := block y
  rw [emb2, ref_at]
  refine (so_far m c t.val t.isLt r d).trans ?_
  rw [h7, Finset.sum_range]
  refine Finset.sum_congr rfl fun q _ => ?_
  rw [term, dif_pos ⟨q.isLt, by omega, by omega⟩]
  rfl

end Cert.Kernel6Ideal.Hand

end

end
-- ==== Proof.Products.MemDw.lean ====
/-
  The gradient of the memory attention's output projection: eight blocks of 1024 rows are summed point after point, and
  the sum is the reference's sum over all the 8192 rows.
-/
module

public import proofs.«01_k».proof.Proof.Gen.Kernel7Ideal.Value
public import proofs.«01_k».proof.Proof.Gen.Reference7Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel7Ideal.Hand

open Cert.Kernel7Ideal Cert.Kernel7Ideal.Gen
open Cert.Reference7Ideal.Read
open Idealize.ShloMosaic Idealize.ShloMosaic.TcCoe

theorem zeros : (![0, 0] : Fin 2 → Nat) = fun _ => 0 := funext fun a => by fin_cases a <;> rfl

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1024x1024 .bf16) (xs0 : Vec Ideal S1024x1024 .f32)

/-- The first block of rows starts the sum. -/
theorem start_eq (hc0 : cond0_0 i) (hc1 : ¬cond0_1 i) (hc2 : ¬cond0_2 i) : sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero zeros]
  simp only [View.readAt_eq_ld, harg3.read_unread, harg4.read_unread, harg6.read_unread, View.ld_unit_zero (S := S1024x1024) zeros]

/-- A later one adds to it. -/
theorem add_eq (hc0 : ¬cond0_0 i) (hc1 : cond0_1 i) (hc2 : ¬cond0_2 i) : sout0_B_0 c i arg3 harg3 arg4 harg4 arg5 harg5 arg6 harg6 hc0 hc1 hc2 x0 x1 xs0 = k0_pay2 xs0 x0 x1 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero zeros]
  simp only [View.readAt_eq_ld, harg3.read_unread, harg4.read_unread, harg6.read_unread, View.ld_unit_zero (S := S1024x1024) zeros]

/-- So does the last one, … -/
theorem last_eq (hc0 : ¬cond0_0 i) (hc1 : cond0_1 i) (hc2 : cond0_2 i) : sout0_C_0 c i arg3 harg3 arg4 harg4 arg5 harg5 arg6 harg6 hc0 hc1 hc2 x0 x1 xs0 = k0_pay2 xs0 x0 x1 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero zeros]
  simp only [View.readAt_eq_ld, harg3.read_unread, harg4.read_unread, harg6.read_unread, View.ld_unit_zero (S := S1024x1024) zeros]

/-- … which also leaves the sum in the output window. -/
theorem out_eq (hc0 : ¬cond0_0 i) (hc1 : cond0_1 i) (hc2 : cond0_2 i) : out0_C_2 c i arg3 harg3 arg4 harg4 arg5 harg5 arg6 harg6 hc0 hc1 hc2 x0 x1 xs0 = k0_pay2 xs0 x0 x1 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero zeros, View.readCov_unit_zero (S := S1024x1024) _ zeros]
  simp only [View.readAt_eq_ld, harg3.read_unread, harg4.read_unread, harg6.read_unread, View.ld_unit_zero (S := S1024x1024) zeros]
end

theorem pay1_at (x0 : Vec Ideal S1024x1024 .bf16) (x1 : Vec Ideal S1024x1024 .bf16) (r : Fin 1024) (d : Fin 1024) :
    k0_pay1 x0 x1 (ix2 r d) = ∑ e : Fin 1024, x0 (ix2 e r) * x1 (ix2 e d) := by
  pointwise [k0_pay1]
theorem pay2_at (y : Vec Ideal S1024x1024 .f32) (x0 : Vec Ideal S1024x1024 .bf16) (x1 : Vec Ideal S1024x1024 .bf16) (r : Fin 1024) (d : Fin 1024) :
    k0_pay2 y x0 x1 (ix2 r d) = y (ix2 r d) + ∑ e : Fin 1024, x0 (ix2 e r) * x1 (ix2 e d) := by
  pointwise [k0_pay2]

section
variable (m : (ℓ : Loc nD τ sig) → Buf (Elt Ideal) ℓ) (c : Dev nD)

/-- The two arguments on core `c`. -/
abbrev a0 : FVec Ideal S8192x1024 .f32 := m ((c : Thread nD τ).loc main_arg0)
abbrev a1 : FVec Ideal S8192x1024 .f32 := m ((c : Thread nD τ).loc main_arg1)

set_option backward.isDefEq.respectTransparency.types false in
theorem V_s : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_dy : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val % 8, t.val / 8 / 1] := (by decide +kernel : ∀ t : Fin grid0.N, _)
theorem index1 : ∀ t : Fin cfg0.N, win0_1.index t = ![t.val % 8, t.val / 8 % 1] := (by decide +kernel : ∀ t : Fin grid0.N, _)
theorem index2 : ∀ t : Fin cfg0.N, win0_2.index t = ![t.val / 8 / 1, t.val / 8 % 1] := (by decide +kernel : ∀ t : Fin grid0.N, _)

theorem points (t : Fin cfg0.N) : t.val < 8 := t.isLt

/-- The rows that a point sums over, and the rows and columns of the result that it works on. -/
def summed (t : Fin cfg0.N) (e : Fin 1024) : Fin 8192 := ⟨1024 * (t.val % 8) + e.val, by omega⟩
def row (t : Fin cfg0.N) (r : Fin 1024) : Fin 1024 := ⟨1024 * (t.val / 8 / 1) + r.val, by have := points t; omega⟩
def colm (t : Fin cfg0.N) (d : Fin 1024) : Fin 1024 := ⟨1024 * (t.val / 8 % 1) + d.val, by omega⟩
theorem summed_val (t : Fin cfg0.N) (e : Fin 1024) : (summed t e).val = 1024 * (t.val % 8) + e.val := rfl
theorem row_val (t : Fin cfg0.N) (r : Fin 1024) : (row t r).val = 1024 * (t.val / 8 / 1) + r.val := rfl
theorem colm_val (t : Fin cfg0.N) (d : Fin 1024) : (colm t d).val = 1024 * (t.val / 8 % 1) + d.val := rfl

section
variable (t : Fin cfg0.N) (r : Fin 1024) (d : Fin 1024) (e : Fin 1024)

theorem emb0 : (win0_0.blk t).view.emb (ix2 e r) = ix2 (summed t e) (row t r) := by
  blk_ext [index0]
  all_goals simp only [summed_val, row_val]; omega
theorem emb1 : (win0_1.blk t).view.emb (ix2 e d) = ix2 (summed t e) (colm t d) := by
  blk_ext [index1]
  all_goals simp only [summed_val, colm_val]; omega
theorem emb2 : (win0_2.blk t).view.emb (ix2 r d) = ix2 (row t r) (colm t d) := by
  blk_ext [index2]
  all_goals simp only [row_val, colm_val]; omega

variable (m : (ℓ : Loc nD τ sig) → Buf (Elt Ideal) ℓ) (c : Dev nD)

theorem read0 : iblk m c 0 t (ix2 e r) = a0 m c (ix2 (summed t e) (row t r)) := by
  refine (congrArg (V m c main_v0) (emb0 t r e)).trans ?_
  rw [V_s]; rfl
theorem read1 : iblk m c 1 t (ix2 e d) = a1 m c (ix2 (summed t e) (colm t d)) := by
  refine (congrArg (V m c main_v1) (emb1 t d e)).trans ?_
  rw [V_dy]; rfl
end

/-! ## The sum so far -/

section
variable (m : (ℓ : Loc nD τ sig) → Buf (Elt Ideal) ℓ) (c : Dev nD)

/-- One row's contribution to an entry of the result. -/
def term (a b q : ℕ) : EReal :=
  if h : q < 8192 ∧ a < 1024 ∧ b < 1024 then a0 m c (ix2 ⟨q, h.1⟩ ⟨a, h.2.1⟩) * a1 m c (ix2 ⟨q, h.1⟩ ⟨b, h.2.2⟩) else 0

/-- A point's product sums the contributions of its 1024 rows. -/
theorem product_at (t : Fin cfg0.N) (r : Fin 1024) (d : Fin 1024) (x0 : Vec Ideal S1024x1024 .bf16) (x1 : Vec Ideal S1024x1024 .bf16) (h0 : x0 = iblk m c 0 t) (h1 : x1 = iblk m c 1 t) :
    (∑ e : Fin 1024, x0 (ix2 e r) * x1 (ix2 e d) : EReal)
      = ∑ q ∈ Finset.range 1024, term m c (1024 * (t.val / 8 / 1) + r.val) (1024 * (t.val / 8 % 1) + d.val) (1024 * (t.val % 8) + q) := by
  subst h0 h1
  rw [Finset.sum_range]
  refine Finset.sum_congr rfl fun e _ => ?_
  have := points t
  rw [read0, read1, term, dif_pos ⟨by omega, by omega, by omega⟩]
  rfl

/-- After a point, the scratch holds the sum of the contributions of the rows up to its own. -/
theorem so_far (n : ℕ) (hn : n < cfg0.N) (r : Fin 1024) (d : Fin 1024) :
    (outsAt0 m c n hn).2 (ix2 r d) = ∑ q ∈ Finset.range (1024 * (n % 8 + 1)), term m c (1024 * (n / 8 / 1) + r.val) (1024 * (n / 8 % 1) + d.val) q := by
  induction n with
  | zero =>
    rw [outsAt0_A m c ⟨0, hn⟩ rfl (by simp) (by simp)]
    dsimp only
    rw [start_eq, pay1_at, product_at m c ⟨0, hn⟩ r d _ _ rfl rfl]
    refine Finset.sum_congr rfl fun q _ => ?_
    show term m c _ _ (0 + q) = _
    rw [Nat.zero_add]
  | succ n ih =>
    have hN : n + 1 < 8 := hn
    by_cases h0 : (n + 1) % 8 = 0
    · rw [outsAt0_A m c ⟨n + 1, hn⟩ h0 (by dsimp only; omega) (by dsimp only; omega)]
      dsimp only
      rw [start_eq, pay1_at, product_at m c ⟨n + 1, hn⟩ r d _ _ rfl rfl, h0]
      refine Finset.sum_congr rfl fun q _ => ?_
      rw [Nat.mul_zero, Nat.zero_add]
    · have e : 1024 * ((n + 1) % 8 + 1) = 1024 * (n % 8 + 1) + 1024 := by omega
      have e' : 1024 * ((n + 1) % 8) = 1024 * (n % 8 + 1) := by omega
      have e'' : (n + 1) / 8 = n / 8 := by omega
      rw [e, Finset.sum_range_add, e'', ← ih (Nat.lt_of_succ_lt hn)]
      have step := product_at m c ⟨n + 1, hn⟩ r d _ _ rfl rfl
      dsimp only at step
      rw [e', e''] at step
      by_cases h2 : (n + 1) % 8 = 7
      · rw [outsAt0_C m c ⟨n + 1, hn⟩ h0 (by dsimp only; omega) h2]
        dsimp only
        rw [last_eq, pay2_at, step]
        rfl
      · rw [outsAt0_B m c ⟨n + 1, hn⟩ h0 (by dsimp only; omega) h2]
        dsimp only
        rw [add_eq, pay2_at, step]
        rfl

/-- At a point that writes back, the output window holds what the scratch does. -/
theorem written (t : Fin cfg0.N) (h : t.val % 8 = 7) : (outsAt0 m c t.val t.isLt).1 = (outsAt0 m c t.val t.isLt).2 := by
  rw [outsAt0_C m c t (by omega) (by omega) h]
  dsimp only
  rw [out_eq, last_eq]
end

/-! ## The reference -/

theorem ref_at (x0 : FVec Ideal S8192x1024 .f32) (x1 : FVec Ideal S8192x1024 .f32) (i : Fin 1024) (j : Fin 1024) :
    val_main_v3 (F := Ideal) x0 x1 (ix2 i j) = ∑ q : Fin 8192, x0 (ix2 q i) * x1 (ix2 q j) := by
  rw [val_main_v3_apply, val_main_v2_apply]
  refine Finset.sum_congr rfl fun q _ => (mul_comm _ _).trans (congrArg₂ _ (congrArg x0 ?_) (congrArg x1 ?_))
  · exact funext fun a => match a with | ⟨0, _⟩ => rfl | ⟨1, _⟩ => rfl
  · exact funext fun a => match a with | ⟨0, _⟩ => rfl | ⟨1, _⟩ => rfl

/-! ## The array -/

theorem block (y : S1024x1024.Idx) : ∃ (r : Fin 1024) (d : Fin 1024), y = ix2 r d :=
  ⟨y 0, y 1, funext fun a => match a with
    | ⟨0, _⟩ => rfl
    | ⟨1, _⟩ => rfl⟩

theorem array (m : (ℓ : Loc nD τ sig) → Buf (Elt Ideal) ℓ) (c : Dev nD) :
    (dats m 0 c).arrAt 2 cfg0.N = val_main_v3 (F := Ideal) (a0 m c) (a1 m c) := by
  refine (dats m 0 c).arrAt_eq_of_covers 2 _ (by decide +kernel) fun t hf y => ?_
  blk_simp
  have h7 : t.val % 8 = 7 := (flush0_2 t).mp hf
  have := points t
  rw [after0_2, written m c t h7]
  obtain ⟨r, d, rfl⟩ := block y
  rw [emb2, ref_at]
  refine (so_far m c t.val t.isLt r d).trans ?_
  rw [h7, Finset.sum_range]
  refine Finset.sum_congr rfl fun q _ => ?_
  rw [term, dif_pos ⟨q.isLt, by omega, by omega⟩]
  rfl

end Cert.Kernel7Ideal.Hand

end

end
-- ==== Proof.Products.OutDw.lean ====
/-
  The gradient of the mixer's output projection: eight blocks of 1024 rows are summed point after point, and the sum is
  the reference's sum over all the 8192 rows.
-/
module

public import proofs.«01_k».proof.Proof.Gen.Kernel8Ideal.Value
public import proofs.«01_k».proof.Proof.Gen.Reference8Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel8Ideal.Hand

open Cert.Kernel8Ideal Cert.Kernel8Ideal.Gen
open Cert.Reference8Ideal.Read
open Idealize.ShloMosaic Idealize.ShloMosaic.TcCoe

theorem zeros : (![0, 0] : Fin 2 → Nat) = fun _ => 0 := funext fun a => by fin_cases a <;> rfl

section
variable (c : Dev nD) (i : grid0.Coords) (arg3 : Memref sig .tc .vmem S1024x768 .bf16) (harg3 : arg3.IsWhole) (arg4 : Memref sig .tc .vmem S1024x1024 .bf16) (harg4 : arg4.IsWhole) (arg5 : Memref sig .tc .vmem S768x1024 .f32) (harg5 : arg5.IsWhole) (arg6 : Memref sig .tc .vmem S768x1024 .f32) (harg6 : arg6.IsWhole)
  (x0 : Vec Ideal S1024x768 .bf16) (x1 : Vec Ideal S1024x1024 .bf16) (xs0 : Vec Ideal S768x1024 .f32)

/-- The first block of rows starts the sum. -/
theorem start_eq (hc0 : cond0_0 i) (hc1 : ¬cond0_1 i) (hc2 : ¬cond0_2 i) : sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero zeros]
  simp only [View.readAt_eq_ld, harg3.read_unread, harg4.read_unread, harg6.read_unread, View.ld_unit_zero (S := S1024x768) zeros, View.ld_unit_zero (S := S1024x1024) zeros, View.ld_unit_zero (S := S768x1024) zeros]

/-- A later one adds to it. -/
theorem add_eq (hc0 : ¬cond0_0 i) (hc1 : cond0_1 i) (hc2 : ¬cond0_2 i) : sout0_B_0 c i arg3 harg3 arg4 harg4 arg5 harg5 arg6 harg6 hc0 hc1 hc2 x0 x1 xs0 = k0_pay2 xs0 x0 x1 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero zeros]
  simp only [View.readAt_eq_ld, harg3.read_unread, harg4.read_unread, harg6.read_unread, View.ld_unit_zero (S := S1024x768) zeros, View.ld_unit_zero (S := S1024x1024) zeros, View.ld_unit_zero (S := S768x1024) zeros]

/-- So does the last one, … -/
theorem last_eq (hc0 : ¬cond0_0 i) (hc1 : cond0_1 i) (hc2 : cond0_2 i) : sout0_C_0 c i arg3 harg3 arg4 harg4 arg5 harg5 arg6 harg6 hc0 hc1 hc2 x0 x1 xs0 = k0_pay2 xs0 x0 x1 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero zeros]
  simp only [View.readAt_eq_ld, harg3.read_unread, harg4.read_unread, harg6.read_unread, View.ld_unit_zero (S := S1024x768) zeros, View.ld_unit_zero (S := S1024x1024) zeros, View.ld_unit_zero (S := S768x1024) zeros]

/-- … which also leaves the sum in the output window. -/
theorem out_eq (hc0 : ¬cond0_0 i) (hc1 : cond0_1 i) (hc2 : cond0_2 i) : out0_C_2 c i arg3 harg3 arg4 harg4 arg5 harg5 arg6 harg6 hc0 hc1 hc2 x0 x1 xs0 = k0_pay2 xs0 x0 x1 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero zeros, View.readCov_unit_zero (S := S768x1024) _ zeros]
  simp only [View.readAt_eq_ld, harg3.read_unread, harg4.read_unread, harg6.read_unread, View.ld_unit_zero (S := S1024x768) zeros, View.ld_unit_zero (S := S1024x1024) zeros, View.ld_unit_zero (S := S768x1024) zeros]
end

theorem pay1_at (x0 : Vec Ideal S1024x768 .bf16) (x1 : Vec Ideal S1024x1024 .bf16) (r : Fin 768) (d : Fin 1024) :
    k0_pay1 x0 x1 (ix2 r d) = ∑ e : Fin 1024, x0 (ix2 e r) * x1 (ix2 e d) := by
  pointwise [k0_pay1]
theorem pay2_at (y : Vec Ideal S768x1024 .f32) (x0 : Vec Ideal S1024x768 .bf16) (x1 : Vec Ideal S1024x1024 .bf16) (r : Fin 768) (d : Fin 1024) :
    k0_pay2 y x0 x1 (ix2 r d) = y (ix2 r d) + ∑ e : Fin 1024, x0 (ix2 e r) * x1 (ix2 e d) := by
  pointwise [k0_pay2]

section
variable (m : (ℓ : Loc nD τ sig) → Buf (Elt Ideal) ℓ) (c : Dev nD)

/-- The two arguments on core `c`. -/
abbrev a0 : FVec Ideal S8192x1536 .f32 := m ((c : Thread nD τ).loc main_arg0)
abbrev a1 : FVec Ideal S8192x1024 .f32 := m ((c : Thread nD τ).loc main_arg1)

set_option backward.isDefEq.respectTransparency.types false in
theorem V_s : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_dy : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val % 8, t.val / 8 / 1] := (by decide +kernel : ∀ t : Fin grid0.N, _)
theorem index1 : ∀ t : Fin cfg0.N, win0_1.index t = ![t.val % 8, t.val / 8 % 1] := (by decide +kernel : ∀ t : Fin grid0.N, _)
theorem index2 : ∀ t : Fin cfg0.N, win0_2.index t = ![t.val / 8 / 1, t.val / 8 % 1] := (by decide +kernel : ∀ t : Fin grid0.N, _)

theorem points (t : Fin cfg0.N) : t.val < 16 := t.isLt

/-- The rows that a point sums over, and the rows and columns of the result that it works on. -/
def summed (t : Fin cfg0.N) (e : Fin 1024) : Fin 8192 := ⟨1024 * (t.val % 8) + e.val, by omega⟩
def row (t : Fin cfg0.N) (r : Fin 768) : Fin 1536 := ⟨768 * (t.val / 8 / 1) + r.val, by have := points t; omega⟩
def colm (t : Fin cfg0.N) (d : Fin 1024) : Fin 1024 := ⟨1024 * (t.val / 8 % 1) + d.val, by omega⟩
theorem summed_val (t : Fin cfg0.N) (e : Fin 1024) : (summed t e).val = 1024 * (t.val % 8) + e.val := rfl
theorem row_val (t : Fin cfg0.N) (r : Fin 768) : (row t r).val = 768 * (t.val / 8 / 1) + r.val := rfl
theorem colm_val (t : Fin cfg0.N) (d : Fin 1024) : (colm t d).val = 1024 * (t.val / 8 % 1) + d.val := rfl

section
variable (t : Fin cfg0.N) (r : Fin 768) (d : Fin 1024) (e : Fin 1024)

theorem emb0 : (win0_0.blk t).view.emb (ix2 e r) = ix2 (summed t e) (row t r) := by
  blk_ext [index0]
  all_goals simp only [summed_val, row_val]; omega
theorem emb1 : (win0_1.blk t).view.emb (ix2 e d) = ix2 (summed t e) (colm t d) := by
  blk_ext [index1]
  all_goals simp only [summed_val, colm_val]; omega
theorem emb2 : (win0_2.blk t).view.emb (ix2 r d) = ix2 (row t r) (colm t d) := by
  blk_ext [index2]
  all_goals simp only [row_val, colm_val]; omega

variable (m : (ℓ : Loc nD τ sig) → Buf (Elt Ideal) ℓ) (c : Dev nD)

theorem read0 : iblk m c 0 t (ix2 e r) = a0 m c (ix2 (summed t e) (row t r)) := by
  refine (congrArg (V m c main_v0) (emb0 t r e)).trans ?_
  rw [V_s]; rfl
theorem read1 : iblk m c 1 t (ix2 e d) = a1 m c (ix2 (summed t e) (colm t d)) := by
  refine (congrArg (V m c main_v1) (emb1 t d e)).trans ?_
  rw [V_dy]; rfl
end

/-! ## The sum so far -/

section
variable (m : (ℓ : Loc nD τ sig) → Buf (Elt Ideal) ℓ) (c : Dev nD)

/-- One row's contribution to an entry of the result. -/
def term (a b q : ℕ) : EReal :=
  if h : q < 8192 ∧ a < 1536 ∧ b < 1024 then a0 m c (ix2 ⟨q, h.1⟩ ⟨a, h.2.1⟩) * a1 m c (ix2 ⟨q, h.1⟩ ⟨b, h.2.2⟩) else 0

/-- A point's product sums the contributions of its 1024 rows. -/
theorem product_at (t : Fin cfg0.N) (r : Fin 768) (d : Fin 1024) (x0 : Vec Ideal S1024x768 .bf16) (x1 : Vec Ideal S1024x1024 .bf16) (h0 : x0 = iblk m c 0 t) (h1 : x1 = iblk m c 1 t) :
    (∑ e : Fin 1024, x0 (ix2 e r) * x1 (ix2 e d) : EReal)
      = ∑ q ∈ Finset.range 1024, term m c (768 * (t.val / 8 / 1) + r.val) (1024 * (t.val / 8 % 1) + d.val) (1024 * (t.val % 8) + q) := by
  subst h0 h1
  rw [Finset.sum_range]
  refine Finset.sum_congr rfl fun e _ => ?_
  have := points t
  rw [read0, read1, term, dif_pos ⟨by omega, by omega, by omega⟩]
  rfl

/-- After a point, the scratch holds the sum of the contributions of the rows up to its own. -/
theorem so_far (n : ℕ) (hn : n < cfg0.N) (r : Fin 768) (d : Fin 1024) :
    (outsAt0 m c n hn).2 (ix2 r d) = ∑ q ∈ Finset.range (1024 * (n % 8 + 1)), term m c (768 * (n / 8 / 1) + r.val) (1024 * (n / 8 % 1) + d.val) q := by
  induction n with
  | zero =>
    rw [outsAt0_A m c ⟨0, hn⟩ rfl (by simp) (by simp)]
    dsimp only
    rw [start_eq, pay1_at, product_at m c ⟨0, hn⟩ r d _ _ rfl rfl]
    refine Finset.sum_congr rfl fun q _ => ?_
    show term m c _ _ (0 + q) = _
    rw [Nat.zero_add]
  | succ n ih =>
    have hN : n + 1 < 16 := hn
    by_cases h0 : (n + 1) % 8 = 0
    · rw [outsAt0_A m c ⟨n + 1, hn⟩ h0 (by dsimp only; omega) (by dsimp only; omega)]
      dsimp only
      rw [start_eq, pay1_at, product_at m c ⟨n + 1, hn⟩ r d _ _ rfl rfl, h0]
      refine Finset.sum_congr rfl fun q _ => ?_
      rw [Nat.mul_zero, Nat.zero_add]
    · have e : 1024 * ((n + 1) % 8 + 1) = 1024 * (n % 8 + 1) + 1024 := by omega
      have e' : 1024 * ((n + 1) % 8) = 1024 * (n % 8 + 1) := by omega
      have e'' : (n + 1) / 8 = n / 8 := by omega
      rw [e, Finset.sum_range_add, e'', ← ih (Nat.lt_of_succ_lt hn)]
      have step := product_at m c ⟨n + 1, hn⟩ r d _ _ rfl rfl
      dsimp only at step
      rw [e', e''] at step
      by_cases h2 : (n + 1) % 8 = 7
      · rw [outsAt0_C m c ⟨n + 1, hn⟩ h0 (by dsimp only; omega) h2]
        dsimp only
        rw [last_eq, pay2_at, step]
        rfl
      · rw [outsAt0_B m c ⟨n + 1, hn⟩ h0 (by dsimp only; omega) h2]
        dsimp only
        rw [add_eq, pay2_at, step]
        rfl

/-- At a point that writes back, the output window holds what the scratch does. -/
theorem written (t : Fin cfg0.N) (h : t.val % 8 = 7) : (outsAt0 m c t.val t.isLt).1 = (outsAt0 m c t.val t.isLt).2 := by
  rw [outsAt0_C m c t (by omega) (by omega) h]
  dsimp only
  rw [out_eq, last_eq]
end

/-! ## The reference -/

theorem ref_at (x0 : FVec Ideal S8192x1536 .f32) (x1 : FVec Ideal S8192x1024 .f32) (i : Fin 1536) (j : Fin 1024) :
    val_main_v3 (F := Ideal) x0 x1 (ix2 i j) = ∑ q : Fin 8192, x0 (ix2 q i) * x1 (ix2 q j) := by
  rw [val_main_v3_apply, val_main_v2_apply]
  refine Finset.sum_congr rfl fun q _ => (mul_comm _ _).trans (congrArg₂ _ (congrArg x0 ?_) (congrArg x1 ?_))
  · exact funext fun a => match a with | ⟨0, _⟩ => rfl | ⟨1, _⟩ => rfl
  · exact funext fun a => match a with | ⟨0, _⟩ => rfl | ⟨1, _⟩ => rfl

/-! ## The array -/

theorem block (y : S768x1024.Idx) : ∃ (r : Fin 768) (d : Fin 1024), y = ix2 r d :=
  ⟨y 0, y 1, funext fun a => match a with
    | ⟨0, _⟩ => rfl
    | ⟨1, _⟩ => rfl⟩

theorem array (m : (ℓ : Loc nD τ sig) → Buf (Elt Ideal) ℓ) (c : Dev nD) :
    (dats m 0 c).arrAt 2 cfg0.N = val_main_v3 (F := Ideal) (a0 m c) (a1 m c) := by
  refine (dats m 0 c).arrAt_eq_of_covers 2 _ (by decide +kernel) fun t hf y => ?_
  blk_simp
  have h7 : t.val % 8 = 7 := (flush0_2 t).mp hf
  have := points t
  rw [after0_2, written m c t h7]
  obtain ⟨r, d, rfl⟩ := block y
  rw [emb2, ref_at]
  refine (so_far m c t.val t.isLt r d).trans ?_
  rw [h7, Finset.sum_range]
  refine Finset.sum_congr rfl fun q _ => ?_
  rw [term, dif_pos ⟨q.isLt, by omega, by omega⟩]
  rfl

end Cert.Kernel8Ideal.Hand

end

end
-- ==== Proof.Products.MemDx.lean ====
/-
  The gradient at the memory attention's output: what the launch leaves is the reference's result.
-/
module

public import proofs.«01_k».proof.Proof.Gen.Kernel9Ideal.Value
public import proofs.«01_k».proof.Proof.Gen.Reference9Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel9Ideal.Hand

open Cert.Kernel9Ideal Cert.Kernel9Ideal.Gen
open Cert.Reference9Ideal.Read
open Idealize.ShloMosaic Idealize.ShloMosaic.TcCoe

theorem zeros : (![0, 0] : Fin 2 → Nat) = fun _ => 0 := funext fun a => by fin_cases a <;> rfl

/-- What a point leaves in its output window. -/
theorem out2_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
    (x0 : Vec Ideal S1024x1024 .bf16) (x1 : Vec Ideal S1024x1024 .bf16) :
    out0_A_2 c i arg3 harg3 arg4 harg4 arg5 harg5 arg6 harg6 x0 x1 = k0_pay1 x0 x1 := by
  unfold out0_A_2
  rw [View.read_writes_eq_canon _ _ _ (cover0_A_2 c i arg3 harg3 arg4 harg4 arg5 harg5 arg6 harg6 x0 x1)]
  unfold kernelRun0_A
  dsimp only
  rw [View.canon_unit_zero zeros]
  simp only [View.readAt_eq_ld, harg3.read_unread, harg4.read_unread, View.ld_unit_zero (S := S1024x1024) zeros]

/-- The product of the two blocks. -/
theorem product_at (x0 : Vec Ideal S1024x1024 .bf16) (x1 : Vec Ideal S1024x1024 .bf16) (r : Fin 1024) (d : Fin 1024) :
    k0_pay1 x0 x1 (ix2 r d) = ∑ e : Fin 1024, x0 (ix2 r e) * x1 (ix2 d e) := by
  pointwise [k0_pay1]

section
variable (m : (ℓ : Loc nD τ sig) → Buf (Elt Ideal) ℓ) (c : Dev nD)

/-- The two arguments on core `c`. -/
abbrev a0 : FVec Ideal S8192x1024 .f32 := m ((c : Thread nD τ).loc main_arg0)
abbrev a1 : FVec Ideal S1024x1024 .f32 := m ((c : Thread nD τ).loc main_arg1)

set_option backward.isDefEq.respectTransparency.types false in
theorem V_first : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_second : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val / 1, 0] := (by decide +kernel : ∀ t : Fin grid0.N, _)
theorem index1 : ∀ t : Fin cfg0.N, win0_1.index t = ![t.val % 1, 0] := (by decide +kernel : ∀ t : Fin grid0.N, _)
theorem index2 : ∀ t : Fin cfg0.N, win0_2.index t = ![t.val / 1, t.val % 1] := (by decide +kernel : ∀ t : Fin grid0.N, _)

theorem points (t : Fin cfg0.N) : t.val < 8 := t.isLt

/-- A point's row and column of the product, from those of its block. -/
def row (t : Fin cfg0.N) (r : Fin 1024) : Fin 8192 := ⟨1024 * (t.val / 1) + r.val, by have := points t; omega⟩
def colm (t : Fin cfg0.N) (d : Fin 1024) : Fin 1024 := ⟨1024 * (t.val % 1) + d.val, by omega⟩
theorem row_val (t : Fin cfg0.N) (r : Fin 1024) : (row t r).val = 1024 * (t.val / 1) + r.val := rfl
theorem colm_val (t : Fin cfg0.N) (d : Fin 1024) : (colm t d).val = 1024 * (t.val % 1) + d.val := rfl

section
variable (t : Fin cfg0.N) (r : Fin 1024) (d : Fin 1024) (e : Fin 1024)

theorem emb0 : (win0_0.blk t).view.emb (ix2 r e) = ix2 (row t r) e := by
  blk_ext [index0]
  all_goals first | (simp only [row_val]; omega) | omega
theorem emb1 : (win0_1.blk t).view.emb (ix2 d e) = ix2 (colm t d) e := by
  blk_ext [index1]
  all_goals first | (simp only [colm_val]; omega) | omega
theorem emb2 : (win0_2.blk t).view.emb (ix2 r d) = ix2 (row t r) (colm t d) := by
  blk_ext [index2]
  all_goals simp only [row_val, colm_val]; omega

variable (m : (ℓ : Loc nD τ sig) → Buf (Elt Ideal) ℓ) (c : Dev nD)

theorem read0 : iblk m c 0 t (ix2 r e) = a0 m c (ix2 (row t r) e) := by
  refine (congrArg (V m c main_v0) (emb0 t r e)).trans ?_
  rw [V_first]; rfl
theorem read1 : iblk m c 1 t (ix2 d e) = a1 m c (ix2 (colm t d) e) := by
  refine (congrArg (V m c main_v1) (emb1 t d e)).trans ?_
  rw [V_second]; rfl
/-- The arguments' product, at a point's place of the result. -/
theorem product_read : k0_pay1 (F := Ideal) (iblk m c 0 t) (iblk m c 1 t) (ix2 r d)
    = ∑ e : Fin 1024, a0 m c (ix2 (row t r) e) * a1 m c (ix2 (colm t d) e) := by
  refine (product_at _ _ r d).trans (Finset.sum_congr rfl fun e _ => ?_)
  rw [read0, read1]
end

/-! ## The reference -/

theorem ref_product (x0 : FVec Ideal S8192x1024 .f32) (x1 : FVec Ideal S1024x1024 .f32) (i : Fin 8192) (j : Fin 1024) :
    val_main_v2 (F := Ideal) x0 x1 (ix2 i j) = ∑ e : Fin 1024, x0 (ix2 i e) * x1 (ix2 j e) := by
  rw [val_main_v2_apply]
  refine Finset.sum_congr rfl fun e _ => congrArg₂ _ (congrArg x0 ?_) (congrArg x1 ?_)
  · exact funext fun a => match a with | ⟨0, _⟩ => rfl | ⟨1, _⟩ => rfl
  · exact funext fun a => match a with | ⟨0, _⟩ => rfl | ⟨1, _⟩ => rfl

/-! ## The arrays -/

theorem block1024 (y : S1024x1024.Idx) : ∃ (r : Fin 1024) (d : Fin 1024), y = ix2 r d :=
  ⟨y 0, y 1, funext fun a => match a with
    | ⟨0, _⟩ => rfl
    | ⟨1, _⟩ => rfl⟩

section
variable (m : (ℓ : Loc nD τ sig) → Buf (Elt Ideal) ℓ) (c : Dev nD)

theorem array2 : (dats m 0 c).arrAt 2 cfg0.N = val_main_v2 (F := Ideal) (a0 m c) (a1 m c) := by
  refine (dats m 0 c).arrAt_eq_of_covers 2 _ (by decide +kernel) fun t hf y => ?_
  blk_simp
  rw [after0_2]
  simp only [outsAt0]
  obtain ⟨r, d, rfl⟩ := block1024 y
  rw [emb2, out2_eq, ref_product]
  exact product_read t r d m c
end

end Cert.Kernel9Ideal.Hand

end

end
-- ==== Proof.Products.OutDx.lean ====
/-
  The gradient at the mixer's output: what the launch leaves is the reference's result.
-/
module

public import proofs.«01_k».proof.Proof.Gen.Kernel10Ideal.Value
public import proofs.«01_k».proof.Proof.Gen.Reference10Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel10Ideal.Hand

open Cert.Kernel10Ideal Cert.Kernel10Ideal.Gen
open Cert.Reference10Ideal.Read
open Idealize.ShloMosaic Idealize.ShloMosaic.TcCoe

theorem zeros : (![0, 0] : Fin 2 → Nat) = fun _ => 0 := funext fun a => by fin_cases a <;> rfl

/-- What a point leaves in its output window. -/
theorem out2_eq (c : Dev nD) (i : grid0.Coords) (arg3 : Memref sig .tc .vmem S1024x1024 .bf16) (harg3 : arg3.IsWhole) (arg4 : Memref sig .tc .vmem S768x1024 .bf16) (harg4 : arg4.IsWhole) (arg5 : Memref sig .tc .vmem S1024x768 .f32) (harg5 : arg5.IsWhole) (arg6 : Memref sig .tc .vmem S1024x768 .f32) (harg6 : arg6.IsWhole)
    (x0 : Vec Ideal S1024x1024 .bf16) (x1 : Vec Ideal S768x1024 .bf16) :
    out0_A_2 c i arg3 harg3 arg4 harg4 arg5 harg5 arg6 harg6 x0 x1 = k0_pay1 x0 x1 := by
  unfold out0_A_2
  rw [View.read_writes_eq_canon _ _ _ (cover0_A_2 c i arg3 harg3 arg4 harg4 arg5 harg5 arg6 harg6 x0 x1)]
  unfold kernelRun0_A
  dsimp only
  rw [View.canon_unit_zero zeros]
  simp only [View.readAt_eq_ld, harg3.read_unread, harg4.read_unread, View.ld_unit_zero (S := S1024x1024) zeros, View.ld_unit_zero (S := S768x1024) zeros]

/-- The product of the two blocks. -/
theorem product_at (x0 : Vec Ideal S1024x1024 .bf16) (x1 : Vec Ideal S768x1024 .bf16) (r : Fin 1024) (d : Fin 768) :
    k0_pay1 x0 x1 (ix2 r d) = ∑ e : Fin 1024, x0 (ix2 r e) * x1 (ix2 d e) := by
  pointwise [k0_pay1]

section
variable (m : (ℓ : Loc nD τ sig) → Buf (Elt Ideal) ℓ) (c : Dev nD)

/-- The two arguments on core `c`. -/
abbrev a0 : FVec Ideal S8192x1024 .f32 := m ((c : Thread nD τ).loc main_arg0)
abbrev a1 : FVec Ideal S1536x1024 .f32 := m ((c : Thread nD τ).loc main_arg1)

set_option backward.isDefEq.respectTransparency.types false in
theorem V_first : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_second : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

theorem points (t : Fin cfg0.N) : t.val < 16 := t.isLt

/-- A point's row and column of the product, from those of its block. -/
def row (t : Fin cfg0.N) (r : Fin 1024) : Fin 8192 := ⟨1024 * (t.val / 2) + r.val, by have := points t; omega⟩
def colm (t : Fin cfg0.N) (d : Fin 768) : Fin 1536 := ⟨768 * (t.val % 2) + d.val, by omega⟩
theorem row_val (t : Fin cfg0.N) (r : Fin 1024) : (row t r).val = 1024 * (t.val / 2) + r.val := rfl
theorem colm_val (t : Fin cfg0.N) (d : Fin 768) : (colm t d).val = 768 * (t.val % 2) + d.val := rfl

section
variable (t : Fin cfg0.N) (r : Fin 1024) (d : Fin 768) (e : Fin 1024)

theorem emb0 : (win0_0.blk t).view.emb (ix2 r e) = ix2 (row t r) e := by
  blk_ext [index0]
  all_goals first | (simp only [row_val]; omega) | omega
theorem emb1 : (win0_1.blk t).view.emb (ix2 d e) = ix2 (colm t d) e := by
  blk_ext [index1]
  all_goals first | (simp only [colm_val]; omega) | omega
theorem emb2 : (win0_2.blk t).view.emb (ix2 r d) = ix2 (row t r) (colm t d) := by
  blk_ext [index2]
  all_goals simp only [row_val, colm_val]; omega

variable (m : (ℓ : Loc nD τ sig) → Buf (Elt Ideal) ℓ) (c : Dev nD)

theorem read0 : iblk m c 0 t (ix2 r e) = a0 m c (ix2 (row t r) e) := by
  refine (congrArg (V m c main_v0) (emb0 t r e)).trans ?_
  rw [V_first]; rfl
theorem read1 : iblk m c 1 t (ix2 d e) = a1 m c (ix2 (colm t d) e) := by
  refine (congrArg (V m c main_v1) (emb1 t d e)).trans ?_
  rw [V_second]; rfl
/-- The arguments' product, at a point's place of the result. -/
theorem product_read : k0_pay1 (F := Ideal) (iblk m c 0 t) (iblk m c 1 t) (ix2 r d)
    = ∑ e : Fin 1024, a0 m c (ix2 (row t r) e) * a1 m c (ix2 (colm t d) e) := by
  refine (product_at _ _ r d).trans (Finset.sum_congr rfl fun e _ => ?_)
  rw [read0, read1]
end

/-! ## The reference -/

theorem ref_product (x0 : FVec Ideal S8192x1024 .f32) (x1 : FVec Ideal S1536x1024 .f32) (i : Fin 8192) (j : Fin 1536) :
    val_main_v2 (F := Ideal) x0 x1 (ix2 i j) = ∑ e : Fin 1024, x0 (ix2 i e) * x1 (ix2 j e) := by
  rw [val_main_v2_apply]
  refine Finset.sum_congr rfl fun e _ => congrArg₂ _ (congrArg x0 ?_) (congrArg x1 ?_)
  · exact funext fun a => match a with | ⟨0, _⟩ => rfl | ⟨1, _⟩ => rfl
  · exact funext fun a => match a with | ⟨0, _⟩ => rfl | ⟨1, _⟩ => rfl

/-! ## The arrays -/

theorem block768 (y : S1024x768.Idx) : ∃ (r : Fin 1024) (d : Fin 768), y = ix2 r d :=
  ⟨y 0, y 1, funext fun a => match a with
    | ⟨0, _⟩ => rfl
    | ⟨1, _⟩ => rfl⟩

section
variable (m : (ℓ : Loc nD τ sig) → Buf (Elt Ideal) ℓ) (c : Dev nD)

theorem array2 : (dats m 0 c).arrAt 2 cfg0.N = val_main_v2 (F := Ideal) (a0 m c) (a1 m c) := by
  refine (dats m 0 c).arrAt_eq_of_covers 2 _ (by decide +kernel) fun t hf y => ?_
  blk_simp
  rw [after0_2]
  simp only [outsAt0]
  obtain ⟨r, d, rfl⟩ := block768 y
  rw [emb2, out2_eq, ref_product]
  exact product_read t r d m c
end

end Cert.Kernel10Ideal.Hand

end

end
-- ==== Proof.Products.MemQ.lean ====
/-
  The queries of the memory attention: what the launch leaves is the reference's result.
-/
module

public import proofs.«01_k».proof.Proof.Gen.Kernel11Ideal.Value
public import proofs.«01_k».proof.Proof.Gen.Reference11Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel11Ideal.Hand

open Cert.Kernel11Ideal Cert.Kernel11Ideal.Gen
open Cert.Reference11Ideal.Read
open Idealize.ShloMosaic Idealize.ShloMosaic.TcCoe

theorem zeros : (![0, 0] : Fin 2 → Nat) = fun _ => 0 := funext fun a => by fin_cases a <;> rfl

/-- What a point leaves in its output window. -/
theorem out2_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .f32) (harg6 : arg6.IsWhole)
    (x0 : Vec Ideal S1024x1024 .bf16) (x1 : Vec Ideal S1024x1024 .bf16) :
    out0_A_2 c i arg3 harg3 arg4 harg4 arg5 harg5 arg6 harg6 x0 x1 = k0_pay1 x0 x1 := by
  unfold out0_A_2
  rw [View.read_writes_eq_canon _ _ _ (cover0_A_2 c i arg3 harg3 arg4 harg4 arg5 harg5 arg6 harg6 x0 x1)]
  unfold kernelRun0_A
  dsimp only
  rw [View.canon_unit_zero zeros]
  simp only [View.readAt_eq_ld, harg3.read_unread, harg4.read_unread, View.ld_unit_zero (S := S1024x1024) zeros]

/-- The product of the two blocks. -/
theorem product_at (x0 : Vec Ideal S1024x1024 .bf16) (x1 : Vec Ideal S1024x1024 .bf16) (r : Fin 1024) (d : Fin 1024) :
    k0_pay1 x0 x1 (ix2 r d) = ∑ e : Fin 1024, x0 (ix2 r e) * x1 (ix2 e d) := by
  pointwise [k0_pay1]

section
variable (m : (ℓ : Loc nD τ sig) → Buf (Elt Ideal) ℓ) (c : Dev nD)

/-- The two arguments on core `c`. -/
abbrev a0 : FVec Ideal S8192x1024 .f32 := m ((c : Thread nD τ).loc main_arg0)
abbrev a1 : FVec Ideal S1024x1024 .f32 := m ((c : Thread nD τ).loc main_arg1)

set_option backward.isDefEq.respectTransparency.types false in
theorem V_first : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_second : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val / 1, 0] := (by decide +kernel : ∀ t : Fin grid0.N, _)
theorem index1 : ∀ t : Fin cfg0.N, win0_1.index t = ![0, t.val % 1] := (by decide +kernel : ∀ t : Fin grid0.N, _)
theorem index2 : ∀ t : Fin cfg0.N, win0_2.index t = ![t.val / 1, t.val % 1] := (by decide +kernel : ∀ t : Fin grid0.N, _)

theorem points (t : Fin cfg0.N) : t.val < 8 := t.isLt

/-- A point's row and column of the product, from those of its block. -/
def row (t : Fin cfg0.N) (r : Fin 1024) : Fin 8192 := ⟨1024 * (t.val / 1) + r.val, by have := points t; omega⟩
def colm (t : Fin cfg0.N) (d : Fin 1024) : Fin 1024 := ⟨1024 * (t.val % 1) + d.val, by omega⟩
theorem row_val (t : Fin cfg0.N) (r : Fin 1024) : (row t r).val = 1024 * (t.val / 1) + r.val := rfl
theorem colm_val (t : Fin cfg0.N) (d : Fin 1024) : (colm t d).val = 1024 * (t.val % 1) + d.val := rfl

section
variable (t : Fin cfg0.N) (r : Fin 1024) (d : Fin 1024) (e : Fin 1024)

theorem emb0 : (win0_0.blk t).view.emb (ix2 r e) = ix2 (row t r) e := by
  blk_ext [index0]
  all_goals first | (simp only [row_val]; omega) | omega
theorem emb1 : (win0_1.blk t).view.emb (ix2 e d) = ix2 e (colm t d) := by
  blk_ext [index1]
  all_goals first | (simp only [colm_val]; omega) | omega
theorem emb2 : (win0_2.blk t).view.emb (ix2 r d) = ix2 (row t r) (colm t d) := by
  blk_ext [index2]
  all_goals simp only [row_val, colm_val]; omega

variable (m : (ℓ : Loc nD τ sig) → Buf (Elt Ideal) ℓ) (c : Dev nD)

theorem read0 : iblk m c 0 t (ix2 r e) = a0 m c (ix2 (row t r) e) := by
  refine (congrArg (V m c main_v0) (emb0 t r e)).trans ?_
  rw [V_first]; rfl
theorem read1 : iblk m c 1 t (ix2 e d) = a1 m c (ix2 e (colm t d)) := by
  refine (congrArg (V m c main_v1) (emb1 t d e)).trans ?_
  rw [V_second]; rfl
/-- The arguments' product, at a point's place of the result. -/
theorem product_read : k0_pay1 (F := Ideal) (iblk m c 0 t) (iblk m c 1 t) (ix2 r d)
    = ∑ e : Fin 1024, a0 m c (ix2 (row t r) e) * a1 m c (ix2 e (colm t d)) := by
  refine (product_at _ _ r d).trans (Finset.sum_congr rfl fun e _ => ?_)
  rw [read0, read1]
end

/-! ## The reference -/

theorem ref_product (x0 : FVec Ideal S8192x1024 .f32) (x1 : FVec Ideal S1024x1024 .f32) (i : Fin 8192) (j : Fin 1024) :
    val_main_v0 (F := Ideal) x0 x1 (ix2 i j) = ∑ e : Fin 1024, x0 (ix2 i e) * x1 (ix2 e j) := by
  rw [val_main_v0_apply]
  refine Finset.sum_congr rfl fun e _ => congrArg₂ _ (congrArg x0 ?_) (congrArg x1 ?_)
  · exact funext fun a => match a with | ⟨0, _⟩ => rfl | ⟨1, _⟩ => rfl
  · exact funext fun a => match a with | ⟨0, _⟩ => rfl | ⟨1, _⟩ => rfl
theorem ref2 (x0 : FVec Ideal S8192x1024 .f32) (x1 : FVec Ideal S1024x1024 .f32) (i : Fin 8192) (j : Fin 1024) :
    val_main_v1 (F := Ideal) x0 x1 (ix2 i j) = val_main_v0 (F := Ideal) x0 x1 (ix2 i j) := by
  rw [val_main_v1_apply]; rfl

/-! ## The arrays -/

theorem block1024 (y : S1024x1024.Idx) : ∃ (r : Fin 1024) (d : Fin 1024), y = ix2 r d :=
  ⟨y 0, y 1, funext fun a => match a with
    | ⟨0, _⟩ => rfl
    | ⟨1, _⟩ => rfl⟩

section
variable (m : (ℓ : Loc nD τ sig) → Buf (Elt Ideal) ℓ) (c : Dev nD)

theorem array2 : (dats m 0 c).arrAt 2 cfg0.N = val_main_v1 (F := Ideal) (a0 m c) (a1 m c) := by
  refine (dats m 0 c).arrAt_eq_of_covers 2 _ (by decide +kernel) fun t hf y => ?_
  blk_simp
  rw [after0_2]
  simp only [outsAt0]
  obtain ⟨r, d, rfl⟩ := block1024 y
  rw [emb2, out2_eq, ref2, ref_product]
  exact product_read t r d m c
end

end Cert.Kernel11Ideal.Hand

end

end
-- ==== Proof.Products.InProj.lean ====
/-
  The input projection, split by columns: what the launch leaves is the reference's three results.
-/
module

public import proofs.«01_k».proof.Proof.Gen.Kernel12Ideal.Value
public import proofs.«01_k».proof.Proof.Gen.Reference12Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel12Ideal.Hand

open Cert.Kernel12Ideal Cert.Kernel12Ideal.Gen
open Cert.Reference12Ideal.Read
open Idealize.ShloMosaic Idealize.ShloMosaic.TcCoe

theorem zeros : (![0, 0] : Fin 2 → Nat) = fun _ => 0 := funext fun a => by fin_cases a <;> rfl

/-- What a point leaves in its output windows. -/
theorem out2_eq (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S512x640 .f32) (harg5 : arg5.IsWhole) (arg6 : Memref sig .tc .vmem S512x640 .f32) (harg6 : arg6.IsWhole) (arg7 : Memref sig .tc .vmem S512x768 .f32) (harg7 : arg7.IsWhole) (arg8 : Memref sig .tc .vmem S512x2048 .f32) (harg8 : arg8.IsWhole)
    (x0 : Vec Ideal S512x1024 .bf16) (x1 : Vec Ideal S1024x2048 .bf16) :
    out0_A_2 c i arg3 harg3 arg4 harg4 arg5 harg5 arg6 harg6 arg7 harg7 arg8 harg8 x0 x1 = k0_pay2 x0 x1 := by
  unfold out0_A_2
  rw [View.read_writes_eq_canon _ _ _ (cover0_A_2 c i arg3 harg3 arg4 harg4 arg5 harg5 arg6 harg6 arg7 harg7 arg8 harg8 x0 x1)]
  unfold kernelRun0_A
  dsimp only
  rw [View.canon_unit_zero zeros]
  simp only [View.readAt_eq_ld, harg3.read_unread, harg4.read_unread, View.ld_unit_zero (S := S512x1024) zeros, View.ld_unit_zero (S := S1024x2048) zeros]
theorem out3_eq (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S512x640 .f32) (harg5 : arg5.IsWhole) (arg6 : Memref sig .tc .vmem S512x640 .f32) (harg6 : arg6.IsWhole) (arg7 : Memref sig .tc .vmem S512x768 .f32) (harg7 : arg7.IsWhole) (arg8 : Memref sig .tc .vmem S512x2048 .f32) (harg8 : arg8.IsWhole)
    (x0 : Vec Ideal S512x1024 .bf16) (x1 : Vec Ideal S1024x2048 .bf16) :
    out0_A_3 c i arg3 harg3 arg4 harg4 arg5 harg5 arg6 harg6 arg7 harg7 arg8 harg8 x0 x1 = k0_pay3 x0 x1 := by
  unfold out0_A_3
  rw [View.read_writes_eq_canon _ _ _ (cover0_A_3 c i arg3 harg3 arg4 harg4 arg5 harg5 arg6 harg6 arg7 harg7 arg8 harg8 x0 x1)]
  unfold kernelRun0_A
  dsimp only
  rw [View.canon_unit_zero zeros]
  simp only [View.readAt_eq_ld, harg3.read_unread, harg4.read_unread, View.ld_unit_zero (S := S512x1024) zeros, View.ld_unit_zero (S := S1024x2048) zeros]
theorem out4_eq (c : Dev nD) (i : grid0.Coords) (arg3 : Memref sig .tc .vmem S512x1024 .bf16) (harg3 : arg3.IsWhole) (arg4 : Memref sig .tc .vmem S1024x2048 .bf16) (harg4 : arg4.IsWhole) (arg5 : Memref sig .tc .vmem S512x640 .f32) (harg5 : arg5.IsWhole) (arg6 : Memref sig .tc .vmem S512x640 .f32) (harg6 : arg6.IsWhole) (arg7 : Memref sig .tc .vmem S512x768 .f32) (harg7 : arg7.IsWhole) (arg8 : Memref sig .tc .vmem S512x2048 .f32) (harg8 : arg8.IsWhole)
    (x0 : Vec Ideal S512x1024 .bf16) (x1 : Vec Ideal S1024x2048 .bf16) :
    out0_A_4 c i arg3 harg3 arg4 harg4 arg5 harg5 arg6 harg6 arg7 harg7 arg8 harg8 x0 x1 = k0_pay4 x0 x1 := by
  unfold out0_A_4
  rw [View.read_writes_eq_canon _ _ _ (cover0_A_4 c i arg3 harg3 arg4 harg4 arg5 harg5 arg6 harg6 arg7 harg7 arg8 harg8 x0 x1)]
  unfold kernelRun0_A
  dsimp only
  rw [View.canon_unit_zero zeros]
  simp only [View.readAt_eq_ld, harg3.read_unread, harg4.read_unread, View.ld_unit_zero (S := S512x1024) zeros, View.ld_unit_zero (S := S1024x2048) zeros]

/-- The product of the two blocks. -/
theorem product_at (x0 : Vec Ideal S512x1024 .bf16) (x1 : Vec Ideal S1024x2048 .bf16) (r : Fin 512) (d : Fin 2048) :
    k0_pay1 x0 x1 (ix2 r d) = ∑ e : Fin 1024, x0 (ix2 r e) * x1 (ix2 e d) := by
  pointwise [k0_pay1]
theorem part2_at (x0 : Vec Ideal S512x1024 .bf16) (x1 : Vec Ideal S1024x2048 .bf16) (r : Fin 512) (d : Fin 640) :
    k0_pay2 x0 x1 (ix2 r d) = k0_pay1 x0 x1 (ix2 r ⟨0 + d.val, by omega⟩) := by
  unfold k0_pay2
  generalize k0_pay1 x0 x1 = y
  pointwise
theorem part3_at (x0 : Vec Ideal S512x1024 .bf16) (x1 : Vec Ideal S1024x2048 .bf16) (r : Fin 512) (d : Fin 640) :
    k0_pay3 x0 x1 (ix2 r d) = k0_pay1 x0 x1 (ix2 r ⟨640 + d.val, by omega⟩) := by
  unfold k0_pay3
  generalize k0_pay1 x0 x1 = y
  pointwise
theorem part4_at (x0 : Vec Ideal S512x1024 .bf16) (x1 : Vec Ideal S1024x2048 .bf16) (r : Fin 512) (d : Fin 768) :
    k0_pay4 x0 x1 (ix2 r d) = k0_pay1 x0 x1 (ix2 r ⟨1280 + d.val, by omega⟩) := by
  unfold k0_pay4
  generalize k0_pay1 x0 x1 = y
  pointwise

section
variable (m : (ℓ : Loc nD τ sig) → Buf (Elt Ideal) ℓ) (c : Dev nD)

/-- The two arguments on core `c`. -/
abbrev a0 : FVec Ideal S8192x1024 .f32 := m ((c : Thread nD τ).loc main_arg0)
abbrev a1 : FVec Ideal S1024x2048 .f32 := m ((c : Thread nD τ).loc main_arg1)

set_option backward.isDefEq.respectTransparency.types false in
theorem V_first : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_second : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val / 1, 0] := (by decide +kernel : ∀ t : Fin grid0.N, _)
theorem index1 : ∀ t : Fin cfg0.N, win0_1.index t = ![0, t.val % 1] := (by decide +kernel : ∀ t : Fin grid0.N, _)
theorem index2 : ∀ t : Fin cfg0.N, win0_2.index t = ![t.val / 1, t.val % 1] := (by decide +kernel : ∀ t : Fin grid0.N, _)
theorem index3 : ∀ t : Fin cfg0.N, win0_3.index t = ![t.val / 1, t.val % 1] := (by decide +kernel : ∀ t : Fin grid0.N, _)
theorem index4 : ∀ t : Fin cfg0.N, win0_4.index t = ![t.val / 1, t.val % 1] := (by decide +kernel : ∀ t : Fin grid0.N, _)

theorem points (t : Fin cfg0.N) : t.val < 16 := t.isLt

/-- A point's row and column of the product, from those of its block. -/
def row (t : Fin cfg0.N) (r : Fin 512) : Fin 8192 := ⟨512 * (t.val / 1) + r.val, by have := points t; omega⟩
def colm (t : Fin cfg0.N) (d : Fin 2048) : Fin 2048 := ⟨2048 * (t.val % 1) + d.val, by omega⟩
theorem row_val (t : Fin cfg0.N) (r : Fin 512) : (row t r).val = 512 * (t.val / 1) + r.val := rfl
theorem colm_val (t : Fin cfg0.N) (d : Fin 2048) : (colm t d).val = 2048 * (t.val % 1) + d.val := rfl

section
variable (t : Fin cfg0.N) (r : Fin 512) (d : Fin 2048) (e : Fin 1024)

theorem emb0 : (win0_0.blk t).view.emb (ix2 r e) = ix2 (row t r) e := by
  blk_ext [index0]
  all_goals first | (simp only [row_val]; omega) | omega
theorem emb1 : (win0_1.blk t).view.emb (ix2 e d) = ix2 e (colm t d) := by
  blk_ext [index1]
  all_goals first | (simp only [colm_val]; omega) | omega
theorem emb2 (d : Fin 640) : (win0_2.blk t).view.emb (ix2 r d) = ix2 (row t r) d := by
  blk_ext [index2]
  all_goals first | (simp only [row_val]; omega) | omega
theorem emb3 (d : Fin 640) : (win0_3.blk t).view.emb (ix2 r d) = ix2 (row t r) d := by
  blk_ext [index3]
  all_goals first | (simp only [row_val]; omega) | omega
theorem emb4 (d : Fin 768) : (win0_4.blk t).view.emb (ix2 r d) = ix2 (row t r) d := by
  blk_ext [index4]
  all_goals first | (simp only [row_val]; omega) | omega

variable (m : (ℓ : Loc nD τ sig) → Buf (Elt Ideal) ℓ) (c : Dev nD)

theorem read0 : iblk m c 0 t (ix2 r e) = a0 m c (ix2 (row t r) e) := by
  refine (congrArg (V m c main_v0) (emb0 t r e)).trans ?_
  rw [V_first]; rfl
theorem read1 : iblk m c 1 t (ix2 e d) = a1 m c (ix2 e (colm t d)) := by
  refine (congrArg (V m c main_v1) (emb1 t d e)).trans ?_
  rw [V_second]; rfl
/-- The arguments' product, at a point's place of the result. -/
theorem product_read : k0_pay1 (F := Ideal) (iblk m c 0 t) (iblk m c 1 t) (ix2 r d)
    = ∑ e : Fin 1024, a0 m c (ix2 (row t r) e) * a1 m c (ix2 e (colm t d)) := by
  refine (product_at _ _ r d).trans (Finset.sum_congr rfl fun e _ => ?_)
  rw [read0, read1]
end

/-! ## The reference -/

theorem ref_product (x0 : FVec Ideal S8192x1024 .f32) (x1 : FVec Ideal S1024x2048 .f32) (i : Fin 8192) (j : Fin 2048) :
    val_main_v0 (F := Ideal) x0 x1 (ix2 i j) = ∑ e : Fin 1024, x0 (ix2 i e) * x1 (ix2 e j) := by
  rw [val_main_v0_apply]
  refine Finset.sum_congr rfl fun e _ => congrArg₂ _ (congrArg x0 ?_) (congrArg x1 ?_)
  · exact funext fun a => match a with | ⟨0, _⟩ => rfl | ⟨1, _⟩ => rfl
  · exact funext fun a => match a with | ⟨0, _⟩ => rfl | ⟨1, _⟩ => rfl
theorem ref2 (x0 : FVec Ideal S8192x1024 .f32) (x1 : FVec Ideal S1024x2048 .f32) (i : Fin 8192) (j : Fin 640) :
    val_main_v1 (F := Ideal) x0 x1 (ix2 i j) = val_main_v0 (F := Ideal) x0 x1 (ix2 i ⟨0 + j.val, by omega⟩) := by
  rw [val_main_v1_apply]
  exact congrArg _ (funext fun a => match a with | ⟨0, _⟩ => Fin.ext (by simp) | ⟨1, _⟩ => Fin.ext (by simp <;> omega))
theorem ref3 (x0 : FVec Ideal S8192x1024 .f32) (x1 : FVec Ideal S1024x2048 .f32) (i : Fin 8192) (j : Fin 640) :
    val_main_v2 (F := Ideal) x0 x1 (ix2 i j) = val_main_v0 (F := Ideal) x0 x1 (ix2 i ⟨640 + j.val, by omega⟩) := by
  rw [val_main_v2_apply]
  exact congrArg _ (funext fun a => match a with | ⟨0, _⟩ => Fin.ext (by simp) | ⟨1, _⟩ => Fin.ext (by simp <;> omega))
theorem ref4 (x0 : FVec Ideal S8192x1024 .f32) (x1 : FVec Ideal S1024x2048 .f32) (i : Fin 8192) (j : Fin 768) :
    val_main_v3 (F := Ideal) x0 x1 (ix2 i j) = val_main_v0 (F := Ideal) x0 x1 (ix2 i ⟨1280 + j.val, by omega⟩) := by
  rw [val_main_v3_apply]
  exact congrArg _ (funext fun a => match a with | ⟨0, _⟩ => Fin.ext (by simp) | ⟨1, _⟩ => Fin.ext (by simp <;> omega))

/-! ## The arrays -/

theorem block640 (y : S512x640.Idx) : ∃ (r : Fin 512) (d : Fin 640), y = ix2 r d :=
  ⟨y 0, y 1, funext fun a => match a with
    | ⟨0, _⟩ => rfl
    | ⟨1, _⟩ => rfl⟩
theorem block768 (y : S512x768.Idx) : ∃ (r : Fin 512) (d : Fin 768), y = ix2 r d :=
  ⟨y 0, y 1, funext fun a => match a with
    | ⟨0, _⟩ => rfl
    | ⟨1, _⟩ => rfl⟩

section
variable (m : (ℓ : Loc nD τ sig) → Buf (Elt Ideal) ℓ) (c : Dev nD)

theorem array2 : (dats m 0 c).arrAt 2 cfg0.N = val_main_v1 (F := Ideal) (a0 m c) (a1 m c) := by
  refine (dats m 0 c).arrAt_eq_of_covers 2 _ (by decide +kernel) fun t hf y => ?_
  blk_simp
  rw [after0_2]
  simp only [outsAt0]
  obtain ⟨r, d, rfl⟩ := block640 y
  have := points t
  rw [emb2, out2_eq, part2_at, ref2, ref_product]
  refine (product_read t r ⟨0 + d.val, by omega⟩ m c).trans (Finset.sum_congr rfl fun e _ => congrArg _ (congrArg (a1 m c) (congrArg (ix2 e) (Fin.ext ?_))))
  show 2048 * (t.val % 1) + (0 + d.val) = 0 + d.val
  omega

theorem array3 : (dats m 0 c).arrAt 3 cfg0.N = val_main_v2 (F := Ideal) (a0 m c) (a1 m c) := by
  refine (dats m 0 c).arrAt_eq_of_covers 3 _ (by decide +kernel) fun t hf y => ?_
  blk_simp
  rw [after0_3]
  simp only [outsAt0]
  obtain ⟨r, d, rfl⟩ := block640 y
  have := points t
  rw [emb3, out3_eq, part3_at, ref3, ref_product]
  refine (product_read t r ⟨640 + d.val, by omega⟩ m c).trans (Finset.sum_congr rfl fun e _ => congrArg _ (congrArg (a1 m c) (congrArg (ix2 e) (Fin.ext ?_))))
  show 2048 * (t.val % 1) + (640 + d.val) = 640 + d.val
  omega

theorem array4 : (dats m 0 c).arrAt 4 cfg0.N = val_main_v3 (F := Ideal) (a0 m c) (a1 m c) := by
  refine (dats m 0 c).arrAt_eq_of_covers 4 _ (by decide +kernel) fun t hf y => ?_
  blk_simp
  rw [after0_4]
  simp only [outsAt0]
  obtain ⟨r, d, rfl⟩ := block768 y
  have := points t
  rw [emb4, out4_eq, part4_at, ref4, ref_product]
  refine (product_read t r ⟨1280 + d.val, by omega⟩ m c).trans (Finset.sum_congr rfl fun e _ => congrArg _ (congrArg (a1 m c) (congrArg (ix2 e) (Fin.ext ?_))))
  show 2048 * (t.val % 1) + (1280 + d.val) = 1280 + d.val
  omega
end

end Cert.Kernel12Ideal.Hand

end

end
-- ==== Proof.Products.Claim.lean ====
/-
  The value claims of the products round the mixers: from any arguments the kernel and the reference end with the same
  arrays.
-/
module

public import proofs.«01_k».proof.Defs
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Products.InDw
public import proofs.«01_k».proof.Proof.Products.MemDw
public import proofs.«01_k».proof.Proof.Products.OutDw
public import proofs.«01_k».proof.Proof.Products.MemDx
public import proofs.«01_k».proof.Proof.Products.OutDx
public import proofs.«01_k».proof.Proof.Products.MemQ
public import proofs.«01_k».proof.Proof.Products.InProj

@[expose] public section

set_option maxRecDepth 4000

noncomputable section

open Idealize.ShloMosaic Idealize.ShloMosaic.TcCoe Idealize.SL.Sem

/-- The gradient of the input projection. -/
theorem Cert.Kernel6Ideal.Hand.agree : Cert.algebraic_Kernel6Ideal_Reference6Ideal := by
  intro m g m' g' _ hargs
  refine ⟨fun c => Cert.Reference6Ideal.Read.val_main_v3 (F := Ideal) (Cert.Kernel6Ideal.Hand.a0 m c) (Cert.Kernel6Ideal.Hand.a1 m c),
    (θ_run Cert.Kernel6Ideal.defs _ _).mono (fun _ h c => ⟨(h c).1.trans (Cert.Kernel6Ideal.Hand.array m c), (h c).2⟩) (Cert.Kernel6Ideal.Value.run_blocks m g),
    (θ_run Cert.Reference6Ideal.defs _ _).mono (fun r h c => ?_) (Cert.Reference6Ideal.Value.run (F := Ideal) m' g')⟩
  obtain ⟨e0, e1⟩ := hargs c
  refine ⟨(h c).1.trans ((Cert.Reference6Ideal.Read.val_main_v3_eq (F := Ideal) _ _).trans ?_), (h c).2⟩
  rw [e0, e1]

/-- The gradient of a square projection of the memory attention. -/
theorem Cert.Kernel7Ideal.Hand.agree : Cert.algebraic_Kernel7Ideal_Reference7Ideal := by
  intro m g m' g' _ hargs
  refine ⟨fun c => Cert.Reference7Ideal.Read.val_main_v3 (F := Ideal) (Cert.Kernel7Ideal.Hand.a0 m c) (Cert.Kernel7Ideal.Hand.a1 m c),
    (θ_run Cert.Kernel7Ideal.defs _ _).mono (fun _ h c => ⟨(h c).1.trans (Cert.Kernel7Ideal.Hand.array m c), (h c).2⟩) (Cert.Kernel7Ideal.Value.run_blocks m g),
    (θ_run Cert.Reference7Ideal.defs _ _).mono (fun r h c => ?_) (Cert.Reference7Ideal.Value.run (F := Ideal) m' g')⟩
  obtain ⟨e0, e1⟩ := hargs c
  refine ⟨(h c).1.trans ((Cert.Reference7Ideal.Read.val_main_v3_eq (F := Ideal) _ _).trans ?_), (h c).2⟩
  rw [e0, e1]

/-- The gradient of the mixer's output projection. -/
theorem Cert.Kernel8Ideal.Hand.agree : Cert.algebraic_Kernel8Ideal_Reference8Ideal := by
  intro m g m' g' _ hargs
  refine ⟨fun c => Cert.Reference8Ideal.Read.val_main_v3 (F := Ideal) (Cert.Kernel8Ideal.Hand.a0 m c) (Cert.Kernel8Ideal.Hand.a1 m c),
    (θ_run Cert.Kernel8Ideal.defs _ _).mono (fun _ h c => ⟨(h c).1.trans (Cert.Kernel8Ideal.Hand.array m c), (h c).2⟩) (Cert.Kernel8Ideal.Value.run_blocks m g),
    (θ_run Cert.Reference8Ideal.defs _ _).mono (fun r h c => ?_) (Cert.Reference8Ideal.Value.run (F := Ideal) m' g')⟩
  obtain ⟨e0, e1⟩ := hargs c
  refine ⟨(h c).1.trans ((Cert.Reference8Ideal.Read.val_main_v3_eq (F := Ideal) _ _).trans ?_), (h c).2⟩
  rw [e0, e1]

/-- The gradient at the memory attention's output. -/
theorem Cert.Kernel9Ideal.Hand.agree : Cert.algebraic_Kernel9Ideal_Reference9Ideal := by
  intro m g m' g' _ hargs
  refine ⟨fun c => Cert.Reference9Ideal.Read.val_main_v2 (F := Ideal) (Cert.Kernel9Ideal.Hand.a0 m c) (Cert.Kernel9Ideal.Hand.a1 m c),
    (θ_run Cert.Kernel9Ideal.defs _ _).mono (fun _ h c => ⟨(h c).1.trans (Cert.Kernel9Ideal.Hand.array2 m c), (h c).2⟩) (Cert.Kernel9Ideal.Value.run_blocks m g),
    (θ_run Cert.Reference9Ideal.defs _ _).mono (fun r h c => ?_) (Cert.Reference9Ideal.Value.run (F := Ideal) m' g')⟩
  obtain ⟨e0, e1⟩ := hargs c
  refine ⟨(h c).1.trans ((Cert.Reference9Ideal.Read.val_main_v2_eq (F := Ideal) _ _).trans ?_), (h c).2⟩
  rw [e0, e1]

/-- The gradient at the mixer's output. -/
theorem Cert.Kernel10Ideal.Hand.agree : Cert.algebraic_Kernel10Ideal_Reference10Ideal := by
  intro m g m' g' _ hargs
  refine ⟨fun c => Cert.Reference10Ideal.Read.val_main_v2 (F := Ideal) (Cert.Kernel10Ideal.Hand.a0 m c) (Cert.Kernel10Ideal.Hand.a1 m c),
    (θ_run Cert.Kernel10Ideal.defs _ _).mono (fun _ h c => ⟨(h c).1.trans (Cert.Kernel10Ideal.Hand.array2 m c), (h c).2⟩) (Cert.Kernel10Ideal.Value.run_blocks m g),
    (θ_run Cert.Reference10Ideal.defs _ _).mono (fun r h c => ?_) (Cert.Reference10Ideal.Value.run (F := Ideal) m' g')⟩
  obtain ⟨e0, e1⟩ := hargs c
  refine ⟨(h c).1.trans ((Cert.Reference10Ideal.Read.val_main_v2_eq (F := Ideal) _ _).trans ?_), (h c).2⟩
  rw [e0, e1]

/-- The queries of the memory attention. -/
theorem Cert.Kernel11Ideal.Hand.agree : Cert.algebraic_Kernel11Ideal_Reference11Ideal := by
  intro m g m' g' _ hargs
  refine ⟨fun c => Cert.Reference11Ideal.Read.val_main_v1 (F := Ideal) (Cert.Kernel11Ideal.Hand.a0 m c) (Cert.Kernel11Ideal.Hand.a1 m c),
    (θ_run Cert.Kernel11Ideal.defs _ _).mono (fun _ h c => ⟨(h c).1.trans (Cert.Kernel11Ideal.Hand.array2 m c), (h c).2⟩) (Cert.Kernel11Ideal.Value.run_blocks m g),
    (θ_run Cert.Reference11Ideal.defs _ _).mono (fun r h c => ?_) (Cert.Reference11Ideal.Value.run (F := Ideal) m' g')⟩
  obtain ⟨e0, e1⟩ := hargs c
  refine ⟨(h c).1.trans ((Cert.Reference11Ideal.Read.val_main_v1_eq (F := Ideal) _ _).trans ?_), (h c).2⟩
  rw [e0, e1]

/-- The input projection's three parts. -/
theorem Cert.Kernel12Ideal.Hand.agree : Cert.algebraic_Kernel12Ideal_Reference12Ideal := by
  intro m g m' g' _ hargs
  refine ⟨fun c => Cert.Reference12Ideal.Read.val_main_v1 (F := Ideal) (Cert.Kernel12Ideal.Hand.a0 m c) (Cert.Kernel12Ideal.Hand.a1 m c),
    fun c => Cert.Reference12Ideal.Read.val_main_v2 (F := Ideal) (Cert.Kernel12Ideal.Hand.a0 m c) (Cert.Kernel12Ideal.Hand.a1 m c),
    fun c => Cert.Reference12Ideal.Read.val_main_v3 (F := Ideal) (Cert.Kernel12Ideal.Hand.a0 m c) (Cert.Kernel12Ideal.Hand.a1 m c),
    (θ_run Cert.Kernel12Ideal.defs _ _).mono (fun _ h c => ⟨(h c).1.trans (Cert.Kernel12Ideal.Hand.array2 m c), (h c).2.1.trans (Cert.Kernel12Ideal.Hand.array3 m c), (h c).2.2.1.trans (Cert.Kernel12Ideal.Hand.array4 m c), (h c).2.2.2⟩) (Cert.Kernel12Ideal.Value.run_blocks m g),
    (θ_run Cert.Reference12Ideal.defs _ _).mono (fun r h c => ?_) (Cert.Reference12Ideal.Value.run (F := Ideal) m' g')⟩
  obtain ⟨e0, e1⟩ := hargs c
  refine ⟨(h c).1.trans ((Cert.Reference12Ideal.Read.val_main_v1_eq (F := Ideal) _ _).trans ?_),
    (h c).2.1.trans ((Cert.Reference12Ideal.Read.val_main_v2_eq (F := Ideal) _ _).trans ?_),
    (h c).2.2.1.trans ((Cert.Reference12Ideal.Read.val_main_v3_eq (F := Ideal) _ _).trans ?_), (h c).2.2.2⟩
  all_goals rw [e0, e1]

end

end
-- ==== Proof.Products.QProj.lean ====
/-
  The query projection: what the launch leaves is the reference's result.
-/
module

public import proofs.«01_k».proof.Proof.Gen.Kernel13Ideal.Value
public import proofs.«01_k».proof.Proof.Gen.Reference13Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel13Ideal.Hand

open Cert.Kernel13Ideal Cert.Kernel13Ideal.Gen
open Cert.Reference13Ideal.Read
open Idealize.ShloMosaic Idealize.ShloMosaic.TcCoe

theorem zeros : (![0, 0] : Fin 2 → Nat) = fun _ => 0 := funext fun a => by fin_cases a <;> rfl

/-- What a point leaves in its output window. -/
theorem out2_eq (c : Dev nD) (i : grid0.Coords) (arg3 : Memref sig .tc .vmem S1024x256 .bf16) (harg3 : arg3.IsWhole) (arg4 : Memref sig .tc .vmem S256x1024 .bf16) (harg4 : arg4.IsWhole) (arg5 : Memref sig .tc .vmem S1024x1024 .f32) (harg5 : arg5.IsWhole) (arg6 : Memref sig .tc .vmem S1024x1024 .f32) (harg6 : arg6.IsWhole)
    (x0 : Vec Ideal S1024x256 .bf16) (x1 : Vec Ideal S256x1024 .bf16) :
    out0_A_2 c i arg3 harg3 arg4 harg4 arg5 harg5 arg6 harg6 x0 x1 = k0_pay1 x0 x1 := by
  unfold out0_A_2
  rw [View.read_writes_eq_canon _ _ _ (cover0_A_2 c i arg3 harg3 arg4 harg4 arg5 harg5 arg6 harg6 x0 x1)]
  unfold kernelRun0_A
  dsimp only
  rw [View.canon_unit_zero zeros]
  simp only [View.readAt_eq_ld, harg3.read_unread, harg4.read_unread, View.ld_unit_zero (S := S1024x256) zeros, View.ld_unit_zero (S := S256x1024) zeros]

/-- The product of the two blocks. -/
theorem product_at (x0 : Vec Ideal S1024x256 .bf16) (x1 : Vec Ideal S256x1024 .bf16) (r : Fin 1024) (d : Fin 1024) :
    k0_pay1 x0 x1 (ix2 r d) = ∑ e : Fin 256, x0 (ix2 r e) * x1 (ix2 e d) := by
  pointwise [k0_pay1]

section
variable (m : (ℓ : Loc nD τ sig) → Buf (Elt Ideal) ℓ) (c : Dev nD)

/-- The two arguments on core `c`. -/
abbrev a0 : FVec Ideal S8192x256 .f32 := m ((c : Thread nD τ).loc main_arg0)
abbrev a1 : FVec Ideal S256x2048 .f32 := m ((c : Thread nD τ).loc main_arg1)

set_option backward.isDefEq.respectTransparency.types false in
theorem V_first : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_second : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

theorem points (t : Fin cfg0.N) : t.val < 16 := t.isLt

/-- A point's row and column of the product, from those of its block. -/
def row (t : Fin cfg0.N) (r : Fin 1024) : Fin 8192 := ⟨1024 * (t.val / 2) + r.val, by have := points t; omega⟩
def colm (t : Fin cfg0.N) (d : Fin 1024) : Fin 2048 := ⟨1024 * (t.val % 2) + d.val, by omega⟩
theorem row_val (t : Fin cfg0.N) (r : Fin 1024) : (row t r).val = 1024 * (t.val / 2) + r.val := rfl
theorem colm_val (t : Fin cfg0.N) (d : Fin 1024) : (colm t d).val = 1024 * (t.val % 2) + d.val := rfl

section
variable (t : Fin cfg0.N) (r : Fin 1024) (d : Fin 1024) (e : Fin 256)

theorem emb0 : (win0_0.blk t).view.emb (ix2 r e) = ix2 (row t r) e := by
  blk_ext [index0]
  all_goals first | (simp only [row_val]; omega) | omega
theorem emb1 : (win0_1.blk t).view.emb (ix2 e d) = ix2 e (colm t d) := by
  blk_ext [index1]
  all_goals first | (simp only [colm_val]; omega) | omega
theorem emb2 : (win0_2.blk t).view.emb (ix2 r d) = ix2 (row t r) (colm t d) := by
  blk_ext [index2]
  all_goals simp only [row_val, colm_val]; omega

variable (m : (ℓ : Loc nD τ sig) → Buf (Elt Ideal) ℓ) (c : Dev nD)

theorem read0 : iblk m c 0 t (ix2 r e) = a0 m c (ix2 (row t r) e) := by
  refine (congrArg (V m c main_v0) (emb0 t r e)).trans ?_
  rw [V_first]; rfl
theorem read1 : iblk m c 1 t (ix2 e d) = a1 m c (ix2 e (colm t d)) := by
  refine (congrArg (V m c main_v1) (emb1 t d e)).trans ?_
  rw [V_second]; rfl
/-- The arguments' product, at a point's place of the result. -/
theorem product_read : k0_pay1 (F := Ideal) (iblk m c 0 t) (iblk m c 1 t) (ix2 r d)
    = ∑ e : Fin 256, a0 m c (ix2 (row t r) e) * a1 m c (ix2 e (colm t d)) := by
  refine (product_at _ _ r d).trans (Finset.sum_congr rfl fun e _ => ?_)
  rw [read0, read1]
end

/-! ## The reference -/

theorem ref_product (x0 : FVec Ideal S8192x256 .f32) (x1 : FVec Ideal S256x2048 .f32) (i : Fin 8192) (j : Fin 2048) :
    val_main_v0 (F := Ideal) x0 x1 (ix2 i j) = ∑ e : Fin 256, x0 (ix2 i e) * x1 (ix2 e j) := by
  rw [val_main_v0_apply]
  refine Finset.sum_congr rfl fun e _ => congrArg₂ _ (congrArg x0 ?_) (congrArg x1 ?_)
  · exact funext fun a => match a with | ⟨0, _⟩ => rfl | ⟨1, _⟩ => rfl
  · exact funext fun a => match a with | ⟨0, _⟩ => rfl | ⟨1, _⟩ => rfl

/-! ## The arrays -/

theorem block1024 (y : S1024x1024.Idx) : ∃ (r : Fin 1024) (d : Fin 1024), y = ix2 r d :=
  ⟨y 0, y 1, funext fun a => match a with
    | ⟨0, _⟩ => rfl
    | ⟨1, _⟩ => rfl⟩

section
variable (m : (ℓ : Loc nD τ sig) → Buf (Elt Ideal) ℓ) (c : Dev nD)

theorem array2 : (dats m 0 c).arrAt 2 cfg0.N = val_main_v0 (F := Ideal) (a0 m c) (a1 m c) := by
  refine (dats m 0 c).arrAt_eq_of_covers 2 _ (by decide +kernel) fun t hf y => ?_
  blk_simp
  rw [after0_2]
  simp only [outsAt0]
  obtain ⟨r, d, rfl⟩ := block1024 y
  rw [emb2, out2_eq, ref_product]
  exact product_read t r d m c
end

end Cert.Kernel13Ideal.Hand

end

end
-- ==== Proof.Products.KvProj.lean ====
/-
  The key and value projection: what the launch leaves is the reference's result.
-/
module

public import proofs.«01_k».proof.Proof.Gen.Kernel14Ideal.Value
public import proofs.«01_k».proof.Proof.Gen.Reference14Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel14Ideal.Hand

open Cert.Kernel14Ideal Cert.Kernel14Ideal.Gen
open Cert.Reference14Ideal.Read
open Idealize.ShloMosaic Idealize.ShloMosaic.TcCoe

theorem zeros : (![0, 0] : Fin 2 → Nat) = fun _ => 0 := funext fun a => by fin_cases a <;> rfl

/-- What a point leaves in its output window. -/
theorem out2_eq (c : Dev nD) (i : grid0.Coords) (arg3 : Memref sig .tc .vmem S1024x256 .bf16) (harg3 : arg3.IsWhole) (arg4 : Memref sig .tc .vmem S256x1024 .bf16) (harg4 : arg4.IsWhole) (arg5 : Memref sig .tc .vmem S1024x1024 .bf16) (harg5 : arg5.IsWhole) (arg6 : Memref sig .tc .vmem S1024x1024 .f32) (harg6 : arg6.IsWhole)
    (x0 : Vec Ideal S1024x256 .bf16) (x1 : Vec Ideal S256x1024 .bf16) :
    out0_A_2 c i arg3 harg3 arg4 harg4 arg5 harg5 arg6 harg6 x0 x1 = k0_pay1 x0 x1 := by
  unfold out0_A_2
  rw [View.read_writes_eq_canon _ _ _ (cover0_A_2 c i arg3 harg3 arg4 harg4 arg5 harg5 arg6 harg6 x0 x1)]
  unfold kernelRun0_A
  dsimp only
  rw [View.canon_unit_zero zeros]
  simp only [View.readAt_eq_ld, harg3.read_unread, harg4.read_unread, View.ld_unit_zero (S := S1024x256) zeros, View.ld_unit_zero (S := S256x1024) zeros]

/-- The product of the two blocks. -/
theorem product_at (x0 : Vec Ideal S1024x256 .bf16) (x1 : Vec Ideal S256x1024 .bf16) (r : Fin 1024) (d : Fin 1024) :
    k0_pay1 x0 x1 (ix2 r d) = ∑ e : Fin 256, x0 (ix2 r e) * x1 (ix2 e d) := by
  pointwise [k0_pay1]

section
variable (m : (ℓ : Loc nD τ sig) → Buf (Elt Ideal) ℓ) (c : Dev nD)

/-- The two arguments on core `c`. -/
abbrev a0 : FVec Ideal S8192x256 .f32 := m ((c : Thread nD τ).loc main_arg0)
abbrev a1 : FVec Ideal S256x2048 .f32 := m ((c : Thread nD τ).loc main_arg1)

set_option backward.isDefEq.respectTransparency.types false in
theorem V_first : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_second : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

theorem points (t : Fin cfg0.N) : t.val < 16 := t.isLt

/-- A point's row and column of the product, from those of its block. -/
def row (t : Fin cfg0.N) (r : Fin 1024) : Fin 8192 := ⟨1024 * (t.val / 2) + r.val, by have := points t; omega⟩
def colm (t : Fin cfg0.N) (d : Fin 1024) : Fin 2048 := ⟨1024 * (t.val % 2) + d.val, by omega⟩
theorem row_val (t : Fin cfg0.N) (r : Fin 1024) : (row t r).val = 1024 * (t.val / 2) + r.val := rfl
theorem colm_val (t : Fin cfg0.N) (d : Fin 1024) : (colm t d).val = 1024 * (t.val % 2) + d.val := rfl

section
variable (t : Fin cfg0.N) (r : Fin 1024) (d : Fin 1024) (e : Fin 256)

theorem emb0 : (win0_0.blk t).view.emb (ix2 r e) = ix2 (row t r) e := by
  blk_ext [index0]
  all_goals first | (simp only [row_val]; omega) | omega
theorem emb1 : (win0_1.blk t).view.emb (ix2 e d) = ix2 e (colm t d) := by
  blk_ext [index1]
  all_goals first | (simp only [colm_val]; omega) | omega
theorem emb2 : (win0_2.blk t).view.emb (ix2 r d) = ix2 (row t r) (colm t d) := by
  blk_ext [index2]
  all_goals simp only [row_val, colm_val]; omega

variable (m : (ℓ : Loc nD τ sig) → Buf (Elt Ideal) ℓ) (c : Dev nD)

theorem read0 : iblk m c 0 t (ix2 r e) = a0 m c (ix2 (row t r) e) := by
  refine (congrArg (V m c main_v0) (emb0 t r e)).trans ?_
  rw [V_first]; rfl
theorem read1 : iblk m c 1 t (ix2 e d) = a1 m c (ix2 e (colm t d)) := by
  refine (congrArg (V m c main_v1) (emb1 t d e)).trans ?_
  rw [V_second]; rfl
/-- The arguments' product, at a point's place of the result. -/
theorem product_read : k0_pay1 (F := Ideal) (iblk m c 0 t) (iblk m c 1 t) (ix2 r d)
    = ∑ e : Fin 256, a0 m c (ix2 (row t r) e) * a1 m c (ix2 e (colm t d)) := by
  refine (product_at _ _ r d).trans (Finset.sum_congr rfl fun e _ => ?_)
  rw [read0, read1]
end

/-! ## The reference -/

theorem ref_product (x0 : FVec Ideal S8192x256 .f32) (x1 : FVec Ideal S256x2048 .f32) (i : Fin 8192) (j : Fin 2048) :
    val_main_v0 (F := Ideal) x0 x1 (ix2 i j) = ∑ e : Fin 256, x0 (ix2 i e) * x1 (ix2 e j) := by
  rw [val_main_v0_apply]
  refine Finset.sum_congr rfl fun e _ => congrArg₂ _ (congrArg x0 ?_) (congrArg x1 ?_)
  · exact funext fun a => match a with | ⟨0, _⟩ => rfl | ⟨1, _⟩ => rfl
  · exact funext fun a => match a with | ⟨0, _⟩ => rfl | ⟨1, _⟩ => rfl
theorem ref2 (x0 : FVec Ideal S8192x256 .f32) (x1 : FVec Ideal S256x2048 .f32) (i : Fin 8192) (j : Fin 2048) :
    val_main_v1 (F := Ideal) x0 x1 (ix2 i j) = val_main_v0 (F := Ideal) x0 x1 (ix2 i j) := by
  rw [val_main_v1_apply]; rfl

/-! ## The arrays -/

theorem block1024 (y : S1024x1024.Idx) : ∃ (r : Fin 1024) (d : Fin 1024), y = ix2 r d :=
  ⟨y 0, y 1, funext fun a => match a with
    | ⟨0, _⟩ => rfl
    | ⟨1, _⟩ => rfl⟩

section
variable (m : (ℓ : Loc nD τ sig) → Buf (Elt Ideal) ℓ) (c : Dev nD)

theorem array2 : (dats m 0 c).arrAt 2 cfg0.N = val_main_v1 (F := Ideal) (a0 m c) (a1 m c) := by
  refine (dats m 0 c).arrAt_eq_of_covers 2 _ (by decide +kernel) fun t hf y => ?_
  blk_simp
  rw [after0_2]
  simp only [outsAt0]
  obtain ⟨r, d, rfl⟩ := block1024 y
  rw [emb2, out2_eq, ref2, ref_product]
  exact product_read t r d m c
end

end Cert.Kernel14Ideal.Hand

end

end
-- ==== Proof.Products.QDw.lean ====
/-
  The gradient of the query projection: eight blocks of 1024 rows are summed point after point, and the sum is the
  reference's sum over all the 8192 rows.
-/
module

public import proofs.«01_k».proof.Proof.Gen.Kernel15Ideal.Value
public import proofs.«01_k».proof.Proof.Gen.Reference15Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel15Ideal.Hand

open Cert.Kernel15Ideal Cert.Kernel15Ideal.Gen
open Cert.Reference15Ideal.Read
open Idealize.ShloMosaic Idealize.ShloMosaic.TcCoe

theorem zeros : (![0, 0] : Fin 2 → Nat) = fun _ => 0 := funext fun a => by fin_cases a <;> rfl

section
variable (c : Dev nD) (i : grid0.Coords) (arg3 : Memref sig .tc .vmem S1024x256 .bf16) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1024 .f32) (harg6 : arg6.IsWhole)
  (x0 : Vec Ideal S1024x256 .bf16) (x1 : Vec Ideal S1024x1024 .bf16) (xs0 : Vec Ideal S256x1024 .f32)

/-- The first block of rows starts the sum. -/
theorem start_eq (hc0 : cond0_0 i) (hc1 : ¬cond0_1 i) (hc2 : ¬cond0_2 i) : sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero zeros]
  simp only [View.readAt_eq_ld, harg3.read_unread, harg4.read_unread, harg6.read_unread, View.ld_unit_zero (S := S1024x256) zeros, View.ld_unit_zero (S := S1024x1024) zeros, View.ld_unit_zero (S := S256x1024) zeros]

/-- A later one adds to it. -/
theorem add_eq (hc0 : ¬cond0_0 i) (hc1 : cond0_1 i) (hc2 : ¬cond0_2 i) : sout0_B_0 c i arg3 harg3 arg4 harg4 arg5 harg5 arg6 harg6 hc0 hc1 hc2 x0 x1 xs0 = k0_pay2 xs0 x0 x1 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero zeros]
  simp only [View.readAt_eq_ld, harg3.read_unread, harg4.read_unread, harg6.read_unread, View.ld_unit_zero (S := S1024x256) zeros, View.ld_unit_zero (S := S1024x1024) zeros, View.ld_unit_zero (S := S256x1024) zeros]

/-- So does the last one, … -/
theorem last_eq (hc0 : ¬cond0_0 i) (hc1 : cond0_1 i) (hc2 : cond0_2 i) : sout0_C_0 c i arg3 harg3 arg4 harg4 arg5 harg5 arg6 harg6 hc0 hc1 hc2 x0 x1 xs0 = k0_pay2 xs0 x0 x1 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  rw [View.canon_unit_zero zeros]
  simp only [View.readAt_eq_ld, harg3.read_unread, harg4.read_unread, harg6.read_unread, View.ld_unit_zero (S := S1024x256) zeros, View.ld_unit_zero (S := S1024x1024) zeros, View.ld_unit_zero (S := S256x1024) zeros]

/-- … which also leaves the sum in the output window. -/
theorem out_eq (hc0 : ¬cond0_0 i) (hc1 : cond0_1 i) (hc2 : cond0_2 i) : out0_C_2 c i arg3 harg3 arg4 harg4 arg5 harg5 arg6 harg6 hc0 hc1 hc2 x0 x1 xs0 = k0_pay2 xs0 x0 x1 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero zeros, View.readCov_unit_zero (S := S256x1024) _ zeros]
  simp only [View.readAt_eq_ld, harg3.read_unread, harg4.read_unread, harg6.read_unread, View.ld_unit_zero (S := S1024x256) zeros, View.ld_unit_zero (S := S1024x1024) zeros, View.ld_unit_zero (S := S256x1024) zeros]
end

theorem pay1_at (x0 : Vec Ideal S1024x256 .bf16) (x1 : Vec Ideal S1024x1024 .bf16) (r : Fin 256) (d : Fin 1024) :
    k0_pay1 x0 x1 (ix2 r d) = ∑ e : Fin 1024, x0 (ix2 e r) * x1 (ix2 e d) := by
  pointwise [k0_pay1]
theorem pay2_at (y : Vec Ideal S256x1024 .f32) (x0 : Vec Ideal S1024x256 .bf16) (x1 : Vec Ideal S1024x1024 .bf16) (r : Fin 256) (d : Fin 1024) :
    k0_pay2 y x0 x1 (ix2 r d) = y (ix2 r d) + ∑ e : Fin 1024, x0 (ix2 e r) * x1 (ix2 e d) := by
  pointwise [k0_pay2]

section
variable (m : (ℓ : Loc nD τ sig) → Buf (Elt Ideal) ℓ) (c : Dev nD)

/-- The two arguments on core `c`. -/
abbrev a0 : FVec Ideal S8192x256 .f32 := m ((c : Thread nD τ).loc main_arg0)
abbrev a1 : FVec Ideal S8192x2048 .f32 := m ((c : Thread nD τ).loc main_arg1)

set_option backward.isDefEq.respectTransparency.types false in
theorem V_s : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_dy : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val % 8, t.val / 8 / 2] := (by decide +kernel : ∀ t : Fin grid0.N, _)
theorem index1 : ∀ t : Fin cfg0.N, win0_1.index t = ![t.val % 8, t.val / 8 % 2] := (by decide +kernel : ∀ t : Fin grid0.N, _)
theorem index2 : ∀ t : Fin cfg0.N, win0_2.index t = ![t.val / 8 / 2, t.val / 8 % 2] := (by decide +kernel : ∀ t : Fin grid0.N, _)

theorem points (t : Fin cfg0.N) : t.val < 16 := t.isLt

/-- The rows that a point sums over, and the rows and columns of the result that it works on. -/
def summed (t : Fin cfg0.N) (e : Fin 1024) : Fin 8192 := ⟨1024 * (t.val % 8) + e.val, by omega⟩
def row (t : Fin cfg0.N) (r : Fin 256) : Fin 256 := ⟨256 * (t.val / 8 / 2) + r.val, by have := points t; omega⟩
def colm (t : Fin cfg0.N) (d : Fin 1024) : Fin 2048 := ⟨1024 * (t.val / 8 % 2) + d.val, by omega⟩
theorem summed_val (t : Fin cfg0.N) (e : Fin 1024) : (summed t e).val = 1024 * (t.val % 8) + e.val := rfl
theorem row_val (t : Fin cfg0.N) (r : Fin 256) : (row t r).val = 256 * (t.val / 8 / 2) + r.val := rfl
theorem colm_val (t : Fin cfg0.N) (d : Fin 1024) : (colm t d).val = 1024 * (t.val / 8 % 2) + d.val := rfl

section
variable (t : Fin cfg0.N) (r : Fin 256) (d : Fin 1024) (e : Fin 1024)

theorem emb0 : (win0_0.blk t).view.emb (ix2 e r) = ix2 (summed t e) (row t r) := by
  blk_ext [index0]
  all_goals simp only [summed_val, row_val]; omega
theorem emb1 : (win0_1.blk t).view.emb (ix2 e d) = ix2 (summed t e) (colm t d) := by
  blk_ext [index1]
  all_goals simp only [summed_val, colm_val]; omega
theorem emb2 : (win0_2.blk t).view.emb (ix2 r d) = ix2 (row t r) (colm t d) := by
  blk_ext [index2]
  all_goals simp only [row_val, colm_val]; omega

variable (m : (ℓ : Loc nD τ sig) → Buf (Elt Ideal) ℓ) (c : Dev nD)

theorem read0 : iblk m c 0 t (ix2 e r) = a0 m c (ix2 (summed t e) (row t r)) := by
  refine (congrArg (V m c main_v0) (emb0 t r e)).trans ?_
  rw [V_s]; rfl
theorem read1 : iblk m c 1 t (ix2 e d) = a1 m c (ix2 (summed t e) (colm t d)) := by
  refine (congrArg (V m c main_v1) (emb1 t d e)).trans ?_
  rw [V_dy]; rfl
end

/-! ## The sum so far -/

section
variable (m : (ℓ : Loc nD τ sig) → Buf (Elt Ideal) ℓ) (c : Dev nD)

/-- One row's contribution to an entry of the result. -/
def term (a b q : ℕ) : EReal :=
  if h : q < 8192 ∧ a < 256 ∧ b < 2048 then a0 m c (ix2 ⟨q, h.1⟩ ⟨a, h.2.1⟩) * a1 m c (ix2 ⟨q, h.1⟩ ⟨b, h.2.2⟩) else 0

/-- A point's product sums the contributions of its 1024 rows. -/
theorem product_at (t : Fin cfg0.N) (r : Fin 256) (d : Fin 1024) (x0 : Vec Ideal S1024x256 .bf16) (x1 : Vec Ideal S1024x1024 .bf16) (h0 : x0 = iblk m c 0 t) (h1 : x1 = iblk m c 1 t) :
    (∑ e : Fin 1024, x0 (ix2 e r) * x1 (ix2 e d) : EReal)
      = ∑ q ∈ Finset.range 1024, term m c (256 * (t.val / 8 / 2) + r.val) (1024 * (t.val / 8 % 2) + d.val) (1024 * (t.val % 8) + q) := by
  subst h0 h1
  rw [Finset.sum_range]
  refine Finset.sum_congr rfl fun e _ => ?_
  have := points t
  rw [read0, read1, term, dif_pos ⟨by omega, by omega, by omega⟩]
  rfl

/-- After a point, the scratch holds the sum of the contributions of the rows up to its own. -/
theorem so_far (n : ℕ) (hn : n < cfg0.N) (r : Fin 256) (d : Fin 1024) :
    (outsAt0 m c n hn).2 (ix2 r d) = ∑ q ∈ Finset.range (1024 * (n % 8 + 1)), term m c (256 * (n / 8 / 2) + r.val) (1024 * (n / 8 % 2) + d.val) q := by
  induction n with
  | zero =>
    rw [outsAt0_A m c ⟨0, hn⟩ rfl (by simp) (by simp)]
    dsimp only
    rw [start_eq, pay1_at, product_at m c ⟨0, hn⟩ r d _ _ rfl rfl]
    refine Finset.sum_congr rfl fun q _ => ?_
    show term m c _ _ (0 + q) = _
    rw [Nat.zero_add]
  | succ n ih =>
    have hN : n + 1 < 16 := hn
    by_cases h0 : (n + 1) % 8 = 0
    · rw [outsAt0_A m c ⟨n + 1, hn⟩ h0 (by dsimp only; omega) (by dsimp only; omega)]
      dsimp only
      rw [start_eq, pay1_at, product_at m c ⟨n + 1, hn⟩ r d _ _ rfl rfl, h0]
      refine Finset.sum_congr rfl fun q _ => ?_
      rw [Nat.mul_zero, Nat.zero_add]
    · have e : 1024 * ((n + 1) % 8 + 1) = 1024 * (n % 8 + 1) + 1024 := by omega
      have e' : 1024 * ((n + 1) % 8) = 1024 * (n % 8 + 1) := by omega
      have e'' : (n + 1) / 8 = n / 8 := by omega
      rw [e, Finset.sum_range_add, e'', ← ih (Nat.lt_of_succ_lt hn)]
      have step := product_at m c ⟨n + 1, hn⟩ r d _ _ rfl rfl
      dsimp only at step
      rw [e', e''] at step
      by_cases h2 : (n + 1) % 8 = 7
      · rw [outsAt0_C m c ⟨n + 1, hn⟩ h0 (by dsimp only; omega) h2]
        dsimp only
        rw [last_eq, pay2_at, step]
        rfl
      · rw [outsAt0_B m c ⟨n + 1, hn⟩ h0 (by dsimp only; omega) h2]
        dsimp only
        rw [add_eq, pay2_at, step]
        rfl

/-- At a point that writes back, the output window holds what the scratch does. -/
theorem written (t : Fin cfg0.N) (h : t.val % 8 = 7) : (outsAt0 m c t.val t.isLt).1 = (outsAt0 m c t.val t.isLt).2 := by
  rw [outsAt0_C m c t (by omega) (by omega) h]
  dsimp only
  rw [out_eq, last_eq]
end

/-! ## The reference -/

theorem ref_at (x0 : FVec Ideal S8192x256 .f32) (x1 : FVec Ideal S8192x2048 .f32) (i : Fin 256) (j : Fin 2048) :
    val_main_v3 (F := Ideal) x0 x1 (ix2 i j) = ∑ q : Fin 8192, x0 (ix2 q i) * x1 (ix2 q j) := by
  rw [val_main_v3_apply, val_main_v2_apply]
  refine Finset.sum_congr rfl fun q _ => (mul_comm _ _).trans (congrArg₂ _ (congrArg x0 ?_) (congrArg x1 ?_))
  · exact funext fun a => match a with | ⟨0, _⟩ => rfl | ⟨1, _⟩ => rfl
  · exact funext fun a => match a with | ⟨0, _⟩ => rfl | ⟨1, _⟩ => rfl

/-! ## The array -/

theorem block (y : S256x1024.Idx) : ∃ (r : Fin 256) (d : Fin 1024), y = ix2 r d :=
  ⟨y 0, y 1, funext fun a => match a with
    | ⟨0, _⟩ => rfl
    | ⟨1, _⟩ => rfl⟩

theorem array (m : (ℓ : Loc nD τ sig) → Buf (Elt Ideal) ℓ) (c : Dev nD) :
    (dats m 0 c).arrAt 2 cfg0.N = val_main_v3 (F := Ideal) (a0 m c) (a1 m c) := by
  refine (dats m 0 c).arrAt_eq_of_covers 2 _ (by decide +kernel) fun t hf y => ?_
  blk_simp
  have h7 : t.val % 8 = 7 := (flush0_2 t).mp hf
  have := points t
  rw [after0_2, written m c t h7]
  obtain ⟨r, d, rfl⟩ := block y
  rw [emb2, ref_at]
  refine (so_far m c t.val t.isLt r d).trans ?_
  rw [h7, Finset.sum_range]
  refine Finset.sum_congr rfl fun q _ => ?_
  rw [term, dif_pos ⟨q.isLt, by omega, by omega⟩]
  rfl

end Cert.Kernel15Ideal.Hand

end

end
-- ==== Proof.Products.QDx.lean ====
/-
  The gradient at the query projection's argument: two blocks of 1024 columns are summed point after point.
-/
module

public import proofs.«01_k».proof.Proof.Gen.Kernel16Ideal.Value
public import proofs.«01_k».proof.Proof.Gen.Reference16Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel16Ideal.Hand

open Cert.Kernel16Ideal Cert.Kernel16Ideal.Gen
open Cert.Reference16Ideal.Read
open Idealize.ShloMosaic Idealize.ShloMosaic.TcCoe

theorem zeros : (![0, 0] : Fin 2 → Nat) = fun _ => 0 := funext fun a => by fin_cases a <;> rfl

section
variable (c : Dev nD) (i : grid0.Coords) (arg3 : Memref sig .tc .vmem S1024x1024 .bf16) (harg3 : arg3.IsWhole) (arg4 : Memref sig .tc .vmem S256x1024 .bf16) (harg4 : arg4.IsWhole) (arg5 : Memref sig .tc .vmem S1024x256 .f32) (harg5 : arg5.IsWhole) (arg6 : Memref sig .tc .vmem S1024x256 .f32) (harg6 : arg6.IsWhole)
  (x0 : Vec Ideal S1024x1024 .bf16) (x1 : Vec Ideal S256x1024 .bf16) (xs0 : Vec Ideal S1024x256 .f32)

/-- The first block starts the sum. -/
theorem start_eq (hc0 : cond0_0 i) (hc1 : ¬cond0_1 i) (hc2 : ¬cond0_2 i) : sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero zeros]
  simp only [View.readAt_eq_ld, harg3.read_unread, harg4.read_unread, harg6.read_unread, View.ld_unit_zero (S := S1024x1024) zeros, View.ld_unit_zero (S := S256x1024) zeros, View.ld_unit_zero (S := S1024x256) zeros]

/-- So does the last one. -/
theorem last_eq (hc0 : ¬cond0_0 i) (hc1 : cond0_1 i) (hc2 : cond0_2 i) : sout0_B_0 c i arg3 harg3 arg4 harg4 arg5 harg5 arg6 harg6 hc0 hc1 hc2 x0 x1 xs0 = k0_pay2 xs0 x0 x1 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero zeros]
  simp only [View.readAt_eq_ld, harg3.read_unread, harg4.read_unread, harg6.read_unread, View.ld_unit_zero (S := S1024x1024) zeros, View.ld_unit_zero (S := S256x1024) zeros, View.ld_unit_zero (S := S1024x256) zeros]

/-- What the last one leaves in the output window. -/
theorem out2_eq (hc0 : ¬cond0_0 i) (hc1 : cond0_1 i) (hc2 : cond0_2 i) : out0_B_2 c i arg3 harg3 arg4 harg4 arg5 harg5 arg6 harg6 hc0 hc1 hc2 x0 x1 xs0 = k0_pay2 xs0 x0 x1 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero zeros, View.readCov_unit_zero (S := S1024x256) _ zeros]
  simp only [View.readAt_eq_ld, harg3.read_unread, harg4.read_unread, harg6.read_unread, View.ld_unit_zero (S := S1024x1024) zeros, View.ld_unit_zero (S := S256x1024) zeros, View.ld_unit_zero (S := S1024x256) zeros]

end

theorem pay1_at (x0 : Vec Ideal S1024x1024 .bf16) (x1 : Vec Ideal S256x1024 .bf16) (r : Fin 1024) (d : Fin 256) :
    k0_pay1 x0 x1 (ix2 r d) = ∑ e : Fin 1024, x0 (ix2 r e) * x1 (ix2 d e) := by
  pointwise [k0_pay1]
theorem pay2_at (y : Vec Ideal S1024x256 .f32) (x0 : Vec Ideal S1024x1024 .bf16) (x1 : Vec Ideal S256x1024 .bf16) (r : Fin 1024) (d : Fin 256) :
    k0_pay2 y x0 x1 (ix2 r d) = y (ix2 r d) + ∑ e : Fin 1024, x0 (ix2 r e) * x1 (ix2 d e) := by
  pointwise [k0_pay2]

section
variable (m : (ℓ : Loc nD τ sig) → Buf (Elt Ideal) ℓ) (c : Dev nD)

/-- The arguments on core `c`. -/
abbrev a0 : FVec Ideal S8192x2048 .f32 := m ((c : Thread nD τ).loc main_arg0)
abbrev a1 : FVec Ideal S256x2048 .f32 := m ((c : Thread nD τ).loc main_arg1)

set_option backward.isDefEq.respectTransparency.types false in
theorem V_first : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_second : V m c main_v1 = truncf .bf16 (a1 m c) bitsLt_bf16_f32 := by
  dsimp only [V, hostOps0, List.flatten_cons, List.flatten_nil, List.append_nil, List.cons_append, List.nil_append]; after_results
end

theorem index0 : ∀ t : Fin cfg0.N, win0_0.index t = ![t.val / 2, t.val % 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, 0] := (by decide +kernel : ∀ t : Fin grid0.N, _)

theorem points (t : Fin cfg0.N) : t.val < 16 := t.isLt

/-- The row of the result that a point works on, and the positions that it sums over. -/
def row (t : Fin cfg0.N) (r : Fin 1024) : Fin 8192 := ⟨1024 * (t.val / 2) + r.val, by have := points t; omega⟩
def summed (t : Fin cfg0.N) (e : Fin 1024) : Fin 2048 := ⟨1024 * (t.val % 2) + e.val, by omega⟩
theorem row_val (t : Fin cfg0.N) (r : Fin 1024) : (row t r).val = 1024 * (t.val / 2) + r.val := rfl
theorem summed_val (t : Fin cfg0.N) (e : Fin 1024) : (summed t e).val = 1024 * (t.val % 2) + e.val := rfl

section
variable (t : Fin cfg0.N) (r : Fin 1024) (d : Fin 256) (e : Fin 1024)

theorem emb0 : (win0_0.blk t).view.emb (ix2 r e) = ix2 (row t r) (summed t e) := by
  blk_ext [index0]
  all_goals simp only [row_val, summed_val]; omega
theorem emb1 : (win0_1.blk t).view.emb (ix2 d e) = ix2 d (summed t e) := by
  blk_ext [index1]
  all_goals first | (simp only [summed_val]; omega) | omega
theorem emb2 : (win0_2.blk t).view.emb (ix2 r d) = ix2 (row t r) d := by
  blk_ext [index2]
  all_goals first | (simp only [row_val]; omega) | omega

variable (m : (ℓ : Loc nD τ sig) → Buf (Elt Ideal) ℓ) (c : Dev nD)

theorem read0 : iblk m c 0 t (ix2 r e) = a0 m c (ix2 (row t r) (summed t e)) := by
  refine (congrArg (V m c main_v0) (emb0 t r e)).trans ?_
  rw [V_first]; rfl
theorem read1 : iblk m c 1 t (ix2 d e) = a1 m c (ix2 d (summed t e)) := by
  refine (congrArg (V m c main_v1) (emb1 t d e)).trans ?_
  rw [V_second]; rfl
end

section
variable (m : (ℓ : Loc nD τ sig) → Buf (Elt Ideal) ℓ) (c : Dev nD)

/-! ## The sum so far -/

/-- One position's contribution to an entry of the product. -/
def term (a : ℕ) (d : Fin 256) (q : ℕ) : EReal :=
  if h : q < 2048 ∧ a < 8192 then a0 m c (ix2 ⟨a, h.2⟩ ⟨q, h.1⟩) * a1 m c (ix2 d ⟨q, h.1⟩) else 0

/-- A point's product sums the contributions of its 1024 positions. -/
theorem product_at (t : Fin cfg0.N) (r : Fin 1024) (d : Fin 256) (x0 : Vec Ideal S1024x1024 .bf16) (x1 : Vec Ideal S256x1024 .bf16) (h0 : x0 = iblk m c 0 t) (h1 : x1 = iblk m c 1 t) :
    (∑ e : Fin 1024, x0 (ix2 r e) * x1 (ix2 d e) : EReal)
      = ∑ q ∈ Finset.range 1024, term m c (1024 * (t.val / 2) + r.val) d (1024 * (t.val % 2) + q) := by
  subst h0 h1
  rw [Finset.sum_range]
  refine Finset.sum_congr rfl fun e _ => ?_
  have := points t
  rw [read0, read1, term, dif_pos ⟨by omega, by omega⟩]
  rfl

/-- After a point, the scratch holds the sum of the contributions of the positions up to its own. -/
theorem so_far (n : ℕ) (hn : n < cfg0.N) (r : Fin 1024) (d : Fin 256) :
    (outsAt0 m c n hn).2 (ix2 r d) = ∑ q ∈ Finset.range (1024 * (n % 2 + 1)), term m c (1024 * (n / 2) + r.val) d q := by
  induction n with
  | zero =>
    rw [outsAt0_A m c ⟨0, hn⟩ rfl (by simp) (by simp)]
    dsimp only
    rw [start_eq, pay1_at, product_at m c ⟨0, hn⟩ r d _ _ rfl rfl]
    refine Finset.sum_congr rfl fun q _ => ?_
    show term m c _ _ (0 + q) = _
    rw [Nat.zero_add]
  | succ n ih =>
    have hN : n + 1 < 16 := hn
    by_cases h0 : (n + 1) % 2 = 0
    · rw [outsAt0_A m c ⟨n + 1, hn⟩ h0 (by dsimp only; omega) (by dsimp only; omega)]
      dsimp only
      rw [start_eq, pay1_at, product_at m c ⟨n + 1, hn⟩ r d _ _ rfl rfl, h0]
      refine Finset.sum_congr rfl fun q _ => ?_
      rw [Nat.mul_zero, Nat.zero_add]
    · have e : 1024 * ((n + 1) % 2 + 1) = 1024 * (n % 2 + 1) + 1024 := by omega
      have e' : 1024 * ((n + 1) % 2) = 1024 * (n % 2 + 1) := by omega
      have e'' : (n + 1) / 2 = n / 2 := by omega
      rw [e, Finset.sum_range_add, e'', ← ih (Nat.lt_of_succ_lt hn)]
      have step := product_at m c ⟨n + 1, hn⟩ r d _ _ rfl rfl
      dsimp only at step
      rw [e', e''] at step
      rw [outsAt0_B m c ⟨n + 1, hn⟩ h0 (by dsimp only; omega) (by dsimp only; omega)]
      dsimp only
      rw [last_eq, pay2_at, step]
      rfl

/-- At a point that writes back, the scratch holds the whole sum. -/
theorem whole (t : Fin cfg0.N) (h : t.val % 2 = 1) (r : Fin 1024) (d : Fin 256) :
    (outsAt0 m c t.val t.isLt).2 (ix2 r d) = ∑ q : Fin 2048, a0 m c (ix2 (row t r) q) * a1 m c (ix2 d q) := by
  have := points t
  refine (so_far m c t.val t.isLt r d).trans ?_
  rw [h, Finset.sum_range]
  refine Finset.sum_congr rfl fun q _ => ?_
  rw [term, dif_pos ⟨q.isLt, by omega⟩]
  rfl

/-- What it writes. -/
theorem written2 (t : Fin cfg0.N) (h : t.val % 2 = 1) : (outsAt0 m c t.val t.isLt).1 = (outsAt0 m c t.val t.isLt).2 := by
  rw [outsAt0_B m c t (by omega) (by omega) h]
  dsimp only
  rw [out2_eq, last_eq]
end

/-! ## The reference -/

theorem ref_product (x0 : FVec Ideal S8192x2048 .f32) (x1 : FVec Ideal S256x2048 .f32) (i : Fin 8192) (j : Fin 256) :
    val_main_v2 (F := Ideal) x0 x1 (ix2 i j) = ∑ q : Fin 2048, x0 (ix2 i q) * x1 (ix2 j q) := by
  rw [val_main_v2_apply]
  refine Finset.sum_congr rfl fun q _ => congrArg₂ _ (congrArg x0 ?_) (congrArg x1 ?_)
  · exact funext fun a => match a with | ⟨0, _⟩ => rfl | ⟨1, _⟩ => rfl
  · exact funext fun a => match a with | ⟨0, _⟩ => rfl | ⟨1, _⟩ => rfl

/-! ## The arrays -/

theorem block (y : S1024x256.Idx) : ∃ (r : Fin 1024) (d : Fin 256), y = ix2 r d :=
  ⟨y 0, y 1, funext fun a => match a with
    | ⟨0, _⟩ => rfl
    | ⟨1, _⟩ => rfl⟩

section
variable (m : (ℓ : Loc nD τ sig) → Buf (Elt Ideal) ℓ) (c : Dev nD)

theorem array2 : (dats m 0 c).arrAt 2 cfg0.N = val_main_v2 (F := Ideal) (a0 m c) (a1 m c) := by
  refine (dats m 0 c).arrAt_eq_of_covers 2 _ (by decide +kernel) fun t hf y => ?_
  blk_simp
  have hl : t.val % 2 = 1 := (flush0_2 t).mp hf
  rw [after0_2, written2 m c t hl]
  obtain ⟨r, d, rfl⟩ := block y
  rw [emb2]
  rw [ref_product]
  exact whole m c t hl r d
end

end Cert.Kernel16Ideal.Hand

end

end
-- ==== Proof.Products.Rms.lean ====
/-
  The mean square of a row: the kernel multiplies the sum by 1/1024 and the reference divides it by 1024.
-/
module

public import Idealize.ShloMosaic.Lib.Claim
public import Idealize.ShloMosaic.Lib.Pointwise

@[expose] public section

noncomputable section

namespace Cert.Products

open Idealize.ShloMosaic

theorem lit1024 : Ideal.ofBits .f32 0x44800000#32 = ((1024 : ℝ) : EReal) := by
  simp [Ideal.ofBits, Ideal.ieee, -EReal.coe_mul]; norm_num
theorem litInv1024 : Ideal.ofBits .f32 0x3A800000#32 = ((1024⁻¹ : ℝ) : EReal) := by
  simp [Ideal.ofBits, Ideal.ieee, -EReal.coe_mul]; norm_num

theorem mean_eq (s : EReal) : Ideal.div s (Ideal.ofBits .f32 0x44800000#32) = s * Ideal.ofBits .f32 0x3A800000#32 := by
  rw [lit1024, litInv1024, Ideal.div_coe (by norm_num), one_div]

/-- A row's root-mean-square norm times the gain, at one entry. -/
def normed (x : Fin 1024 → EReal) (g : EReal) (d : Fin 1024) : EReal :=
  x d * Ideal.rsqrt ((∑ e : Fin 1024, x e * x e) * Ideal.ofBits .f32 0x3A800000#32 + Ideal.ofBits .f32 0x358637BD#32) * g

end Cert.Products

end

end
-- ==== Proof.Products.MemO.lean ====
/-
  The memory attention's output projection, added to the residual, and the next norm.
-/
module

public import proofs.«01_k».proof.Proof.Gen.Kernel17Ideal.Value
public import proofs.«01_k».proof.Proof.Gen.Reference17Ideal.Read
public import proofs.«01_k».proof.Proof.Products.Rms
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel17Ideal.Hand

open Cert.Kernel17Ideal Cert.Kernel17Ideal.Gen
open Cert.Reference17Ideal.Read
open Idealize.ShloMosaic Idealize.ShloMosaic.TcCoe

theorem zeros : (![0, 0] : Fin 2 → Nat) = fun _ => 0 := funext fun a => by fin_cases a <;> rfl

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
  (x0 : Vec Ideal S1024x1024 .bf16) (x1 : Vec Ideal S1024x1024 .bf16) (x2 : Vec Ideal S1024x1024 .f32) (x3 : Vec Ideal S1x1024 .f32) (xs0 : Vec Ideal S1024x1024 .f32)

/-- What a point leaves in its output window. -/
theorem out4_eq : out0_A_4 c i arg3 harg3 arg4 harg4 arg5 harg5 arg6 harg6 arg7 harg7 arg8 harg8 arg9 harg9 x0 x1 x2 x3 = k0_pay1 x0 x1 x2 := by
  unfold out0_A_4
  rw [View.read_writes_eq_canon _ _ _ (cover0_A_4 c i arg3 harg3 arg4 harg4 arg5 harg5 arg6 harg6 arg7 harg7 arg8 harg8 arg9 harg9 x0 x1 x2 x3)]
  unfold kernelRun0_A
  dsimp only
  rw [View.canon_unit_zero zeros]
  simp only [View.readAt_eq_ld, harg3.read_unread, harg4.read_unread, harg5.read_unread, harg6.read_unread, harg9.read_unread, View.ld_unit_zero (S := S1024x1024) zeros, View.ld_unit_zero (S := S1x1024) zeros]

/-- What a point leaves in its output window. -/
theorem out5_eq : out0_A_5 c i arg3 harg3 arg4 harg4 arg5 harg5 arg6 harg6 arg7 harg7 arg8 harg8 arg9 harg9 x0 x1 x2 x3 = k0_pay2 x0 x1 x2 x3 := by
  unfold out0_A_5
  rw [View.read_writes_eq_canon _ _ _ (cover0_A_5 c i arg3 harg3 arg4 harg4 arg5 harg5 arg6 harg6 arg7 harg7 arg8 harg8 arg9 harg9 x0 x1 x2 x3)]
  unfold kernelRun0_A
  dsimp only
  rw [View.canon_unit_zero zeros]
  simp only [View.readAt_eq_ld, harg3.read_unread, harg4.read_unread, harg5.read_unread, harg6.read_unread, harg9.read_unread, View.ld_unit_zero (S := S1024x1024) zeros, View.ld_unit_zero (S := S1x1024) zeros]

end

theorem pay1_at (x0 : Vec Ideal S1024x1024 .bf16) (x1 : Vec Ideal S1024x1024 .bf16) (z : Vec Ideal S1024x1024 .f32) (r : Fin 1024) (d : Fin 1024) :
    k0_pay1 x0 x1 z (ix2 r d) = (∑ e : Fin 1024, x0 (ix2 r e) * x1 (ix2 e d)) + z (ix2 r d) := by
  pointwise [k0_pay1]
theorem pay2_at (x0 : Vec Ideal S1024x1024 .bf16) (x1 : Vec Ideal S1024x1024 .bf16) (z : Vec Ideal S1024x1024 .f32) (g : Vec Ideal S1x1024 .f32) (r : Fin 1024) (d : Fin 1024) :
    k0_pay2 x0 x1 z g (ix2 r d) = Cert.Products.normed (fun e => k0_pay1 x0 x1 z (ix2 r e)) (g (ix2 0 d)) d := by
  unfold k0_pay2 Cert.Products.normed
  generalize k0_pay1 x0 x1 z = w
  pointwise

section
variable (m : (ℓ : Loc nD τ sig) → Buf (Elt Ideal) ℓ) (c : Dev nD)

/-- The arguments on core `c`. -/
abbrev a0 : FVec Ideal S8192x1024 .f32 := m ((c : Thread nD τ).loc main_arg0)
abbrev a1 : FVec Ideal S1024x1024 .f32 := m ((c : Thread nD τ).loc main_arg1)
abbrev a2 : FVec Ideal S8192x1024 .f32 := m ((c : Thread nD τ).loc main_arg2)
abbrev a3 : FVec Ideal S1x1024 .f32 := m ((c : Thread nD τ).loc main_arg3)

set_option backward.isDefEq.respectTransparency.types false in
theorem V_first : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_second : V m c main_v1 = truncf .bf16 (a1 m c) bitsLt_bf16_f32 := by
  dsimp only [V, hostOps0, List.flatten_cons, List.flatten_nil, List.append_nil, List.cons_append, List.nil_append]; after_results
set_option backward.isDefEq.respectTransparency.types false in
theorem V_third : V m c main_arg2 = a2 m c := by
  dsimp only [V, hostOps0, List.flatten_cons, List.flatten_nil, List.append_nil, List.cons_append, List.nil_append]; after_results
set_option backward.isDefEq.respectTransparency.types false in
theorem V_fourth : V m c main_arg3 = a3 m c := by
  dsimp only [V, hostOps0, List.flatten_cons, List.flatten_nil, List.append_nil, List.cons_append, List.nil_append]; after_results
end

theorem index0 : ∀ t : Fin cfg0.N, win0_0.index t = ![t.val / 1, t.val % 1] := (by decide +kernel : ∀ t : Fin grid0.N, _)
theorem index1 : ∀ t : Fin cfg0.N, win0_1.index t = ![t.val % 1, 0] := (by decide +kernel : ∀ t : Fin grid0.N, _)
theorem index2 : ∀ t : Fin cfg0.N, win0_2.index t = ![t.val / 1, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 1, 0] := (by decide +kernel : ∀ t : Fin grid0.N, _)
theorem index5 : ∀ t : Fin cfg0.N, win0_5.index t = ![t.val / 1, 0] := (by decide +kernel : ∀ t : Fin grid0.N, _)

theorem points (t : Fin cfg0.N) : t.val < 8 := t.isLt

/-- The row of the result that a point works on, and the positions that it sums over. -/
def row (t : Fin cfg0.N) (r : Fin 1024) : Fin 8192 := ⟨1024 * (t.val / 1) + r.val, by have := points t; omega⟩
def summed (t : Fin cfg0.N) (e : Fin 1024) : Fin 1024 := ⟨1024 * (t.val % 1) + e.val, by omega⟩
theorem row_val (t : Fin cfg0.N) (r : Fin 1024) : (row t r).val = 1024 * (t.val / 1) + r.val := rfl
theorem summed_val (t : Fin cfg0.N) (e : Fin 1024) : (summed t e).val = 1024 * (t.val % 1) + e.val := rfl

section
variable (t : Fin cfg0.N) (r : Fin 1024) (d : Fin 1024) (e : Fin 1024)

theorem emb0 : (win0_0.blk t).view.emb (ix2 r e) = ix2 (row t r) (summed t e) := by
  blk_ext [index0]
  all_goals simp only [row_val, summed_val]; omega
theorem emb1 : (win0_1.blk t).view.emb (ix2 e d) = ix2 (summed t e) d := by
  blk_ext [index1]
  all_goals first | (simp only [summed_val]; omega) | omega
theorem emb2 : (win0_2.blk t).view.emb (ix2 r d) = ix2 (row t r) d := by
  blk_ext [index2]
  all_goals first | (simp only [row_val]; omega) | omega
theorem emb3 : (win0_3.blk t).view.emb (ix2 0 d) = ix2 0 d := by
  blk_ext [index3]
  all_goals first | (simp only [row_val]; omega) | omega
theorem emb4 : (win0_4.blk t).view.emb (ix2 r d) = ix2 (row t r) d := by
  blk_ext [index4]
  all_goals first | (simp only [row_val]; omega) | omega
theorem emb5 : (win0_5.blk t).view.emb (ix2 r d) = ix2 (row t r) d := by
  blk_ext [index5]
  all_goals first | (simp only [row_val]; omega) | omega

variable (m : (ℓ : Loc nD τ sig) → Buf (Elt Ideal) ℓ) (c : Dev nD)

theorem read0 : iblk m c 0 t (ix2 r e) = a0 m c (ix2 (row t r) (summed t e)) := by
  refine (congrArg (V m c main_v0) (emb0 t r e)).trans ?_
  rw [V_first]; rfl
theorem read1 : iblk m c 1 t (ix2 e d) = a1 m c (ix2 (summed t e) d) := by
  refine (congrArg (V m c main_v1) (emb1 t d e)).trans ?_
  rw [V_second]; rfl
theorem read2 : iblk m c 2 t (ix2 r d) = a2 m c (ix2 (row t r) d) := by
  refine (congrArg (V m c main_arg2) (emb2 t r d)).trans ?_
  rw [V_third]
theorem read3 : iblk m c 3 t (ix2 0 d) = a3 m c (ix2 0 d) := by
  refine (congrArg (V m c main_arg3) (emb3 t d)).trans ?_
  rw [V_fourth]
end

section
variable (m : (ℓ : Loc nD τ sig) → Buf (Elt Ideal) ℓ) (c : Dev nD)
end

/-! ## The reference -/

theorem ref_product (x0 : FVec Ideal S8192x1024 .f32) (x1 : FVec Ideal S1024x1024 .f32) (i : Fin 8192) (j : Fin 1024) :
    val_main_v0 (F := Ideal) x0 x1 (ix2 i j) = ∑ q : Fin 1024, x0 (ix2 i q) * x1 (ix2 q j) := by
  rw [val_main_v0_apply]
  refine Finset.sum_congr rfl fun q _ => congrArg₂ _ (congrArg x0 ?_) (congrArg x1 ?_)
  · exact funext fun a => match a with | ⟨0, _⟩ => rfl | ⟨1, _⟩ => rfl
  · exact funext fun a => match a with | ⟨0, _⟩ => rfl | ⟨1, _⟩ => rfl
theorem ref_sum (x0 : FVec Ideal S8192x1024 .f32) (x1 : FVec Ideal S1024x1024 .f32) (x2 : FVec Ideal S8192x1024 .f32) (i : Fin 8192) (j : Fin 1024) :
    val_main_v1 (F := Ideal) x0 x1 x2 (ix2 i j) = (∑ q : Fin 1024, x0 (ix2 i q) * x1 (ix2 q j)) + x2 (ix2 i j) := by
  rw [val_main_v1_apply, ref_product]
  exact add_comm _ _
theorem ref_norm (x0 : FVec Ideal S8192x1024 .f32) (x1 : FVec Ideal S1024x1024 .f32) (x2 : FVec Ideal S8192x1024 .f32) (x3 : FVec Ideal S1x1024 .f32) (i : Fin 8192) (j : Fin 1024) :
    val_main_v14 (F := Ideal) x0 x1 x2 x3 (ix2 i j)
      = Cert.Products.normed (fun e => val_main_v1 (F := Ideal) x0 x1 x2 (ix2 i e)) (x3 (ix2 0 j)) j := by
  have hs : val_main_v3 (F := Ideal) x0 x1 x2 (idx_main_v4 (idx_main_v10 (ix2 i j)))
      = ∑ e : Fin 1024, val_main_v1 (F := Ideal) x0 x1 x2 (ix2 i e) * val_main_v1 (F := Ideal) x0 x1 x2 (ix2 i e) := by
    rw [val_main_v3_apply, val_main_cst_apply]
    refine (congrArg₂ (· + ·) Ideal.ofBits_zero_f32 (Finset.sum_congr rfl fun e _ => ?_)).trans (zero_add _)
    have he : idx_main_v3 (idx_main_v4 (idx_main_v10 (ix2 i j))) e = ix2 i e :=
      funext fun a => match a with | ⟨0, _⟩ => rfl | ⟨1, _⟩ => rfl
    rw [val_main_v2_apply, he]; rfl
  have hg : idx_main_v12 (ix2 i j) = ix2 0 j := funext fun a => match a with | ⟨0, _⟩ => rfl | ⟨1, _⟩ => rfl
  rw [val_main_v14_apply, val_main_v13_apply, val_main_v11_apply, val_main_v12_apply, val_main_v10_apply, val_main_v9_apply,
    val_main_v8_apply, val_main_v7_apply, val_main_cst_1_apply, val_main_v6_apply, val_main_v5_apply, val_main_cst_0_apply,
    val_main_v4_apply, hs, hg, Ideal.hostDivf_def]
  unfold Cert.Products.normed
  rw [← Cert.Products.mean_eq]
  rfl

/-! ## The arrays -/

theorem block (y : S1024x1024.Idx) : ∃ (r : Fin 1024) (d : Fin 1024), y = ix2 r d :=
  ⟨y 0, y 1, funext fun a => match a with
    | ⟨0, _⟩ => rfl
    | ⟨1, _⟩ => rfl⟩

section
variable (m : (ℓ : Loc nD τ sig) → Buf (Elt Ideal) ℓ) (c : Dev nD)

/-- A point's sum, with what is added, is the reference's. -/
theorem sum_eq (t : Fin cfg0.N) (r : Fin 1024) (d : Fin 1024) :
    k0_pay1 (F := Ideal) (iblk m c 0 t) (iblk m c 1 t) (iblk m c 2 t) (ix2 r d) = val_main_v1 (F := Ideal) (a0 m c) (a1 m c) (a2 m c) (ix2 (row t r) d) := by
  rw [pay1_at, ref_sum, read2]
  refine congrArg (· + _) (Finset.sum_congr rfl fun e _ => ?_)
  have he : summed t e = e := Fin.ext (by rw [summed_val]; omega)
  rw [read0, read1, he]

theorem array4 : (dats m 0 c).arrAt 4 cfg0.N = val_main_v1 (F := Ideal) (a0 m c) (a1 m c) (a2 m c) := by
  refine (dats m 0 c).arrAt_eq_of_covers 4 _ (by decide +kernel) fun t hf y => ?_
  blk_simp
  rw [after0_4]
  simp only [outsAt0]
  rw [out4_eq]
  obtain ⟨r, d, rfl⟩ := block y
  rw [emb4]
  exact sum_eq m c t r d

theorem array5 : (dats m 0 c).arrAt 5 cfg0.N = val_main_v14 (F := Ideal) (a0 m c) (a1 m c) (a2 m c) (a3 m c) := by
  refine (dats m 0 c).arrAt_eq_of_covers 5 _ (by decide +kernel) fun t hf y => ?_
  blk_simp
  rw [after0_5]
  simp only [outsAt0]
  rw [out5_eq]
  obtain ⟨r, d, rfl⟩ := block y
  rw [emb5]
  rw [pay2_at, ref_norm, read3]
  exact congrArg (fun f => Cert.Products.normed f _ _) (funext fun e => sum_eq m c t r e)
end

end Cert.Kernel17Ideal.Hand

end

end
-- ==== Proof.Products.Down.lean ====
/-
  The MLP's second product, added to the residual, and the next norm: four blocks of 1024 columns are summed point
  after point.
-/
module

public import proofs.«01_k».proof.Proof.Gen.Kernel18Ideal.Value
public import proofs.«01_k».proof.Proof.Gen.Reference18Ideal.Read
public import proofs.«01_k».proof.Proof.Products.Rms
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel18Ideal.Hand

open Cert.Kernel18Ideal Cert.Kernel18Ideal.Gen
open Cert.Reference18Ideal.Read
open Idealize.ShloMosaic Idealize.ShloMosaic.TcCoe

theorem zeros : (![0, 0] : Fin 2 → Nat) = fun _ => 0 := funext fun a => by fin_cases a <;> rfl

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
  (x0 : Vec Ideal S1024x1024 .bf16) (x1 : Vec Ideal S1024x1024 .bf16) (x2 : Vec Ideal S1024x1024 .f32) (x3 : Vec Ideal S1x1024 .f32) (xs0 : Vec Ideal S1024x1024 .f32)

/-- The first block starts the sum. -/
theorem start_eq (hc0 : cond0_0 i) (hc1 : ¬cond0_1 i) (hc2 : ¬cond0_2 i) : sout0_A_0 c i arg3 harg3 arg4 harg4 arg5 harg5 arg6 harg6 arg7 harg7 arg8 harg8 arg9 harg9 hc0 hc1 hc2 x0 x1 x2 x3 = k0_pay1 x0 x1 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3)]
  unfold kernelRun0_A
  dsimp only
  rw [View.canon_unit_zero zeros]
  simp only [View.readAt_eq_ld, harg3.read_unread, harg4.read_unread, harg5.read_unread, harg6.read_unread, harg9.read_unread, View.ld_unit_zero (S := S1024x1024) zeros, View.ld_unit_zero (S := S1x1024) zeros]

/-- A later one adds to it. -/
theorem add_eq (hc0 : ¬cond0_0 i) (hc1 : cond0_1 i) (hc2 : ¬cond0_2 i) : sout0_B_0 c i arg3 harg3 arg4 harg4 arg5 harg5 arg6 harg6 arg7 harg7 arg8 harg8 arg9 harg9 hc0 hc1 hc2 x0 x1 x2 x3 xs0 = k0_pay2 xs0 x0 x1 := by
  unfold sout0_B_0
  rw [View.read_writes_eq_canon _ _ _ (scover0_B_0 c i arg3 harg3 arg4 harg4 arg5 harg5 arg6 harg6 arg7 harg7 arg8 harg8 arg9 harg9 hc0 hc1 hc2 x0 x1 x2 x3 xs0)]
  unfold kernelRun0_B
  dsimp only
  rw [View.canon_unit_zero zeros]
  simp only [View.readAt_eq_ld, harg3.read_unread, harg4.read_unread, harg5.read_unread, harg6.read_unread, harg9.read_unread, View.ld_unit_zero (S := S1024x1024) zeros, View.ld_unit_zero (S := S1x1024) zeros]

/-- So does the last one. -/
theorem last_eq (hc0 : ¬cond0_0 i) (hc1 : cond0_1 i) (hc2 : cond0_2 i) : sout0_C_0 c i arg3 harg3 arg4 harg4 arg5 harg5 arg6 harg6 arg7 harg7 arg8 harg8 arg9 harg9 hc0 hc1 hc2 x0 x1 x2 x3 xs0 = k0_pay2 xs0 x0 x1 := by
  unfold sout0_C_0
  rw [View.read_writes_eq_canon _ _ _ (scover0_C_0 c i arg3 harg3 arg4 harg4 arg5 harg5 arg6 harg6 arg7 harg7 arg8 harg8 arg9 harg9 hc0 hc1 hc2 x0 x1 x2 x3 xs0)]
  unfold kernelRun0_C
  dsimp only
  sl_unfold_words
  rw [View.canon_unit_zero zeros]
  simp only [View.readAt_eq_ld, harg3.read_unread, harg4.read_unread, harg5.read_unread, harg6.read_unread, harg9.read_unread, View.ld_unit_zero (S := S1024x1024) zeros, View.ld_unit_zero (S := S1x1024) zeros]

/-- What the last one leaves in the output window. -/
theorem out4_eq (hc0 : ¬cond0_0 i) (hc1 : cond0_1 i) (hc2 : cond0_2 i) : out0_C_4 c i arg3 harg3 arg4 harg4 arg5 harg5 arg6 harg6 arg7 harg7 arg8 harg8 arg9 harg9 hc0 hc1 hc2 x0 x1 x2 x3 xs0 = k0_pay3 (k0_pay2 xs0 x0 x1) x2 := by
  unfold out0_C_4
  rw [View.read_writes_eq_canon _ _ _ (cover0_C_4 c i arg3 harg3 arg4 harg4 arg5 harg5 arg6 harg6 arg7 harg7 arg8 harg8 arg9 harg9 hc0 hc1 hc2 x0 x1 x2 x3 xs0)]
  unfold kernelRun0_C
  dsimp only
  sl_unfold_words
  rw [View.canon_unit_zero zeros, View.readCov_unit_zero (S := S1024x1024) _ zeros]
  simp only [View.readAt_eq_ld, harg3.read_unread, harg4.read_unread, harg5.read_unread, harg6.read_unread, harg9.read_unread, View.ld_unit_zero (S := S1024x1024) zeros, View.ld_unit_zero (S := S1x1024) zeros]

/-- What the last one leaves in the output window. -/
theorem out5_eq (hc0 : ¬cond0_0 i) (hc1 : cond0_1 i) (hc2 : cond0_2 i) : out0_C_5 c i arg3 harg3 arg4 harg4 arg5 harg5 arg6 harg6 arg7 harg7 arg8 harg8 arg9 harg9 hc0 hc1 hc2 x0 x1 x2 x3 xs0 = k0_pay4 (k0_pay2 xs0 x0 x1) x2 x3 := by
  unfold out0_C_5
  rw [View.read_writes_eq_canon _ _ _ (cover0_C_5 c i arg3 harg3 arg4 harg4 arg5 harg5 arg6 harg6 arg7 harg7 arg8 harg8 arg9 harg9 hc0 hc1 hc2 x0 x1 x2 x3 xs0)]
  unfold kernelRun0_C
  dsimp only
  sl_unfold_words
  rw [View.canon_unit_zero zeros, View.readCov_unit_zero (S := S1024x1024) _ zeros]
  simp only [View.readAt_eq_ld, harg3.read_unread, harg4.read_unread, harg5.read_unread, harg6.read_unread, harg9.read_unread, View.ld_unit_zero (S := S1024x1024) zeros, View.ld_unit_zero (S := S1x1024) zeros]

end

theorem pay1_at (x0 : Vec Ideal S1024x1024 .bf16) (x1 : Vec Ideal S1024x1024 .bf16) (r : Fin 1024) (d : Fin 1024) :
    k0_pay1 x0 x1 (ix2 r d) = ∑ e : Fin 1024, x0 (ix2 r e) * x1 (ix2 e d) := by
  pointwise [k0_pay1]
theorem pay2_at (y : Vec Ideal S1024x1024 .f32) (x0 : Vec Ideal S1024x1024 .bf16) (x1 : Vec Ideal S1024x1024 .bf16) (r : Fin 1024) (d : Fin 1024) :
    k0_pay2 y x0 x1 (ix2 r d) = y (ix2 r d) + ∑ e : Fin 1024, x0 (ix2 r e) * x1 (ix2 e d) := by
  pointwise [k0_pay2]
theorem pay3_at (y z : Vec Ideal S1024x1024 .f32) (r : Fin 1024) (d : Fin 1024) :
    k0_pay3 y z (ix2 r d) = y (ix2 r d) + z (ix2 r d) := by
  pointwise [k0_pay3]
theorem pay4_at (y z : Vec Ideal S1024x1024 .f32) (g : Vec Ideal S1x1024 .f32) (r : Fin 1024) (d : Fin 1024) :
    k0_pay4 y z g (ix2 r d) = Cert.Products.normed (fun e => k0_pay3 y z (ix2 r e)) (g (ix2 0 d)) d := by
  unfold k0_pay4 Cert.Products.normed
  generalize k0_pay3 y z = w
  pointwise

section
variable (m : (ℓ : Loc nD τ sig) → Buf (Elt Ideal) ℓ) (c : Dev nD)

/-- The arguments on core `c`. -/
abbrev a0 : FVec Ideal S8192x4096 .f32 := m ((c : Thread nD τ).loc main_arg0)
abbrev a1 : FVec Ideal S4096x1024 .f32 := m ((c : Thread nD τ).loc main_arg1)
abbrev a2 : FVec Ideal S8192x1024 .f32 := m ((c : Thread nD τ).loc main_arg2)
abbrev a3 : FVec Ideal S1x1024 .f32 := m ((c : Thread nD τ).loc main_arg3)

set_option backward.isDefEq.respectTransparency.types false in
theorem V_first : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_second : V m c main_v1 = truncf .bf16 (a1 m c) bitsLt_bf16_f32 := by
  dsimp only [V, hostOps0, List.flatten_cons, List.flatten_nil, List.append_nil, List.cons_append, List.nil_append]; after_results
set_option backward.isDefEq.respectTransparency.types false in
theorem V_third : V m c main_arg2 = a2 m c := by
  dsimp only [V, hostOps0, List.flatten_cons, List.flatten_nil, List.append_nil, List.cons_append, List.nil_append]; after_results
set_option backward.isDefEq.respectTransparency.types false in
theorem V_fourth : V m c main_arg3 = a3 m c := by
  dsimp only [V, hostOps0, List.flatten_cons, List.flatten_nil, List.append_nil, List.cons_append, List.nil_append]; after_results
end

theorem index0 : ∀ t : Fin cfg0.N, win0_0.index t = ![t.val / 4, t.val % 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 4, 0] := (by decide +kernel : ∀ t : Fin grid0.N, _)
theorem index5 : ∀ t : Fin cfg0.N, win0_5.index t = ![t.val / 4, 0] := (by decide +kernel : ∀ t : Fin grid0.N, _)

theorem points (t : Fin cfg0.N) : t.val < 32 := t.isLt

/-- The row of the result that a point works on, and the positions that it sums over. -/
def row (t : Fin cfg0.N) (r : Fin 1024) : Fin 8192 := ⟨1024 * (t.val / 4) + r.val, by have := points t; omega⟩
def summed (t : Fin cfg0.N) (e : Fin 1024) : Fin 4096 := ⟨1024 * (t.val % 4) + e.val, by omega⟩
theorem row_val (t : Fin cfg0.N) (r : Fin 1024) : (row t r).val = 1024 * (t.val / 4) + r.val := rfl
theorem summed_val (t : Fin cfg0.N) (e : Fin 1024) : (summed t e).val = 1024 * (t.val % 4) + e.val := rfl

section
variable (t : Fin cfg0.N) (r : Fin 1024) (d : Fin 1024) (e : Fin 1024)

theorem emb0 : (win0_0.blk t).view.emb (ix2 r e) = ix2 (row t r) (summed t e) := by
  blk_ext [index0]
  all_goals simp only [row_val, summed_val]; omega
theorem emb1 : (win0_1.blk t).view.emb (ix2 e d) = ix2 (summed t e) d := by
  blk_ext [index1]
  all_goals first | (simp only [summed_val]; omega) | omega
theorem emb2 : (win0_2.blk t).view.emb (ix2 r d) = ix2 (row t r) d := by
  blk_ext [index2]
  all_goals first | (simp only [row_val]; omega) | omega
theorem emb3 : (win0_3.blk t).view.emb (ix2 0 d) = ix2 0 d := by
  blk_ext [index3]
  all_goals first | (simp only [row_val]; omega) | omega
theorem emb4 : (win0_4.blk t).view.emb (ix2 r d) = ix2 (row t r) d := by
  blk_ext [index4]
  all_goals first | (simp only [row_val]; omega) | omega
theorem emb5 : (win0_5.blk t).view.emb (ix2 r d) = ix2 (row t r) d := by
  blk_ext [index5]
  all_goals first | (simp only [row_val]; omega) | omega

variable (m : (ℓ : Loc nD τ sig) → Buf (Elt Ideal) ℓ) (c : Dev nD)

theorem read0 : iblk m c 0 t (ix2 r e) = a0 m c (ix2 (row t r) (summed t e)) := by
  refine (congrArg (V m c main_v0) (emb0 t r e)).trans ?_
  rw [V_first]; rfl
theorem read1 : iblk m c 1 t (ix2 e d) = a1 m c (ix2 (summed t e) d) := by
  refine (congrArg (V m c main_v1) (emb1 t d e)).trans ?_
  rw [V_second]; rfl
theorem read2 : iblk m c 2 t (ix2 r d) = a2 m c (ix2 (row t r) d) := by
  refine (congrArg (V m c main_arg2) (emb2 t r d)).trans ?_
  rw [V_third]
theorem read3 : iblk m c 3 t (ix2 0 d) = a3 m c (ix2 0 d) := by
  refine (congrArg (V m c main_arg3) (emb3 t d)).trans ?_
  rw [V_fourth]
end

section
variable (m : (ℓ : Loc nD τ sig) → Buf (Elt Ideal) ℓ) (c : Dev nD)

/-! ## The sum so far -/

/-- One position's contribution to an entry of the product. -/
def term (a : ℕ) (d : Fin 1024) (q : ℕ) : EReal :=
  if h : q < 4096 ∧ a < 8192 then a0 m c (ix2 ⟨a, h.2⟩ ⟨q, h.1⟩) * a1 m c (ix2 ⟨q, h.1⟩ d) else 0

/-- A point's product sums the contributions of its 1024 positions. -/
theorem product_at (t : Fin cfg0.N) (r : Fin 1024) (d : Fin 1024) (x0 : Vec Ideal S1024x1024 .bf16) (x1 : Vec Ideal S1024x1024 .bf16) (h0 : x0 = iblk m c 0 t) (h1 : x1 = iblk m c 1 t) :
    (∑ e : Fin 1024, x0 (ix2 r e) * x1 (ix2 e d) : EReal)
      = ∑ q ∈ Finset.range 1024, term m c (1024 * (t.val / 4) + r.val) d (1024 * (t.val % 4) + q) := by
  subst h0 h1
  rw [Finset.sum_range]
  refine Finset.sum_congr rfl fun e _ => ?_
  have := points t
  rw [read0, read1, term, dif_pos ⟨by omega, by omega⟩]
  rfl

/-- After a point, the scratch holds the sum of the contributions of the positions up to its own. -/
theorem so_far (n : ℕ) (hn : n < cfg0.N) (r : Fin 1024) (d : Fin 1024) :
    (outsAt0 m c n hn).2.2 (ix2 r d) = ∑ q ∈ Finset.range (1024 * (n % 4 + 1)), term m c (1024 * (n / 4) + r.val) d q := by
  induction n with
  | zero =>
    rw [outsAt0_A m c ⟨0, hn⟩ rfl (by simp) (by simp)]
    dsimp only
    rw [start_eq, pay1_at, product_at m c ⟨0, hn⟩ r d _ _ rfl rfl]
    refine Finset.sum_congr rfl fun q _ => ?_
    show term m c _ _ (0 + q) = _
    rw [Nat.zero_add]
  | succ n ih =>
    have hN : n + 1 < 32 := hn
    by_cases h0 : (n + 1) % 4 = 0
    · rw [outsAt0_A m c ⟨n + 1, hn⟩ h0 (by dsimp only; omega) (by dsimp only; omega)]
      dsimp only
      rw [start_eq, pay1_at, product_at m c ⟨n + 1, hn⟩ r d _ _ rfl rfl, h0]
      refine Finset.sum_congr rfl fun q _ => ?_
      rw [Nat.mul_zero, Nat.zero_add]
    · have e : 1024 * ((n + 1) % 4 + 1) = 1024 * (n % 4 + 1) + 1024 := by omega
      have e' : 1024 * ((n + 1) % 4) = 1024 * (n % 4 + 1) := by omega
      have e'' : (n + 1) / 4 = n / 4 := by omega
      rw [e, Finset.sum_range_add, e'', ← ih (Nat.lt_of_succ_lt hn)]
      have step := product_at m c ⟨n + 1, hn⟩ r d _ _ rfl rfl
      dsimp only at step
      rw [e', e''] at step
      by_cases h2 : (n + 1) % 4 = 3
      · rw [outsAt0_C m c ⟨n + 1, hn⟩ h0 (by dsimp only; omega) h2]
        dsimp only
        rw [last_eq, pay2_at, step]
        rfl
      · rw [outsAt0_B m c ⟨n + 1, hn⟩ h0 (by dsimp only; omega) h2]
        dsimp only
        rw [add_eq, pay2_at, step]
        rfl

/-- At a point that writes back, the scratch holds the whole sum. -/
theorem whole (t : Fin cfg0.N) (h : t.val % 4 = 3) (r : Fin 1024) (d : Fin 1024) :
    (outsAt0 m c t.val t.isLt).2.2 (ix2 r d) = ∑ q : Fin 4096, a0 m c (ix2 (row t r) q) * a1 m c (ix2 q d) := by
  have := points t
  refine (so_far m c t.val t.isLt r d).trans ?_
  rw [h, Finset.sum_range]
  refine Finset.sum_congr rfl fun q _ => ?_
  rw [term, dif_pos ⟨q.isLt, by omega⟩]
  rfl

/-- What it writes. -/
theorem written4 (t : Fin cfg0.N) (h : t.val % 4 = 3) : (outsAt0 m c t.val t.isLt).1 = k0_pay3 (outsAt0 m c t.val t.isLt).2.2 (iblk m c 2 t) := by
  rw [outsAt0_C m c t (by omega) (by omega) h]
  dsimp only
  rw [out4_eq, last_eq]

/-- What it writes. -/
theorem written5 (t : Fin cfg0.N) (h : t.val % 4 = 3) : (outsAt0 m c t.val t.isLt).2.1 = k0_pay4 (outsAt0 m c t.val t.isLt).2.2 (iblk m c 2 t) (iblk m c 3 t) := by
  rw [outsAt0_C m c t (by omega) (by omega) h]
  dsimp only
  rw [out5_eq, last_eq]
end

/-! ## The reference -/

theorem ref_product (x0 : FVec Ideal S8192x4096 .f32) (x1 : FVec Ideal S4096x1024 .f32) (i : Fin 8192) (j : Fin 1024) :
    val_main_v0 (F := Ideal) x0 x1 (ix2 i j) = ∑ q : Fin 4096, x0 (ix2 i q) * x1 (ix2 q j) := by
  rw [val_main_v0_apply]
  refine Finset.sum_congr rfl fun q _ => congrArg₂ _ (congrArg x0 ?_) (congrArg x1 ?_)
  · exact funext fun a => match a with | ⟨0, _⟩ => rfl | ⟨1, _⟩ => rfl
  · exact funext fun a => match a with | ⟨0, _⟩ => rfl | ⟨1, _⟩ => rfl
theorem ref_sum (x0 : FVec Ideal S8192x4096 .f32) (x1 : FVec Ideal S4096x1024 .f32) (x2 : FVec Ideal S8192x1024 .f32) (i : Fin 8192) (j : Fin 1024) :
    val_main_v1 (F := Ideal) x0 x1 x2 (ix2 i j) = (∑ q : Fin 4096, x0 (ix2 i q) * x1 (ix2 q j)) + x2 (ix2 i j) := by
  rw [val_main_v1_apply, ref_product]
  exact add_comm _ _
theorem ref_norm (x0 : FVec Ideal S8192x4096 .f32) (x1 : FVec Ideal S4096x1024 .f32) (x2 : FVec Ideal S8192x1024 .f32) (x3 : FVec Ideal S1x1024 .f32) (i : Fin 8192) (j : Fin 1024) :
    val_main_v14 (F := Ideal) x0 x1 x2 x3 (ix2 i j)
      = Cert.Products.normed (fun e => val_main_v1 (F := Ideal) x0 x1 x2 (ix2 i e)) (x3 (ix2 0 j)) j := by
  have hs : val_main_v3 (F := Ideal) x0 x1 x2 (idx_main_v4 (idx_main_v10 (ix2 i j)))
      = ∑ e : Fin 1024, val_main_v1 (F := Ideal) x0 x1 x2 (ix2 i e) * val_main_v1 (F := Ideal) x0 x1 x2 (ix2 i e) := by
    rw [val_main_v3_apply, val_main_cst_apply]
    refine (congrArg₂ (· + ·) Ideal.ofBits_zero_f32 (Finset.sum_congr rfl fun e _ => ?_)).trans (zero_add _)
    have he : idx_main_v3 (idx_main_v4 (idx_main_v10 (ix2 i j))) e = ix2 i e :=
      funext fun a => match a with | ⟨0, _⟩ => rfl | ⟨1, _⟩ => rfl
    rw [val_main_v2_apply, he]; rfl
  have hg : idx_main_v12 (ix2 i j) = ix2 0 j := funext fun a => match a with | ⟨0, _⟩ => rfl | ⟨1, _⟩ => rfl
  rw [val_main_v14_apply, val_main_v13_apply, val_main_v11_apply, val_main_v12_apply, val_main_v10_apply, val_main_v9_apply,
    val_main_v8_apply, val_main_v7_apply, val_main_cst_1_apply, val_main_v6_apply, val_main_v5_apply, val_main_cst_0_apply,
    val_main_v4_apply, hs, hg, Ideal.hostDivf_def]
  unfold Cert.Products.normed
  rw [← Cert.Products.mean_eq]
  rfl

/-! ## The arrays -/

theorem block (y : S1024x1024.Idx) : ∃ (r : Fin 1024) (d : Fin 1024), y = ix2 r d :=
  ⟨y 0, y 1, funext fun a => match a with
    | ⟨0, _⟩ => rfl
    | ⟨1, _⟩ => rfl⟩

section
variable (m : (ℓ : Loc nD τ sig) → Buf (Elt Ideal) ℓ) (c : Dev nD)

/-- A point's sum, with what is added, is the reference's. -/
theorem sum_eq (t : Fin cfg0.N) (h : t.val % 4 = 3) (r : Fin 1024) (d : Fin 1024) :
    k0_pay3 (outsAt0 m c t.val t.isLt).2.2 (iblk m c 2 t) (ix2 r d) = val_main_v1 (F := Ideal) (a0 m c) (a1 m c) (a2 m c) (ix2 (row t r) d) := by
  rw [pay3_at, ref_sum, whole m c t h, read2]

theorem array4 : (dats m 0 c).arrAt 4 cfg0.N = val_main_v1 (F := Ideal) (a0 m c) (a1 m c) (a2 m c) := by
  refine (dats m 0 c).arrAt_eq_of_covers 4 _ (by decide +kernel) fun t hf y => ?_
  blk_simp
  have hl : t.val % 4 = 3 := (flush0_4 t).mp hf
  rw [after0_4, written4 m c t hl]
  obtain ⟨r, d, rfl⟩ := block y
  rw [emb4]
  exact sum_eq m c t hl r d

theorem array5 : (dats m 0 c).arrAt 5 cfg0.N = val_main_v14 (F := Ideal) (a0 m c) (a1 m c) (a2 m c) (a3 m c) := by
  refine (dats m 0 c).arrAt_eq_of_covers 5 _ (by decide +kernel) fun t hf y => ?_
  blk_simp
  have hl : t.val % 4 = 3 := (flush0_5 t).mp hf
  rw [after0_5, written5 m c t hl]
  obtain ⟨r, d, rfl⟩ := block y
  rw [emb5]
  rw [pay4_at, ref_norm, read3]
  exact congrArg (fun f => Cert.Products.normed f _ _) (funext fun e => sum_eq m c t hl r e)
end

end Cert.Kernel18Ideal.Hand

end

end
-- ==== Proof.Products.OutProj.lean ====
/-
  The mixer's output projection, added to the residual, and the next norm: two blocks of 768 columns are summed point
  after point.
-/
module

public import proofs.«01_k».proof.Proof.Gen.Kernel19Ideal.Value
public import proofs.«01_k».proof.Proof.Gen.Reference19Ideal.Read
public import proofs.«01_k».proof.Proof.Products.Rms
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel19Ideal.Hand

open Cert.Kernel19Ideal Cert.Kernel19Ideal.Gen
open Cert.Reference19Ideal.Read
open Idealize.ShloMosaic Idealize.ShloMosaic.TcCoe

theorem zeros : (![0, 0] : Fin 2 → Nat) = fun _ => 0 := funext fun a => by fin_cases a <;> rfl

section
variable (c : Dev nD) (i : grid0.Coords) (arg3 : Memref sig .tc .vmem S1024x768 .bf16) (harg3 : arg3.IsWhole) (arg4 : Memref sig .tc .vmem S768x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
  (x0 : Vec Ideal S1024x768 .bf16) (x1 : Vec Ideal S768x1024 .bf16) (x2 : Vec Ideal S1024x1024 .f32) (x3 : Vec Ideal S1x1024 .f32) (xs0 : Vec Ideal S1024x1024 .f32)

/-- The first block starts the sum. -/
theorem start_eq (hc0 : cond0_0 i) (hc1 : ¬cond0_1 i) (hc2 : ¬cond0_2 i) : sout0_A_0 c i arg3 harg3 arg4 harg4 arg5 harg5 arg6 harg6 arg7 harg7 arg8 harg8 arg9 harg9 hc0 hc1 hc2 x0 x1 x2 x3 = k0_pay1 x0 x1 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3)]
  unfold kernelRun0_A
  dsimp only
  rw [View.canon_unit_zero zeros]
  simp only [View.readAt_eq_ld, harg3.read_unread, harg4.read_unread, harg5.read_unread, harg6.read_unread, harg9.read_unread, View.ld_unit_zero (S := S1024x768) zeros, View.ld_unit_zero (S := S768x1024) zeros, View.ld_unit_zero (S := S1024x1024) zeros, View.ld_unit_zero (S := S1x1024) zeros]

/-- So does the last one. -/
theorem last_eq (hc0 : ¬cond0_0 i) (hc1 : cond0_1 i) (hc2 : cond0_2 i) : sout0_B_0 c i arg3 harg3 arg4 harg4 arg5 harg5 arg6 harg6 arg7 harg7 arg8 harg8 arg9 harg9 hc0 hc1 hc2 x0 x1 x2 x3 xs0 = k0_pay2 xs0 x0 x1 := by
  unfold sout0_B_0
  rw [View.read_writes_eq_canon _ _ _ (scover0_B_0 c i arg3 harg3 arg4 harg4 arg5 harg5 arg6 harg6 arg7 harg7 arg8 harg8 arg9 harg9 hc0 hc1 hc2 x0 x1 x2 x3 xs0)]
  unfold kernelRun0_B
  dsimp only
  sl_unfold_words
  rw [View.canon_unit_zero zeros]
  simp only [View.readAt_eq_ld, harg3.read_unread, harg4.read_unread, harg5.read_unread, harg6.read_unread, harg9.read_unread, View.ld_unit_zero (S := S1024x768) zeros, View.ld_unit_zero (S := S768x1024) zeros, View.ld_unit_zero (S := S1024x1024) zeros, View.ld_unit_zero (S := S1x1024) zeros]

/-- What the last one leaves in the output window. -/
theorem out4_eq (hc0 : ¬cond0_0 i) (hc1 : cond0_1 i) (hc2 : cond0_2 i) : out0_B_4 c i arg3 harg3 arg4 harg4 arg5 harg5 arg6 harg6 arg7 harg7 arg8 harg8 arg9 harg9 hc0 hc1 hc2 x0 x1 x2 x3 xs0 = k0_pay3 (k0_pay2 xs0 x0 x1) x2 := by
  unfold out0_B_4
  rw [View.read_writes_eq_canon _ _ _ (cover0_B_4 c i arg3 harg3 arg4 harg4 arg5 harg5 arg6 harg6 arg7 harg7 arg8 harg8 arg9 harg9 hc0 hc1 hc2 x0 x1 x2 x3 xs0)]
  unfold kernelRun0_B
  dsimp only
  sl_unfold_words
  rw [View.canon_unit_zero zeros, View.readCov_unit_zero (S := S1024x1024) _ zeros]
  simp only [View.readAt_eq_ld, harg3.read_unread, harg4.read_unread, harg5.read_unread, harg6.read_unread, harg9.read_unread, View.ld_unit_zero (S := S1024x768) zeros, View.ld_unit_zero (S := S768x1024) zeros, View.ld_unit_zero (S := S1024x1024) zeros, View.ld_unit_zero (S := S1x1024) zeros]

/-- What the last one leaves in the output window. -/
theorem out5_eq (hc0 : ¬cond0_0 i) (hc1 : cond0_1 i) (hc2 : cond0_2 i) : out0_B_5 c i arg3 harg3 arg4 harg4 arg5 harg5 arg6 harg6 arg7 harg7 arg8 harg8 arg9 harg9 hc0 hc1 hc2 x0 x1 x2 x3 xs0 = k0_pay4 (k0_pay2 xs0 x0 x1) x2 x3 := by
  unfold out0_B_5
  rw [View.read_writes_eq_canon _ _ _ (cover0_B_5 c i arg3 harg3 arg4 harg4 arg5 harg5 arg6 harg6 arg7 harg7 arg8 harg8 arg9 harg9 hc0 hc1 hc2 x0 x1 x2 x3 xs0)]
  unfold kernelRun0_B
  dsimp only
  sl_unfold_words
  rw [View.canon_unit_zero zeros, View.readCov_unit_zero (S := S1024x1024) _ zeros]
  simp only [View.readAt_eq_ld, harg3.read_unread, harg4.read_unread, harg5.read_unread, harg6.read_unread, harg9.read_unread, View.ld_unit_zero (S := S1024x768) zeros, View.ld_unit_zero (S := S768x1024) zeros, View.ld_unit_zero (S := S1024x1024) zeros, View.ld_unit_zero (S := S1x1024) zeros]

end

theorem pay1_at (x0 : Vec Ideal S1024x768 .bf16) (x1 : Vec Ideal S768x1024 .bf16) (r : Fin 1024) (d : Fin 1024) :
    k0_pay1 x0 x1 (ix2 r d) = ∑ e : Fin 768, x0 (ix2 r e) * x1 (ix2 e d) := by
  pointwise [k0_pay1]
theorem pay2_at (y : Vec Ideal S1024x1024 .f32) (x0 : Vec Ideal S1024x768 .bf16) (x1 : Vec Ideal S768x1024 .bf16) (r : Fin 1024) (d : Fin 1024) :
    k0_pay2 y x0 x1 (ix2 r d) = y (ix2 r d) + ∑ e : Fin 768, x0 (ix2 r e) * x1 (ix2 e d) := by
  pointwise [k0_pay2]
theorem pay3_at (y z : Vec Ideal S1024x1024 .f32) (r : Fin 1024) (d : Fin 1024) :
    k0_pay3 y z (ix2 r d) = y (ix2 r d) + z (ix2 r d) := by
  pointwise [k0_pay3]
theorem pay4_at (y z : Vec Ideal S1024x1024 .f32) (g : Vec Ideal S1x1024 .f32) (r : Fin 1024) (d : Fin 1024) :
    k0_pay4 y z g (ix2 r d) = Cert.Products.normed (fun e => k0_pay3 y z (ix2 r e)) (g (ix2 0 d)) d := by
  unfold k0_pay4 Cert.Products.normed
  generalize k0_pay3 y z = w
  pointwise

section
variable (m : (ℓ : Loc nD τ sig) → Buf (Elt Ideal) ℓ) (c : Dev nD)

/-- The arguments on core `c`. -/
abbrev a0 : FVec Ideal S8192x1536 .f32 := m ((c : Thread nD τ).loc main_arg0)
abbrev a1 : FVec Ideal S1536x1024 .f32 := m ((c : Thread nD τ).loc main_arg1)
abbrev a2 : FVec Ideal S8192x1024 .f32 := m ((c : Thread nD τ).loc main_arg2)
abbrev a3 : FVec Ideal S1x1024 .f32 := m ((c : Thread nD τ).loc main_arg3)

set_option backward.isDefEq.respectTransparency.types false in
theorem V_first : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_second : V m c main_v1 = truncf .bf16 (a1 m c) bitsLt_bf16_f32 := by
  dsimp only [V, hostOps0, List.flatten_cons, List.flatten_nil, List.append_nil, List.cons_append, List.nil_append]; after_results
set_option backward.isDefEq.respectTransparency.types false in
theorem V_third : V m c main_arg2 = a2 m c := by
  dsimp only [V, hostOps0, List.flatten_cons, List.flatten_nil, List.append_nil, List.cons_append, List.nil_append]; after_results
set_option backward.isDefEq.respectTransparency.types false in
theorem V_fourth : V m c main_arg3 = a3 m c := by
  dsimp only [V, hostOps0, List.flatten_cons, List.flatten_nil, List.append_nil, List.cons_append, List.nil_append]; after_results
end

theorem index0 : ∀ t : Fin cfg0.N, win0_0.index t = ![t.val / 2, t.val % 2] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val / 2, 0] := (by decide +kernel : ∀ t : Fin grid0.N, _)
theorem index5 : ∀ t : Fin cfg0.N, win0_5.index t = ![t.val / 2, 0] := (by decide +kernel : ∀ t : Fin grid0.N, _)

theorem points (t : Fin cfg0.N) : t.val < 16 := t.isLt

/-- The row of the result that a point works on, and the positions that it sums over. -/
def row (t : Fin cfg0.N) (r : Fin 1024) : Fin 8192 := ⟨1024 * (t.val / 2) + r.val, by have := points t; omega⟩
def summed (t : Fin cfg0.N) (e : Fin 768) : Fin 1536 := ⟨768 * (t.val % 2) + e.val, by omega⟩
theorem row_val (t : Fin cfg0.N) (r : Fin 1024) : (row t r).val = 1024 * (t.val / 2) + r.val := rfl
theorem summed_val (t : Fin cfg0.N) (e : Fin 768) : (summed t e).val = 768 * (t.val % 2) + e.val := rfl

section
variable (t : Fin cfg0.N) (r : Fin 1024) (d : Fin 1024) (e : Fin 768)

theorem emb0 : (win0_0.blk t).view.emb (ix2 r e) = ix2 (row t r) (summed t e) := by
  blk_ext [index0]
  all_goals simp only [row_val, summed_val]; omega
theorem emb1 : (win0_1.blk t).view.emb (ix2 e d) = ix2 (summed t e) d := by
  blk_ext [index1]
  all_goals first | (simp only [summed_val]; omega) | omega
theorem emb2 : (win0_2.blk t).view.emb (ix2 r d) = ix2 (row t r) d := by
  blk_ext [index2]
  all_goals first | (simp only [row_val]; omega) | omega
theorem emb3 : (win0_3.blk t).view.emb (ix2 0 d) = ix2 0 d := by
  blk_ext [index3]
  all_goals first | (simp only [row_val]; omega) | omega
theorem emb4 : (win0_4.blk t).view.emb (ix2 r d) = ix2 (row t r) d := by
  blk_ext [index4]
  all_goals first | (simp only [row_val]; omega) | omega
theorem emb5 : (win0_5.blk t).view.emb (ix2 r d) = ix2 (row t r) d := by
  blk_ext [index5]
  all_goals first | (simp only [row_val]; omega) | omega

variable (m : (ℓ : Loc nD τ sig) → Buf (Elt Ideal) ℓ) (c : Dev nD)

theorem read0 : iblk m c 0 t (ix2 r e) = a0 m c (ix2 (row t r) (summed t e)) := by
  refine (congrArg (V m c main_v0) (emb0 t r e)).trans ?_
  rw [V_first]; rfl
theorem read1 : iblk m c 1 t (ix2 e d) = a1 m c (ix2 (summed t e) d) := by
  refine (congrArg (V m c main_v1) (emb1 t d e)).trans ?_
  rw [V_second]; rfl
theorem read2 : iblk m c 2 t (ix2 r d) = a2 m c (ix2 (row t r) d) := by
  refine (congrArg (V m c main_arg2) (emb2 t r d)).trans ?_
  rw [V_third]
theorem read3 : iblk m c 3 t (ix2 0 d) = a3 m c (ix2 0 d) := by
  refine (congrArg (V m c main_arg3) (emb3 t d)).trans ?_
  rw [V_fourth]
end

section
variable (m : (ℓ : Loc nD τ sig) → Buf (Elt Ideal) ℓ) (c : Dev nD)

/-! ## The sum so far -/

/-- One position's contribution to an entry of the product. -/
def term (a : ℕ) (d : Fin 1024) (q : ℕ) : EReal :=
  if h : q < 1536 ∧ a < 8192 then a0 m c (ix2 ⟨a, h.2⟩ ⟨q, h.1⟩) * a1 m c (ix2 ⟨q, h.1⟩ d) else 0

/-- A point's product sums the contributions of its 768 positions. -/
theorem product_at (t : Fin cfg0.N) (r : Fin 1024) (d : Fin 1024) (x0 : Vec Ideal S1024x768 .bf16) (x1 : Vec Ideal S768x1024 .bf16) (h0 : x0 = iblk m c 0 t) (h1 : x1 = iblk m c 1 t) :
    (∑ e : Fin 768, x0 (ix2 r e) * x1 (ix2 e d) : EReal)
      = ∑ q ∈ Finset.range 768, term m c (1024 * (t.val / 2) + r.val) d (768 * (t.val % 2) + q) := by
  subst h0 h1
  rw [Finset.sum_range]
  refine Finset.sum_congr rfl fun e _ => ?_
  have := points t
  rw [read0, read1, term, dif_pos ⟨by omega, by omega⟩]
  rfl

/-- After a point, the scratch holds the sum of the contributions of the positions up to its own. -/
theorem so_far (n : ℕ) (hn : n < cfg0.N) (r : Fin 1024) (d : Fin 1024) :
    (outsAt0 m c n hn).2.2 (ix2 r d) = ∑ q ∈ Finset.range (768 * (n % 2 + 1)), term m c (1024 * (n / 2) + r.val) d q := by
  induction n with
  | zero =>
    rw [outsAt0_A m c ⟨0, hn⟩ rfl (by simp) (by simp)]
    dsimp only
    rw [start_eq, pay1_at, product_at m c ⟨0, hn⟩ r d _ _ rfl rfl]
    refine Finset.sum_congr rfl fun q _ => ?_
    show term m c _ _ (0 + q) = _
    rw [Nat.zero_add]
  | succ n ih =>
    have hN : n + 1 < 16 := hn
    by_cases h0 : (n + 1) % 2 = 0
    · rw [outsAt0_A m c ⟨n + 1, hn⟩ h0 (by dsimp only; omega) (by dsimp only; omega)]
      dsimp only
      rw [start_eq, pay1_at, product_at m c ⟨n + 1, hn⟩ r d _ _ rfl rfl, h0]
      refine Finset.sum_congr rfl fun q _ => ?_
      rw [Nat.mul_zero, Nat.zero_add]
    · have e : 768 * ((n + 1) % 2 + 1) = 768 * (n % 2 + 1) + 768 := by omega
      have e' : 768 * ((n + 1) % 2) = 768 * (n % 2 + 1) := by omega
      have e'' : (n + 1) / 2 = n / 2 := by omega
      rw [e, Finset.sum_range_add, e'', ← ih (Nat.lt_of_succ_lt hn)]
      have step := product_at m c ⟨n + 1, hn⟩ r d _ _ rfl rfl
      dsimp only at step
      rw [e', e''] at step
      rw [outsAt0_B m c ⟨n + 1, hn⟩ h0 (by dsimp only; omega) (by dsimp only; omega)]
      dsimp only
      rw [last_eq, pay2_at, step]
      rfl

/-- At a point that writes back, the scratch holds the whole sum. -/
theorem whole (t : Fin cfg0.N) (h : t.val % 2 = 1) (r : Fin 1024) (d : Fin 1024) :
    (outsAt0 m c t.val t.isLt).2.2 (ix2 r d) = ∑ q : Fin 1536, a0 m c (ix2 (row t r) q) * a1 m c (ix2 q d) := by
  have := points t
  refine (so_far m c t.val t.isLt r d).trans ?_
  rw [h, Finset.sum_range]
  refine Finset.sum_congr rfl fun q _ => ?_
  rw [term, dif_pos ⟨q.isLt, by omega⟩]
  rfl

/-- What it writes. -/
theorem written4 (t : Fin cfg0.N) (h : t.val % 2 = 1) : (outsAt0 m c t.val t.isLt).1 = k0_pay3 (outsAt0 m c t.val t.isLt).2.2 (iblk m c 2 t) := by
  rw [outsAt0_B m c t (by omega) (by omega) h]
  dsimp only
  rw [out4_eq, last_eq]

/-- What it writes. -/
theorem written5 (t : Fin cfg0.N) (h : t.val % 2 = 1) : (outsAt0 m c t.val t.isLt).2.1 = k0_pay4 (outsAt0 m c t.val t.isLt).2.2 (iblk m c 2 t) (iblk m c 3 t) := by
  rw [outsAt0_B m c t (by omega) (by omega) h]
  dsimp only
  rw [out5_eq, last_eq]
end

/-! ## The reference -/

theorem ref_product (x0 : FVec Ideal S8192x1536 .f32) (x1 : FVec Ideal S1536x1024 .f32) (i : Fin 8192) (j : Fin 1024) :
    val_main_v0 (F := Ideal) x0 x1 (ix2 i j) = ∑ q : Fin 1536, x0 (ix2 i q) * x1 (ix2 q j) := by
  rw [val_main_v0_apply]
  refine Finset.sum_congr rfl fun q _ => congrArg₂ _ (congrArg x0 ?_) (congrArg x1 ?_)
  · exact funext fun a => match a with | ⟨0, _⟩ => rfl | ⟨1, _⟩ => rfl
  · exact funext fun a => match a with | ⟨0, _⟩ => rfl | ⟨1, _⟩ => rfl
theorem ref_sum (x0 : FVec Ideal S8192x1536 .f32) (x1 : FVec Ideal S1536x1024 .f32) (x2 : FVec Ideal S8192x1024 .f32) (i : Fin 8192) (j : Fin 1024) :
    val_main_v1 (F := Ideal) x0 x1 x2 (ix2 i j) = (∑ q : Fin 1536, x0 (ix2 i q) * x1 (ix2 q j)) + x2 (ix2 i j) := by
  rw [val_main_v1_apply, ref_product]
  exact add_comm _ _
theorem ref_norm (x0 : FVec Ideal S8192x1536 .f32) (x1 : FVec Ideal S1536x1024 .f32) (x2 : FVec Ideal S8192x1024 .f32) (x3 : FVec Ideal S1x1024 .f32) (i : Fin 8192) (j : Fin 1024) :
    val_main_v14 (F := Ideal) x0 x1 x2 x3 (ix2 i j)
      = Cert.Products.normed (fun e => val_main_v1 (F := Ideal) x0 x1 x2 (ix2 i e)) (x3 (ix2 0 j)) j := by
  have hs : val_main_v3 (F := Ideal) x0 x1 x2 (idx_main_v4 (idx_main_v10 (ix2 i j)))
      = ∑ e : Fin 1024, val_main_v1 (F := Ideal) x0 x1 x2 (ix2 i e) * val_main_v1 (F := Ideal) x0 x1 x2 (ix2 i e) := by
    rw [val_main_v3_apply, val_main_cst_apply]
    refine (congrArg₂ (· + ·) Ideal.ofBits_zero_f32 (Finset.sum_congr rfl fun e _ => ?_)).trans (zero_add _)
    have he : idx_main_v3 (idx_main_v4 (idx_main_v10 (ix2 i j))) e = ix2 i e :=
      funext fun a => match a with | ⟨0, _⟩ => rfl | ⟨1, _⟩ => rfl
    rw [val_main_v2_apply, he]; rfl
  have hg : idx_main_v12 (ix2 i j) = ix2 0 j := funext fun a => match a with | ⟨0, _⟩ => rfl | ⟨1, _⟩ => rfl
  rw [val_main_v14_apply, val_main_v13_apply, val_main_v11_apply, val_main_v12_apply, val_main_v10_apply, val_main_v9_apply,
    val_main_v8_apply, val_main_v7_apply, val_main_cst_1_apply, val_main_v6_apply, val_main_v5_apply, val_main_cst_0_apply,
    val_main_v4_apply, hs, hg, Ideal.hostDivf_def]
  unfold Cert.Products.normed
  rw [← Cert.Products.mean_eq]
  rfl

/-! ## The arrays -/

theorem block (y : S1024x1024.Idx) : ∃ (r : Fin 1024) (d : Fin 1024), y = ix2 r d :=
  ⟨y 0, y 1, funext fun a => match a with
    | ⟨0, _⟩ => rfl
    | ⟨1, _⟩ => rfl⟩

section
variable (m : (ℓ : Loc nD τ sig) → Buf (Elt Ideal) ℓ) (c : Dev nD)

/-- A point's sum, with what is added, is the reference's. -/
theorem sum_eq (t : Fin cfg0.N) (h : t.val % 2 = 1) (r : Fin 1024) (d : Fin 1024) :
    k0_pay3 (outsAt0 m c t.val t.isLt).2.2 (iblk m c 2 t) (ix2 r d) = val_main_v1 (F := Ideal) (a0 m c) (a1 m c) (a2 m c) (ix2 (row t r) d) := by
  rw [pay3_at, ref_sum, whole m c t h, read2]

theorem array4 : (dats m 0 c).arrAt 4 cfg0.N = val_main_v1 (F := Ideal) (a0 m c) (a1 m c) (a2 m c) := by
  refine (dats m 0 c).arrAt_eq_of_covers 4 _ (by decide +kernel) fun t hf y => ?_
  blk_simp
  have hl : t.val % 2 = 1 := (flush0_4 t).mp hf
  rw [after0_4, written4 m c t hl]
  obtain ⟨r, d, rfl⟩ := block y
  rw [emb4]
  exact sum_eq m c t hl r d

theorem array5 : (dats m 0 c).arrAt 5 cfg0.N = val_main_v14 (F := Ideal) (a0 m c) (a1 m c) (a2 m c) (a3 m c) := by
  refine (dats m 0 c).arrAt_eq_of_covers 5 _ (by decide +kernel) fun t hf y => ?_
  blk_simp
  have hl : t.val % 2 = 1 := (flush0_5 t).mp hf
  rw [after0_5, written5 m c t hl]
  obtain ⟨r, d, rfl⟩ := block y
  rw [emb5]
  rw [pay4_at, ref_norm, read3]
  exact congrArg (fun f => Cert.Products.normed f _ _) (funext fun e => sum_eq m c t hl r e)
end

end Cert.Kernel19Ideal.Hand

end

end
-- ==== Proof.Products.DownLast.lean ====
/-
  The MLP's second product in the last layer, added to the residual: four blocks of 1024 columns are summed point after
  point.
-/
module

public import proofs.«01_k».proof.Proof.Gen.Kernel20Ideal.Value
public import proofs.«01_k».proof.Proof.Gen.Reference20Ideal.Read
public import Idealize.ShloMosaic.Lib.Claim
public import Idealize.ShloMosaic.Lib.Pointwise
public import Idealize.ShloMosaic.Lib.Pipeline.ValueKit.Geometry

@[expose] public section

set_option maxRecDepth 4000

noncomputable section

namespace Cert.Kernel20Ideal.Hand

open Cert.Kernel20Ideal Cert.Kernel20Ideal.Gen
open Cert.Reference20Ideal.Read
open Idealize.ShloMosaic Idealize.ShloMosaic.TcCoe

theorem zeros : (![0, 0] : Fin 2 → Nat) = fun _ => 0 := funext fun a => by fin_cases a <;> rfl

section
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (x0 : Vec Ideal S1024x1024 .bf16) (x1 : Vec Ideal S1024x1024 .bf16) (x2 : Vec Ideal S1024x1024 .f32) (xs0 : Vec Ideal S1024x1024 .f32)

/-- The first block starts the sum. -/
theorem start_eq (hc0 : cond0_0 i) (hc1 : ¬cond0_1 i) (hc2 : ¬cond0_2 i) : sout0_A_0 c i arg3 harg3 arg4 harg4 arg5 harg5 arg6 harg6 arg7 harg7 hc0 hc1 hc2 x0 x1 x2 = k0_pay1 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  rw [View.canon_unit_zero zeros]
  simp only [View.readAt_eq_ld, harg3.read_unread, harg4.read_unread, harg5.read_unread, harg7.read_unread, View.ld_unit_zero (S := S1024x1024) zeros]

/-- A later one adds to it. -/
theorem add_eq (hc0 : ¬cond0_0 i) (hc1 : cond0_1 i) (hc2 : ¬cond0_2 i) : sout0_B_0 c i arg3 harg3 arg4 harg4 arg5 harg5 arg6 harg6 arg7 harg7 hc0 hc1 hc2 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 hc2 x0 x1 x2 xs0)]
  unfold kernelRun0_B
  dsimp only
  rw [View.canon_unit_zero zeros]
  simp only [View.readAt_eq_ld, harg3.read_unread, harg4.read_unread, harg5.read_unread, harg7.read_unread, View.ld_unit_zero (S := S1024x1024) zeros]

/-- So does the last one. -/
theorem last_eq (hc0 : ¬cond0_0 i) (hc1 : cond0_1 i) (hc2 : cond0_2 i) : sout0_C_0 c i arg3 harg3 arg4 harg4 arg5 harg5 arg6 harg6 arg7 harg7 hc0 hc1 hc2 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 hc2 x0 x1 x2 xs0)]
  unfold kernelRun0_C
  dsimp only
  sl_unfold_words
  rw [View.canon_unit_zero zeros]
  simp only [View.readAt_eq_ld, harg3.read_unread, harg4.read_unread, harg5.read_unread, harg7.read_unread, View.ld_unit_zero (S := S1024x1024) zeros]

/-- What the last one leaves in the output window. -/
theorem out3_eq (hc0 : ¬cond0_0 i) (hc1 : cond0_1 i) (hc2 : cond0_2 i) : out0_C_3 c i arg3 harg3 arg4 harg4 arg5 harg5 arg6 harg6 arg7 harg7 hc0 hc1 hc2 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 hc2 x0 x1 x2 xs0)]
  unfold kernelRun0_C
  dsimp only
  sl_unfold_words
  rw [View.canon_unit_zero zeros, View.readCov_unit_zero (S := S1024x1024) _ zeros]
  simp only [View.readAt_eq_ld, harg3.read_unread, harg4.read_unread, harg5.read_unread, harg7.read_unread, View.ld_unit_zero (S := S1024x1024) zeros]

end

theorem pay1_at (x0 : Vec Ideal S1024x1024 .bf16) (x1 : Vec Ideal S1024x1024 .bf16) (r : Fin 1024) (d : Fin 1024) :
    k0_pay1 x0 x1 (ix2 r d) = ∑ e : Fin 1024, x0 (ix2 r e) * x1 (ix2 e d) := by
  pointwise [k0_pay1]
theorem pay2_at (y : Vec Ideal S1024x1024 .f32) (x0 : Vec Ideal S1024x1024 .bf16) (x1 : Vec Ideal S1024x1024 .bf16) (r : Fin 1024) (d : Fin 1024) :
    k0_pay2 y x0 x1 (ix2 r d) = y (ix2 r d) + ∑ e : Fin 1024, x0 (ix2 r e) * x1 (ix2 e d) := by
  pointwise [k0_pay2]
theorem pay3_at (y z : Vec Ideal S1024x1024 .f32) (r : Fin 1024) (d : Fin 1024) :
    k0_pay3 y z (ix2 r d) = y (ix2 r d) + z (ix2 r d) := by
  pointwise [k0_pay3]

section
variable (m : (ℓ : Loc nD τ sig) → Buf (Elt Ideal) ℓ) (c : Dev nD)

/-- The arguments on core `c`. -/
abbrev a0 : FVec Ideal S8192x4096 .f32 := m ((c : Thread nD τ).loc main_arg0)
abbrev a1 : FVec Ideal S4096x1024 .f32 := m ((c : Thread nD τ).loc main_arg1)
abbrev a2 : FVec Ideal S8192x1024 .f32 := m ((c : Thread nD τ).loc main_arg2)

set_option backward.isDefEq.respectTransparency.types false in
theorem V_first : V m c main_v0 = truncf .bf16 (a0 m c) bitsLt_bf16_f32 := by
  dsimp only [V, hostOps0, List.flatten_cons, List.flatten_nil, List.append_nil, List.cons_append, List.nil_append]; after_results
set_option backward.isDefEq.respectTransparency.types false in
theorem V_second : V m c main_v1 = truncf .bf16 (a1 m c) bitsLt_bf16_f32 := by
  dsimp only [V, hostOps0, List.flatten_cons, List.flatten_nil, List.append_nil, List.cons_append, List.nil_append]; after_results
set_option backward.isDefEq.respectTransparency.types false in
theorem V_third : V m c main_arg2 = a2 m c := by
  dsimp only [V, hostOps0, List.flatten_cons, List.flatten_nil, List.append_nil, List.cons_append, List.nil_append]; after_results
end

theorem index0 : ∀ t : Fin cfg0.N, win0_0.index t = ![t.val / 4, t.val % 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)
theorem index3 : ∀ t : Fin cfg0.N, win0_3.index t = ![t.val / 4, 0] := (by decide +kernel : ∀ t : Fin grid0.N, _)

theorem points (t : Fin cfg0.N) : t.val < 32 := t.isLt

/-- The row of the result that a point works on, and the positions that it sums over. -/
def row (t : Fin cfg0.N) (r : Fin 1024) : Fin 8192 := ⟨1024 * (t.val / 4) + r.val, by have := points t; omega⟩
def summed (t : Fin cfg0.N) (e : Fin 1024) : Fin 4096 := ⟨1024 * (t.val % 4) + e.val, by omega⟩
theorem row_val (t : Fin cfg0.N) (r : Fin 1024) : (row t r).val = 1024 * (t.val / 4) + r.val := rfl
theorem summed_val (t : Fin cfg0.N) (e : Fin 1024) : (summed t e).val = 1024 * (t.val % 4) + e.val := rfl

section
variable (t : Fin cfg0.N) (r : Fin 1024) (d : Fin 1024) (e : Fin 1024)

theorem emb0 : (win0_0.blk t).view.emb (ix2 r e) = ix2 (row t r) (summed t e) := by
  blk_ext [index0]
  all_goals simp only [row_val, summed_val]; omega
theorem emb1 : (win0_1.blk t).view.emb (ix2 e d) = ix2 (summed t e) d := by
  blk_ext [index1]
  all_goals first | (simp only [summed_val]; omega) | omega
theorem emb2 : (win0_2.blk t).view.emb (ix2 r d) = ix2 (row t r) d := by
  blk_ext [index2]
  all_goals first | (simp only [row_val]; omega) | omega
theorem emb3 : (win0_3.blk t).view.emb (ix2 r d) = ix2 (row t r) d := by
  blk_ext [index3]
  all_goals first | (simp only [row_val]; omega) | omega

variable (m : (ℓ : Loc nD τ sig) → Buf (Elt Ideal) ℓ) (c : Dev nD)

theorem read0 : iblk m c 0 t (ix2 r e) = a0 m c (ix2 (row t r) (summed t e)) := by
  refine (congrArg (V m c main_v0) (emb0 t r e)).trans ?_
  rw [V_first]; rfl
theorem read1 : iblk m c 1 t (ix2 e d) = a1 m c (ix2 (summed t e) d) := by
  refine (congrArg (V m c main_v1) (emb1 t d e)).trans ?_
  rw [V_second]; rfl
theorem read2 : iblk m c 2 t (ix2 r d) = a2 m c (ix2 (row t r) d) := by
  refine (congrArg (V m c main_arg2) (emb2 t r d)).trans ?_
  rw [V_third]
end

section
variable (m : (ℓ : Loc nD τ sig) → Buf (Elt Ideal) ℓ) (c : Dev nD)

/-! ## The sum so far -/

/-- One position's contribution to an entry of the product. -/
def term (a : ℕ) (d : Fin 1024) (q : ℕ) : EReal :=
  if h : q < 4096 ∧ a < 8192 then a0 m c (ix2 ⟨a, h.2⟩ ⟨q, h.1⟩) * a1 m c (ix2 ⟨q, h.1⟩ d) else 0

/-- A point's product sums the contributions of its 1024 positions. -/
theorem product_at (t : Fin cfg0.N) (r : Fin 1024) (d : Fin 1024) (x0 : Vec Ideal S1024x1024 .bf16) (x1 : Vec Ideal S1024x1024 .bf16) (h0 : x0 = iblk m c 0 t) (h1 : x1 = iblk m c 1 t) :
    (∑ e : Fin 1024, x0 (ix2 r e) * x1 (ix2 e d) : EReal)
      = ∑ q ∈ Finset.range 1024, term m c (1024 * (t.val / 4) + r.val) d (1024 * (t.val % 4) + q) := by
  subst h0 h1
  rw [Finset.sum_range]
  refine Finset.sum_congr rfl fun e _ => ?_
  have := points t
  rw [read0, read1, term, dif_pos ⟨by omega, by omega⟩]
  rfl

/-- After a point, the scratch holds the sum of the contributions of the positions up to its own. -/
theorem so_far (n : ℕ) (hn : n < cfg0.N) (r : Fin 1024) (d : Fin 1024) :
    (outsAt0 m c n hn).2 (ix2 r d) = ∑ q ∈ Finset.range (1024 * (n % 4 + 1)), term m c (1024 * (n / 4) + r.val) d q := by
  induction n with
  | zero =>
    rw [outsAt0_A m c ⟨0, hn⟩ rfl (by simp) (by simp)]
    dsimp only
    rw [start_eq, pay1_at, product_at m c ⟨0, hn⟩ r d _ _ rfl rfl]
    refine Finset.sum_congr rfl fun q _ => ?_
    show term m c _ _ (0 + q) = _
    rw [Nat.zero_add]
  | succ n ih =>
    have hN : n + 1 < 32 := hn
    by_cases h0 : (n + 1) % 4 = 0
    · rw [outsAt0_A m c ⟨n + 1, hn⟩ h0 (by dsimp only; omega) (by dsimp only; omega)]
      dsimp only
      rw [start_eq, pay1_at, product_at m c ⟨n + 1, hn⟩ r d _ _ rfl rfl, h0]
      refine Finset.sum_congr rfl fun q _ => ?_
      rw [Nat.mul_zero, Nat.zero_add]
    · have e : 1024 * ((n + 1) % 4 + 1) = 1024 * (n % 4 + 1) + 1024 := by omega
      have e' : 1024 * ((n + 1) % 4) = 1024 * (n % 4 + 1) := by omega
      have e'' : (n + 1) / 4 = n / 4 := by omega
      rw [e, Finset.sum_range_add, e'', ← ih (Nat.lt_of_succ_lt hn)]
      have step := product_at m c ⟨n + 1, hn⟩ r d _ _ rfl rfl
      dsimp only at step
      rw [e', e''] at step
      by_cases h2 : (n + 1) % 4 = 3
      · rw [outsAt0_C m c ⟨n + 1, hn⟩ h0 (by dsimp only; omega) h2]
        dsimp only
        rw [last_eq, pay2_at, step]
        rfl
      · rw [outsAt0_B m c ⟨n + 1, hn⟩ h0 (by dsimp only; omega) h2]
        dsimp only
        rw [add_eq, pay2_at, step]
        rfl

/-- At a point that writes back, the scratch holds the whole sum. -/
theorem whole (t : Fin cfg0.N) (h : t.val % 4 = 3) (r : Fin 1024) (d : Fin 1024) :
    (outsAt0 m c t.val t.isLt).2 (ix2 r d) = ∑ q : Fin 4096, a0 m c (ix2 (row t r) q) * a1 m c (ix2 q d) := by
  have := points t
  refine (so_far m c t.val t.isLt r d).trans ?_
  rw [h, Finset.sum_range]
  refine Finset.sum_congr rfl fun q _ => ?_
  rw [term, dif_pos ⟨q.isLt, by omega⟩]
  rfl

/-- What it writes. -/
theorem written3 (t : Fin cfg0.N) (h : t.val % 4 = 3) : (outsAt0 m c t.val t.isLt).1 = k0_pay3 (outsAt0 m c t.val t.isLt).2 (iblk m c 2 t) := by
  rw [outsAt0_C m c t (by omega) (by omega) h]
  dsimp only
  rw [out3_eq, last_eq]
end

/-! ## The reference -/

theorem ref_product (x0 : FVec Ideal S8192x4096 .f32) (x1 : FVec Ideal S4096x1024 .f32) (i : Fin 8192) (j : Fin 1024) :
    val_main_v0 (F := Ideal) x0 x1 (ix2 i j) = ∑ q : Fin 4096, x0 (ix2 i q) * x1 (ix2 q j) := by
  rw [val_main_v0_apply]
  refine Finset.sum_congr rfl fun q _ => congrArg₂ _ (congrArg x0 ?_) (congrArg x1 ?_)
  · exact funext fun a => match a with | ⟨0, _⟩ => rfl | ⟨1, _⟩ => rfl
  · exact funext fun a => match a with | ⟨0, _⟩ => rfl | ⟨1, _⟩ => rfl
theorem ref_sum (x0 : FVec Ideal S8192x4096 .f32) (x1 : FVec Ideal S4096x1024 .f32) (x2 : FVec Ideal S8192x1024 .f32) (i : Fin 8192) (j : Fin 1024) :
    val_main_v1 (F := Ideal) x0 x1 x2 (ix2 i j) = (∑ q : Fin 4096, x0 (ix2 i q) * x1 (ix2 q j)) + x2 (ix2 i j) := by
  rw [val_main_v1_apply, ref_product]
  exact add_comm _ _

/-! ## The arrays -/

theorem block (y : S1024x1024.Idx) : ∃ (r : Fin 1024) (d : Fin 1024), y = ix2 r d :=
  ⟨y 0, y 1, funext fun a => match a with
    | ⟨0, _⟩ => rfl
    | ⟨1, _⟩ => rfl⟩

section
variable (m : (ℓ : Loc nD τ sig) → Buf (Elt Ideal) ℓ) (c : Dev nD)

/-- A point's sum, with what is added, is the reference's. -/
theorem sum_eq (t : Fin cfg0.N) (h : t.val % 4 = 3) (r : Fin 1024) (d : Fin 1024) :
    k0_pay3 (outsAt0 m c t.val t.isLt).2 (iblk m c 2 t) (ix2 r d) = val_main_v1 (F := Ideal) (a0 m c) (a1 m c) (a2 m c) (ix2 (row t r) d) := by
  rw [pay3_at, ref_sum, whole m c t h, read2]

theorem array3 : (dats m 0 c).arrAt 3 cfg0.N = val_main_v1 (F := Ideal) (a0 m c) (a1 m c) (a2 m c) := by
  refine (dats m 0 c).arrAt_eq_of_covers 3 _ (by decide +kernel) fun t hf y => ?_
  blk_simp
  have hl : t.val % 4 = 3 := (flush0_3 t).mp hf
  rw [after0_3, written3 m c t hl]
  obtain ⟨r, d, rfl⟩ := block y
  rw [emb3]
  exact sum_eq m c t hl r d
end

end Cert.Kernel20Ideal.Hand

end

end
-- ==== Proof.Products.Claim2.lean ====
/-
  The value claims of the query and key-value projections, and of the products that end in a residual: from any arguments
  the kernel and the reference end with the same arrays.
-/
module

public import proofs.«01_k».proof.Defs
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Products.QProj
public import proofs.«01_k».proof.Proof.Products.KvProj
public import proofs.«01_k».proof.Proof.Products.QDw
public import proofs.«01_k».proof.Proof.Products.QDx
public import proofs.«01_k».proof.Proof.Products.MemO
public import proofs.«01_k».proof.Proof.Products.Down
public import proofs.«01_k».proof.Proof.Products.OutProj
public import proofs.«01_k».proof.Proof.Products.DownLast

@[expose] public section

set_option maxRecDepth 4000

noncomputable section

open Idealize.ShloMosaic Idealize.ShloMosaic.TcCoe Idealize.SL.Sem

/-- The query projection. -/
theorem Cert.Kernel13Ideal.Hand.agree : Cert.algebraic_Kernel13Ideal_Reference13Ideal := by
  intro m g m' g' _ hargs
  refine ⟨fun c => Cert.Reference13Ideal.Read.val_main_v0 (F := Ideal) (Cert.Kernel13Ideal.Hand.a0 m c) (Cert.Kernel13Ideal.Hand.a1 m c),
    (θ_run Cert.Kernel13Ideal.defs _ _).mono (fun _ h c => ⟨(h c).1.trans (Cert.Kernel13Ideal.Hand.array2 m c), (h c).2⟩) (Cert.Kernel13Ideal.Value.run_blocks m g),
    (θ_run Cert.Reference13Ideal.defs _ _).mono (fun r h c => ?_) (Cert.Reference13Ideal.Value.run (F := Ideal) m' g')⟩
  obtain ⟨e0, e1⟩ := hargs c
  refine ⟨(h c).1.trans ((Cert.Reference13Ideal.Read.val_main_v0_eq (F := Ideal) _ _).trans ?_), (h c).2⟩
  rw [e0, e1]

/-- The key and value projection. -/
theorem Cert.Kernel14Ideal.Hand.agree : Cert.algebraic_Kernel14Ideal_Reference14Ideal := by
  intro m g m' g' _ hargs
  refine ⟨fun c => Cert.Reference14Ideal.Read.val_main_v1 (F := Ideal) (Cert.Kernel14Ideal.Hand.a0 m c) (Cert.Kernel14Ideal.Hand.a1 m c),
    (θ_run Cert.Kernel14Ideal.defs _ _).mono (fun _ h c => ⟨(h c).1.trans (Cert.Kernel14Ideal.Hand.array2 m c), (h c).2⟩) (Cert.Kernel14Ideal.Value.run_blocks m g),
    (θ_run Cert.Reference14Ideal.defs _ _).mono (fun r h c => ?_) (Cert.Reference14Ideal.Value.run (F := Ideal) m' g')⟩
  obtain ⟨e0, e1⟩ := hargs c
  refine ⟨(h c).1.trans ((Cert.Reference14Ideal.Read.val_main_v1_eq (F := Ideal) _ _).trans ?_), (h c).2⟩
  rw [e0, e1]

/-- The gradient of the query projection. -/
theorem Cert.Kernel15Ideal.Hand.agree : Cert.algebraic_Kernel15Ideal_Reference15Ideal := by
  intro m g m' g' _ hargs
  refine ⟨fun c => Cert.Reference15Ideal.Read.val_main_v3 (F := Ideal) (Cert.Kernel15Ideal.Hand.a0 m c) (Cert.Kernel15Ideal.Hand.a1 m c),
    (θ_run Cert.Kernel15Ideal.defs _ _).mono (fun _ h c => ⟨(h c).1.trans (Cert.Kernel15Ideal.Hand.array m c), (h c).2⟩) (Cert.Kernel15Ideal.Value.run_blocks m g),
    (θ_run Cert.Reference15Ideal.defs _ _).mono (fun r h c => ?_) (Cert.Reference15Ideal.Value.run (F := Ideal) m' g')⟩
  obtain ⟨e0, e1⟩ := hargs c
  refine ⟨(h c).1.trans ((Cert.Reference15Ideal.Read.val_main_v3_eq (F := Ideal) _ _).trans ?_), (h c).2⟩
  rw [e0, e1]

/-- The gradient at the query projection's argument. -/
theorem Cert.Kernel16Ideal.Hand.agree : Cert.algebraic_Kernel16Ideal_Reference16Ideal := by
  intro m g m' g' _ hargs
  refine ⟨fun c => Cert.Reference16Ideal.Read.val_main_v2 (F := Ideal) (Cert.Kernel16Ideal.Hand.a0 m c) (Cert.Kernel16Ideal.Hand.a1 m c),
    (θ_run Cert.Kernel16Ideal.defs _ _).mono (fun _ h c => ⟨(h c).1.trans (Cert.Kernel16Ideal.Hand.array2 m c), (h c).2⟩) (Cert.Kernel16Ideal.Value.run_blocks m g),
    (θ_run Cert.Reference16Ideal.defs _ _).mono (fun r h c => ?_) (Cert.Reference16Ideal.Value.run (F := Ideal) m' g')⟩
  obtain ⟨e0, e1⟩ := hargs c
  refine ⟨(h c).1.trans ((Cert.Reference16Ideal.Read.val_main_v2_eq (F := Ideal) _ _).trans ?_), (h c).2⟩
  rw [e0, e1]

/-- The memory attention's output projection, with the residual and the next norm. -/
theorem Cert.Kernel17Ideal.Hand.agree : Cert.algebraic_Kernel17Ideal_Reference17Ideal := by
  intro m g m' g' _ hargs
  refine ⟨fun c => Cert.Reference17Ideal.Read.val_main_v1 (F := Ideal) (Cert.Kernel17Ideal.Hand.a0 m c) (Cert.Kernel17Ideal.Hand.a1 m c) (Cert.Kernel17Ideal.Hand.a2 m c),
    fun c => Cert.Reference17Ideal.Read.val_main_v14 (F := Ideal) (Cert.Kernel17Ideal.Hand.a0 m c) (Cert.Kernel17Ideal.Hand.a1 m c) (Cert.Kernel17Ideal.Hand.a2 m c) (Cert.Kernel17Ideal.Hand.a3 m c),
    (θ_run Cert.Kernel17Ideal.defs _ _).mono (fun _ h c => ⟨(h c).1.trans (Cert.Kernel17Ideal.Hand.array4 m c), (h c).2.1.trans (Cert.Kernel17Ideal.Hand.array5 m c), (h c).2.2⟩) (Cert.Kernel17Ideal.Value.run_blocks m g),
    (θ_run Cert.Reference17Ideal.defs _ _).mono (fun r h c => ?_) (Cert.Reference17Ideal.Value.run (F := Ideal) m' g')⟩
  obtain ⟨e0, e1, e2, e3⟩ := hargs c
  refine ⟨(h c).1.trans ((Cert.Reference17Ideal.Read.val_main_v1_eq (F := Ideal) _ _ _).trans ?_),
    (h c).2.1.trans ((Cert.Reference17Ideal.Read.val_main_v14_eq (F := Ideal) _ _ _ _).trans ?_), (h c).2.2⟩
  · rw [e0, e1, e2]
  · rw [e0, e1, e2, e3]

/-- The MLP's second product, with the residual and the next norm. -/
theorem Cert.Kernel18Ideal.Hand.agree : Cert.algebraic_Kernel18Ideal_Reference18Ideal := by
  intro m g m' g' _ hargs
  refine ⟨fun c => Cert.Reference18Ideal.Read.val_main_v1 (F := Ideal) (Cert.Kernel18Ideal.Hand.a0 m c) (Cert.Kernel18Ideal.Hand.a1 m c) (Cert.Kernel18Ideal.Hand.a2 m c),
    fun c => Cert.Reference18Ideal.Read.val_main_v14 (F := Ideal) (Cert.Kernel18Ideal.Hand.a0 m c) (Cert.Kernel18Ideal.Hand.a1 m c) (Cert.Kernel18Ideal.Hand.a2 m c) (Cert.Kernel18Ideal.Hand.a3 m c),
    (θ_run Cert.Kernel18Ideal.defs _ _).mono (fun _ h c => ⟨(h c).1.trans (Cert.Kernel18Ideal.Hand.array4 m c), (h c).2.1.trans (Cert.Kernel18Ideal.Hand.array5 m c), (h c).2.2⟩) (Cert.Kernel18Ideal.Value.run_blocks m g),
    (θ_run Cert.Reference18Ideal.defs _ _).mono (fun r h c => ?_) (Cert.Reference18Ideal.Value.run (F := Ideal) m' g')⟩
  obtain ⟨e0, e1, e2, e3⟩ := hargs c
  refine ⟨(h c).1.trans ((Cert.Reference18Ideal.Read.val_main_v1_eq (F := Ideal) _ _ _).trans ?_),
    (h c).2.1.trans ((Cert.Reference18Ideal.Read.val_main_v14_eq (F := Ideal) _ _ _ _).trans ?_), (h c).2.2⟩
  · rw [e0, e1, e2]
  · rw [e0, e1, e2, e3]

/-- The mixer's output projection, with the residual and the next norm. -/
theorem Cert.Kernel19Ideal.Hand.agree : Cert.algebraic_Kernel19Ideal_Reference19Ideal := by
  intro m g m' g' _ hargs
  refine ⟨fun c => Cert.Reference19Ideal.Read.val_main_v1 (F := Ideal) (Cert.Kernel19Ideal.Hand.a0 m c) (Cert.Kernel19Ideal.Hand.a1 m c) (Cert.Kernel19Ideal.Hand.a2 m c),
    fun c => Cert.Reference19Ideal.Read.val_main_v14 (F := Ideal) (Cert.Kernel19Ideal.Hand.a0 m c) (Cert.Kernel19Ideal.Hand.a1 m c) (Cert.Kernel19Ideal.Hand.a2 m c) (Cert.Kernel19Ideal.Hand.a3 m c),
    (θ_run Cert.Kernel19Ideal.defs _ _).mono (fun _ h c => ⟨(h c).1.trans (Cert.Kernel19Ideal.Hand.array4 m c), (h c).2.1.trans (Cert.Kernel19Ideal.Hand.array5 m c), (h c).2.2⟩) (Cert.Kernel19Ideal.Value.run_blocks m g),
    (θ_run Cert.Reference19Ideal.defs _ _).mono (fun r h c => ?_) (Cert.Reference19Ideal.Value.run (F := Ideal) m' g')⟩
  obtain ⟨e0, e1, e2, e3⟩ := hargs c
  refine ⟨(h c).1.trans ((Cert.Reference19Ideal.Read.val_main_v1_eq (F := Ideal) _ _ _).trans ?_),
    (h c).2.1.trans ((Cert.Reference19Ideal.Read.val_main_v14_eq (F := Ideal) _ _ _ _).trans ?_), (h c).2.2⟩
  · rw [e0, e1, e2]
  · rw [e0, e1, e2, e3]

/-- The MLP's second product in the last layer, with the residual. -/
theorem Cert.Kernel20Ideal.Hand.agree : Cert.algebraic_Kernel20Ideal_Reference20Ideal := by
  intro m g m' g' _ hargs
  refine ⟨fun c => Cert.Reference20Ideal.Read.val_main_v1 (F := Ideal) (Cert.Kernel20Ideal.Hand.a0 m c) (Cert.Kernel20Ideal.Hand.a1 m c) (Cert.Kernel20Ideal.Hand.a2 m c),
    (θ_run Cert.Kernel20Ideal.defs _ _).mono (fun _ h c => ⟨(h c).1.trans (Cert.Kernel20Ideal.Hand.array3 m c), (h c).2⟩) (Cert.Kernel20Ideal.Value.run_blocks m g),
    (θ_run Cert.Reference20Ideal.defs _ _).mono (fun r h c => ?_) (Cert.Reference20Ideal.Value.run (F := Ideal) m' g')⟩
  obtain ⟨e0, e1, e2⟩ := hargs c
  refine ⟨(h c).1.trans ((Cert.Reference20Ideal.Read.val_main_v1_eq (F := Ideal) _ _ _).trans ?_), (h c).2⟩
  rw [e0, e1, e2]

end

end
-- ==== Proof.lean ====
/- The certificate's proof: every claim's own theorem, collected. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Kernel.Body
public import proofs.«01_k».proof.Proof.KernelIdeal.Body
public import proofs.«01_k».proof.Proof.Value.Claim
public import proofs.«01_k».proof.Proof.Forward.Claim
public import proofs.«01_k».proof.Proof.Mlp.Claim
public import proofs.«01_k».proof.Proof.Products.Claim
public import proofs.«01_k».proof.Proof.Products.Claim2

@[expose] public section

noncomputable section

namespace Cert.Proof

open Idealize.ShloMosaic Idealize.SL.Sem

/-- The reference runs, and leaves its arguments and the semaphores as they were. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The forward call's reference runs, and leaves its arguments and the semaphores as they were. -/
theorem reference2_frame : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The MLP pre-activation gradient's reference runs, and leaves its arguments and the semaphores as they were. -/
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The MLP weight gradient's reference runs, and leaves its arguments and the semaphores as they were. -/
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The MLP first product's reference runs, and leaves its arguments and the semaphores as they were. -/
theorem reference5_frame : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The input projection gradient's reference runs, and leaves its arguments and the semaphores as they were. -/
theorem reference6_frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The memory projection gradient's reference runs, and leaves its arguments and the semaphores as they were. -/
theorem reference7_frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The output projection gradient's reference runs, and leaves its arguments and the semaphores as they were. -/
theorem reference8_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The memory attention output gradient's reference runs, and leaves its arguments and the semaphores as they were. -/
theorem reference9_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The mixer output gradient's reference runs, and leaves its arguments and the semaphores as they were. -/
theorem reference10_frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The memory queries' reference runs, and leaves its arguments and the semaphores as they were. -/
theorem reference11_frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The input projection's reference runs, and leaves its arguments and the semaphores as they were. -/
theorem reference12_frame : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- The query projection's reference runs, and leaves its arguments and the semaphores as they were. -/
theorem reference13_frame : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The key and value projection's reference runs, and leaves its arguments and the semaphores as they were. -/
theorem reference14_frame : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The query projection gradient's reference runs, and leaves its arguments and the semaphores as they were. -/
theorem reference15_frame : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The query projection argument gradient's reference runs, and leaves its arguments and the semaphores as they were. -/
theorem reference16_frame : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The memory output projection's reference runs, and leaves its arguments and the semaphores as they were. -/
theorem reference17_frame : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

/-- The MLP second product's reference runs, and leaves its arguments and the semaphores as they were. -/
theorem reference18_frame : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run (F := Ideal) m ρ)

/-- The mixer output projection's reference runs, and leaves its arguments and the semaphores as they were. -/
theorem reference19_frame : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run (F := Ideal) m ρ)

/-- The last MLP second product's reference runs, and leaves its arguments and the semaphores as they were. -/
theorem reference20_frame : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Pre_finite.Hand.facts, Cert.Pre_finite2.Hand.facts,
  fun m ρ _ => Cert.Kernel.Hand.frame m ρ,
  fun m ρ _ => Cert.KernelIdeal.Hand.frame m ρ,
  fun m ρ _ => Cert.KernelIdeal.Hand.frame m ρ,
  reference_frame,
  fun m ρ _ => reference_frame m ρ trivial,
  fun m ρ _ => Cert.Kernel2.Gen.frame m ρ,
  fun m ρ _ => Cert.Kernel2Ideal.Gen.frame m ρ,
  fun m ρ _ => Cert.Kernel2Ideal.Gen.frame m ρ,
  reference2_frame,
  fun m ρ _ => reference2_frame m ρ trivial,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  fun m ρ _ => Cert.Kernel7.Gen.frame m ρ,
  fun m ρ _ => Cert.Kernel7Ideal.Gen.frame m ρ,
  reference7_frame,
  fun m ρ _ => Cert.Kernel8.Gen.frame m ρ,
  fun m ρ _ => Cert.Kernel8Ideal.Gen.frame m ρ,
  reference8_frame,
  fun m ρ _ => Cert.Kernel9.Gen.frame m ρ,
  fun m ρ _ => Cert.Kernel9Ideal.Gen.frame m ρ,
  reference9_frame,
  fun m ρ _ => Cert.Kernel10.Gen.frame m ρ,
  fun m ρ _ => Cert.Kernel10Ideal.Gen.frame m ρ,
  reference10_frame,
  fun m ρ _ => Cert.Kernel11.Gen.frame m ρ,
  fun m ρ _ => Cert.Kernel11Ideal.Gen.frame m ρ,
  reference11_frame,
  fun m ρ _ => Cert.Kernel12.Gen.frame m ρ,
  fun m ρ _ => Cert.Kernel12Ideal.Gen.frame m ρ,
  reference12_frame,
  fun m ρ _ => Cert.Kernel13.Gen.frame m ρ,
  fun m ρ _ => Cert.Kernel13Ideal.Gen.frame m ρ,
  reference13_frame,
  fun m ρ _ => Cert.Kernel14.Gen.frame m ρ,
  fun m ρ _ => Cert.Kernel14Ideal.Gen.frame m ρ,
  reference14_frame,
  fun m ρ _ => Cert.Kernel15.Gen.frame m ρ,
  fun m ρ _ => Cert.Kernel15Ideal.Gen.frame m ρ,
  reference15_frame,
  fun m ρ _ => Cert.Kernel16.Gen.frame m ρ,
  fun m ρ _ => Cert.Kernel16Ideal.Gen.frame m ρ,
  reference16_frame,
  fun m ρ _ => Cert.Kernel17.Gen.frame m ρ,
  fun m ρ _ => Cert.Kernel17Ideal.Gen.frame m ρ,
  reference17_frame,
  fun m ρ _ => Cert.Kernel18.Gen.frame m ρ,
  fun m ρ _ => Cert.Kernel18Ideal.Gen.frame m ρ,
  reference18_frame,
  fun m ρ _ => Cert.Kernel19.Gen.frame m ρ,
  fun m ρ _ => Cert.Kernel19Ideal.Gen.frame m ρ,
  reference19_frame,
  fun m ρ _ => Cert.Kernel20.Gen.frame m ρ,
  fun m ρ _ => Cert.Kernel20Ideal.Gen.frame m ρ,
  reference20_frame,
  ⟨IdealRules.named_const.statement Cert.KernelIdeal.κ "log2_ln2" .f32 0xBF075D3C#32 _ rfl,
   IdealRules.named_const.statement Cert.KernelIdeal.κ "inv_ln2" .f32 0x3FB8AA3B#32 _ rfl⟩,
  Cert.KernelIdeal.Hand.agree,
  IdealRules.named_const.statement Cert.Kernel2Ideal.κ "log2_e" .f32 0x3FB8AA3B#32 _ rfl,
  Cert.Kernel2Ideal.Hand.agree,
  trivial,
  Cert.Kernel3Ideal.Hand.agree,
  trivial,
  Cert.Kernel4Ideal.Hand.agree,
  trivial,
  Cert.Kernel5Ideal.Hand.agree,
  trivial,
  Cert.Kernel6Ideal.Hand.agree,
  trivial,
  Cert.Kernel7Ideal.Hand.agree,
  trivial,
  Cert.Kernel8Ideal.Hand.agree,
  trivial,
  Cert.Kernel9Ideal.Hand.agree,
  trivial,
  Cert.Kernel10Ideal.Hand.agree,
  trivial,
  Cert.Kernel11Ideal.Hand.agree,
  trivial,
  Cert.Kernel12Ideal.Hand.agree,
  trivial,
  Cert.Kernel13Ideal.Hand.agree,
  trivial,
  Cert.Kernel14Ideal.Hand.agree,
  trivial,
  Cert.Kernel15Ideal.Hand.agree,
  trivial,
  Cert.Kernel16Ideal.Hand.agree,
  trivial,
  Cert.Kernel17Ideal.Hand.agree,
  trivial,
  Cert.Kernel18Ideal.Hand.agree,
  trivial,
  Cert.Kernel19Ideal.Hand.agree,
  trivial,
  Cert.Kernel20Ideal.Hand.agree⟩

end Cert.Proof

end
